-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_forward [hPre_finite_forward : Cert.Pre_finite_forward.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_forward.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3))).1 = (fun _ => 1#1)
    ∧ (Cert.Pre_finite_forward.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3))).2 = (fun _ => 1#1)

def Pre_ForwardRefIdeal (m : (ℓ : Loc Cert.ForwardRefIdeal.nD Cert.ForwardRefIdeal.τ Cert.ForwardRefIdeal.sig) → Buf (Elt Ideal) ℓ) : Prop :=
  True

def Pre_ForwardRefIdeal_finite_forward [hPre_finite_forward : Cert.Pre_finite_forward.Facts] (m : (ℓ : Loc Cert.ForwardRefIdeal.nD Cert.ForwardRefIdeal.τ Cert.ForwardRefIdeal.sig) → Buf (Elt Ideal) ℓ) : Prop :=
  ∀ c : Dev Cert.ForwardRefIdeal.nD,
    (Cert.Pre_finite_forward.fn (F := Ideal) (m ((c.tc : Thread Cert.ForwardRefIdeal.nD Cert.ForwardRefIdeal.τ).loc Cert.ForwardRefIdeal.main_arg0)) (m ((c.tc : Thread Cert.ForwardRefIdeal.nD Cert.ForwardRefIdeal.τ).loc Cert.ForwardRefIdeal.main_arg1)) (m ((c.tc : Thread Cert.ForwardRefIdeal.nD Cert.ForwardRefIdeal.τ).loc Cert.ForwardRefIdeal.main_arg2)) (m ((c.tc : Thread Cert.ForwardRefIdeal.nD Cert.ForwardRefIdeal.τ).loc Cert.ForwardRefIdeal.main_arg3))).1 = (fun _ => 1#1)
    ∧ (Cert.Pre_finite_forward.fn (F := Ideal) (m ((c.tc : Thread Cert.ForwardRefIdeal.nD Cert.ForwardRefIdeal.τ).loc Cert.ForwardRefIdeal.main_arg0)) (m ((c.tc : Thread Cert.ForwardRefIdeal.nD Cert.ForwardRefIdeal.τ).loc Cert.ForwardRefIdeal.main_arg1)) (m ((c.tc : Thread Cert.ForwardRefIdeal.nD Cert.ForwardRefIdeal.τ).loc Cert.ForwardRefIdeal.main_arg2)) (m ((c.tc : Thread Cert.ForwardRefIdeal.nD Cert.ForwardRefIdeal.τ).loc Cert.ForwardRefIdeal.main_arg3))).2 = (fun _ => 1#1)

def Pre_ScInput (m : (ℓ : Loc Cert.ScInput.nD Cert.ScInput.τ Cert.ScInput.sig) → Buf (Elt Bits) ℓ) : Prop :=
  True

def Pre_ScInputIdeal (m : (ℓ : Loc Cert.ScInputIdeal.nD Cert.ScInputIdeal.τ Cert.ScInputIdeal.sig) → Buf (Elt Ideal) ℓ) : Prop :=
  True

def Pre_ScInputRefIdeal (m : (ℓ : Loc Cert.ScInputRefIdeal.nD Cert.ScInputRefIdeal.τ Cert.ScInputRefIdeal.sig) → Buf (Elt Ideal) ℓ) : Prop :=
  True

def Pre_ScWeight (m : (ℓ : Loc Cert.ScWeight.nD Cert.ScWeight.τ Cert.ScWeight.sig) → Buf (Elt Bits) ℓ) : Prop :=
  True

def Pre_ScWeightIdeal (m : (ℓ : Loc Cert.ScWeightIdeal.nD Cert.ScWeightIdeal.τ Cert.ScWeightIdeal.sig) → Buf (Elt Ideal) ℓ) : Prop :=
  True

def Pre_ScWeightRefIdeal (m : (ℓ : Loc Cert.ScWeightRefIdeal.nD Cert.ScWeightRefIdeal.τ Cert.ScWeightRefIdeal.sig) → Buf (Elt Ideal) ℓ) : Prop :=
  True

def Pre_WideInput (m : (ℓ : Loc Cert.WideInput.nD Cert.WideInput.τ Cert.WideInput.sig) → Buf (Elt Bits) ℓ) : Prop :=
  True

def Pre_WideInputIdeal (m : (ℓ : Loc Cert.WideInputIdeal.nD Cert.WideInputIdeal.τ Cert.WideInputIdeal.sig) → Buf (Elt Ideal) ℓ) : Prop :=
  True

def Pre_WideInputRefIdeal (m : (ℓ : Loc Cert.WideInputRefIdeal.nD Cert.WideInputRefIdeal.τ Cert.WideInputRefIdeal.sig) → Buf (Elt Ideal) ℓ) : Prop :=
  True

def Pre_WideWeight (m : (ℓ : Loc Cert.WideWeight.nD Cert.WideWeight.τ Cert.WideWeight.sig) → Buf (Elt Bits) ℓ) : Prop :=
  True

def Pre_WideWeightIdeal (m : (ℓ : Loc Cert.WideWeightIdeal.nD Cert.WideWeightIdeal.τ Cert.WideWeightIdeal.sig) → Buf (Elt Ideal) ℓ) : Prop :=
  True

def Pre_WideWeightRefIdeal (m : (ℓ : Loc Cert.WideWeightRefIdeal.nD Cert.WideWeightRefIdeal.τ Cert.WideWeightRefIdeal.sig) → Buf (Elt Ideal) ℓ) : Prop :=
  True

def Pre_OutInput (m : (ℓ : Loc Cert.OutInput.nD Cert.OutInput.τ Cert.OutInput.sig) → Buf (Elt Bits) ℓ) : Prop :=
  True

def Pre_OutInputIdeal (m : (ℓ : Loc Cert.OutInputIdeal.nD Cert.OutInputIdeal.τ Cert.OutInputIdeal.sig) → Buf (Elt Ideal) ℓ) : Prop :=
  True

def Pre_OutInputRefIdeal (m : (ℓ : Loc Cert.OutInputRefIdeal.nD Cert.OutInputRefIdeal.τ Cert.OutInputRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_LatentInput (m : (ℓ : Loc Cert.LatentInput.nD Cert.LatentInput.τ Cert.LatentInput.sig) → Buf (Elt Bits) ℓ) : Prop :=
  True

def Pre_LatentInputIdeal (m : (ℓ : Loc Cert.LatentInputIdeal.nD Cert.LatentInputIdeal.τ Cert.LatentInputIdeal.sig) → Buf (Elt Ideal) ℓ) : Prop :=
  True

def Pre_LatentInputRefIdeal (m : (ℓ : Loc Cert.LatentInputRefIdeal.nD Cert.LatentInputRefIdeal.τ Cert.LatentInputRefIdeal.sig) → Buf (Elt Ideal) ℓ) : Prop :=
  True

def Pre_LatentWeight (m : (ℓ : Loc Cert.LatentWeight.nD Cert.LatentWeight.τ Cert.LatentWeight.sig) → Buf (Elt Bits) ℓ) : Prop :=
  True

def Pre_LatentWeightIdeal (m : (ℓ : Loc Cert.LatentWeightIdeal.nD Cert.LatentWeightIdeal.τ Cert.LatentWeightIdeal.sig) → Buf (Elt Ideal) ℓ) : Prop :=
  True

def Pre_LatentWeightRefIdeal (m : (ℓ : Loc Cert.LatentWeightRefIdeal.nD Cert.LatentWeightRefIdeal.τ Cert.LatentWeightRefIdeal.sig) → Buf (Elt Ideal) ℓ) : Prop :=
  True

def Pre_LatentProject (m : (ℓ : Loc Cert.LatentProject.nD Cert.LatentProject.τ Cert.LatentProject.sig) → Buf (Elt Bits) ℓ) : Prop :=
  True

def Pre_LatentProjectIdeal (m : (ℓ : Loc Cert.LatentProjectIdeal.nD Cert.LatentProjectIdeal.τ Cert.LatentProjectIdeal.sig) → Buf (Elt Ideal) ℓ) : Prop :=
  True

def Pre_LatentProjectRefIdeal (m : (ℓ : Loc Cert.LatentProjectRefIdeal.nD Cert.LatentProjectRefIdeal.τ Cert.LatentProjectRefIdeal.sig) → Buf (Elt Ideal) ℓ) : Prop :=
  True

def Pre_ScProject (m : (ℓ : Loc Cert.ScProject.nD Cert.ScProject.τ Cert.ScProject.sig) → Buf (Elt Bits) ℓ) : Prop :=
  True

def Pre_ScProjectIdeal (m : (ℓ : Loc Cert.ScProjectIdeal.nD Cert.ScProjectIdeal.τ Cert.ScProjectIdeal.sig) → Buf (Elt Ideal) ℓ) : Prop :=
  True

def Pre_ScProjectRefIdeal (m : (ℓ : Loc Cert.ScProjectRefIdeal.nD Cert.ScProjectRefIdeal.τ Cert.ScProjectRefIdeal.sig) → Buf (Elt Ideal) ℓ) : Prop :=
  True

def Pre_WideProject (m : (ℓ : Loc Cert.WideProject.nD Cert.WideProject.τ Cert.WideProject.sig) → Buf (Elt Bits) ℓ) : Prop :=
  True

def Pre_WideProjectIdeal (m : (ℓ : Loc Cert.WideProjectIdeal.nD Cert.WideProjectIdeal.τ Cert.WideProjectIdeal.sig) → Buf (Elt Ideal) ℓ) : Prop :=
  True

def Pre_WideProjectRefIdeal (m : (ℓ : Loc Cert.WideProjectRefIdeal.nD Cert.WideProjectRefIdeal.τ Cert.WideProjectRefIdeal.sig) → Buf (Elt Ideal) ℓ) : Prop :=
  True

def Pre_OutProject (m : (ℓ : Loc Cert.OutProject.nD Cert.OutProject.τ Cert.OutProject.sig) → Buf (Elt Bits) ℓ) : Prop :=
  True

def Pre_OutProjectIdeal (m : (ℓ : Loc Cert.OutProjectIdeal.nD Cert.OutProjectIdeal.τ Cert.OutProjectIdeal.sig) → Buf (Elt Ideal) ℓ) : Prop :=
  True

def Pre_OutProjectRefIdeal (m : (ℓ : Loc Cert.OutProjectRefIdeal.nD Cert.OutProjectRefIdeal.τ Cert.OutProjectRefIdeal.sig) → Buf (Elt Ideal) ℓ) : Prop :=
  True

def Pre_QueryInput (m : (ℓ : Loc Cert.QueryInput.nD Cert.QueryInput.τ Cert.QueryInput.sig) → Buf (Elt Bits) ℓ) : Prop :=
  True

def Pre_QueryInputIdeal (m : (ℓ : Loc Cert.QueryInputIdeal.nD Cert.QueryInputIdeal.τ Cert.QueryInputIdeal.sig) → Buf (Elt Ideal) ℓ) : Prop :=
  True

def Pre_QueryInputRefIdeal (m : (ℓ : Loc Cert.QueryInputRefIdeal.nD Cert.QueryInputRefIdeal.τ Cert.QueryInputRefIdeal.sig) → Buf (Elt Ideal) ℓ) : Prop :=
  True

def Pre_KeyInput (m : (ℓ : Loc Cert.KeyInput.nD Cert.KeyInput.τ Cert.KeyInput.sig) → Buf (Elt Bits) ℓ) : Prop :=
  True

def Pre_KeyInputIdeal (m : (ℓ : Loc Cert.KeyInputIdeal.nD Cert.KeyInputIdeal.τ Cert.KeyInputIdeal.sig) → Buf (Elt Ideal) ℓ) : Prop :=
  True

def Pre_KeyInputRefIdeal (m : (ℓ : Loc Cert.KeyInputRefIdeal.nD Cert.KeyInputRefIdeal.τ Cert.KeyInputRefIdeal.sig) → Buf (Elt Ideal) ℓ) : Prop :=
  True

def Pre_ValueInput (m : (ℓ : Loc Cert.ValueInput.nD Cert.ValueInput.τ Cert.ValueInput.sig) → Buf (Elt Bits) ℓ) : Prop :=
  True

def Pre_ValueInputIdeal (m : (ℓ : Loc Cert.ValueInputIdeal.nD Cert.ValueInputIdeal.τ Cert.ValueInputIdeal.sig) → Buf (Elt Ideal) ℓ) : Prop :=
  True

def Pre_ValueInputRefIdeal (m : (ℓ : Loc Cert.ValueInputRefIdeal.nD Cert.ValueInputRefIdeal.τ Cert.ValueInputRefIdeal.sig) → Buf (Elt Ideal) ℓ) : Prop :=
  True

def Pre_QueryWeight (m : (ℓ : Loc Cert.QueryWeight.nD Cert.QueryWeight.τ Cert.QueryWeight.sig) → Buf (Elt Bits) ℓ) : Prop :=
  True

def Pre_QueryWeightIdeal (m : (ℓ : Loc Cert.QueryWeightIdeal.nD Cert.QueryWeightIdeal.τ Cert.QueryWeightIdeal.sig) → Buf (Elt Ideal) ℓ) : Prop :=
  True

def Pre_QueryWeightRefIdeal (m : (ℓ : Loc Cert.QueryWeightRefIdeal.nD Cert.QueryWeightRefIdeal.τ Cert.QueryWeightRefIdeal.sig) → Buf (Elt Ideal) ℓ) : Prop :=
  True

def Pre_KeyWeight (m : (ℓ : Loc Cert.KeyWeight.nD Cert.KeyWeight.τ Cert.KeyWeight.sig) → Buf (Elt Bits) ℓ) : Prop :=
  True

def Pre_KeyWeightIdeal (m : (ℓ : Loc Cert.KeyWeightIdeal.nD Cert.KeyWeightIdeal.τ Cert.KeyWeightIdeal.sig) → Buf (Elt Ideal) ℓ) : Prop :=
  True

def Pre_KeyWeightRefIdeal (m : (ℓ : Loc Cert.KeyWeightRefIdeal.nD Cert.KeyWeightRefIdeal.τ Cert.KeyWeightRefIdeal.sig) → Buf (Elt Ideal) ℓ) : Prop :=
  True

def Pre_ValueWeight (m : (ℓ : Loc Cert.ValueWeight.nD Cert.ValueWeight.τ Cert.ValueWeight.sig) → Buf (Elt Bits) ℓ) : Prop :=
  True

def Pre_ValueWeightIdeal (m : (ℓ : Loc Cert.ValueWeightIdeal.nD Cert.ValueWeightIdeal.τ Cert.ValueWeightIdeal.sig) → Buf (Elt Ideal) ℓ) : Prop :=
  True

def Pre_ValueWeightRefIdeal (m : (ℓ : Loc Cert.ValueWeightRefIdeal.nD Cert.ValueWeightRefIdeal.τ Cert.ValueWeightRefIdeal.sig) → Buf (Elt Ideal) ℓ) : Prop :=
  True

def Pre_QueryProject (m : (ℓ : Loc Cert.QueryProject.nD Cert.QueryProject.τ Cert.QueryProject.sig) → Buf (Elt Bits) ℓ) : Prop :=
  True

def Pre_QueryProjectIdeal (m : (ℓ : Loc Cert.QueryProjectIdeal.nD Cert.QueryProjectIdeal.τ Cert.QueryProjectIdeal.sig) → Buf (Elt Ideal) ℓ) : Prop :=
  True

def Pre_QueryProjectRefIdeal (m : (ℓ : Loc Cert.QueryProjectRefIdeal.nD Cert.QueryProjectRefIdeal.τ Cert.QueryProjectRefIdeal.sig) → Buf (Elt Ideal) ℓ) : Prop :=
  True

def Pre_KeyProject (m : (ℓ : Loc Cert.KeyProject.nD Cert.KeyProject.τ Cert.KeyProject.sig) → Buf (Elt Bits) ℓ) : Prop :=
  True

def Pre_KeyProjectIdeal (m : (ℓ : Loc Cert.KeyProjectIdeal.nD Cert.KeyProjectIdeal.τ Cert.KeyProjectIdeal.sig) → Buf (Elt Ideal) ℓ) : Prop :=
  True

def Pre_KeyProjectRefIdeal (m : (ℓ : Loc Cert.KeyProjectRefIdeal.nD Cert.KeyProjectRefIdeal.τ Cert.KeyProjectRefIdeal.sig) → Buf (Elt Ideal) ℓ) : Prop :=
  True

def Pre_ValueProject (m : (ℓ : Loc Cert.ValueProject.nD Cert.ValueProject.τ Cert.ValueProject.sig) → Buf (Elt Bits) ℓ) : Prop :=
  True

def Pre_ValueProjectIdeal (m : (ℓ : Loc Cert.ValueProjectIdeal.nD Cert.ValueProjectIdeal.τ Cert.ValueProjectIdeal.sig) → Buf (Elt Ideal) ℓ) : Prop :=
  True

def Pre_ValueProjectRefIdeal (m : (ℓ : Loc Cert.ValueProjectRefIdeal.nD Cert.ValueProjectRefIdeal.τ Cert.ValueProjectRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ r.2.sem = fun _ => 0)

def quiescent_ForwardIdeal_pre_finite_forward [hForwardIdeal : Cert.ForwardIdeal.Facts] [hPre_finite_forward : Cert.Pre_finite_forward.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_forward m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3))
      ∧ r.2.sem = fun _ => 0)

def quiescent_ForwardRefIdeal_pre_finite_forward [hForwardRefIdeal : Cert.ForwardRefIdeal.Facts] [hPre_finite_forward : Cert.Pre_finite_forward.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal_finite_forward m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3))
      ∧ r.2.sem = fun _ => 0)

def quiescent_ScInput [hScInput : Cert.ScInput.Facts] : Prop :=
  ∀ (m : (ℓ : Loc Cert.ScInput.nD Cert.ScInput.τ Cert.ScInput.sig) → Buf (Elt Bits) ℓ) (g : Dev Cert.ScInput.nD → PrngReg), Pre_ScInput m →
    θ_run (Cert.ScInput.defs (F := Bits)) (onTc (τ := Cert.ScInput.τ) (Cert.ScInput.main (F := Bits))) ⟨m, fun _ => 0, g⟩ (fun r => (∀ c : Dev Cert.ScInput.nD,
      r.2.mem ((c.tc : Thread Cert.ScInput.nD Cert.ScInput.τ).loc Cert.ScInput.main_arg0) = m ((c.tc : Thread Cert.ScInput.nD Cert.ScInput.τ).loc Cert.ScInput.main_arg0)
      ∧ r.2.mem ((c.tc : Thread Cert.ScInput.nD Cert.ScInput.τ).loc Cert.ScInput.main_arg1) = m ((c.tc : Thread Cert.ScInput.nD Cert.ScInput.τ).loc Cert.ScInput.main_arg1))
      ∧ r.2.sem = fun _ => 0)

def quiescent_ScInputIdeal [hScInputIdeal : Cert.ScInputIdeal.Facts] : Prop :=
  ∀ (m : (ℓ : Loc Cert.ScInputIdeal.nD Cert.ScInputIdeal.τ Cert.ScInputIdeal.sig) → Buf (Elt Ideal) ℓ) (g : Dev Cert.ScInputIdeal.nD → PrngReg), Pre_ScInputIdeal m →
    θ_run (Cert.ScInputIdeal.defs (F := Ideal)) (onTc (τ := Cert.ScInputIdeal.τ) (Cert.ScInputIdeal.main (F := Ideal))) ⟨m, fun _ => 0, g⟩ (fun r => (∀ c : Dev Cert.ScInputIdeal.nD,
      r.2.mem ((c.tc : Thread Cert.ScInputIdeal.nD Cert.ScInputIdeal.τ).loc Cert.ScInputIdeal.main_arg0) = m ((c.tc : Thread Cert.ScInputIdeal.nD Cert.ScInputIdeal.τ).loc Cert.ScInputIdeal.main_arg0)
      ∧ r.2.mem ((c.tc : Thread Cert.ScInputIdeal.nD Cert.ScInputIdeal.τ).loc Cert.ScInputIdeal.main_arg1) = m ((c.tc : Thread Cert.ScInputIdeal.nD Cert.ScInputIdeal.τ).loc Cert.ScInputIdeal.main_arg1))
      ∧ r.2.sem = fun _ => 0)

def quiescent_ScInputRefIdeal [hScInputRefIdeal : Cert.ScInputRefIdeal.Facts] : Prop :=
  ∀ (m : (ℓ : Loc Cert.ScInputRefIdeal.nD Cert.ScInputRefIdeal.τ Cert.ScInputRefIdeal.sig) → Buf (Elt Ideal) ℓ) (g : Dev Cert.ScInputRefIdeal.nD → PrngReg), Pre_ScInputRefIdeal m →
    θ_run (Cert.ScInputRefIdeal.defs (F := Ideal)) (onTc (τ := Cert.ScInputRefIdeal.τ) (Cert.ScInputRefIdeal.main (F := Ideal))) ⟨m, fun _ => 0, g⟩ (fun r => (∀ c : Dev Cert.ScInputRefIdeal.nD,
      r.2.mem ((c.tc : Thread Cert.ScInputRefIdeal.nD Cert.ScInputRefIdeal.τ).loc Cert.ScInputRefIdeal.main_arg0) = m ((c.tc : Thread Cert.ScInputRefIdeal.nD Cert.ScInputRefIdeal.τ).loc Cert.ScInputRefIdeal.main_arg0)
      ∧ r.2.mem ((c.tc : Thread Cert.ScInputRefIdeal.nD Cert.ScInputRefIdeal.τ).loc Cert.ScInputRefIdeal.main_arg1) = m ((c.tc : Thread Cert.ScInputRefIdeal.nD Cert.ScInputRefIdeal.τ).loc Cert.ScInputRefIdeal.main_arg1))
      ∧ r.2.sem = fun _ => 0)

def quiescent_ScWeight [hScWeight : Cert.ScWeight.Facts] : Prop :=
  ∀ (m : (ℓ : Loc Cert.ScWeight.nD Cert.ScWeight.τ Cert.ScWeight.sig) → Buf (Elt Bits) ℓ) (g : Dev Cert.ScWeight.nD → PrngReg), Pre_ScWeight m →
    θ_run (Cert.ScWeight.defs (F := Bits)) (onTc (τ := Cert.ScWeight.τ) (Cert.ScWeight.main (F := Bits))) ⟨m, fun _ => 0, g⟩ (fun r => (∀ c : Dev Cert.ScWeight.nD,
      r.2.mem ((c.tc : Thread Cert.ScWeight.nD Cert.ScWeight.τ).loc Cert.ScWeight.main_arg0) = m ((c.tc : Thread Cert.ScWeight.nD Cert.ScWeight.τ).loc Cert.ScWeight.main_arg0)
      ∧ r.2.mem ((c.tc : Thread Cert.ScWeight.nD Cert.ScWeight.τ).loc Cert.ScWeight.main_arg1) = m ((c.tc : Thread Cert.ScWeight.nD Cert.ScWeight.τ).loc Cert.ScWeight.main_arg1))
      ∧ r.2.sem = fun _ => 0)

def quiescent_ScWeightIdeal [hScWeightIdeal : Cert.ScWeightIdeal.Facts] : Prop :=
  ∀ (m : (ℓ : Loc Cert.ScWeightIdeal.nD Cert.ScWeightIdeal.τ Cert.ScWeightIdeal.sig) → Buf (Elt Ideal) ℓ) (g : Dev Cert.ScWeightIdeal.nD → PrngReg), Pre_ScWeightIdeal m →
    θ_run (Cert.ScWeightIdeal.defs (F := Ideal)) (onTc (τ := Cert.ScWeightIdeal.τ) (Cert.ScWeightIdeal.main (F := Ideal))) ⟨m, fun _ => 0, g⟩ (fun r => (∀ c : Dev Cert.ScWeightIdeal.nD,
      r.2.mem ((c.tc : Thread Cert.ScWeightIdeal.nD Cert.ScWeightIdeal.τ).loc Cert.ScWeightIdeal.main_arg0) = m ((c.tc : Thread Cert.ScWeightIdeal.nD Cert.ScWeightIdeal.τ).loc Cert.ScWeightIdeal.main_arg0)
      ∧ r.2.mem ((c.tc : Thread Cert.ScWeightIdeal.nD Cert.ScWeightIdeal.τ).loc Cert.ScWeightIdeal.main_arg1) = m ((c.tc : Thread Cert.ScWeightIdeal.nD Cert.ScWeightIdeal.τ).loc Cert.ScWeightIdeal.main_arg1))
      ∧ r.2.sem = fun _ => 0)

def quiescent_ScWeightRefIdeal [hScWeightRefIdeal : Cert.ScWeightRefIdeal.Facts] : Prop :=
  ∀ (m : (ℓ : Loc Cert.ScWeightRefIdeal.nD Cert.ScWeightRefIdeal.τ Cert.ScWeightRefIdeal.sig) → Buf (Elt Ideal) ℓ) (g : Dev Cert.ScWeightRefIdeal.nD → PrngReg), Pre_ScWeightRefIdeal m →
    θ_run (Cert.ScWeightRefIdeal.defs (F := Ideal)) (onTc (τ := Cert.ScWeightRefIdeal.τ) (Cert.ScWeightRefIdeal.main (F := Ideal))) ⟨m, fun _ => 0, g⟩ (fun r => (∀ c : Dev Cert.ScWeightRefIdeal.nD,
      r.2.mem ((c.tc : Thread Cert.ScWeightRefIdeal.nD Cert.ScWeightRefIdeal.τ).loc Cert.ScWeightRefIdeal.main_arg0) = m ((c.tc : Thread Cert.ScWeightRefIdeal.nD Cert.ScWeightRefIdeal.τ).loc Cert.ScWeightRefIdeal.main_arg0)
      ∧ r.2.mem ((c.tc : Thread Cert.ScWeightRefIdeal.nD Cert.ScWeightRefIdeal.τ).loc Cert.ScWeightRefIdeal.main_arg1) = m ((c.tc : Thread Cert.ScWeightRefIdeal.nD Cert.ScWeightRefIdeal.τ).loc Cert.ScWeightRefIdeal.main_arg1))
      ∧ r.2.sem = fun _ => 0)

def quiescent_WideInput [hWideInput : Cert.WideInput.Facts] : Prop :=
  ∀ (m : (ℓ : Loc Cert.WideInput.nD Cert.WideInput.τ Cert.WideInput.sig) → Buf (Elt Bits) ℓ) (g : Dev Cert.WideInput.nD → PrngReg), Pre_WideInput m →
    θ_run (Cert.WideInput.defs (F := Bits)) (onTc (τ := Cert.WideInput.τ) (Cert.WideInput.main (F := Bits))) ⟨m, fun _ => 0, g⟩ (fun r => (∀ c : Dev Cert.WideInput.nD,
      r.2.mem ((c.tc : Thread Cert.WideInput.nD Cert.WideInput.τ).loc Cert.WideInput.main_arg0) = m ((c.tc : Thread Cert.WideInput.nD Cert.WideInput.τ).loc Cert.WideInput.main_arg0)
      ∧ r.2.mem ((c.tc : Thread Cert.WideInput.nD Cert.WideInput.τ).loc Cert.WideInput.main_arg1) = m ((c.tc : Thread Cert.WideInput.nD Cert.WideInput.τ).loc Cert.WideInput.main_arg1))
      ∧ r.2.sem = fun _ => 0)

def quiescent_WideInputIdeal [hWideInputIdeal : Cert.WideInputIdeal.Facts] : Prop :=
  ∀ (m : (ℓ : Loc Cert.WideInputIdeal.nD Cert.WideInputIdeal.τ Cert.WideInputIdeal.sig) → Buf (Elt Ideal) ℓ) (g : Dev Cert.WideInputIdeal.nD → PrngReg), Pre_WideInputIdeal m →
    θ_run (Cert.WideInputIdeal.defs (F := Ideal)) (onTc (τ := Cert.WideInputIdeal.τ) (Cert.WideInputIdeal.main (F := Ideal))) ⟨m, fun _ => 0, g⟩ (fun r => (∀ c : Dev Cert.WideInputIdeal.nD,
      r.2.mem ((c.tc : Thread Cert.WideInputIdeal.nD Cert.WideInputIdeal.τ).loc Cert.WideInputIdeal.main_arg0) = m ((c.tc : Thread Cert.WideInputIdeal.nD Cert.WideInputIdeal.τ).loc Cert.WideInputIdeal.main_arg0)
      ∧ r.2.mem ((c.tc : Thread Cert.WideInputIdeal.nD Cert.WideInputIdeal.τ).loc Cert.WideInputIdeal.main_arg1) = m ((c.tc : Thread Cert.WideInputIdeal.nD Cert.WideInputIdeal.τ).loc Cert.WideInputIdeal.main_arg1))
      ∧ r.2.sem = fun _ => 0)

def quiescent_WideInputRefIdeal [hWideInputRefIdeal : Cert.WideInputRefIdeal.Facts] : Prop :=
  ∀ (m : (ℓ : Loc Cert.WideInputRefIdeal.nD Cert.WideInputRefIdeal.τ Cert.WideInputRefIdeal.sig) → Buf (Elt Ideal) ℓ) (g : Dev Cert.WideInputRefIdeal.nD → PrngReg), Pre_WideInputRefIdeal m →
    θ_run (Cert.WideInputRefIdeal.defs (F := Ideal)) (onTc (τ := Cert.WideInputRefIdeal.τ) (Cert.WideInputRefIdeal.main (F := Ideal))) ⟨m, fun _ => 0, g⟩ (fun r => (∀ c : Dev Cert.WideInputRefIdeal.nD,
      r.2.mem ((c.tc : Thread Cert.WideInputRefIdeal.nD Cert.WideInputRefIdeal.τ).loc Cert.WideInputRefIdeal.main_arg0) = m ((c.tc : Thread Cert.WideInputRefIdeal.nD Cert.WideInputRefIdeal.τ).loc Cert.WideInputRefIdeal.main_arg0)
      ∧ r.2.mem ((c.tc : Thread Cert.WideInputRefIdeal.nD Cert.WideInputRefIdeal.τ).loc Cert.WideInputRefIdeal.main_arg1) = m ((c.tc : Thread Cert.WideInputRefIdeal.nD Cert.WideInputRefIdeal.τ).loc Cert.WideInputRefIdeal.main_arg1))
      ∧ r.2.sem = fun _ => 0)

def quiescent_WideWeight [hWideWeight : Cert.WideWeight.Facts] : Prop :=
  ∀ (m : (ℓ : Loc Cert.WideWeight.nD Cert.WideWeight.τ Cert.WideWeight.sig) → Buf (Elt Bits) ℓ) (g : Dev Cert.WideWeight.nD → PrngReg), Pre_WideWeight m →
    θ_run (Cert.WideWeight.defs (F := Bits)) (onTc (τ := Cert.WideWeight.τ) (Cert.WideWeight.main (F := Bits))) ⟨m, fun _ => 0, g⟩ (fun r => (∀ c : Dev Cert.WideWeight.nD,
      r.2.mem ((c.tc : Thread Cert.WideWeight.nD Cert.WideWeight.τ).loc Cert.WideWeight.main_arg0) = m ((c.tc : Thread Cert.WideWeight.nD Cert.WideWeight.τ).loc Cert.WideWeight.main_arg0)
      ∧ r.2.mem ((c.tc : Thread Cert.WideWeight.nD Cert.WideWeight.τ).loc Cert.WideWeight.main_arg1) = m ((c.tc : Thread Cert.WideWeight.nD Cert.WideWeight.τ).loc Cert.WideWeight.main_arg1))
      ∧ r.2.sem = fun _ => 0)

def quiescent_WideWeightIdeal [hWideWeightIdeal : Cert.WideWeightIdeal.Facts] : Prop :=
  ∀ (m : (ℓ : Loc Cert.WideWeightIdeal.nD Cert.WideWeightIdeal.τ Cert.WideWeightIdeal.sig) → Buf (Elt Ideal) ℓ) (g : Dev Cert.WideWeightIdeal.nD → PrngReg), Pre_WideWeightIdeal m →
    θ_run (Cert.WideWeightIdeal.defs (F := Ideal)) (onTc (τ := Cert.WideWeightIdeal.τ) (Cert.WideWeightIdeal.main (F := Ideal))) ⟨m, fun _ => 0, g⟩ (fun r => (∀ c : Dev Cert.WideWeightIdeal.nD,
      r.2.mem ((c.tc : Thread Cert.WideWeightIdeal.nD Cert.WideWeightIdeal.τ).loc Cert.WideWeightIdeal.main_arg0) = m ((c.tc : Thread Cert.WideWeightIdeal.nD Cert.WideWeightIdeal.τ).loc Cert.WideWeightIdeal.main_arg0)
      ∧ r.2.mem ((c.tc : Thread Cert.WideWeightIdeal.nD Cert.WideWeightIdeal.τ).loc Cert.WideWeightIdeal.main_arg1) = m ((c.tc : Thread Cert.WideWeightIdeal.nD Cert.WideWeightIdeal.τ).loc Cert.WideWeightIdeal.main_arg1))
      ∧ r.2.sem = fun _ => 0)

def quiescent_WideWeightRefIdeal [hWideWeightRefIdeal : Cert.WideWeightRefIdeal.Facts] : Prop :=
  ∀ (m : (ℓ : Loc Cert.WideWeightRefIdeal.nD Cert.WideWeightRefIdeal.τ Cert.WideWeightRefIdeal.sig) → Buf (Elt Ideal) ℓ) (g : Dev Cert.WideWeightRefIdeal.nD → PrngReg), Pre_WideWeightRefIdeal m →
    θ_run (Cert.WideWeightRefIdeal.defs (F := Ideal)) (onTc (τ := Cert.WideWeightRefIdeal.τ) (Cert.WideWeightRefIdeal.main (F := Ideal))) ⟨m, fun _ => 0, g⟩ (fun r => (∀ c : Dev Cert.WideWeightRefIdeal.nD,
      r.2.mem ((c.tc : Thread Cert.WideWeightRefIdeal.nD Cert.WideWeightRefIdeal.τ).loc Cert.WideWeightRefIdeal.main_arg0) = m ((c.tc : Thread Cert.WideWeightRefIdeal.nD Cert.WideWeightRefIdeal.τ).loc Cert.WideWeightRefIdeal.main_arg0)
      ∧ r.2.mem ((c.tc : Thread Cert.WideWeightRefIdeal.nD Cert.WideWeightRefIdeal.τ).loc Cert.WideWeightRefIdeal.main_arg1) = m ((c.tc : Thread Cert.WideWeightRefIdeal.nD Cert.WideWeightRefIdeal.τ).loc Cert.WideWeightRefIdeal.main_arg1))
      ∧ r.2.sem = fun _ => 0)

def quiescent_OutInput [hOutInput : Cert.OutInput.Facts] : Prop :=
  ∀ (m : (ℓ : Loc Cert.OutInput.nD Cert.OutInput.τ Cert.OutInput.sig) → Buf (Elt Bits) ℓ) (g : Dev Cert.OutInput.nD → PrngReg), Pre_OutInput m →
    θ_run (Cert.OutInput.defs (F := Bits)) (onTc (τ := Cert.OutInput.τ) (Cert.OutInput.main (F := Bits))) ⟨m, fun _ => 0, g⟩ (fun r => (∀ c : Dev Cert.OutInput.nD,
      r.2.mem ((c.tc : Thread Cert.OutInput.nD Cert.OutInput.τ).loc Cert.OutInput.main_arg0) = m ((c.tc : Thread Cert.OutInput.nD Cert.OutInput.τ).loc Cert.OutInput.main_arg0)
      ∧ r.2.mem ((c.tc : Thread Cert.OutInput.nD Cert.OutInput.τ).loc Cert.OutInput.main_arg1) = m ((c.tc : Thread Cert.OutInput.nD Cert.OutInput.τ).loc Cert.OutInput.main_arg1))
      ∧ r.2.sem = fun _ => 0)

def quiescent_OutInputIdeal [hOutInputIdeal : Cert.OutInputIdeal.Facts] : Prop :=
  ∀ (m : (ℓ : Loc Cert.OutInputIdeal.nD Cert.OutInputIdeal.τ Cert.OutInputIdeal.sig) → Buf (Elt Ideal) ℓ) (g : Dev Cert.OutInputIdeal.nD → PrngReg), Pre_OutInputIdeal m →
    θ_run (Cert.OutInputIdeal.defs (F := Ideal)) (onTc (τ := Cert.OutInputIdeal.τ) (Cert.OutInputIdeal.main (F := Ideal))) ⟨m, fun _ => 0, g⟩ (fun r => (∀ c : Dev Cert.OutInputIdeal.nD,
      r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
      ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ r.2.sem = fun _ => 0)

def quiescent_OutInputRefIdeal [hOutInputRefIdeal : Cert.OutInputRefIdeal.Facts] : Prop :=
  ∀ (m : (ℓ : Loc Cert.OutInputRefIdeal.nD Cert.OutInputRefIdeal.τ Cert.OutInputRefIdeal.sig) → Buf (Elt Ideal) ℓ) (g : Dev Cert.OutInputRefIdeal.nD → PrngReg), Pre_OutInputRefIdeal m →
    θ_run (Cert.OutInputRefIdeal.defs (F := Ideal)) (onTc (τ := Cert.OutInputRefIdeal.τ) (Cert.OutInputRefIdeal.main (F := Ideal))) ⟨m, fun _ => 0, g⟩ (fun r => (∀ c : Dev Cert.OutInputRefIdeal.nD,
      r.2.mem ((c.tc : Thread Cert.OutInputRefIdeal.nD Cert.OutInputRefIdeal.τ).loc Cert.OutInputRefIdeal.main_arg0) = m ((c.tc : Thread Cert.OutInputRefIdeal.nD Cert.OutInputRefIdeal.τ).loc Cert.OutInputRefIdeal.main_arg0)
      ∧ r.2.mem ((c.tc : Thread Cert.OutInputRefIdeal.nD Cert.OutInputRefIdeal.τ).loc Cert.OutInputRefIdeal.main_arg1) = m ((c.tc : Thread Cert.OutInputRefIdeal.nD Cert.OutInputRefIdeal.τ).loc Cert.OutInputRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_LatentInput [hLatentInput : Cert.LatentInput.Facts] : Prop :=
  ∀ (m : (ℓ : Loc Cert.LatentInput.nD Cert.LatentInput.τ Cert.LatentInput.sig) → Buf (Elt Bits) ℓ) (g : Dev Cert.LatentInput.nD → PrngReg), Pre_LatentInput m →
    θ_run (Cert.LatentInput.defs (F := Bits)) (onTc (τ := Cert.LatentInput.τ) (Cert.LatentInput.main (F := Bits))) ⟨m, fun _ => 0, g⟩ (fun r => (∀ c : Dev Cert.LatentInput.nD,
      r.2.mem ((c.tc : Thread Cert.LatentInput.nD Cert.LatentInput.τ).loc Cert.LatentInput.main_arg0) = m ((c.tc : Thread Cert.LatentInput.nD Cert.LatentInput.τ).loc Cert.LatentInput.main_arg0)
      ∧ r.2.mem ((c.tc : Thread Cert.LatentInput.nD Cert.LatentInput.τ).loc Cert.LatentInput.main_arg1) = m ((c.tc : Thread Cert.LatentInput.nD Cert.LatentInput.τ).loc Cert.LatentInput.main_arg1))
      ∧ r.2.sem = fun _ => 0)

def quiescent_LatentInputIdeal [hLatentInputIdeal : Cert.LatentInputIdeal.Facts] : Prop :=
  ∀ (m : (ℓ : Loc Cert.LatentInputIdeal.nD Cert.LatentInputIdeal.τ Cert.LatentInputIdeal.sig) → Buf (Elt Ideal) ℓ) (g : Dev Cert.LatentInputIdeal.nD → PrngReg), Pre_LatentInputIdeal m →
    θ_run (Cert.LatentInputIdeal.defs (F := Ideal)) (onTc (τ := Cert.LatentInputIdeal.τ) (Cert.LatentInputIdeal.main (F := Ideal))) ⟨m, fun _ => 0, g⟩ (fun r => (∀ c : Dev Cert.LatentInputIdeal.nD,
      r.2.mem ((c.tc : Thread Cert.LatentInputIdeal.nD Cert.LatentInputIdeal.τ).loc Cert.LatentInputIdeal.main_arg0) = m ((c.tc : Thread Cert.LatentInputIdeal.nD Cert.LatentInputIdeal.τ).loc Cert.LatentInputIdeal.main_arg0)
      ∧ r.2.mem ((c.tc : Thread Cert.LatentInputIdeal.nD Cert.LatentInputIdeal.τ).loc Cert.LatentInputIdeal.main_arg1) = m ((c.tc : Thread Cert.LatentInputIdeal.nD Cert.LatentInputIdeal.τ).loc Cert.LatentInputIdeal.main_arg1))
      ∧ r.2.sem = fun _ => 0)

def quiescent_LatentInputRefIdeal [hLatentInputRefIdeal : Cert.LatentInputRefIdeal.Facts] : Prop :=
  ∀ (m : (ℓ : Loc Cert.LatentInputRefIdeal.nD Cert.LatentInputRefIdeal.τ Cert.LatentInputRefIdeal.sig) → Buf (Elt Ideal) ℓ) (g : Dev Cert.LatentInputRefIdeal.nD → PrngReg), Pre_LatentInputRefIdeal m →
    θ_run (Cert.LatentInputRefIdeal.defs (F := Ideal)) (onTc (τ := Cert.LatentInputRefIdeal.τ) (Cert.LatentInputRefIdeal.main (F := Ideal))) ⟨m, fun _ => 0, g⟩ (fun r => (∀ c : Dev Cert.LatentInputRefIdeal.nD,
      r.2.mem ((c.tc : Thread Cert.LatentInputRefIdeal.nD Cert.LatentInputRefIdeal.τ).loc Cert.LatentInputRefIdeal.main_arg0) = m ((c.tc : Thread Cert.LatentInputRefIdeal.nD Cert.LatentInputRefIdeal.τ).loc Cert.LatentInputRefIdeal.main_arg0)
      ∧ r.2.mem ((c.tc : Thread Cert.LatentInputRefIdeal.nD Cert.LatentInputRefIdeal.τ).loc Cert.LatentInputRefIdeal.main_arg1) = m ((c.tc : Thread Cert.LatentInputRefIdeal.nD Cert.LatentInputRefIdeal.τ).loc Cert.LatentInputRefIdeal.main_arg1))
      ∧ r.2.sem = fun _ => 0)

def quiescent_LatentWeight [hLatentWeight : Cert.LatentWeight.Facts] : Prop :=
  ∀ (m : (ℓ : Loc Cert.LatentWeight.nD Cert.LatentWeight.τ Cert.LatentWeight.sig) → Buf (Elt Bits) ℓ) (g : Dev Cert.LatentWeight.nD → PrngReg), Pre_LatentWeight m →
    θ_run (Cert.LatentWeight.defs (F := Bits)) (onTc (τ := Cert.LatentWeight.τ) (Cert.LatentWeight.main (F := Bits))) ⟨m, fun _ => 0, g⟩ (fun r => (∀ c : Dev Cert.LatentWeight.nD,
      r.2.mem ((c.tc : Thread Cert.LatentWeight.nD Cert.LatentWeight.τ).loc Cert.LatentWeight.main_arg0) = m ((c.tc : Thread Cert.LatentWeight.nD Cert.LatentWeight.τ).loc Cert.LatentWeight.main_arg0)
      ∧ r.2.mem ((c.tc : Thread Cert.LatentWeight.nD Cert.LatentWeight.τ).loc Cert.LatentWeight.main_arg1) = m ((c.tc : Thread Cert.LatentWeight.nD Cert.LatentWeight.τ).loc Cert.LatentWeight.main_arg1))
      ∧ r.2.sem = fun _ => 0)

def quiescent_LatentWeightIdeal [hLatentWeightIdeal : Cert.LatentWeightIdeal.Facts] : Prop :=
  ∀ (m : (ℓ : Loc Cert.LatentWeightIdeal.nD Cert.LatentWeightIdeal.τ Cert.LatentWeightIdeal.sig) → Buf (Elt Ideal) ℓ) (g : Dev Cert.LatentWeightIdeal.nD → PrngReg), Pre_LatentWeightIdeal m →
    θ_run (Cert.LatentWeightIdeal.defs (F := Ideal)) (onTc (τ := Cert.LatentWeightIdeal.τ) (Cert.LatentWeightIdeal.main (F := Ideal))) ⟨m, fun _ => 0, g⟩ (fun r => (∀ c : Dev Cert.LatentWeightIdeal.nD,
      r.2.mem ((c.tc : Thread Cert.LatentWeightIdeal.nD Cert.LatentWeightIdeal.τ).loc Cert.LatentWeightIdeal.main_arg0) = m ((c.tc : Thread Cert.LatentWeightIdeal.nD Cert.LatentWeightIdeal.τ).loc Cert.LatentWeightIdeal.main_arg0)
      ∧ r.2.mem ((c.tc : Thread Cert.LatentWeightIdeal.nD Cert.LatentWeightIdeal.τ).loc Cert.LatentWeightIdeal.main_arg1) = m ((c.tc : Thread Cert.LatentWeightIdeal.nD Cert.LatentWeightIdeal.τ).loc Cert.LatentWeightIdeal.main_arg1))
      ∧ r.2.sem = fun _ => 0)

def quiescent_LatentWeightRefIdeal [hLatentWeightRefIdeal : Cert.LatentWeightRefIdeal.Facts] : Prop :=
  ∀ (m : (ℓ : Loc Cert.LatentWeightRefIdeal.nD Cert.LatentWeightRefIdeal.τ Cert.LatentWeightRefIdeal.sig) → Buf (Elt Ideal) ℓ) (g : Dev Cert.LatentWeightRefIdeal.nD → PrngReg), Pre_LatentWeightRefIdeal m →
    θ_run (Cert.LatentWeightRefIdeal.defs (F := Ideal)) (onTc (τ := Cert.LatentWeightRefIdeal.τ) (Cert.LatentWeightRefIdeal.main (F := Ideal))) ⟨m, fun _ => 0, g⟩ (fun r => (∀ c : Dev Cert.LatentWeightRefIdeal.nD,
      r.2.mem ((c.tc : Thread Cert.LatentWeightRefIdeal.nD Cert.LatentWeightRefIdeal.τ).loc Cert.LatentWeightRefIdeal.main_arg0) = m ((c.tc : Thread Cert.LatentWeightRefIdeal.nD Cert.LatentWeightRefIdeal.τ).loc Cert.LatentWeightRefIdeal.main_arg0)
      ∧ r.2.mem ((c.tc : Thread Cert.LatentWeightRefIdeal.nD Cert.LatentWeightRefIdeal.τ).loc Cert.LatentWeightRefIdeal.main_arg1) = m ((c.tc : Thread Cert.LatentWeightRefIdeal.nD Cert.LatentWeightRefIdeal.τ).loc Cert.LatentWeightRefIdeal.main_arg1))
      ∧ r.2.sem = fun _ => 0)

def quiescent_LatentProject [hLatentProject : Cert.LatentProject.Facts] : Prop :=
  ∀ (m : (ℓ : Loc Cert.LatentProject.nD Cert.LatentProject.τ Cert.LatentProject.sig) → Buf (Elt Bits) ℓ) (g : Dev Cert.LatentProject.nD → PrngReg), Pre_LatentProject m →
    θ_run (Cert.LatentProject.defs (F := Bits)) (onTc (τ := Cert.LatentProject.τ) (Cert.LatentProject.main (F := Bits))) ⟨m, fun _ => 0, g⟩ (fun r => (∀ c : Dev Cert.LatentProject.nD,
      r.2.mem ((c.tc : Thread Cert.LatentProject.nD Cert.LatentProject.τ).loc Cert.LatentProject.main_arg0) = m ((c.tc : Thread Cert.LatentProject.nD Cert.LatentProject.τ).loc Cert.LatentProject.main_arg0)
      ∧ r.2.mem ((c.tc : Thread Cert.LatentProject.nD Cert.LatentProject.τ).loc Cert.LatentProject.main_arg1) = m ((c.tc : Thread Cert.LatentProject.nD Cert.LatentProject.τ).loc Cert.LatentProject.main_arg1))
      ∧ r.2.sem = fun _ => 0)

def quiescent_LatentProjectIdeal [hLatentProjectIdeal : Cert.LatentProjectIdeal.Facts] : Prop :=
  ∀ (m : (ℓ : Loc Cert.LatentProjectIdeal.nD Cert.LatentProjectIdeal.τ Cert.LatentProjectIdeal.sig) → Buf (Elt Ideal) ℓ) (g : Dev Cert.LatentProjectIdeal.nD → PrngReg), Pre_LatentProjectIdeal m →
    θ_run (Cert.LatentProjectIdeal.defs (F := Ideal)) (onTc (τ := Cert.LatentProjectIdeal.τ) (Cert.LatentProjectIdeal.main (F := Ideal))) ⟨m, fun _ => 0, g⟩ (fun r => (∀ c : Dev Cert.LatentProjectIdeal.nD,
      r.2.mem ((c.tc : Thread Cert.LatentProjectIdeal.nD Cert.LatentProjectIdeal.τ).loc Cert.LatentProjectIdeal.main_arg0) = m ((c.tc : Thread Cert.LatentProjectIdeal.nD Cert.LatentProjectIdeal.τ).loc Cert.LatentProjectIdeal.main_arg0)
      ∧ r.2.mem ((c.tc : Thread Cert.LatentProjectIdeal.nD Cert.LatentProjectIdeal.τ).loc Cert.LatentProjectIdeal.main_arg1) = m ((c.tc : Thread Cert.LatentProjectIdeal.nD Cert.LatentProjectIdeal.τ).loc Cert.LatentProjectIdeal.main_arg1))
      ∧ r.2.sem = fun _ => 0)

def quiescent_LatentProjectRefIdeal [hLatentProjectRefIdeal : Cert.LatentProjectRefIdeal.Facts] : Prop :=
  ∀ (m : (ℓ : Loc Cert.LatentProjectRefIdeal.nD Cert.LatentProjectRefIdeal.τ Cert.LatentProjectRefIdeal.sig) → Buf (Elt Ideal) ℓ) (g : Dev Cert.LatentProjectRefIdeal.nD → PrngReg), Pre_LatentProjectRefIdeal m →
    θ_run (Cert.LatentProjectRefIdeal.defs (F := Ideal)) (onTc (τ := Cert.LatentProjectRefIdeal.τ) (Cert.LatentProjectRefIdeal.main (F := Ideal))) ⟨m, fun _ => 0, g⟩ (fun r => (∀ c : Dev Cert.LatentProjectRefIdeal.nD,
      r.2.mem ((c.tc : Thread Cert.LatentProjectRefIdeal.nD Cert.LatentProjectRefIdeal.τ).loc Cert.LatentProjectRefIdeal.main_arg0) = m ((c.tc : Thread Cert.LatentProjectRefIdeal.nD Cert.LatentProjectRefIdeal.τ).loc Cert.LatentProjectRefIdeal.main_arg0)
      ∧ r.2.mem ((c.tc : Thread Cert.LatentProjectRefIdeal.nD Cert.LatentProjectRefIdeal.τ).loc Cert.LatentProjectRefIdeal.main_arg1) = m ((c.tc : Thread Cert.LatentProjectRefIdeal.nD Cert.LatentProjectRefIdeal.τ).loc Cert.LatentProjectRefIdeal.main_arg1))
      ∧ r.2.sem = fun _ => 0)

def quiescent_ScProject [hScProject : Cert.ScProject.Facts] : Prop :=
  ∀ (m : (ℓ : Loc Cert.ScProject.nD Cert.ScProject.τ Cert.ScProject.sig) → Buf (Elt Bits) ℓ) (g : Dev Cert.ScProject.nD → PrngReg), Pre_ScProject m →
    θ_run (Cert.ScProject.defs (F := Bits)) (onTc (τ := Cert.ScProject.τ) (Cert.ScProject.main (F := Bits))) ⟨m, fun _ => 0, g⟩ (fun r => (∀ c : Dev Cert.ScProject.nD,
      r.2.mem ((c.tc : Thread Cert.ScProject.nD Cert.ScProject.τ).loc Cert.ScProject.main_arg0) = m ((c.tc : Thread Cert.ScProject.nD Cert.ScProject.τ).loc Cert.ScProject.main_arg0)
      ∧ r.2.mem ((c.tc : Thread Cert.ScProject.nD Cert.ScProject.τ).loc Cert.ScProject.main_arg1) = m ((c.tc : Thread Cert.ScProject.nD Cert.ScProject.τ).loc Cert.ScProject.main_arg1))
      ∧ r.2.sem = fun _ => 0)

def quiescent_ScProjectIdeal [hScProjectIdeal : Cert.ScProjectIdeal.Facts] : Prop :=
  ∀ (m : (ℓ : Loc Cert.ScProjectIdeal.nD Cert.ScProjectIdeal.τ Cert.ScProjectIdeal.sig) → Buf (Elt Ideal) ℓ) (g : Dev Cert.ScProjectIdeal.nD → PrngReg), Pre_ScProjectIdeal m →
    θ_run (Cert.ScProjectIdeal.defs (F := Ideal)) (onTc (τ := Cert.ScProjectIdeal.τ) (Cert.ScProjectIdeal.main (F := Ideal))) ⟨m, fun _ => 0, g⟩ (fun r => (∀ c : Dev Cert.ScProjectIdeal.nD,
      r.2.mem ((c.tc : Thread Cert.ScProjectIdeal.nD Cert.ScProjectIdeal.τ).loc Cert.ScProjectIdeal.main_arg0) = m ((c.tc : Thread Cert.ScProjectIdeal.nD Cert.ScProjectIdeal.τ).loc Cert.ScProjectIdeal.main_arg0)
      ∧ r.2.mem ((c.tc : Thread Cert.ScProjectIdeal.nD Cert.ScProjectIdeal.τ).loc Cert.ScProjectIdeal.main_arg1) = m ((c.tc : Thread Cert.ScProjectIdeal.nD Cert.ScProjectIdeal.τ).loc Cert.ScProjectIdeal.main_arg1))
      ∧ r.2.sem = fun _ => 0)

def quiescent_ScProjectRefIdeal [hScProjectRefIdeal : Cert.ScProjectRefIdeal.Facts] : Prop :=
  ∀ (m : (ℓ : Loc Cert.ScProjectRefIdeal.nD Cert.ScProjectRefIdeal.τ Cert.ScProjectRefIdeal.sig) → Buf (Elt Ideal) ℓ) (g : Dev Cert.ScProjectRefIdeal.nD → PrngReg), Pre_ScProjectRefIdeal m →
    θ_run (Cert.ScProjectRefIdeal.defs (F := Ideal)) (onTc (τ := Cert.ScProjectRefIdeal.τ) (Cert.ScProjectRefIdeal.main (F := Ideal))) ⟨m, fun _ => 0, g⟩ (fun r => (∀ c : Dev Cert.ScProjectRefIdeal.nD,
      r.2.mem ((c.tc : Thread Cert.ScProjectRefIdeal.nD Cert.ScProjectRefIdeal.τ).loc Cert.ScProjectRefIdeal.main_arg0) = m ((c.tc : Thread Cert.ScProjectRefIdeal.nD Cert.ScProjectRefIdeal.τ).loc Cert.ScProjectRefIdeal.main_arg0)
      ∧ r.2.mem ((c.tc : Thread Cert.ScProjectRefIdeal.nD Cert.ScProjectRefIdeal.τ).loc Cert.ScProjectRefIdeal.main_arg1) = m ((c.tc : Thread Cert.ScProjectRefIdeal.nD Cert.ScProjectRefIdeal.τ).loc Cert.ScProjectRefIdeal.main_arg1))
      ∧ r.2.sem = fun _ => 0)

def quiescent_WideProject [hWideProject : Cert.WideProject.Facts] : Prop :=
  ∀ (m : (ℓ : Loc Cert.WideProject.nD Cert.WideProject.τ Cert.WideProject.sig) → Buf (Elt Bits) ℓ) (g : Dev Cert.WideProject.nD → PrngReg), Pre_WideProject m →
    θ_run (Cert.WideProject.defs (F := Bits)) (onTc (τ := Cert.WideProject.τ) (Cert.WideProject.main (F := Bits))) ⟨m, fun _ => 0, g⟩ (fun r => (∀ c : Dev Cert.WideProject.nD,
      r.2.mem ((c.tc : Thread Cert.WideProject.nD Cert.WideProject.τ).loc Cert.WideProject.main_arg0) = m ((c.tc : Thread Cert.WideProject.nD Cert.WideProject.τ).loc Cert.WideProject.main_arg0)
      ∧ r.2.mem ((c.tc : Thread Cert.WideProject.nD Cert.WideProject.τ).loc Cert.WideProject.main_arg1) = m ((c.tc : Thread Cert.WideProject.nD Cert.WideProject.τ).loc Cert.WideProject.main_arg1))
      ∧ r.2.sem = fun _ => 0)

def quiescent_WideProjectIdeal [hWideProjectIdeal : Cert.WideProjectIdeal.Facts] : Prop :=
  ∀ (m : (ℓ : Loc Cert.WideProjectIdeal.nD Cert.WideProjectIdeal.τ Cert.WideProjectIdeal.sig) → Buf (Elt Ideal) ℓ) (g : Dev Cert.WideProjectIdeal.nD → PrngReg), Pre_WideProjectIdeal m →
    θ_run (Cert.WideProjectIdeal.defs (F := Ideal)) (onTc (τ := Cert.WideProjectIdeal.τ) (Cert.WideProjectIdeal.main (F := Ideal))) ⟨m, fun _ => 0, g⟩ (fun r => (∀ c : Dev Cert.WideProjectIdeal.nD,
      r.2.mem ((c.tc : Thread Cert.WideProjectIdeal.nD Cert.WideProjectIdeal.τ).loc Cert.WideProjectIdeal.main_arg0) = m ((c.tc : Thread Cert.WideProjectIdeal.nD Cert.WideProjectIdeal.τ).loc Cert.WideProjectIdeal.main_arg0)
      ∧ r.2.mem ((c.tc : Thread Cert.WideProjectIdeal.nD Cert.WideProjectIdeal.τ).loc Cert.WideProjectIdeal.main_arg1) = m ((c.tc : Thread Cert.WideProjectIdeal.nD Cert.WideProjectIdeal.τ).loc Cert.WideProjectIdeal.main_arg1))
      ∧ r.2.sem = fun _ => 0)

def quiescent_WideProjectRefIdeal [hWideProjectRefIdeal : Cert.WideProjectRefIdeal.Facts] : Prop :=
  ∀ (m : (ℓ : Loc Cert.WideProjectRefIdeal.nD Cert.WideProjectRefIdeal.τ Cert.WideProjectRefIdeal.sig) → Buf (Elt Ideal) ℓ) (g : Dev Cert.WideProjectRefIdeal.nD → PrngReg), Pre_WideProjectRefIdeal m →
    θ_run (Cert.WideProjectRefIdeal.defs (F := Ideal)) (onTc (τ := Cert.WideProjectRefIdeal.τ) (Cert.WideProjectRefIdeal.main (F := Ideal))) ⟨m, fun _ => 0, g⟩ (fun r => (∀ c : Dev Cert.WideProjectRefIdeal.nD,
      r.2.mem ((c.tc : Thread Cert.WideProjectRefIdeal.nD Cert.WideProjectRefIdeal.τ).loc Cert.WideProjectRefIdeal.main_arg0) = m ((c.tc : Thread Cert.WideProjectRefIdeal.nD Cert.WideProjectRefIdeal.τ).loc Cert.WideProjectRefIdeal.main_arg0)
      ∧ r.2.mem ((c.tc : Thread Cert.WideProjectRefIdeal.nD Cert.WideProjectRefIdeal.τ).loc Cert.WideProjectRefIdeal.main_arg1) = m ((c.tc : Thread Cert.WideProjectRefIdeal.nD Cert.WideProjectRefIdeal.τ).loc Cert.WideProjectRefIdeal.main_arg1))
      ∧ r.2.sem = fun _ => 0)

def quiescent_OutProject [hOutProject : Cert.OutProject.Facts] : Prop :=
  ∀ (m : (ℓ : Loc Cert.OutProject.nD Cert.OutProject.τ Cert.OutProject.sig) → Buf (Elt Bits) ℓ) (g : Dev Cert.OutProject.nD → PrngReg), Pre_OutProject m →
    θ_run (Cert.OutProject.defs (F := Bits)) (onTc (τ := Cert.OutProject.τ) (Cert.OutProject.main (F := Bits))) ⟨m, fun _ => 0, g⟩ (fun r => (∀ c : Dev Cert.OutProject.nD,
      r.2.mem ((c.tc : Thread Cert.OutProject.nD Cert.OutProject.τ).loc Cert.OutProject.main_arg0) = m ((c.tc : Thread Cert.OutProject.nD Cert.OutProject.τ).loc Cert.OutProject.main_arg0)
      ∧ r.2.mem ((c.tc : Thread Cert.OutProject.nD Cert.OutProject.τ).loc Cert.OutProject.main_arg1) = m ((c.tc : Thread Cert.OutProject.nD Cert.OutProject.τ).loc Cert.OutProject.main_arg1))
      ∧ r.2.sem = fun _ => 0)

def quiescent_OutProjectIdeal [hOutProjectIdeal : Cert.OutProjectIdeal.Facts] : Prop :=
  ∀ (m : (ℓ : Loc Cert.OutProjectIdeal.nD Cert.OutProjectIdeal.τ Cert.OutProjectIdeal.sig) → Buf (Elt Ideal) ℓ) (g : Dev Cert.OutProjectIdeal.nD → PrngReg), Pre_OutProjectIdeal m →
    θ_run (Cert.OutProjectIdeal.defs (F := Ideal)) (onTc (τ := Cert.OutProjectIdeal.τ) (Cert.OutProjectIdeal.main (F := Ideal))) ⟨m, fun _ => 0, g⟩ (fun r => (∀ c : Dev Cert.OutProjectIdeal.nD,
      r.2.mem ((c.tc : Thread Cert.OutProjectIdeal.nD Cert.OutProjectIdeal.τ).loc Cert.OutProjectIdeal.main_arg0) = m ((c.tc : Thread Cert.OutProjectIdeal.nD Cert.OutProjectIdeal.τ).loc Cert.OutProjectIdeal.main_arg0)
      ∧ r.2.mem ((c.tc : Thread Cert.OutProjectIdeal.nD Cert.OutProjectIdeal.τ).loc Cert.OutProjectIdeal.main_arg1) = m ((c.tc : Thread Cert.OutProjectIdeal.nD Cert.OutProjectIdeal.τ).loc Cert.OutProjectIdeal.main_arg1))
      ∧ r.2.sem = fun _ => 0)

def quiescent_OutProjectRefIdeal [hOutProjectRefIdeal : Cert.OutProjectRefIdeal.Facts] : Prop :=
  ∀ (m : (ℓ : Loc Cert.OutProjectRefIdeal.nD Cert.OutProjectRefIdeal.τ Cert.OutProjectRefIdeal.sig) → Buf (Elt Ideal) ℓ) (g : Dev Cert.OutProjectRefIdeal.nD → PrngReg), Pre_OutProjectRefIdeal m →
    θ_run (Cert.OutProjectRefIdeal.defs (F := Ideal)) (onTc (τ := Cert.OutProjectRefIdeal.τ) (Cert.OutProjectRefIdeal.main (F := Ideal))) ⟨m, fun _ => 0, g⟩ (fun r => (∀ c : Dev Cert.OutProjectRefIdeal.nD,
      r.2.mem ((c.tc : Thread Cert.OutProjectRefIdeal.nD Cert.OutProjectRefIdeal.τ).loc Cert.OutProjectRefIdeal.main_arg0) = m ((c.tc : Thread Cert.OutProjectRefIdeal.nD Cert.OutProjectRefIdeal.τ).loc Cert.OutProjectRefIdeal.main_arg0)
      ∧ r.2.mem ((c.tc : Thread Cert.OutProjectRefIdeal.nD Cert.OutProjectRefIdeal.τ).loc Cert.OutProjectRefIdeal.main_arg1) = m ((c.tc : Thread Cert.OutProjectRefIdeal.nD Cert.OutProjectRefIdeal.τ).loc Cert.OutProjectRefIdeal.main_arg1))
      ∧ r.2.sem = fun _ => 0)

def quiescent_QueryInput [hQueryInput : Cert.QueryInput.Facts] : Prop :=
  ∀ (m : (ℓ : Loc Cert.QueryInput.nD Cert.QueryInput.τ Cert.QueryInput.sig) → Buf (Elt Bits) ℓ) (g : Dev Cert.QueryInput.nD → PrngReg), Pre_QueryInput m →
    θ_run (Cert.QueryInput.defs (F := Bits)) (onTc (τ := Cert.QueryInput.τ) (Cert.QueryInput.main (F := Bits))) ⟨m, fun _ => 0, g⟩ (fun r => (∀ c : Dev Cert.QueryInput.nD,
      r.2.mem ((c.tc : Thread Cert.QueryInput.nD Cert.QueryInput.τ).loc Cert.QueryInput.main_arg0) = m ((c.tc : Thread Cert.QueryInput.nD Cert.QueryInput.τ).loc Cert.QueryInput.main_arg0)
      ∧ r.2.mem ((c.tc : Thread Cert.QueryInput.nD Cert.QueryInput.τ).loc Cert.QueryInput.main_arg1) = m ((c.tc : Thread Cert.QueryInput.nD Cert.QueryInput.τ).loc Cert.QueryInput.main_arg1))
      ∧ r.2.sem = fun _ => 0)

def quiescent_QueryInputIdeal [hQueryInputIdeal : Cert.QueryInputIdeal.Facts] : Prop :=
  ∀ (m : (ℓ : Loc Cert.QueryInputIdeal.nD Cert.QueryInputIdeal.τ Cert.QueryInputIdeal.sig) → Buf (Elt Ideal) ℓ) (g : Dev Cert.QueryInputIdeal.nD → PrngReg), Pre_QueryInputIdeal m →
    θ_run (Cert.QueryInputIdeal.defs (F := Ideal)) (onTc (τ := Cert.QueryInputIdeal.τ) (Cert.QueryInputIdeal.main (F := Ideal))) ⟨m, fun _ => 0, g⟩ (fun r => (∀ c : Dev Cert.QueryInputIdeal.nD,
      r.2.mem ((c.tc : Thread Cert.QueryInputIdeal.nD Cert.QueryInputIdeal.τ).loc Cert.QueryInputIdeal.main_arg0) = m ((c.tc : Thread Cert.QueryInputIdeal.nD Cert.QueryInputIdeal.τ).loc Cert.QueryInputIdeal.main_arg0)
      ∧ r.2.mem ((c.tc : Thread Cert.QueryInputIdeal.nD Cert.QueryInputIdeal.τ).loc Cert.QueryInputIdeal.main_arg1) = m ((c.tc : Thread Cert.QueryInputIdeal.nD Cert.QueryInputIdeal.τ).loc Cert.QueryInputIdeal.main_arg1))
      ∧ r.2.sem = fun _ => 0)

def quiescent_QueryInputRefIdeal [hQueryInputRefIdeal : Cert.QueryInputRefIdeal.Facts] : Prop :=
  ∀ (m : (ℓ : Loc Cert.QueryInputRefIdeal.nD Cert.QueryInputRefIdeal.τ Cert.QueryInputRefIdeal.sig) → Buf (Elt Ideal) ℓ) (g : Dev Cert.QueryInputRefIdeal.nD → PrngReg), Pre_QueryInputRefIdeal m →
    θ_run (Cert.QueryInputRefIdeal.defs (F := Ideal)) (onTc (τ := Cert.QueryInputRefIdeal.τ) (Cert.QueryInputRefIdeal.main (F := Ideal))) ⟨m, fun _ => 0, g⟩ (fun r => (∀ c : Dev Cert.QueryInputRefIdeal.nD,
      r.2.mem ((c.tc : Thread Cert.QueryInputRefIdeal.nD Cert.QueryInputRefIdeal.τ).loc Cert.QueryInputRefIdeal.main_arg0) = m ((c.tc : Thread Cert.QueryInputRefIdeal.nD Cert.QueryInputRefIdeal.τ).loc Cert.QueryInputRefIdeal.main_arg0)
      ∧ r.2.mem ((c.tc : Thread Cert.QueryInputRefIdeal.nD Cert.QueryInputRefIdeal.τ).loc Cert.QueryInputRefIdeal.main_arg1) = m ((c.tc : Thread Cert.QueryInputRefIdeal.nD Cert.QueryInputRefIdeal.τ).loc Cert.QueryInputRefIdeal.main_arg1))
      ∧ r.2.sem = fun _ => 0)

def quiescent_KeyInput [hKeyInput : Cert.KeyInput.Facts] : Prop :=
  ∀ (m : (ℓ : Loc Cert.KeyInput.nD Cert.KeyInput.τ Cert.KeyInput.sig) → Buf (Elt Bits) ℓ) (g : Dev Cert.KeyInput.nD → PrngReg), Pre_KeyInput m →
    θ_run (Cert.KeyInput.defs (F := Bits)) (onTc (τ := Cert.KeyInput.τ) (Cert.KeyInput.main (F := Bits))) ⟨m, fun _ => 0, g⟩ (fun r => (∀ c : Dev Cert.KeyInput.nD,
      r.2.mem ((c.tc : Thread Cert.KeyInput.nD Cert.KeyInput.τ).loc Cert.KeyInput.main_arg0) = m ((c.tc : Thread Cert.KeyInput.nD Cert.KeyInput.τ).loc Cert.KeyInput.main_arg0)
      ∧ r.2.mem ((c.tc : Thread Cert.KeyInput.nD Cert.KeyInput.τ).loc Cert.KeyInput.main_arg1) = m ((c.tc : Thread Cert.KeyInput.nD Cert.KeyInput.τ).loc Cert.KeyInput.main_arg1))
      ∧ r.2.sem = fun _ => 0)

def quiescent_KeyInputIdeal [hKeyInputIdeal : Cert.KeyInputIdeal.Facts] : Prop :=
  ∀ (m : (ℓ : Loc Cert.KeyInputIdeal.nD Cert.KeyInputIdeal.τ Cert.KeyInputIdeal.sig) → Buf (Elt Ideal) ℓ) (g : Dev Cert.KeyInputIdeal.nD → PrngReg), Pre_KeyInputIdeal m →
    θ_run (Cert.KeyInputIdeal.defs (F := Ideal)) (onTc (τ := Cert.KeyInputIdeal.τ) (Cert.KeyInputIdeal.main (F := Ideal))) ⟨m, fun _ => 0, g⟩ (fun r => (∀ c : Dev Cert.KeyInputIdeal.nD,
      r.2.mem ((c.tc : Thread Cert.KeyInputIdeal.nD Cert.KeyInputIdeal.τ).loc Cert.KeyInputIdeal.main_arg0) = m ((c.tc : Thread Cert.KeyInputIdeal.nD Cert.KeyInputIdeal.τ).loc Cert.KeyInputIdeal.main_arg0)
      ∧ r.2.mem ((c.tc : Thread Cert.KeyInputIdeal.nD Cert.KeyInputIdeal.τ).loc Cert.KeyInputIdeal.main_arg1) = m ((c.tc : Thread Cert.KeyInputIdeal.nD Cert.KeyInputIdeal.τ).loc Cert.KeyInputIdeal.main_arg1))
      ∧ r.2.sem = fun _ => 0)

def quiescent_KeyInputRefIdeal [hKeyInputRefIdeal : Cert.KeyInputRefIdeal.Facts] : Prop :=
  ∀ (m : (ℓ : Loc Cert.KeyInputRefIdeal.nD Cert.KeyInputRefIdeal.τ Cert.KeyInputRefIdeal.sig) → Buf (Elt Ideal) ℓ) (g : Dev Cert.KeyInputRefIdeal.nD → PrngReg), Pre_KeyInputRefIdeal m →
    θ_run (Cert.KeyInputRefIdeal.defs (F := Ideal)) (onTc (τ := Cert.KeyInputRefIdeal.τ) (Cert.KeyInputRefIdeal.main (F := Ideal))) ⟨m, fun _ => 0, g⟩ (fun r => (∀ c : Dev Cert.KeyInputRefIdeal.nD,
      r.2.mem ((c.tc : Thread Cert.KeyInputRefIdeal.nD Cert.KeyInputRefIdeal.τ).loc Cert.KeyInputRefIdeal.main_arg0) = m ((c.tc : Thread Cert.KeyInputRefIdeal.nD Cert.KeyInputRefIdeal.τ).loc Cert.KeyInputRefIdeal.main_arg0)
      ∧ r.2.mem ((c.tc : Thread Cert.KeyInputRefIdeal.nD Cert.KeyInputRefIdeal.τ).loc Cert.KeyInputRefIdeal.main_arg1) = m ((c.tc : Thread Cert.KeyInputRefIdeal.nD Cert.KeyInputRefIdeal.τ).loc Cert.KeyInputRefIdeal.main_arg1))
      ∧ r.2.sem = fun _ => 0)

def quiescent_ValueInput [hValueInput : Cert.ValueInput.Facts] : Prop :=
  ∀ (m : (ℓ : Loc Cert.ValueInput.nD Cert.ValueInput.τ Cert.ValueInput.sig) → Buf (Elt Bits) ℓ) (g : Dev Cert.ValueInput.nD → PrngReg), Pre_ValueInput m →
    θ_run (Cert.ValueInput.defs (F := Bits)) (onTc (τ := Cert.ValueInput.τ) (Cert.ValueInput.main (F := Bits))) ⟨m, fun _ => 0, g⟩ (fun r => (∀ c : Dev Cert.ValueInput.nD,
      r.2.mem ((c.tc : Thread Cert.ValueInput.nD Cert.ValueInput.τ).loc Cert.ValueInput.main_arg0) = m ((c.tc : Thread Cert.ValueInput.nD Cert.ValueInput.τ).loc Cert.ValueInput.main_arg0)
      ∧ r.2.mem ((c.tc : Thread Cert.ValueInput.nD Cert.ValueInput.τ).loc Cert.ValueInput.main_arg1) = m ((c.tc : Thread Cert.ValueInput.nD Cert.ValueInput.τ).loc Cert.ValueInput.main_arg1))
      ∧ r.2.sem = fun _ => 0)

def quiescent_ValueInputIdeal [hValueInputIdeal : Cert.ValueInputIdeal.Facts] : Prop :=
  ∀ (m : (ℓ : Loc Cert.ValueInputIdeal.nD Cert.ValueInputIdeal.τ Cert.ValueInputIdeal.sig) → Buf (Elt Ideal) ℓ) (g : Dev Cert.ValueInputIdeal.nD → PrngReg), Pre_ValueInputIdeal m →
    θ_run (Cert.ValueInputIdeal.defs (F := Ideal)) (onTc (τ := Cert.ValueInputIdeal.τ) (Cert.ValueInputIdeal.main (F := Ideal))) ⟨m, fun _ => 0, g⟩ (fun r => (∀ c : Dev Cert.ValueInputIdeal.nD,
      r.2.mem ((c.tc : Thread Cert.ValueInputIdeal.nD Cert.ValueInputIdeal.τ).loc Cert.ValueInputIdeal.main_arg0) = m ((c.tc : Thread Cert.ValueInputIdeal.nD Cert.ValueInputIdeal.τ).loc Cert.ValueInputIdeal.main_arg0)
      ∧ r.2.mem ((c.tc : Thread Cert.ValueInputIdeal.nD Cert.ValueInputIdeal.τ).loc Cert.ValueInputIdeal.main_arg1) = m ((c.tc : Thread Cert.ValueInputIdeal.nD Cert.ValueInputIdeal.τ).loc Cert.ValueInputIdeal.main_arg1))
      ∧ r.2.sem = fun _ => 0)

def quiescent_ValueInputRefIdeal [hValueInputRefIdeal : Cert.ValueInputRefIdeal.Facts] : Prop :=
  ∀ (m : (ℓ : Loc Cert.ValueInputRefIdeal.nD Cert.ValueInputRefIdeal.τ Cert.ValueInputRefIdeal.sig) → Buf (Elt Ideal) ℓ) (g : Dev Cert.ValueInputRefIdeal.nD → PrngReg), Pre_ValueInputRefIdeal m →
    θ_run (Cert.ValueInputRefIdeal.defs (F := Ideal)) (onTc (τ := Cert.ValueInputRefIdeal.τ) (Cert.ValueInputRefIdeal.main (F := Ideal))) ⟨m, fun _ => 0, g⟩ (fun r => (∀ c : Dev Cert.ValueInputRefIdeal.nD,
      r.2.mem ((c.tc : Thread Cert.ValueInputRefIdeal.nD Cert.ValueInputRefIdeal.τ).loc Cert.ValueInputRefIdeal.main_arg0) = m ((c.tc : Thread Cert.ValueInputRefIdeal.nD Cert.ValueInputRefIdeal.τ).loc Cert.ValueInputRefIdeal.main_arg0)
      ∧ r.2.mem ((c.tc : Thread Cert.ValueInputRefIdeal.nD Cert.ValueInputRefIdeal.τ).loc Cert.ValueInputRefIdeal.main_arg1) = m ((c.tc : Thread Cert.ValueInputRefIdeal.nD Cert.ValueInputRefIdeal.τ).loc Cert.ValueInputRefIdeal.main_arg1))
      ∧ r.2.sem = fun _ => 0)

def quiescent_QueryWeight [hQueryWeight : Cert.QueryWeight.Facts] : Prop :=
  ∀ (m : (ℓ : Loc Cert.QueryWeight.nD Cert.QueryWeight.τ Cert.QueryWeight.sig) → Buf (Elt Bits) ℓ) (g : Dev Cert.QueryWeight.nD → PrngReg), Pre_QueryWeight m →
    θ_run (Cert.QueryWeight.defs (F := Bits)) (onTc (τ := Cert.QueryWeight.τ) (Cert.QueryWeight.main (F := Bits))) ⟨m, fun _ => 0, g⟩ (fun r => (∀ c : Dev Cert.QueryWeight.nD,
      r.2.mem ((c.tc : Thread Cert.QueryWeight.nD Cert.QueryWeight.τ).loc Cert.QueryWeight.main_arg0) = m ((c.tc : Thread Cert.QueryWeight.nD Cert.QueryWeight.τ).loc Cert.QueryWeight.main_arg0)
      ∧ r.2.mem ((c.tc : Thread Cert.QueryWeight.nD Cert.QueryWeight.τ).loc Cert.QueryWeight.main_arg1) = m ((c.tc : Thread Cert.QueryWeight.nD Cert.QueryWeight.τ).loc Cert.QueryWeight.main_arg1))
      ∧ r.2.sem = fun _ => 0)

def quiescent_QueryWeightIdeal [hQueryWeightIdeal : Cert.QueryWeightIdeal.Facts] : Prop :=
  ∀ (m : (ℓ : Loc Cert.QueryWeightIdeal.nD Cert.QueryWeightIdeal.τ Cert.QueryWeightIdeal.sig) → Buf (Elt Ideal) ℓ) (g : Dev Cert.QueryWeightIdeal.nD → PrngReg), Pre_QueryWeightIdeal m →
    θ_run (Cert.QueryWeightIdeal.defs (F := Ideal)) (onTc (τ := Cert.QueryWeightIdeal.τ) (Cert.QueryWeightIdeal.main (F := Ideal))) ⟨m, fun _ => 0, g⟩ (fun r => (∀ c : Dev Cert.QueryWeightIdeal.nD,
      r.2.mem ((c.tc : Thread Cert.QueryWeightIdeal.nD Cert.QueryWeightIdeal.τ).loc Cert.QueryWeightIdeal.main_arg0) = m ((c.tc : Thread Cert.QueryWeightIdeal.nD Cert.QueryWeightIdeal.τ).loc Cert.QueryWeightIdeal.main_arg0)
      ∧ r.2.mem ((c.tc : Thread Cert.QueryWeightIdeal.nD Cert.QueryWeightIdeal.τ).loc Cert.QueryWeightIdeal.main_arg1) = m ((c.tc : Thread Cert.QueryWeightIdeal.nD Cert.QueryWeightIdeal.τ).loc Cert.QueryWeightIdeal.main_arg1))
      ∧ r.2.sem = fun _ => 0)

def quiescent_QueryWeightRefIdeal [hQueryWeightRefIdeal : Cert.QueryWeightRefIdeal.Facts] : Prop :=
  ∀ (m : (ℓ : Loc Cert.QueryWeightRefIdeal.nD Cert.QueryWeightRefIdeal.τ Cert.QueryWeightRefIdeal.sig) → Buf (Elt Ideal) ℓ) (g : Dev Cert.QueryWeightRefIdeal.nD → PrngReg), Pre_QueryWeightRefIdeal m →
    θ_run (Cert.QueryWeightRefIdeal.defs (F := Ideal)) (onTc (τ := Cert.QueryWeightRefIdeal.τ) (Cert.QueryWeightRefIdeal.main (F := Ideal))) ⟨m, fun _ => 0, g⟩ (fun r => (∀ c : Dev Cert.QueryWeightRefIdeal.nD,
      r.2.mem ((c.tc : Thread Cert.QueryWeightRefIdeal.nD Cert.QueryWeightRefIdeal.τ).loc Cert.QueryWeightRefIdeal.main_arg0) = m ((c.tc : Thread Cert.QueryWeightRefIdeal.nD Cert.QueryWeightRefIdeal.τ).loc Cert.QueryWeightRefIdeal.main_arg0)
      ∧ r.2.mem ((c.tc : Thread Cert.QueryWeightRefIdeal.nD Cert.QueryWeightRefIdeal.τ).loc Cert.QueryWeightRefIdeal.main_arg1) = m ((c.tc : Thread Cert.QueryWeightRefIdeal.nD Cert.QueryWeightRefIdeal.τ).loc Cert.QueryWeightRefIdeal.main_arg1))
      ∧ r.2.sem = fun _ => 0)

def quiescent_KeyWeight [hKeyWeight : Cert.KeyWeight.Facts] : Prop :=
  ∀ (m : (ℓ : Loc Cert.KeyWeight.nD Cert.KeyWeight.τ Cert.KeyWeight.sig) → Buf (Elt Bits) ℓ) (g : Dev Cert.KeyWeight.nD → PrngReg), Pre_KeyWeight m →
    θ_run (Cert.KeyWeight.defs (F := Bits)) (onTc (τ := Cert.KeyWeight.τ) (Cert.KeyWeight.main (F := Bits))) ⟨m, fun _ => 0, g⟩ (fun r => (∀ c : Dev Cert.KeyWeight.nD,
      r.2.mem ((c.tc : Thread Cert.KeyWeight.nD Cert.KeyWeight.τ).loc Cert.KeyWeight.main_arg0) = m ((c.tc : Thread Cert.KeyWeight.nD Cert.KeyWeight.τ).loc Cert.KeyWeight.main_arg0)
      ∧ r.2.mem ((c.tc : Thread Cert.KeyWeight.nD Cert.KeyWeight.τ).loc Cert.KeyWeight.main_arg1) = m ((c.tc : Thread Cert.KeyWeight.nD Cert.KeyWeight.τ).loc Cert.KeyWeight.main_arg1))
      ∧ r.2.sem = fun _ => 0)

def quiescent_KeyWeightIdeal [hKeyWeightIdeal : Cert.KeyWeightIdeal.Facts] : Prop :=
  ∀ (m : (ℓ : Loc Cert.KeyWeightIdeal.nD Cert.KeyWeightIdeal.τ Cert.KeyWeightIdeal.sig) → Buf (Elt Ideal) ℓ) (g : Dev Cert.KeyWeightIdeal.nD → PrngReg), Pre_KeyWeightIdeal m →
    θ_run (Cert.KeyWeightIdeal.defs (F := Ideal)) (onTc (τ := Cert.KeyWeightIdeal.τ) (Cert.KeyWeightIdeal.main (F := Ideal))) ⟨m, fun _ => 0, g⟩ (fun r => (∀ c : Dev Cert.KeyWeightIdeal.nD,
      r.2.mem ((c.tc : Thread Cert.KeyWeightIdeal.nD Cert.KeyWeightIdeal.τ).loc Cert.KeyWeightIdeal.main_arg0) = m ((c.tc : Thread Cert.KeyWeightIdeal.nD Cert.KeyWeightIdeal.τ).loc Cert.KeyWeightIdeal.main_arg0)
      ∧ r.2.mem ((c.tc : Thread Cert.KeyWeightIdeal.nD Cert.KeyWeightIdeal.τ).loc Cert.KeyWeightIdeal.main_arg1) = m ((c.tc : Thread Cert.KeyWeightIdeal.nD Cert.KeyWeightIdeal.τ).loc Cert.KeyWeightIdeal.main_arg1))
      ∧ r.2.sem = fun _ => 0)

def quiescent_KeyWeightRefIdeal [hKeyWeightRefIdeal : Cert.KeyWeightRefIdeal.Facts] : Prop :=
  ∀ (m : (ℓ : Loc Cert.KeyWeightRefIdeal.nD Cert.KeyWeightRefIdeal.τ Cert.KeyWeightRefIdeal.sig) → Buf (Elt Ideal) ℓ) (g : Dev Cert.KeyWeightRefIdeal.nD → PrngReg), Pre_KeyWeightRefIdeal m →
    θ_run (Cert.KeyWeightRefIdeal.defs (F := Ideal)) (onTc (τ := Cert.KeyWeightRefIdeal.τ) (Cert.KeyWeightRefIdeal.main (F := Ideal))) ⟨m, fun _ => 0, g⟩ (fun r => (∀ c : Dev Cert.KeyWeightRefIdeal.nD,
      r.2.mem ((c.tc : Thread Cert.KeyWeightRefIdeal.nD Cert.KeyWeightRefIdeal.τ).loc Cert.KeyWeightRefIdeal.main_arg0) = m ((c.tc : Thread Cert.KeyWeightRefIdeal.nD Cert.KeyWeightRefIdeal.τ).loc Cert.KeyWeightRefIdeal.main_arg0)
      ∧ r.2.mem ((c.tc : Thread Cert.KeyWeightRefIdeal.nD Cert.KeyWeightRefIdeal.τ).loc Cert.KeyWeightRefIdeal.main_arg1) = m ((c.tc : Thread Cert.KeyWeightRefIdeal.nD Cert.KeyWeightRefIdeal.τ).loc Cert.KeyWeightRefIdeal.main_arg1))
      ∧ r.2.sem = fun _ => 0)

def quiescent_ValueWeight [hValueWeight : Cert.ValueWeight.Facts] : Prop :=
  ∀ (m : (ℓ : Loc Cert.ValueWeight.nD Cert.ValueWeight.τ Cert.ValueWeight.sig) → Buf (Elt Bits) ℓ) (g : Dev Cert.ValueWeight.nD → PrngReg), Pre_ValueWeight m →
    θ_run (Cert.ValueWeight.defs (F := Bits)) (onTc (τ := Cert.ValueWeight.τ) (Cert.ValueWeight.main (F := Bits))) ⟨m, fun _ => 0, g⟩ (fun r => (∀ c : Dev Cert.ValueWeight.nD,
      r.2.mem ((c.tc : Thread Cert.ValueWeight.nD Cert.ValueWeight.τ).loc Cert.ValueWeight.main_arg0) = m ((c.tc : Thread Cert.ValueWeight.nD Cert.ValueWeight.τ).loc Cert.ValueWeight.main_arg0)
      ∧ r.2.mem ((c.tc : Thread Cert.ValueWeight.nD Cert.ValueWeight.τ).loc Cert.ValueWeight.main_arg1) = m ((c.tc : Thread Cert.ValueWeight.nD Cert.ValueWeight.τ).loc Cert.ValueWeight.main_arg1))
      ∧ r.2.sem = fun _ => 0)

def quiescent_ValueWeightIdeal [hValueWeightIdeal : Cert.ValueWeightIdeal.Facts] : Prop :=
  ∀ (m : (ℓ : Loc Cert.ValueWeightIdeal.nD Cert.ValueWeightIdeal.τ Cert.ValueWeightIdeal.sig) → Buf (Elt Ideal) ℓ) (g : Dev Cert.ValueWeightIdeal.nD → PrngReg), Pre_ValueWeightIdeal m →
    θ_run (Cert.ValueWeightIdeal.defs (F := Ideal)) (onTc (τ := Cert.ValueWeightIdeal.τ) (Cert.ValueWeightIdeal.main (F := Ideal))) ⟨m, fun _ => 0, g⟩ (fun r => (∀ c : Dev Cert.ValueWeightIdeal.nD,
      r.2.mem ((c.tc : Thread Cert.ValueWeightIdeal.nD Cert.ValueWeightIdeal.τ).loc Cert.ValueWeightIdeal.main_arg0) = m ((c.tc : Thread Cert.ValueWeightIdeal.nD Cert.ValueWeightIdeal.τ).loc Cert.ValueWeightIdeal.main_arg0)
      ∧ r.2.mem ((c.tc : Thread Cert.ValueWeightIdeal.nD Cert.ValueWeightIdeal.τ).loc Cert.ValueWeightIdeal.main_arg1) = m ((c.tc : Thread Cert.ValueWeightIdeal.nD Cert.ValueWeightIdeal.τ).loc Cert.ValueWeightIdeal.main_arg1))
      ∧ r.2.sem = fun _ => 0)

def quiescent_ValueWeightRefIdeal [hValueWeightRefIdeal : Cert.ValueWeightRefIdeal.Facts] : Prop :=
  ∀ (m : (ℓ : Loc Cert.ValueWeightRefIdeal.nD Cert.ValueWeightRefIdeal.τ Cert.ValueWeightRefIdeal.sig) → Buf (Elt Ideal) ℓ) (g : Dev Cert.ValueWeightRefIdeal.nD → PrngReg), Pre_ValueWeightRefIdeal m →
    θ_run (Cert.ValueWeightRefIdeal.defs (F := Ideal)) (onTc (τ := Cert.ValueWeightRefIdeal.τ) (Cert.ValueWeightRefIdeal.main (F := Ideal))) ⟨m, fun _ => 0, g⟩ (fun r => (∀ c : Dev Cert.ValueWeightRefIdeal.nD,
      r.2.mem ((c.tc : Thread Cert.ValueWeightRefIdeal.nD Cert.ValueWeightRefIdeal.τ).loc Cert.ValueWeightRefIdeal.main_arg0) = m ((c.tc : Thread Cert.ValueWeightRefIdeal.nD Cert.ValueWeightRefIdeal.τ).loc Cert.ValueWeightRefIdeal.main_arg0)
      ∧ r.2.mem ((c.tc : Thread Cert.ValueWeightRefIdeal.nD Cert.ValueWeightRefIdeal.τ).loc Cert.ValueWeightRefIdeal.main_arg1) = m ((c.tc : Thread Cert.ValueWeightRefIdeal.nD Cert.ValueWeightRefIdeal.τ).loc Cert.ValueWeightRefIdeal.main_arg1))
      ∧ r.2.sem = fun _ => 0)

def quiescent_QueryProject [hQueryProject : Cert.QueryProject.Facts] : Prop :=
  ∀ (m : (ℓ : Loc Cert.QueryProject.nD Cert.QueryProject.τ Cert.QueryProject.sig) → Buf (Elt Bits) ℓ) (g : Dev Cert.QueryProject.nD → PrngReg), Pre_QueryProject m →
    θ_run (Cert.QueryProject.defs (F := Bits)) (onTc (τ := Cert.QueryProject.τ) (Cert.QueryProject.main (F := Bits))) ⟨m, fun _ => 0, g⟩ (fun r => (∀ c : Dev Cert.QueryProject.nD,
      r.2.mem ((c.tc : Thread Cert.QueryProject.nD Cert.QueryProject.τ).loc Cert.QueryProject.main_arg0) = m ((c.tc : Thread Cert.QueryProject.nD Cert.QueryProject.τ).loc Cert.QueryProject.main_arg0)
      ∧ r.2.mem ((c.tc : Thread Cert.QueryProject.nD Cert.QueryProject.τ).loc Cert.QueryProject.main_arg1) = m ((c.tc : Thread Cert.QueryProject.nD Cert.QueryProject.τ).loc Cert.QueryProject.main_arg1))
      ∧ r.2.sem = fun _ => 0)

def quiescent_QueryProjectIdeal [hQueryProjectIdeal : Cert.QueryProjectIdeal.Facts] : Prop :=
  ∀ (m : (ℓ : Loc Cert.QueryProjectIdeal.nD Cert.QueryProjectIdeal.τ Cert.QueryProjectIdeal.sig) → Buf (Elt Ideal) ℓ) (g : Dev Cert.QueryProjectIdeal.nD → PrngReg), Pre_QueryProjectIdeal m →
    θ_run (Cert.QueryProjectIdeal.defs (F := Ideal)) (onTc (τ := Cert.QueryProjectIdeal.τ) (Cert.QueryProjectIdeal.main (F := Ideal))) ⟨m, fun _ => 0, g⟩ (fun r => (∀ c : Dev Cert.QueryProjectIdeal.nD,
      r.2.mem ((c.tc : Thread Cert.QueryProjectIdeal.nD Cert.QueryProjectIdeal.τ).loc Cert.QueryProjectIdeal.main_arg0) = m ((c.tc : Thread Cert.QueryProjectIdeal.nD Cert.QueryProjectIdeal.τ).loc Cert.QueryProjectIdeal.main_arg0)
      ∧ r.2.mem ((c.tc : Thread Cert.QueryProjectIdeal.nD Cert.QueryProjectIdeal.τ).loc Cert.QueryProjectIdeal.main_arg1) = m ((c.tc : Thread Cert.QueryProjectIdeal.nD Cert.QueryProjectIdeal.τ).loc Cert.QueryProjectIdeal.main_arg1))
      ∧ r.2.sem = fun _ => 0)

def quiescent_QueryProjectRefIdeal [hQueryProjectRefIdeal : Cert.QueryProjectRefIdeal.Facts] : Prop :=
  ∀ (m : (ℓ : Loc Cert.QueryProjectRefIdeal.nD Cert.QueryProjectRefIdeal.τ Cert.QueryProjectRefIdeal.sig) → Buf (Elt Ideal) ℓ) (g : Dev Cert.QueryProjectRefIdeal.nD → PrngReg), Pre_QueryProjectRefIdeal m →
    θ_run (Cert.QueryProjectRefIdeal.defs (F := Ideal)) (onTc (τ := Cert.QueryProjectRefIdeal.τ) (Cert.QueryProjectRefIdeal.main (F := Ideal))) ⟨m, fun _ => 0, g⟩ (fun r => (∀ c : Dev Cert.QueryProjectRefIdeal.nD,
      r.2.mem ((c.tc : Thread Cert.QueryProjectRefIdeal.nD Cert.QueryProjectRefIdeal.τ).loc Cert.QueryProjectRefIdeal.main_arg0) = m ((c.tc : Thread Cert.QueryProjectRefIdeal.nD Cert.QueryProjectRefIdeal.τ).loc Cert.QueryProjectRefIdeal.main_arg0)
      ∧ r.2.mem ((c.tc : Thread Cert.QueryProjectRefIdeal.nD Cert.QueryProjectRefIdeal.τ).loc Cert.QueryProjectRefIdeal.main_arg1) = m ((c.tc : Thread Cert.QueryProjectRefIdeal.nD Cert.QueryProjectRefIdeal.τ).loc Cert.QueryProjectRefIdeal.main_arg1))
      ∧ r.2.sem = fun _ => 0)

def quiescent_KeyProject [hKeyProject : Cert.KeyProject.Facts] : Prop :=
  ∀ (m : (ℓ : Loc Cert.KeyProject.nD Cert.KeyProject.τ Cert.KeyProject.sig) → Buf (Elt Bits) ℓ) (g : Dev Cert.KeyProject.nD → PrngReg), Pre_KeyProject m →
    θ_run (Cert.KeyProject.defs (F := Bits)) (onTc (τ := Cert.KeyProject.τ) (Cert.KeyProject.main (F := Bits))) ⟨m, fun _ => 0, g⟩ (fun r => (∀ c : Dev Cert.KeyProject.nD,
      r.2.mem ((c.tc : Thread Cert.KeyProject.nD Cert.KeyProject.τ).loc Cert.KeyProject.main_arg0) = m ((c.tc : Thread Cert.KeyProject.nD Cert.KeyProject.τ).loc Cert.KeyProject.main_arg0)
      ∧ r.2.mem ((c.tc : Thread Cert.KeyProject.nD Cert.KeyProject.τ).loc Cert.KeyProject.main_arg1) = m ((c.tc : Thread Cert.KeyProject.nD Cert.KeyProject.τ).loc Cert.KeyProject.main_arg1))
      ∧ r.2.sem = fun _ => 0)

def quiescent_KeyProjectIdeal [hKeyProjectIdeal : Cert.KeyProjectIdeal.Facts] : Prop :=
  ∀ (m : (ℓ : Loc Cert.KeyProjectIdeal.nD Cert.KeyProjectIdeal.τ Cert.KeyProjectIdeal.sig) → Buf (Elt Ideal) ℓ) (g : Dev Cert.KeyProjectIdeal.nD → PrngReg), Pre_KeyProjectIdeal m →
    θ_run (Cert.KeyProjectIdeal.defs (F := Ideal)) (onTc (τ := Cert.KeyProjectIdeal.τ) (Cert.KeyProjectIdeal.main (F := Ideal))) ⟨m, fun _ => 0, g⟩ (fun r => (∀ c : Dev Cert.KeyProjectIdeal.nD,
      r.2.mem ((c.tc : Thread Cert.KeyProjectIdeal.nD Cert.KeyProjectIdeal.τ).loc Cert.KeyProjectIdeal.main_arg0) = m ((c.tc : Thread Cert.KeyProjectIdeal.nD Cert.KeyProjectIdeal.τ).loc Cert.KeyProjectIdeal.main_arg0)
      ∧ r.2.mem ((c.tc : Thread Cert.KeyProjectIdeal.nD Cert.KeyProjectIdeal.τ).loc Cert.KeyProjectIdeal.main_arg1) = m ((c.tc : Thread Cert.KeyProjectIdeal.nD Cert.KeyProjectIdeal.τ).loc Cert.KeyProjectIdeal.main_arg1))
      ∧ r.2.sem = fun _ => 0)

def quiescent_KeyProjectRefIdeal [hKeyProjectRefIdeal : Cert.KeyProjectRefIdeal.Facts] : Prop :=
  ∀ (m : (ℓ : Loc Cert.KeyProjectRefIdeal.nD Cert.KeyProjectRefIdeal.τ Cert.KeyProjectRefIdeal.sig) → Buf (Elt Ideal) ℓ) (g : Dev Cert.KeyProjectRefIdeal.nD → PrngReg), Pre_KeyProjectRefIdeal m →
    θ_run (Cert.KeyProjectRefIdeal.defs (F := Ideal)) (onTc (τ := Cert.KeyProjectRefIdeal.τ) (Cert.KeyProjectRefIdeal.main (F := Ideal))) ⟨m, fun _ => 0, g⟩ (fun r => (∀ c : Dev Cert.KeyProjectRefIdeal.nD,
      r.2.mem ((c.tc : Thread Cert.KeyProjectRefIdeal.nD Cert.KeyProjectRefIdeal.τ).loc Cert.KeyProjectRefIdeal.main_arg0) = m ((c.tc : Thread Cert.KeyProjectRefIdeal.nD Cert.KeyProjectRefIdeal.τ).loc Cert.KeyProjectRefIdeal.main_arg0)
      ∧ r.2.mem ((c.tc : Thread Cert.KeyProjectRefIdeal.nD Cert.KeyProjectRefIdeal.τ).loc Cert.KeyProjectRefIdeal.main_arg1) = m ((c.tc : Thread Cert.KeyProjectRefIdeal.nD Cert.KeyProjectRefIdeal.τ).loc Cert.KeyProjectRefIdeal.main_arg1))
      ∧ r.2.sem = fun _ => 0)

def quiescent_ValueProject [hValueProject : Cert.ValueProject.Facts] : Prop :=
  ∀ (m : (ℓ : Loc Cert.ValueProject.nD Cert.ValueProject.τ Cert.ValueProject.sig) → Buf (Elt Bits) ℓ) (g : Dev Cert.ValueProject.nD → PrngReg), Pre_ValueProject m →
    θ_run (Cert.ValueProject.defs (F := Bits)) (onTc (τ := Cert.ValueProject.τ) (Cert.ValueProject.main (F := Bits))) ⟨m, fun _ => 0, g⟩ (fun r => (∀ c : Dev Cert.ValueProject.nD,
      r.2.mem ((c.tc : Thread Cert.ValueProject.nD Cert.ValueProject.τ).loc Cert.ValueProject.main_arg0) = m ((c.tc : Thread Cert.ValueProject.nD Cert.ValueProject.τ).loc Cert.ValueProject.main_arg0)
      ∧ r.2.mem ((c.tc : Thread Cert.ValueProject.nD Cert.ValueProject.τ).loc Cert.ValueProject.main_arg1) = m ((c.tc : Thread Cert.ValueProject.nD Cert.ValueProject.τ).loc Cert.ValueProject.main_arg1))
      ∧ r.2.sem = fun _ => 0)

def quiescent_ValueProjectIdeal [hValueProjectIdeal : Cert.ValueProjectIdeal.Facts] : Prop :=
  ∀ (m : (ℓ : Loc Cert.ValueProjectIdeal.nD Cert.ValueProjectIdeal.τ Cert.ValueProjectIdeal.sig) → Buf (Elt Ideal) ℓ) (g : Dev Cert.ValueProjectIdeal.nD → PrngReg), Pre_ValueProjectIdeal m →
    θ_run (Cert.ValueProjectIdeal.defs (F := Ideal)) (onTc (τ := Cert.ValueProjectIdeal.τ) (Cert.ValueProjectIdeal.main (F := Ideal))) ⟨m, fun _ => 0, g⟩ (fun r => (∀ c : Dev Cert.ValueProjectIdeal.nD,
      r.2.mem ((c.tc : Thread Cert.ValueProjectIdeal.nD Cert.ValueProjectIdeal.τ).loc Cert.ValueProjectIdeal.main_arg0) = m ((c.tc : Thread Cert.ValueProjectIdeal.nD Cert.ValueProjectIdeal.τ).loc Cert.ValueProjectIdeal.main_arg0)
      ∧ r.2.mem ((c.tc : Thread Cert.ValueProjectIdeal.nD Cert.ValueProjectIdeal.τ).loc Cert.ValueProjectIdeal.main_arg1) = m ((c.tc : Thread Cert.ValueProjectIdeal.nD Cert.ValueProjectIdeal.τ).loc Cert.ValueProjectIdeal.main_arg1))
      ∧ r.2.sem = fun _ => 0)

def quiescent_ValueProjectRefIdeal [hValueProjectRefIdeal : Cert.ValueProjectRefIdeal.Facts] : Prop :=
  ∀ (m : (ℓ : Loc Cert.ValueProjectRefIdeal.nD Cert.ValueProjectRefIdeal.τ Cert.ValueProjectRefIdeal.sig) → Buf (Elt Ideal) ℓ) (g : Dev Cert.ValueProjectRefIdeal.nD → PrngReg), Pre_ValueProjectRefIdeal m →
    θ_run (Cert.ValueProjectRefIdeal.defs (F := Ideal)) (onTc (τ := Cert.ValueProjectRefIdeal.τ) (Cert.ValueProjectRefIdeal.main (F := Ideal))) ⟨m, fun _ => 0, g⟩ (fun r => (∀ c : Dev Cert.ValueProjectRefIdeal.nD,
      r.2.mem ((c.tc : Thread Cert.ValueProjectRefIdeal.nD Cert.ValueProjectRefIdeal.τ).loc Cert.ValueProjectRefIdeal.main_arg0) = m ((c.tc : Thread Cert.ValueProjectRefIdeal.nD Cert.ValueProjectRefIdeal.τ).loc Cert.ValueProjectRefIdeal.main_arg0)
      ∧ r.2.mem ((c.tc : Thread Cert.ValueProjectRefIdeal.nD Cert.ValueProjectRefIdeal.τ).loc Cert.ValueProjectRefIdeal.main_arg1) = m ((c.tc : Thread Cert.ValueProjectRefIdeal.nD Cert.ValueProjectRefIdeal.τ).loc Cert.ValueProjectRefIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "c2" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  IdealRules.named_const.Statement Cert.ForwardIdeal.κ "mask" .f32 0xF149F2CA#32 ⊥
  ∧ IdealRules.named_const.Statement Cert.ForwardIdeal.κ "c2" .f32 0x3DD53B95#32 (((Real.sqrt 192)⁻¹ * (Real.log 2)⁻¹ : ℝ) : EReal)
  ∧ IdealRules.named_const.Statement Cert.ForwardIdeal.κ "scale" .f32 0x3D93CD3A#32 (((Real.sqrt 192)⁻¹ : ℝ) : EReal)

def algebraic_ForwardIdeal_ForwardRefIdeal_pre_finite_forward [hForwardIdeal : Cert.ForwardIdeal.Facts] [hForwardRefIdeal : Cert.ForwardRefIdeal.Facts] [hPre_finite_forward : Cert.Pre_finite_forward.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal_finite_forward m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)) →
    ∃ (v0 : (c : Dev Cert.ForwardIdeal.nD) → Buf (Elt Ideal) ((c.tc : Thread Cert.ForwardIdeal.nD Cert.ForwardIdeal.τ).loc Cert.ForwardIdeal.main_v12_0)) (v1 : (c : Dev Cert.ForwardIdeal.nD) → Buf (Elt Ideal) ((c.tc : Thread Cert.ForwardIdeal.nD Cert.ForwardIdeal.τ).loc Cert.ForwardIdeal.main_v12_1)) (v2 : (c : Dev Cert.ForwardIdeal.nD) → Buf (Elt Ideal) ((c.tc : Thread Cert.ForwardIdeal.nD Cert.ForwardIdeal.τ).loc Cert.ForwardIdeal.main_v12_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v12_0) = v0 c
          ∧ r.2.mem ((c.tc : Thread Cert.ForwardIdeal.nD Cert.ForwardIdeal.τ).loc Cert.ForwardIdeal.main_v12_1) = v1 c
          ∧ r.2.mem ((c.tc : Thread Cert.ForwardIdeal.nD Cert.ForwardIdeal.τ).loc Cert.ForwardIdeal.main_v12_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v49) = v0 c
          ∧ r.2.mem ((c.tc : Thread Cert.ForwardRefIdeal.nD Cert.ForwardRefIdeal.τ).loc Cert.ForwardRefIdeal.main_v52) = v1 c
          ∧ r.2.mem ((c.tc : Thread Cert.ForwardRefIdeal.nD Cert.ForwardRefIdeal.τ).loc Cert.ForwardRefIdeal.main_v53) = v2 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3))

def preserves_ScInput_ScInputIdeal : Prop :=
  True

def algebraic_ScInputIdeal_ScInputRefIdeal [hScInputIdeal : Cert.ScInputIdeal.Facts] [hScInputRefIdeal : Cert.ScInputRefIdeal.Facts] : Prop :=
  ∀ (m : (ℓ : Loc Cert.ScInputIdeal.nD Cert.ScInputIdeal.τ Cert.ScInputIdeal.sig) → Buf (Elt Ideal) ℓ) (g : Dev Cert.ScInputIdeal.nD → PrngReg)
    (m' : (ℓ : Loc Cert.ScInputRefIdeal.nD Cert.ScInputRefIdeal.τ Cert.ScInputRefIdeal.sig) → Buf (Elt Ideal) ℓ) (g' : Dev Cert.ScInputRefIdeal.nD → PrngReg), Pre_ScInputIdeal m →
    (∀ c : Dev Cert.ScInputIdeal.nD,
      m' ((c.tc : Thread Cert.ScInputRefIdeal.nD Cert.ScInputRefIdeal.τ).loc Cert.ScInputRefIdeal.main_arg0) = m ((c.tc : Thread Cert.ScInputIdeal.nD Cert.ScInputIdeal.τ).loc Cert.ScInputIdeal.main_arg0)
      ∧ m' ((c.tc : Thread Cert.ScInputRefIdeal.nD Cert.ScInputRefIdeal.τ).loc Cert.ScInputRefIdeal.main_arg1) = m ((c.tc : Thread Cert.ScInputIdeal.nD Cert.ScInputIdeal.τ).loc Cert.ScInputIdeal.main_arg1)) →
    ∃ (v0 : (c : Dev Cert.ScInputIdeal.nD) → Buf (Elt Ideal) ((c.tc : Thread Cert.ScInputIdeal.nD Cert.ScInputIdeal.τ).loc Cert.ScInputIdeal.main_v0)),
      θ_run (Cert.ScInputIdeal.defs (F := Ideal)) (onTc (τ := Cert.ScInputIdeal.τ) (Cert.ScInputIdeal.main (F := Ideal))) ⟨m, fun _ => 0, g⟩ (fun r => ∀ c : Dev Cert.ScInputIdeal.nD,
          r.2.mem ((c.tc : Thread Cert.ScInputIdeal.nD Cert.ScInputIdeal.τ).loc Cert.ScInputIdeal.main_v0) = v0 c
          ∧ r.2.mem ((c.tc : Thread Cert.ScInputIdeal.nD Cert.ScInputIdeal.τ).loc Cert.ScInputIdeal.main_arg0) = m ((c.tc : Thread Cert.ScInputIdeal.nD Cert.ScInputIdeal.τ).loc Cert.ScInputIdeal.main_arg0)
          ∧ r.2.mem ((c.tc : Thread Cert.ScInputIdeal.nD Cert.ScInputIdeal.τ).loc Cert.ScInputIdeal.main_arg1) = m ((c.tc : Thread Cert.ScInputIdeal.nD Cert.ScInputIdeal.τ).loc Cert.ScInputIdeal.main_arg1))
      ∧ θ_run (Cert.ScInputRefIdeal.defs (F := Ideal)) (onTc (τ := Cert.ScInputRefIdeal.τ) (Cert.ScInputRefIdeal.main (F := Ideal))) ⟨m', fun _ => 0, g'⟩ (fun r => ∀ c : Dev Cert.ScInputRefIdeal.nD,
          r.2.mem ((c.tc : Thread Cert.ScInputRefIdeal.nD Cert.ScInputRefIdeal.τ).loc Cert.ScInputRefIdeal.main_v7) = v0 c
          ∧ r.2.mem ((c.tc : Thread Cert.ScInputRefIdeal.nD Cert.ScInputRefIdeal.τ).loc Cert.ScInputRefIdeal.main_arg0) = m' ((c.tc : Thread Cert.ScInputRefIdeal.nD Cert.ScInputRefIdeal.τ).loc Cert.ScInputRefIdeal.main_arg0)
          ∧ r.2.mem ((c.tc : Thread Cert.ScInputRefIdeal.nD Cert.ScInputRefIdeal.τ).loc Cert.ScInputRefIdeal.main_arg1) = m' ((c.tc : Thread Cert.ScInputRefIdeal.nD Cert.ScInputRefIdeal.τ).loc Cert.ScInputRefIdeal.main_arg1))

def preserves_ScWeight_ScWeightIdeal : Prop :=
  True

def algebraic_ScWeightIdeal_ScWeightRefIdeal [hScWeightIdeal : Cert.ScWeightIdeal.Facts] [hScWeightRefIdeal : Cert.ScWeightRefIdeal.Facts] : Prop :=
  ∀ (m : (ℓ : Loc Cert.ScWeightIdeal.nD Cert.ScWeightIdeal.τ Cert.ScWeightIdeal.sig) → Buf (Elt Ideal) ℓ) (g : Dev Cert.ScWeightIdeal.nD → PrngReg)
    (m' : (ℓ : Loc Cert.ScWeightRefIdeal.nD Cert.ScWeightRefIdeal.τ Cert.ScWeightRefIdeal.sig) → Buf (Elt Ideal) ℓ) (g' : Dev Cert.ScWeightRefIdeal.nD → PrngReg), Pre_ScWeightIdeal m →
    (∀ c : Dev Cert.ScWeightIdeal.nD,
      m' ((c.tc : Thread Cert.ScWeightRefIdeal.nD Cert.ScWeightRefIdeal.τ).loc Cert.ScWeightRefIdeal.main_arg0) = m ((c.tc : Thread Cert.ScWeightIdeal.nD Cert.ScWeightIdeal.τ).loc Cert.ScWeightIdeal.main_arg0)
      ∧ m' ((c.tc : Thread Cert.ScWeightRefIdeal.nD Cert.ScWeightRefIdeal.τ).loc Cert.ScWeightRefIdeal.main_arg1) = m ((c.tc : Thread Cert.ScWeightIdeal.nD Cert.ScWeightIdeal.τ).loc Cert.ScWeightIdeal.main_arg1)) →
    ∃ (v0 : (c : Dev Cert.ScWeightIdeal.nD) → Buf (Elt Ideal) ((c.tc : Thread Cert.ScWeightIdeal.nD Cert.ScWeightIdeal.τ).loc Cert.ScWeightIdeal.main_v0)),
      θ_run (Cert.ScWeightIdeal.defs (F := Ideal)) (onTc (τ := Cert.ScWeightIdeal.τ) (Cert.ScWeightIdeal.main (F := Ideal))) ⟨m, fun _ => 0, g⟩ (fun r => ∀ c : Dev Cert.ScWeightIdeal.nD,
          r.2.mem ((c.tc : Thread Cert.ScWeightIdeal.nD Cert.ScWeightIdeal.τ).loc Cert.ScWeightIdeal.main_v0) = v0 c
          ∧ r.2.mem ((c.tc : Thread Cert.ScWeightIdeal.nD Cert.ScWeightIdeal.τ).loc Cert.ScWeightIdeal.main_arg0) = m ((c.tc : Thread Cert.ScWeightIdeal.nD Cert.ScWeightIdeal.τ).loc Cert.ScWeightIdeal.main_arg0)
          ∧ r.2.mem ((c.tc : Thread Cert.ScWeightIdeal.nD Cert.ScWeightIdeal.τ).loc Cert.ScWeightIdeal.main_arg1) = m ((c.tc : Thread Cert.ScWeightIdeal.nD Cert.ScWeightIdeal.τ).loc Cert.ScWeightIdeal.main_arg1))
      ∧ θ_run (Cert.ScWeightRefIdeal.defs (F := Ideal)) (onTc (τ := Cert.ScWeightRefIdeal.τ) (Cert.ScWeightRefIdeal.main (F := Ideal))) ⟨m', fun _ => 0, g'⟩ (fun r => ∀ c : Dev Cert.ScWeightRefIdeal.nD,
          r.2.mem ((c.tc : Thread Cert.ScWeightRefIdeal.nD Cert.ScWeightRefIdeal.τ).loc Cert.ScWeightRefIdeal.main_v10) = v0 c
          ∧ r.2.mem ((c.tc : Thread Cert.ScWeightRefIdeal.nD Cert.ScWeightRefIdeal.τ).loc Cert.ScWeightRefIdeal.main_arg0) = m' ((c.tc : Thread Cert.ScWeightRefIdeal.nD Cert.ScWeightRefIdeal.τ).loc Cert.ScWeightRefIdeal.main_arg0)
          ∧ r.2.mem ((c.tc : Thread Cert.ScWeightRefIdeal.nD Cert.ScWeightRefIdeal.τ).loc Cert.ScWeightRefIdeal.main_arg1) = m' ((c.tc : Thread Cert.ScWeightRefIdeal.nD Cert.ScWeightRefIdeal.τ).loc Cert.ScWeightRefIdeal.main_arg1))

def preserves_WideInput_WideInputIdeal : Prop :=
  True

def algebraic_WideInputIdeal_WideInputRefIdeal [hWideInputIdeal : Cert.WideInputIdeal.Facts] [hWideInputRefIdeal : Cert.WideInputRefIdeal.Facts] : Prop :=
  ∀ (m : (ℓ : Loc Cert.WideInputIdeal.nD Cert.WideInputIdeal.τ Cert.WideInputIdeal.sig) → Buf (Elt Ideal) ℓ) (g : Dev Cert.WideInputIdeal.nD → PrngReg)
    (m' : (ℓ : Loc Cert.WideInputRefIdeal.nD Cert.WideInputRefIdeal.τ Cert.WideInputRefIdeal.sig) → Buf (Elt Ideal) ℓ) (g' : Dev Cert.WideInputRefIdeal.nD → PrngReg), Pre_WideInputIdeal m →
    (∀ c : Dev Cert.WideInputIdeal.nD,
      m' ((c.tc : Thread Cert.WideInputRefIdeal.nD Cert.WideInputRefIdeal.τ).loc Cert.WideInputRefIdeal.main_arg0) = m ((c.tc : Thread Cert.WideInputIdeal.nD Cert.WideInputIdeal.τ).loc Cert.WideInputIdeal.main_arg0)
      ∧ m' ((c.tc : Thread Cert.WideInputRefIdeal.nD Cert.WideInputRefIdeal.τ).loc Cert.WideInputRefIdeal.main_arg1) = m ((c.tc : Thread Cert.WideInputIdeal.nD Cert.WideInputIdeal.τ).loc Cert.WideInputIdeal.main_arg1)) →
    ∃ (v0 : (c : Dev Cert.WideInputIdeal.nD) → Buf (Elt Ideal) ((c.tc : Thread Cert.WideInputIdeal.nD Cert.WideInputIdeal.τ).loc Cert.WideInputIdeal.main_v0)),
      θ_run (Cert.WideInputIdeal.defs (F := Ideal)) (onTc (τ := Cert.WideInputIdeal.τ) (Cert.WideInputIdeal.main (F := Ideal))) ⟨m, fun _ => 0, g⟩ (fun r => ∀ c : Dev Cert.WideInputIdeal.nD,
          r.2.mem ((c.tc : Thread Cert.WideInputIdeal.nD Cert.WideInputIdeal.τ).loc Cert.WideInputIdeal.main_v0) = v0 c
          ∧ r.2.mem ((c.tc : Thread Cert.WideInputIdeal.nD Cert.WideInputIdeal.τ).loc Cert.WideInputIdeal.main_arg0) = m ((c.tc : Thread Cert.WideInputIdeal.nD Cert.WideInputIdeal.τ).loc Cert.WideInputIdeal.main_arg0)
          ∧ r.2.mem ((c.tc : Thread Cert.WideInputIdeal.nD Cert.WideInputIdeal.τ).loc Cert.WideInputIdeal.main_arg1) = m ((c.tc : Thread Cert.WideInputIdeal.nD Cert.WideInputIdeal.τ).loc Cert.WideInputIdeal.main_arg1))
      ∧ θ_run (Cert.WideInputRefIdeal.defs (F := Ideal)) (onTc (τ := Cert.WideInputRefIdeal.τ) (Cert.WideInputRefIdeal.main (F := Ideal))) ⟨m', fun _ => 0, g'⟩ (fun r => ∀ c : Dev Cert.WideInputRefIdeal.nD,
          r.2.mem ((c.tc : Thread Cert.WideInputRefIdeal.nD Cert.WideInputRefIdeal.τ).loc Cert.WideInputRefIdeal.main_v5) = v0 c
          ∧ r.2.mem ((c.tc : Thread Cert.WideInputRefIdeal.nD Cert.WideInputRefIdeal.τ).loc Cert.WideInputRefIdeal.main_arg0) = m' ((c.tc : Thread Cert.WideInputRefIdeal.nD Cert.WideInputRefIdeal.τ).loc Cert.WideInputRefIdeal.main_arg0)
          ∧ r.2.mem ((c.tc : Thread Cert.WideInputRefIdeal.nD Cert.WideInputRefIdeal.τ).loc Cert.WideInputRefIdeal.main_arg1) = m' ((c.tc : Thread Cert.WideInputRefIdeal.nD Cert.WideInputRefIdeal.τ).loc Cert.WideInputRefIdeal.main_arg1))

def preserves_WideWeight_WideWeightIdeal : Prop :=
  True

def algebraic_WideWeightIdeal_WideWeightRefIdeal [hWideWeightIdeal : Cert.WideWeightIdeal.Facts] [hWideWeightRefIdeal : Cert.WideWeightRefIdeal.Facts] : Prop :=
  ∀ (m : (ℓ : Loc Cert.WideWeightIdeal.nD Cert.WideWeightIdeal.τ Cert.WideWeightIdeal.sig) → Buf (Elt Ideal) ℓ) (g : Dev Cert.WideWeightIdeal.nD → PrngReg)
    (m' : (ℓ : Loc Cert.WideWeightRefIdeal.nD Cert.WideWeightRefIdeal.τ Cert.WideWeightRefIdeal.sig) → Buf (Elt Ideal) ℓ) (g' : Dev Cert.WideWeightRefIdeal.nD → PrngReg), Pre_WideWeightIdeal m →
    (∀ c : Dev Cert.WideWeightIdeal.nD,
      m' ((c.tc : Thread Cert.WideWeightRefIdeal.nD Cert.WideWeightRefIdeal.τ).loc Cert.WideWeightRefIdeal.main_arg0) = m ((c.tc : Thread Cert.WideWeightIdeal.nD Cert.WideWeightIdeal.τ).loc Cert.WideWeightIdeal.main_arg0)
      ∧ m' ((c.tc : Thread Cert.WideWeightRefIdeal.nD Cert.WideWeightRefIdeal.τ).loc Cert.WideWeightRefIdeal.main_arg1) = m ((c.tc : Thread Cert.WideWeightIdeal.nD Cert.WideWeightIdeal.τ).loc Cert.WideWeightIdeal.main_arg1)) →
    ∃ (v0 : (c : Dev Cert.WideWeightIdeal.nD) → Buf (Elt Ideal) ((c.tc : Thread Cert.WideWeightIdeal.nD Cert.WideWeightIdeal.τ).loc Cert.WideWeightIdeal.main_v0)),
      θ_run (Cert.WideWeightIdeal.defs (F := Ideal)) (onTc (τ := Cert.WideWeightIdeal.τ) (Cert.WideWeightIdeal.main (F := Ideal))) ⟨m, fun _ => 0, g⟩ (fun r => ∀ c : Dev Cert.WideWeightIdeal.nD,
          r.2.mem ((c.tc : Thread Cert.WideWeightIdeal.nD Cert.WideWeightIdeal.τ).loc Cert.WideWeightIdeal.main_v0) = v0 c
          ∧ r.2.mem ((c.tc : Thread Cert.WideWeightIdeal.nD Cert.WideWeightIdeal.τ).loc Cert.WideWeightIdeal.main_arg0) = m ((c.tc : Thread Cert.WideWeightIdeal.nD Cert.WideWeightIdeal.τ).loc Cert.WideWeightIdeal.main_arg0)
          ∧ r.2.mem ((c.tc : Thread Cert.WideWeightIdeal.nD Cert.WideWeightIdeal.τ).loc Cert.WideWeightIdeal.main_arg1) = m ((c.tc : Thread Cert.WideWeightIdeal.nD Cert.WideWeightIdeal.τ).loc Cert.WideWeightIdeal.main_arg1))
      ∧ θ_run (Cert.WideWeightRefIdeal.defs (F := Ideal)) (onTc (τ := Cert.WideWeightRefIdeal.τ) (Cert.WideWeightRefIdeal.main (F := Ideal))) ⟨m', fun _ => 0, g'⟩ (fun r => ∀ c : Dev Cert.WideWeightRefIdeal.nD,
          r.2.mem ((c.tc : Thread Cert.WideWeightRefIdeal.nD Cert.WideWeightRefIdeal.τ).loc Cert.WideWeightRefIdeal.main_v8) = v0 c
          ∧ r.2.mem ((c.tc : Thread Cert.WideWeightRefIdeal.nD Cert.WideWeightRefIdeal.τ).loc Cert.WideWeightRefIdeal.main_arg0) = m' ((c.tc : Thread Cert.WideWeightRefIdeal.nD Cert.WideWeightRefIdeal.τ).loc Cert.WideWeightRefIdeal.main_arg0)
          ∧ r.2.mem ((c.tc : Thread Cert.WideWeightRefIdeal.nD Cert.WideWeightRefIdeal.τ).loc Cert.WideWeightRefIdeal.main_arg1) = m' ((c.tc : Thread Cert.WideWeightRefIdeal.nD Cert.WideWeightRefIdeal.τ).loc Cert.WideWeightRefIdeal.main_arg1))

def preserves_OutInput_OutInputIdeal : Prop :=
  True

def algebraic_OutInputIdeal_OutInputRefIdeal [hOutInputIdeal : Cert.OutInputIdeal.Facts] [hOutInputRefIdeal : Cert.OutInputRefIdeal.Facts] : Prop :=
  ∀ (m : (ℓ : Loc Cert.OutInputIdeal.nD Cert.OutInputIdeal.τ Cert.OutInputIdeal.sig) → Buf (Elt Ideal) ℓ) (g : Dev Cert.OutInputIdeal.nD → PrngReg)
    (m' : (ℓ : Loc Cert.OutInputRefIdeal.nD Cert.OutInputRefIdeal.τ Cert.OutInputRefIdeal.sig) → Buf (Elt Ideal) ℓ) (g' : Dev Cert.OutInputRefIdeal.nD → PrngReg), Pre_OutInputIdeal m →
    (∀ c : Dev Cert.OutInputIdeal.nD,
      m' ((c.tc : Thread Cert.OutInputRefIdeal.nD Cert.OutInputRefIdeal.τ).loc Cert.OutInputRefIdeal.main_arg0) = m ((c.tc : Thread Cert.OutInputIdeal.nD Cert.OutInputIdeal.τ).loc Cert.OutInputIdeal.main_arg0)
      ∧ m' ((c.tc : Thread Cert.OutInputRefIdeal.nD Cert.OutInputRefIdeal.τ).loc Cert.OutInputRefIdeal.main_arg1) = m ((c.tc : Thread Cert.OutInputIdeal.nD Cert.OutInputIdeal.τ).loc Cert.OutInputIdeal.main_arg1)) →
    ∃ (v0 : (c : Dev Cert.OutInputIdeal.nD) → Buf (Elt Ideal) ((c.tc : Thread Cert.OutInputIdeal.nD Cert.OutInputIdeal.τ).loc Cert.OutInputIdeal.main_v0)),
      θ_run (Cert.OutInputIdeal.defs (F := Ideal)) (onTc (τ := Cert.OutInputIdeal.τ) (Cert.OutInputIdeal.main (F := Ideal))) ⟨m, fun _ => 0, g⟩ (fun r => ∀ c : Dev Cert.OutInputIdeal.nD,
          r.2.mem ((c.tc : Thread Cert.OutInputIdeal.nD Cert.OutInputIdeal.τ).loc Cert.OutInputIdeal.main_v0) = v0 c
          ∧ r.2.mem ((c.tc : Thread Cert.OutInputIdeal.nD Cert.OutInputIdeal.τ).loc Cert.OutInputIdeal.main_arg0) = m ((c.tc : Thread Cert.OutInputIdeal.nD Cert.OutInputIdeal.τ).loc Cert.OutInputIdeal.main_arg0)
          ∧ r.2.mem ((c.tc : Thread Cert.OutInputIdeal.nD Cert.OutInputIdeal.τ).loc Cert.OutInputIdeal.main_arg1) = m ((c.tc : Thread Cert.OutInputIdeal.nD Cert.OutInputIdeal.τ).loc Cert.OutInputIdeal.main_arg1))
      ∧ θ_run (Cert.OutInputRefIdeal.defs (F := Ideal)) (onTc (τ := Cert.OutInputRefIdeal.τ) (Cert.OutInputRefIdeal.main (F := Ideal))) ⟨m', fun _ => 0, g'⟩ (fun r => ∀ c : Dev Cert.OutInputRefIdeal.nD,
          r.2.mem ((c.tc : Thread Cert.OutInputRefIdeal.nD Cert.OutInputRefIdeal.τ).loc Cert.OutInputRefIdeal.main_v5) = v0 c
          ∧ r.2.mem ((c.tc : Thread Cert.OutInputRefIdeal.nD Cert.OutInputRefIdeal.τ).loc Cert.OutInputRefIdeal.main_arg0) = m' ((c.tc : Thread Cert.OutInputRefIdeal.nD Cert.OutInputRefIdeal.τ).loc Cert.OutInputRefIdeal.main_arg0)
          ∧ r.2.mem ((c.tc : Thread Cert.OutInputRefIdeal.nD Cert.OutInputRefIdeal.τ).loc Cert.OutInputRefIdeal.main_arg1) = m' ((c.tc : Thread Cert.OutInputRefIdeal.nD Cert.OutInputRefIdeal.τ).loc Cert.OutInputRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v6) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_LatentInput_LatentInputIdeal : Prop :=
  True

def algebraic_LatentInputIdeal_LatentInputRefIdeal [hLatentInputIdeal : Cert.LatentInputIdeal.Facts] [hLatentInputRefIdeal : Cert.LatentInputRefIdeal.Facts] : Prop :=
  ∀ (m : (ℓ : Loc Cert.LatentInputIdeal.nD Cert.LatentInputIdeal.τ Cert.LatentInputIdeal.sig) → Buf (Elt Ideal) ℓ) (g : Dev Cert.LatentInputIdeal.nD → PrngReg)
    (m' : (ℓ : Loc Cert.LatentInputRefIdeal.nD Cert.LatentInputRefIdeal.τ Cert.LatentInputRefIdeal.sig) → Buf (Elt Ideal) ℓ) (g' : Dev Cert.LatentInputRefIdeal.nD → PrngReg), Pre_LatentInputIdeal m →
    (∀ c : Dev Cert.LatentInputIdeal.nD,
      m' ((c.tc : Thread Cert.LatentInputRefIdeal.nD Cert.LatentInputRefIdeal.τ).loc Cert.LatentInputRefIdeal.main_arg0) = m ((c.tc : Thread Cert.LatentInputIdeal.nD Cert.LatentInputIdeal.τ).loc Cert.LatentInputIdeal.main_arg0)
      ∧ m' ((c.tc : Thread Cert.LatentInputRefIdeal.nD Cert.LatentInputRefIdeal.τ).loc Cert.LatentInputRefIdeal.main_arg1) = m ((c.tc : Thread Cert.LatentInputIdeal.nD Cert.LatentInputIdeal.τ).loc Cert.LatentInputIdeal.main_arg1)) →
    ∃ (v0 : (c : Dev Cert.LatentInputIdeal.nD) → Buf (Elt Ideal) ((c.tc : Thread Cert.LatentInputIdeal.nD Cert.LatentInputIdeal.τ).loc Cert.LatentInputIdeal.main_v0)),
      θ_run (Cert.LatentInputIdeal.defs (F := Ideal)) (onTc (τ := Cert.LatentInputIdeal.τ) (Cert.LatentInputIdeal.main (F := Ideal))) ⟨m, fun _ => 0, g⟩ (fun r => ∀ c : Dev Cert.LatentInputIdeal.nD,
          r.2.mem ((c.tc : Thread Cert.LatentInputIdeal.nD Cert.LatentInputIdeal.τ).loc Cert.LatentInputIdeal.main_v0) = v0 c
          ∧ r.2.mem ((c.tc : Thread Cert.LatentInputIdeal.nD Cert.LatentInputIdeal.τ).loc Cert.LatentInputIdeal.main_arg0) = m ((c.tc : Thread Cert.LatentInputIdeal.nD Cert.LatentInputIdeal.τ).loc Cert.LatentInputIdeal.main_arg0)
          ∧ r.2.mem ((c.tc : Thread Cert.LatentInputIdeal.nD Cert.LatentInputIdeal.τ).loc Cert.LatentInputIdeal.main_arg1) = m ((c.tc : Thread Cert.LatentInputIdeal.nD Cert.LatentInputIdeal.τ).loc Cert.LatentInputIdeal.main_arg1))
      ∧ θ_run (Cert.LatentInputRefIdeal.defs (F := Ideal)) (onTc (τ := Cert.LatentInputRefIdeal.τ) (Cert.LatentInputRefIdeal.main (F := Ideal))) ⟨m', fun _ => 0, g'⟩ (fun r => ∀ c : Dev Cert.LatentInputRefIdeal.nD,
          r.2.mem ((c.tc : Thread Cert.LatentInputRefIdeal.nD Cert.LatentInputRefIdeal.τ).loc Cert.LatentInputRefIdeal.main_v5) = v0 c
          ∧ r.2.mem ((c.tc : Thread Cert.LatentInputRefIdeal.nD Cert.LatentInputRefIdeal.τ).loc Cert.LatentInputRefIdeal.main_arg0) = m' ((c.tc : Thread Cert.LatentInputRefIdeal.nD Cert.LatentInputRefIdeal.τ).loc Cert.LatentInputRefIdeal.main_arg0)
          ∧ r.2.mem ((c.tc : Thread Cert.LatentInputRefIdeal.nD Cert.LatentInputRefIdeal.τ).loc Cert.LatentInputRefIdeal.main_arg1) = m' ((c.tc : Thread Cert.LatentInputRefIdeal.nD Cert.LatentInputRefIdeal.τ).loc Cert.LatentInputRefIdeal.main_arg1))

def preserves_LatentWeight_LatentWeightIdeal : Prop :=
  True

def algebraic_LatentWeightIdeal_LatentWeightRefIdeal [hLatentWeightIdeal : Cert.LatentWeightIdeal.Facts] [hLatentWeightRefIdeal : Cert.LatentWeightRefIdeal.Facts] : Prop :=
  ∀ (m : (ℓ : Loc Cert.LatentWeightIdeal.nD Cert.LatentWeightIdeal.τ Cert.LatentWeightIdeal.sig) → Buf (Elt Ideal) ℓ) (g : Dev Cert.LatentWeightIdeal.nD → PrngReg)
    (m' : (ℓ : Loc Cert.LatentWeightRefIdeal.nD Cert.LatentWeightRefIdeal.τ Cert.LatentWeightRefIdeal.sig) → Buf (Elt Ideal) ℓ) (g' : Dev Cert.LatentWeightRefIdeal.nD → PrngReg), Pre_LatentWeightIdeal m →
    (∀ c : Dev Cert.LatentWeightIdeal.nD,
      m' ((c.tc : Thread Cert.LatentWeightRefIdeal.nD Cert.LatentWeightRefIdeal.τ).loc Cert.LatentWeightRefIdeal.main_arg0) = m ((c.tc : Thread Cert.LatentWeightIdeal.nD Cert.LatentWeightIdeal.τ).loc Cert.LatentWeightIdeal.main_arg0)
      ∧ m' ((c.tc : Thread Cert.LatentWeightRefIdeal.nD Cert.LatentWeightRefIdeal.τ).loc Cert.LatentWeightRefIdeal.main_arg1) = m ((c.tc : Thread Cert.LatentWeightIdeal.nD Cert.LatentWeightIdeal.τ).loc Cert.LatentWeightIdeal.main_arg1)) →
    ∃ (v0 : (c : Dev Cert.LatentWeightIdeal.nD) → Buf (Elt Ideal) ((c.tc : Thread Cert.LatentWeightIdeal.nD Cert.LatentWeightIdeal.τ).loc Cert.LatentWeightIdeal.main_v0)),
      θ_run (Cert.LatentWeightIdeal.defs (F := Ideal)) (onTc (τ := Cert.LatentWeightIdeal.τ) (Cert.LatentWeightIdeal.main (F := Ideal))) ⟨m, fun _ => 0, g⟩ (fun r => ∀ c : Dev Cert.LatentWeightIdeal.nD,
          r.2.mem ((c.tc : Thread Cert.LatentWeightIdeal.nD Cert.LatentWeightIdeal.τ).loc Cert.LatentWeightIdeal.main_v0) = v0 c
          ∧ r.2.mem ((c.tc : Thread Cert.LatentWeightIdeal.nD Cert.LatentWeightIdeal.τ).loc Cert.LatentWeightIdeal.main_arg0) = m ((c.tc : Thread Cert.LatentWeightIdeal.nD Cert.LatentWeightIdeal.τ).loc Cert.LatentWeightIdeal.main_arg0)
          ∧ r.2.mem ((c.tc : Thread Cert.LatentWeightIdeal.nD Cert.LatentWeightIdeal.τ).loc Cert.LatentWeightIdeal.main_arg1) = m ((c.tc : Thread Cert.LatentWeightIdeal.nD Cert.LatentWeightIdeal.τ).loc Cert.LatentWeightIdeal.main_arg1))
      ∧ θ_run (Cert.LatentWeightRefIdeal.defs (F := Ideal)) (onTc (τ := Cert.LatentWeightRefIdeal.τ) (Cert.LatentWeightRefIdeal.main (F := Ideal))) ⟨m', fun _ => 0, g'⟩ (fun r => ∀ c : Dev Cert.LatentWeightRefIdeal.nD,
          r.2.mem ((c.tc : Thread Cert.LatentWeightRefIdeal.nD Cert.LatentWeightRefIdeal.τ).loc Cert.LatentWeightRefIdeal.main_v5) = v0 c
          ∧ r.2.mem ((c.tc : Thread Cert.LatentWeightRefIdeal.nD Cert.LatentWeightRefIdeal.τ).loc Cert.LatentWeightRefIdeal.main_arg0) = m' ((c.tc : Thread Cert.LatentWeightRefIdeal.nD Cert.LatentWeightRefIdeal.τ).loc Cert.LatentWeightRefIdeal.main_arg0)
          ∧ r.2.mem ((c.tc : Thread Cert.LatentWeightRefIdeal.nD Cert.LatentWeightRefIdeal.τ).loc Cert.LatentWeightRefIdeal.main_arg1) = m' ((c.tc : Thread Cert.LatentWeightRefIdeal.nD Cert.LatentWeightRefIdeal.τ).loc Cert.LatentWeightRefIdeal.main_arg1))

def preserves_LatentProject_LatentProjectIdeal : Prop :=
  True

def algebraic_LatentProjectIdeal_LatentProjectRefIdeal [hLatentProjectIdeal : Cert.LatentProjectIdeal.Facts] [hLatentProjectRefIdeal : Cert.LatentProjectRefIdeal.Facts] : Prop :=
  ∀ (m : (ℓ : Loc Cert.LatentProjectIdeal.nD Cert.LatentProjectIdeal.τ Cert.LatentProjectIdeal.sig) → Buf (Elt Ideal) ℓ) (g : Dev Cert.LatentProjectIdeal.nD → PrngReg)
    (m' : (ℓ : Loc Cert.LatentProjectRefIdeal.nD Cert.LatentProjectRefIdeal.τ Cert.LatentProjectRefIdeal.sig) → Buf (Elt Ideal) ℓ) (g' : Dev Cert.LatentProjectRefIdeal.nD → PrngReg), Pre_LatentProjectIdeal m →
    (∀ c : Dev Cert.LatentProjectIdeal.nD,
      m' ((c.tc : Thread Cert.LatentProjectRefIdeal.nD Cert.LatentProjectRefIdeal.τ).loc Cert.LatentProjectRefIdeal.main_arg0) = m ((c.tc : Thread Cert.LatentProjectIdeal.nD Cert.LatentProjectIdeal.τ).loc Cert.LatentProjectIdeal.main_arg0)
      ∧ m' ((c.tc : Thread Cert.LatentProjectRefIdeal.nD Cert.LatentProjectRefIdeal.τ).loc Cert.LatentProjectRefIdeal.main_arg1) = m ((c.tc : Thread Cert.LatentProjectIdeal.nD Cert.LatentProjectIdeal.τ).loc Cert.LatentProjectIdeal.main_arg1)) →
    ∃ (v0 : (c : Dev Cert.LatentProjectIdeal.nD) → Buf (Elt Ideal) ((c.tc : Thread Cert.LatentProjectIdeal.nD Cert.LatentProjectIdeal.τ).loc Cert.LatentProjectIdeal.main_v0)),
      θ_run (Cert.LatentProjectIdeal.defs (F := Ideal)) (onTc (τ := Cert.LatentProjectIdeal.τ) (Cert.LatentProjectIdeal.main (F := Ideal))) ⟨m, fun _ => 0, g⟩ (fun r => ∀ c : Dev Cert.LatentProjectIdeal.nD,
          r.2.mem ((c.tc : Thread Cert.LatentProjectIdeal.nD Cert.LatentProjectIdeal.τ).loc Cert.LatentProjectIdeal.main_v0) = v0 c
          ∧ r.2.mem ((c.tc : Thread Cert.LatentProjectIdeal.nD Cert.LatentProjectIdeal.τ).loc Cert.LatentProjectIdeal.main_arg0) = m ((c.tc : Thread Cert.LatentProjectIdeal.nD Cert.LatentProjectIdeal.τ).loc Cert.LatentProjectIdeal.main_arg0)
          ∧ r.2.mem ((c.tc : Thread Cert.LatentProjectIdeal.nD Cert.LatentProjectIdeal.τ).loc Cert.LatentProjectIdeal.main_arg1) = m ((c.tc : Thread Cert.LatentProjectIdeal.nD Cert.LatentProjectIdeal.τ).loc Cert.LatentProjectIdeal.main_arg1))
      ∧ θ_run (Cert.LatentProjectRefIdeal.defs (F := Ideal)) (onTc (τ := Cert.LatentProjectRefIdeal.τ) (Cert.LatentProjectRefIdeal.main (F := Ideal))) ⟨m', fun _ => 0, g'⟩ (fun r => ∀ c : Dev Cert.LatentProjectRefIdeal.nD,
          r.2.mem ((c.tc : Thread Cert.LatentProjectRefIdeal.nD Cert.LatentProjectRefIdeal.τ).loc Cert.LatentProjectRefIdeal.main_v3) = v0 c
          ∧ r.2.mem ((c.tc : Thread Cert.LatentProjectRefIdeal.nD Cert.LatentProjectRefIdeal.τ).loc Cert.LatentProjectRefIdeal.main_arg0) = m' ((c.tc : Thread Cert.LatentProjectRefIdeal.nD Cert.LatentProjectRefIdeal.τ).loc Cert.LatentProjectRefIdeal.main_arg0)
          ∧ r.2.mem ((c.tc : Thread Cert.LatentProjectRefIdeal.nD Cert.LatentProjectRefIdeal.τ).loc Cert.LatentProjectRefIdeal.main_arg1) = m' ((c.tc : Thread Cert.LatentProjectRefIdeal.nD Cert.LatentProjectRefIdeal.τ).loc Cert.LatentProjectRefIdeal.main_arg1))

def preserves_ScProject_ScProjectIdeal : Prop :=
  True

def algebraic_ScProjectIdeal_ScProjectRefIdeal [hScProjectIdeal : Cert.ScProjectIdeal.Facts] [hScProjectRefIdeal : Cert.ScProjectRefIdeal.Facts] : Prop :=
  ∀ (m : (ℓ : Loc Cert.ScProjectIdeal.nD Cert.ScProjectIdeal.τ Cert.ScProjectIdeal.sig) → Buf (Elt Ideal) ℓ) (g : Dev Cert.ScProjectIdeal.nD → PrngReg)
    (m' : (ℓ : Loc Cert.ScProjectRefIdeal.nD Cert.ScProjectRefIdeal.τ Cert.ScProjectRefIdeal.sig) → Buf (Elt Ideal) ℓ) (g' : Dev Cert.ScProjectRefIdeal.nD → PrngReg), Pre_ScProjectIdeal m →
    (∀ c : Dev Cert.ScProjectIdeal.nD,
      m' ((c.tc : Thread Cert.ScProjectRefIdeal.nD Cert.ScProjectRefIdeal.τ).loc Cert.ScProjectRefIdeal.main_arg0) = m ((c.tc : Thread Cert.ScProjectIdeal.nD Cert.ScProjectIdeal.τ).loc Cert.ScProjectIdeal.main_arg0)
      ∧ m' ((c.tc : Thread Cert.ScProjectRefIdeal.nD Cert.ScProjectRefIdeal.τ).loc Cert.ScProjectRefIdeal.main_arg1) = m ((c.tc : Thread Cert.ScProjectIdeal.nD Cert.ScProjectIdeal.τ).loc Cert.ScProjectIdeal.main_arg1)) →
    ∃ (v0 : (c : Dev Cert.ScProjectIdeal.nD) → Buf (Elt Ideal) ((c.tc : Thread Cert.ScProjectIdeal.nD Cert.ScProjectIdeal.τ).loc Cert.ScProjectIdeal.main_v0)),
      θ_run (Cert.ScProjectIdeal.defs (F := Ideal)) (onTc (τ := Cert.ScProjectIdeal.τ) (Cert.ScProjectIdeal.main (F := Ideal))) ⟨m, fun _ => 0, g⟩ (fun r => ∀ c : Dev Cert.ScProjectIdeal.nD,
          r.2.mem ((c.tc : Thread Cert.ScProjectIdeal.nD Cert.ScProjectIdeal.τ).loc Cert.ScProjectIdeal.main_v0) = v0 c
          ∧ r.2.mem ((c.tc : Thread Cert.ScProjectIdeal.nD Cert.ScProjectIdeal.τ).loc Cert.ScProjectIdeal.main_arg0) = m ((c.tc : Thread Cert.ScProjectIdeal.nD Cert.ScProjectIdeal.τ).loc Cert.ScProjectIdeal.main_arg0)
          ∧ r.2.mem ((c.tc : Thread Cert.ScProjectIdeal.nD Cert.ScProjectIdeal.τ).loc Cert.ScProjectIdeal.main_arg1) = m ((c.tc : Thread Cert.ScProjectIdeal.nD Cert.ScProjectIdeal.τ).loc Cert.ScProjectIdeal.main_arg1))
      ∧ θ_run (Cert.ScProjectRefIdeal.defs (F := Ideal)) (onTc (τ := Cert.ScProjectRefIdeal.τ) (Cert.ScProjectRefIdeal.main (F := Ideal))) ⟨m', fun _ => 0, g'⟩ (fun r => ∀ c : Dev Cert.ScProjectRefIdeal.nD,
          r.2.mem ((c.tc : Thread Cert.ScProjectRefIdeal.nD Cert.ScProjectRefIdeal.τ).loc Cert.ScProjectRefIdeal.main_v3) = v0 c
          ∧ r.2.mem ((c.tc : Thread Cert.ScProjectRefIdeal.nD Cert.ScProjectRefIdeal.τ).loc Cert.ScProjectRefIdeal.main_arg0) = m' ((c.tc : Thread Cert.ScProjectRefIdeal.nD Cert.ScProjectRefIdeal.τ).loc Cert.ScProjectRefIdeal.main_arg0)
          ∧ r.2.mem ((c.tc : Thread Cert.ScProjectRefIdeal.nD Cert.ScProjectRefIdeal.τ).loc Cert.ScProjectRefIdeal.main_arg1) = m' ((c.tc : Thread Cert.ScProjectRefIdeal.nD Cert.ScProjectRefIdeal.τ).loc Cert.ScProjectRefIdeal.main_arg1))

def preserves_WideProject_WideProjectIdeal : Prop :=
  True

def algebraic_WideProjectIdeal_WideProjectRefIdeal [hWideProjectIdeal : Cert.WideProjectIdeal.Facts] [hWideProjectRefIdeal : Cert.WideProjectRefIdeal.Facts] : Prop :=
  ∀ (m : (ℓ : Loc Cert.WideProjectIdeal.nD Cert.WideProjectIdeal.τ Cert.WideProjectIdeal.sig) → Buf (Elt Ideal) ℓ) (g : Dev Cert.WideProjectIdeal.nD → PrngReg)
    (m' : (ℓ : Loc Cert.WideProjectRefIdeal.nD Cert.WideProjectRefIdeal.τ Cert.WideProjectRefIdeal.sig) → Buf (Elt Ideal) ℓ) (g' : Dev Cert.WideProjectRefIdeal.nD → PrngReg), Pre_WideProjectIdeal m →
    (∀ c : Dev Cert.WideProjectIdeal.nD,
      m' ((c.tc : Thread Cert.WideProjectRefIdeal.nD Cert.WideProjectRefIdeal.τ).loc Cert.WideProjectRefIdeal.main_arg0) = m ((c.tc : Thread Cert.WideProjectIdeal.nD Cert.WideProjectIdeal.τ).loc Cert.WideProjectIdeal.main_arg0)
      ∧ m' ((c.tc : Thread Cert.WideProjectRefIdeal.nD Cert.WideProjectRefIdeal.τ).loc Cert.WideProjectRefIdeal.main_arg1) = m ((c.tc : Thread Cert.WideProjectIdeal.nD Cert.WideProjectIdeal.τ).loc Cert.WideProjectIdeal.main_arg1)) →
    ∃ (v0 : (c : Dev Cert.WideProjectIdeal.nD) → Buf (Elt Ideal) ((c.tc : Thread Cert.WideProjectIdeal.nD Cert.WideProjectIdeal.τ).loc Cert.WideProjectIdeal.main_v0)),
      θ_run (Cert.WideProjectIdeal.defs (F := Ideal)) (onTc (τ := Cert.WideProjectIdeal.τ) (Cert.WideProjectIdeal.main (F := Ideal))) ⟨m, fun _ => 0, g⟩ (fun r => ∀ c : Dev Cert.WideProjectIdeal.nD,
          r.2.mem ((c.tc : Thread Cert.WideProjectIdeal.nD Cert.WideProjectIdeal.τ).loc Cert.WideProjectIdeal.main_v0) = v0 c
          ∧ r.2.mem ((c.tc : Thread Cert.WideProjectIdeal.nD Cert.WideProjectIdeal.τ).loc Cert.WideProjectIdeal.main_arg0) = m ((c.tc : Thread Cert.WideProjectIdeal.nD Cert.WideProjectIdeal.τ).loc Cert.WideProjectIdeal.main_arg0)
          ∧ r.2.mem ((c.tc : Thread Cert.WideProjectIdeal.nD Cert.WideProjectIdeal.τ).loc Cert.WideProjectIdeal.main_arg1) = m ((c.tc : Thread Cert.WideProjectIdeal.nD Cert.WideProjectIdeal.τ).loc Cert.WideProjectIdeal.main_arg1))
      ∧ θ_run (Cert.WideProjectRefIdeal.defs (F := Ideal)) (onTc (τ := Cert.WideProjectRefIdeal.τ) (Cert.WideProjectRefIdeal.main (F := Ideal))) ⟨m', fun _ => 0, g'⟩ (fun r => ∀ c : Dev Cert.WideProjectRefIdeal.nD,
          r.2.mem ((c.tc : Thread Cert.WideProjectRefIdeal.nD Cert.WideProjectRefIdeal.τ).loc Cert.WideProjectRefIdeal.main_v3) = v0 c
          ∧ r.2.mem ((c.tc : Thread Cert.WideProjectRefIdeal.nD Cert.WideProjectRefIdeal.τ).loc Cert.WideProjectRefIdeal.main_arg0) = m' ((c.tc : Thread Cert.WideProjectRefIdeal.nD Cert.WideProjectRefIdeal.τ).loc Cert.WideProjectRefIdeal.main_arg0)
          ∧ r.2.mem ((c.tc : Thread Cert.WideProjectRefIdeal.nD Cert.WideProjectRefIdeal.τ).loc Cert.WideProjectRefIdeal.main_arg1) = m' ((c.tc : Thread Cert.WideProjectRefIdeal.nD Cert.WideProjectRefIdeal.τ).loc Cert.WideProjectRefIdeal.main_arg1))

def preserves_OutProject_OutProjectIdeal : Prop :=
  True

def algebraic_OutProjectIdeal_OutProjectRefIdeal [hOutProjectIdeal : Cert.OutProjectIdeal.Facts] [hOutProjectRefIdeal : Cert.OutProjectRefIdeal.Facts] : Prop :=
  ∀ (m : (ℓ : Loc Cert.OutProjectIdeal.nD Cert.OutProjectIdeal.τ Cert.OutProjectIdeal.sig) → Buf (Elt Ideal) ℓ) (g : Dev Cert.OutProjectIdeal.nD → PrngReg)
    (m' : (ℓ : Loc Cert.OutProjectRefIdeal.nD Cert.OutProjectRefIdeal.τ Cert.OutProjectRefIdeal.sig) → Buf (Elt Ideal) ℓ) (g' : Dev Cert.OutProjectRefIdeal.nD → PrngReg), Pre_OutProjectIdeal m →
    (∀ c : Dev Cert.OutProjectIdeal.nD,
      m' ((c.tc : Thread Cert.OutProjectRefIdeal.nD Cert.OutProjectRefIdeal.τ).loc Cert.OutProjectRefIdeal.main_arg0) = m ((c.tc : Thread Cert.OutProjectIdeal.nD Cert.OutProjectIdeal.τ).loc Cert.OutProjectIdeal.main_arg0)
      ∧ m' ((c.tc : Thread Cert.OutProjectRefIdeal.nD Cert.OutProjectRefIdeal.τ).loc Cert.OutProjectRefIdeal.main_arg1) = m ((c.tc : Thread Cert.OutProjectIdeal.nD Cert.OutProjectIdeal.τ).loc Cert.OutProjectIdeal.main_arg1)) →
    ∃ (v0 : (c : Dev Cert.OutProjectIdeal.nD) → Buf (Elt Ideal) ((c.tc : Thread Cert.OutProjectIdeal.nD Cert.OutProjectIdeal.τ).loc Cert.OutProjectIdeal.main_v0)),
      θ_run (Cert.OutProjectIdeal.defs (F := Ideal)) (onTc (τ := Cert.OutProjectIdeal.τ) (Cert.OutProjectIdeal.main (F := Ideal))) ⟨m, fun _ => 0, g⟩ (fun r => ∀ c : Dev Cert.OutProjectIdeal.nD,
          r.2.mem ((c.tc : Thread Cert.OutProjectIdeal.nD Cert.OutProjectIdeal.τ).loc Cert.OutProjectIdeal.main_v0) = v0 c
          ∧ r.2.mem ((c.tc : Thread Cert.OutProjectIdeal.nD Cert.OutProjectIdeal.τ).loc Cert.OutProjectIdeal.main_arg0) = m ((c.tc : Thread Cert.OutProjectIdeal.nD Cert.OutProjectIdeal.τ).loc Cert.OutProjectIdeal.main_arg0)
          ∧ r.2.mem ((c.tc : Thread Cert.OutProjectIdeal.nD Cert.OutProjectIdeal.τ).loc Cert.OutProjectIdeal.main_arg1) = m ((c.tc : Thread Cert.OutProjectIdeal.nD Cert.OutProjectIdeal.τ).loc Cert.OutProjectIdeal.main_arg1))
      ∧ θ_run (Cert.OutProjectRefIdeal.defs (F := Ideal)) (onTc (τ := Cert.OutProjectRefIdeal.τ) (Cert.OutProjectRefIdeal.main (F := Ideal))) ⟨m', fun _ => 0, g'⟩ (fun r => ∀ c : Dev Cert.OutProjectRefIdeal.nD,
          r.2.mem ((c.tc : Thread Cert.OutProjectRefIdeal.nD Cert.OutProjectRefIdeal.τ).loc Cert.OutProjectRefIdeal.main_v2) = v0 c
          ∧ r.2.mem ((c.tc : Thread Cert.OutProjectRefIdeal.nD Cert.OutProjectRefIdeal.τ).loc Cert.OutProjectRefIdeal.main_arg0) = m' ((c.tc : Thread Cert.OutProjectRefIdeal.nD Cert.OutProjectRefIdeal.τ).loc Cert.OutProjectRefIdeal.main_arg0)
          ∧ r.2.mem ((c.tc : Thread Cert.OutProjectRefIdeal.nD Cert.OutProjectRefIdeal.τ).loc Cert.OutProjectRefIdeal.main_arg1) = m' ((c.tc : Thread Cert.OutProjectRefIdeal.nD Cert.OutProjectRefIdeal.τ).loc Cert.OutProjectRefIdeal.main_arg1))

def preserves_QueryInput_QueryInputIdeal : Prop :=
  True

def algebraic_QueryInputIdeal_QueryInputRefIdeal [hQueryInputIdeal : Cert.QueryInputIdeal.Facts] [hQueryInputRefIdeal : Cert.QueryInputRefIdeal.Facts] : Prop :=
  ∀ (m : (ℓ : Loc Cert.QueryInputIdeal.nD Cert.QueryInputIdeal.τ Cert.QueryInputIdeal.sig) → Buf (Elt Ideal) ℓ) (g : Dev Cert.QueryInputIdeal.nD → PrngReg)
    (m' : (ℓ : Loc Cert.QueryInputRefIdeal.nD Cert.QueryInputRefIdeal.τ Cert.QueryInputRefIdeal.sig) → Buf (Elt Ideal) ℓ) (g' : Dev Cert.QueryInputRefIdeal.nD → PrngReg), Pre_QueryInputIdeal m →
    (∀ c : Dev Cert.QueryInputIdeal.nD,
      m' ((c.tc : Thread Cert.QueryInputRefIdeal.nD Cert.QueryInputRefIdeal.τ).loc Cert.QueryInputRefIdeal.main_arg0) = m ((c.tc : Thread Cert.QueryInputIdeal.nD Cert.QueryInputIdeal.τ).loc Cert.QueryInputIdeal.main_arg0)
      ∧ m' ((c.tc : Thread Cert.QueryInputRefIdeal.nD Cert.QueryInputRefIdeal.τ).loc Cert.QueryInputRefIdeal.main_arg1) = m ((c.tc : Thread Cert.QueryInputIdeal.nD Cert.QueryInputIdeal.τ).loc Cert.QueryInputIdeal.main_arg1)) →
    ∃ (v0 : (c : Dev Cert.QueryInputIdeal.nD) → Buf (Elt Ideal) ((c.tc : Thread Cert.QueryInputIdeal.nD Cert.QueryInputIdeal.τ).loc Cert.QueryInputIdeal.main_v0)),
      θ_run (Cert.QueryInputIdeal.defs (F := Ideal)) (onTc (τ := Cert.QueryInputIdeal.τ) (Cert.QueryInputIdeal.main (F := Ideal))) ⟨m, fun _ => 0, g⟩ (fun r => ∀ c : Dev Cert.QueryInputIdeal.nD,
          r.2.mem ((c.tc : Thread Cert.QueryInputIdeal.nD Cert.QueryInputIdeal.τ).loc Cert.QueryInputIdeal.main_v0) = v0 c
          ∧ r.2.mem ((c.tc : Thread Cert.QueryInputIdeal.nD Cert.QueryInputIdeal.τ).loc Cert.QueryInputIdeal.main_arg0) = m ((c.tc : Thread Cert.QueryInputIdeal.nD Cert.QueryInputIdeal.τ).loc Cert.QueryInputIdeal.main_arg0)
          ∧ r.2.mem ((c.tc : Thread Cert.QueryInputIdeal.nD Cert.QueryInputIdeal.τ).loc Cert.QueryInputIdeal.main_arg1) = m ((c.tc : Thread Cert.QueryInputIdeal.nD Cert.QueryInputIdeal.τ).loc Cert.QueryInputIdeal.main_arg1))
      ∧ θ_run (Cert.QueryInputRefIdeal.defs (F := Ideal)) (onTc (τ := Cert.QueryInputRefIdeal.τ) (Cert.QueryInputRefIdeal.main (F := Ideal))) ⟨m', fun _ => 0, g'⟩ (fun r => ∀ c : Dev Cert.QueryInputRefIdeal.nD,
          r.2.mem ((c.tc : Thread Cert.QueryInputRefIdeal.nD Cert.QueryInputRefIdeal.τ).loc Cert.QueryInputRefIdeal.main_v4) = v0 c
          ∧ r.2.mem ((c.tc : Thread Cert.QueryInputRefIdeal.nD Cert.QueryInputRefIdeal.τ).loc Cert.QueryInputRefIdeal.main_arg0) = m' ((c.tc : Thread Cert.QueryInputRefIdeal.nD Cert.QueryInputRefIdeal.τ).loc Cert.QueryInputRefIdeal.main_arg0)
          ∧ r.2.mem ((c.tc : Thread Cert.QueryInputRefIdeal.nD Cert.QueryInputRefIdeal.τ).loc Cert.QueryInputRefIdeal.main_arg1) = m' ((c.tc : Thread Cert.QueryInputRefIdeal.nD Cert.QueryInputRefIdeal.τ).loc Cert.QueryInputRefIdeal.main_arg1))

def preserves_KeyInput_KeyInputIdeal : Prop :=
  True

def algebraic_KeyInputIdeal_KeyInputRefIdeal [hKeyInputIdeal : Cert.KeyInputIdeal.Facts] [hKeyInputRefIdeal : Cert.KeyInputRefIdeal.Facts] : Prop :=
  ∀ (m : (ℓ : Loc Cert.KeyInputIdeal.nD Cert.KeyInputIdeal.τ Cert.KeyInputIdeal.sig) → Buf (Elt Ideal) ℓ) (g : Dev Cert.KeyInputIdeal.nD → PrngReg)
    (m' : (ℓ : Loc Cert.KeyInputRefIdeal.nD Cert.KeyInputRefIdeal.τ Cert.KeyInputRefIdeal.sig) → Buf (Elt Ideal) ℓ) (g' : Dev Cert.KeyInputRefIdeal.nD → PrngReg), Pre_KeyInputIdeal m →
    (∀ c : Dev Cert.KeyInputIdeal.nD,
      m' ((c.tc : Thread Cert.KeyInputRefIdeal.nD Cert.KeyInputRefIdeal.τ).loc Cert.KeyInputRefIdeal.main_arg0) = m ((c.tc : Thread Cert.KeyInputIdeal.nD Cert.KeyInputIdeal.τ).loc Cert.KeyInputIdeal.main_arg0)
      ∧ m' ((c.tc : Thread Cert.KeyInputRefIdeal.nD Cert.KeyInputRefIdeal.τ).loc Cert.KeyInputRefIdeal.main_arg1) = m ((c.tc : Thread Cert.KeyInputIdeal.nD Cert.KeyInputIdeal.τ).loc Cert.KeyInputIdeal.main_arg1)) →
    ∃ (v0 : (c : Dev Cert.KeyInputIdeal.nD) → Buf (Elt Ideal) ((c.tc : Thread Cert.KeyInputIdeal.nD Cert.KeyInputIdeal.τ).loc Cert.KeyInputIdeal.main_v0)),
      θ_run (Cert.KeyInputIdeal.defs (F := Ideal)) (onTc (τ := Cert.KeyInputIdeal.τ) (Cert.KeyInputIdeal.main (F := Ideal))) ⟨m, fun _ => 0, g⟩ (fun r => ∀ c : Dev Cert.KeyInputIdeal.nD,
          r.2.mem ((c.tc : Thread Cert.KeyInputIdeal.nD Cert.KeyInputIdeal.τ).loc Cert.KeyInputIdeal.main_v0) = v0 c
          ∧ r.2.mem ((c.tc : Thread Cert.KeyInputIdeal.nD Cert.KeyInputIdeal.τ).loc Cert.KeyInputIdeal.main_arg0) = m ((c.tc : Thread Cert.KeyInputIdeal.nD Cert.KeyInputIdeal.τ).loc Cert.KeyInputIdeal.main_arg0)
          ∧ r.2.mem ((c.tc : Thread Cert.KeyInputIdeal.nD Cert.KeyInputIdeal.τ).loc Cert.KeyInputIdeal.main_arg1) = m ((c.tc : Thread Cert.KeyInputIdeal.nD Cert.KeyInputIdeal.τ).loc Cert.KeyInputIdeal.main_arg1))
      ∧ θ_run (Cert.KeyInputRefIdeal.defs (F := Ideal)) (onTc (τ := Cert.KeyInputRefIdeal.τ) (Cert.KeyInputRefIdeal.main (F := Ideal))) ⟨m', fun _ => 0, g'⟩ (fun r => ∀ c : Dev Cert.KeyInputRefIdeal.nD,
          r.2.mem ((c.tc : Thread Cert.KeyInputRefIdeal.nD Cert.KeyInputRefIdeal.τ).loc Cert.KeyInputRefIdeal.main_v4) = v0 c
          ∧ r.2.mem ((c.tc : Thread Cert.KeyInputRefIdeal.nD Cert.KeyInputRefIdeal.τ).loc Cert.KeyInputRefIdeal.main_arg0) = m' ((c.tc : Thread Cert.KeyInputRefIdeal.nD Cert.KeyInputRefIdeal.τ).loc Cert.KeyInputRefIdeal.main_arg0)
          ∧ r.2.mem ((c.tc : Thread Cert.KeyInputRefIdeal.nD Cert.KeyInputRefIdeal.τ).loc Cert.KeyInputRefIdeal.main_arg1) = m' ((c.tc : Thread Cert.KeyInputRefIdeal.nD Cert.KeyInputRefIdeal.τ).loc Cert.KeyInputRefIdeal.main_arg1))

def preserves_ValueInput_ValueInputIdeal : Prop :=
  True

def algebraic_ValueInputIdeal_ValueInputRefIdeal [hValueInputIdeal : Cert.ValueInputIdeal.Facts] [hValueInputRefIdeal : Cert.ValueInputRefIdeal.Facts] : Prop :=
  ∀ (m : (ℓ : Loc Cert.ValueInputIdeal.nD Cert.ValueInputIdeal.τ Cert.ValueInputIdeal.sig) → Buf (Elt Ideal) ℓ) (g : Dev Cert.ValueInputIdeal.nD → PrngReg)
    (m' : (ℓ : Loc Cert.ValueInputRefIdeal.nD Cert.ValueInputRefIdeal.τ Cert.ValueInputRefIdeal.sig) → Buf (Elt Ideal) ℓ) (g' : Dev Cert.ValueInputRefIdeal.nD → PrngReg), Pre_ValueInputIdeal m →
    (∀ c : Dev Cert.ValueInputIdeal.nD,
      m' ((c.tc : Thread Cert.ValueInputRefIdeal.nD Cert.ValueInputRefIdeal.τ).loc Cert.ValueInputRefIdeal.main_arg0) = m ((c.tc : Thread Cert.ValueInputIdeal.nD Cert.ValueInputIdeal.τ).loc Cert.ValueInputIdeal.main_arg0)
      ∧ m' ((c.tc : Thread Cert.ValueInputRefIdeal.nD Cert.ValueInputRefIdeal.τ).loc Cert.ValueInputRefIdeal.main_arg1) = m ((c.tc : Thread Cert.ValueInputIdeal.nD Cert.ValueInputIdeal.τ).loc Cert.ValueInputIdeal.main_arg1)) →
    ∃ (v0 : (c : Dev Cert.ValueInputIdeal.nD) → Buf (Elt Ideal) ((c.tc : Thread Cert.ValueInputIdeal.nD Cert.ValueInputIdeal.τ).loc Cert.ValueInputIdeal.main_v0)),
      θ_run (Cert.ValueInputIdeal.defs (F := Ideal)) (onTc (τ := Cert.ValueInputIdeal.τ) (Cert.ValueInputIdeal.main (F := Ideal))) ⟨m, fun _ => 0, g⟩ (fun r => ∀ c : Dev Cert.ValueInputIdeal.nD,
          r.2.mem ((c.tc : Thread Cert.ValueInputIdeal.nD Cert.ValueInputIdeal.τ).loc Cert.ValueInputIdeal.main_v0) = v0 c
          ∧ r.2.mem ((c.tc : Thread Cert.ValueInputIdeal.nD Cert.ValueInputIdeal.τ).loc Cert.ValueInputIdeal.main_arg0) = m ((c.tc : Thread Cert.ValueInputIdeal.nD Cert.ValueInputIdeal.τ).loc Cert.ValueInputIdeal.main_arg0)
          ∧ r.2.mem ((c.tc : Thread Cert.ValueInputIdeal.nD Cert.ValueInputIdeal.τ).loc Cert.ValueInputIdeal.main_arg1) = m ((c.tc : Thread Cert.ValueInputIdeal.nD Cert.ValueInputIdeal.τ).loc Cert.ValueInputIdeal.main_arg1))
      ∧ θ_run (Cert.ValueInputRefIdeal.defs (F := Ideal)) (onTc (τ := Cert.ValueInputRefIdeal.τ) (Cert.ValueInputRefIdeal.main (F := Ideal))) ⟨m', fun _ => 0, g'⟩ (fun r => ∀ c : Dev Cert.ValueInputRefIdeal.nD,
          r.2.mem ((c.tc : Thread Cert.ValueInputRefIdeal.nD Cert.ValueInputRefIdeal.τ).loc Cert.ValueInputRefIdeal.main_v4) = v0 c
          ∧ r.2.mem ((c.tc : Thread Cert.ValueInputRefIdeal.nD Cert.ValueInputRefIdeal.τ).loc Cert.ValueInputRefIdeal.main_arg0) = m' ((c.tc : Thread Cert.ValueInputRefIdeal.nD Cert.ValueInputRefIdeal.τ).loc Cert.ValueInputRefIdeal.main_arg0)
          ∧ r.2.mem ((c.tc : Thread Cert.ValueInputRefIdeal.nD Cert.ValueInputRefIdeal.τ).loc Cert.ValueInputRefIdeal.main_arg1) = m' ((c.tc : Thread Cert.ValueInputRefIdeal.nD Cert.ValueInputRefIdeal.τ).loc Cert.ValueInputRefIdeal.main_arg1))

def preserves_QueryWeight_QueryWeightIdeal : Prop :=
  True

def algebraic_QueryWeightIdeal_QueryWeightRefIdeal [hQueryWeightIdeal : Cert.QueryWeightIdeal.Facts] [hQueryWeightRefIdeal : Cert.QueryWeightRefIdeal.Facts] : Prop :=
  ∀ (m : (ℓ : Loc Cert.QueryWeightIdeal.nD Cert.QueryWeightIdeal.τ Cert.QueryWeightIdeal.sig) → Buf (Elt Ideal) ℓ) (g : Dev Cert.QueryWeightIdeal.nD → PrngReg)
    (m' : (ℓ : Loc Cert.QueryWeightRefIdeal.nD Cert.QueryWeightRefIdeal.τ Cert.QueryWeightRefIdeal.sig) → Buf (Elt Ideal) ℓ) (g' : Dev Cert.QueryWeightRefIdeal.nD → PrngReg), Pre_QueryWeightIdeal m →
    (∀ c : Dev Cert.QueryWeightIdeal.nD,
      m' ((c.tc : Thread Cert.QueryWeightRefIdeal.nD Cert.QueryWeightRefIdeal.τ).loc Cert.QueryWeightRefIdeal.main_arg0) = m ((c.tc : Thread Cert.QueryWeightIdeal.nD Cert.QueryWeightIdeal.τ).loc Cert.QueryWeightIdeal.main_arg0)
      ∧ m' ((c.tc : Thread Cert.QueryWeightRefIdeal.nD Cert.QueryWeightRefIdeal.τ).loc Cert.QueryWeightRefIdeal.main_arg1) = m ((c.tc : Thread Cert.QueryWeightIdeal.nD Cert.QueryWeightIdeal.τ).loc Cert.QueryWeightIdeal.main_arg1)) →
    ∃ (v0 : (c : Dev Cert.QueryWeightIdeal.nD) → Buf (Elt Ideal) ((c.tc : Thread Cert.QueryWeightIdeal.nD Cert.QueryWeightIdeal.τ).loc Cert.QueryWeightIdeal.main_v0)),
      θ_run (Cert.QueryWeightIdeal.defs (F := Ideal)) (onTc (τ := Cert.QueryWeightIdeal.τ) (Cert.QueryWeightIdeal.main (F := Ideal))) ⟨m, fun _ => 0, g⟩ (fun r => ∀ c : Dev Cert.QueryWeightIdeal.nD,
          r.2.mem ((c.tc : Thread Cert.QueryWeightIdeal.nD Cert.QueryWeightIdeal.τ).loc Cert.QueryWeightIdeal.main_v0) = v0 c
          ∧ r.2.mem ((c.tc : Thread Cert.QueryWeightIdeal.nD Cert.QueryWeightIdeal.τ).loc Cert.QueryWeightIdeal.main_arg0) = m ((c.tc : Thread Cert.QueryWeightIdeal.nD Cert.QueryWeightIdeal.τ).loc Cert.QueryWeightIdeal.main_arg0)
          ∧ r.2.mem ((c.tc : Thread Cert.QueryWeightIdeal.nD Cert.QueryWeightIdeal.τ).loc Cert.QueryWeightIdeal.main_arg1) = m ((c.tc : Thread Cert.QueryWeightIdeal.nD Cert.QueryWeightIdeal.τ).loc Cert.QueryWeightIdeal.main_arg1))
      ∧ θ_run (Cert.QueryWeightRefIdeal.defs (F := Ideal)) (onTc (τ := Cert.QueryWeightRefIdeal.τ) (Cert.QueryWeightRefIdeal.main (F := Ideal))) ⟨m', fun _ => 0, g'⟩ (fun r => ∀ c : Dev Cert.QueryWeightRefIdeal.nD,
          r.2.mem ((c.tc : Thread Cert.QueryWeightRefIdeal.nD Cert.QueryWeightRefIdeal.τ).loc Cert.QueryWeightRefIdeal.main_v5) = v0 c
          ∧ r.2.mem ((c.tc : Thread Cert.QueryWeightRefIdeal.nD Cert.QueryWeightRefIdeal.τ).loc Cert.QueryWeightRefIdeal.main_arg0) = m' ((c.tc : Thread Cert.QueryWeightRefIdeal.nD Cert.QueryWeightRefIdeal.τ).loc Cert.QueryWeightRefIdeal.main_arg0)
          ∧ r.2.mem ((c.tc : Thread Cert.QueryWeightRefIdeal.nD Cert.QueryWeightRefIdeal.τ).loc Cert.QueryWeightRefIdeal.main_arg1) = m' ((c.tc : Thread Cert.QueryWeightRefIdeal.nD Cert.QueryWeightRefIdeal.τ).loc Cert.QueryWeightRefIdeal.main_arg1))

def preserves_KeyWeight_KeyWeightIdeal : Prop :=
  True

def algebraic_KeyWeightIdeal_KeyWeightRefIdeal [hKeyWeightIdeal : Cert.KeyWeightIdeal.Facts] [hKeyWeightRefIdeal : Cert.KeyWeightRefIdeal.Facts] : Prop :=
  ∀ (m : (ℓ : Loc Cert.KeyWeightIdeal.nD Cert.KeyWeightIdeal.τ Cert.KeyWeightIdeal.sig) → Buf (Elt Ideal) ℓ) (g : Dev Cert.KeyWeightIdeal.nD → PrngReg)
    (m' : (ℓ : Loc Cert.KeyWeightRefIdeal.nD Cert.KeyWeightRefIdeal.τ Cert.KeyWeightRefIdeal.sig) → Buf (Elt Ideal) ℓ) (g' : Dev Cert.KeyWeightRefIdeal.nD → PrngReg), Pre_KeyWeightIdeal m →
    (∀ c : Dev Cert.KeyWeightIdeal.nD,
      m' ((c.tc : Thread Cert.KeyWeightRefIdeal.nD Cert.KeyWeightRefIdeal.τ).loc Cert.KeyWeightRefIdeal.main_arg0) = m ((c.tc : Thread Cert.KeyWeightIdeal.nD Cert.KeyWeightIdeal.τ).loc Cert.KeyWeightIdeal.main_arg0)
      ∧ m' ((c.tc : Thread Cert.KeyWeightRefIdeal.nD Cert.KeyWeightRefIdeal.τ).loc Cert.KeyWeightRefIdeal.main_arg1) = m ((c.tc : Thread Cert.KeyWeightIdeal.nD Cert.KeyWeightIdeal.τ).loc Cert.KeyWeightIdeal.main_arg1)) →
    ∃ (v0 : (c : Dev Cert.KeyWeightIdeal.nD) → Buf (Elt Ideal) ((c.tc : Thread Cert.KeyWeightIdeal.nD Cert.KeyWeightIdeal.τ).loc Cert.KeyWeightIdeal.main_v0)),
      θ_run (Cert.KeyWeightIdeal.defs (F := Ideal)) (onTc (τ := Cert.KeyWeightIdeal.τ) (Cert.KeyWeightIdeal.main (F := Ideal))) ⟨m, fun _ => 0, g⟩ (fun r => ∀ c : Dev Cert.KeyWeightIdeal.nD,
          r.2.mem ((c.tc : Thread Cert.KeyWeightIdeal.nD Cert.KeyWeightIdeal.τ).loc Cert.KeyWeightIdeal.main_v0) = v0 c
          ∧ r.2.mem ((c.tc : Thread Cert.KeyWeightIdeal.nD Cert.KeyWeightIdeal.τ).loc Cert.KeyWeightIdeal.main_arg0) = m ((c.tc : Thread Cert.KeyWeightIdeal.nD Cert.KeyWeightIdeal.τ).loc Cert.KeyWeightIdeal.main_arg0)
          ∧ r.2.mem ((c.tc : Thread Cert.KeyWeightIdeal.nD Cert.KeyWeightIdeal.τ).loc Cert.KeyWeightIdeal.main_arg1) = m ((c.tc : Thread Cert.KeyWeightIdeal.nD Cert.KeyWeightIdeal.τ).loc Cert.KeyWeightIdeal.main_arg1))
      ∧ θ_run (Cert.KeyWeightRefIdeal.defs (F := Ideal)) (onTc (τ := Cert.KeyWeightRefIdeal.τ) (Cert.KeyWeightRefIdeal.main (F := Ideal))) ⟨m', fun _ => 0, g'⟩ (fun r => ∀ c : Dev Cert.KeyWeightRefIdeal.nD,
          r.2.mem ((c.tc : Thread Cert.KeyWeightRefIdeal.nD Cert.KeyWeightRefIdeal.τ).loc Cert.KeyWeightRefIdeal.main_v5) = v0 c
          ∧ r.2.mem ((c.tc : Thread Cert.KeyWeightRefIdeal.nD Cert.KeyWeightRefIdeal.τ).loc Cert.KeyWeightRefIdeal.main_arg0) = m' ((c.tc : Thread Cert.KeyWeightRefIdeal.nD Cert.KeyWeightRefIdeal.τ).loc Cert.KeyWeightRefIdeal.main_arg0)
          ∧ r.2.mem ((c.tc : Thread Cert.KeyWeightRefIdeal.nD Cert.KeyWeightRefIdeal.τ).loc Cert.KeyWeightRefIdeal.main_arg1) = m' ((c.tc : Thread Cert.KeyWeightRefIdeal.nD Cert.KeyWeightRefIdeal.τ).loc Cert.KeyWeightRefIdeal.main_arg1))

def preserves_ValueWeight_ValueWeightIdeal : Prop :=
  True

def algebraic_ValueWeightIdeal_ValueWeightRefIdeal [hValueWeightIdeal : Cert.ValueWeightIdeal.Facts] [hValueWeightRefIdeal : Cert.ValueWeightRefIdeal.Facts] : Prop :=
  ∀ (m : (ℓ : Loc Cert.ValueWeightIdeal.nD Cert.ValueWeightIdeal.τ Cert.ValueWeightIdeal.sig) → Buf (Elt Ideal) ℓ) (g : Dev Cert.ValueWeightIdeal.nD → PrngReg)
    (m' : (ℓ : Loc Cert.ValueWeightRefIdeal.nD Cert.ValueWeightRefIdeal.τ Cert.ValueWeightRefIdeal.sig) → Buf (Elt Ideal) ℓ) (g' : Dev Cert.ValueWeightRefIdeal.nD → PrngReg), Pre_ValueWeightIdeal m →
    (∀ c : Dev Cert.ValueWeightIdeal.nD,
      m' ((c.tc : Thread Cert.ValueWeightRefIdeal.nD Cert.ValueWeightRefIdeal.τ).loc Cert.ValueWeightRefIdeal.main_arg0) = m ((c.tc : Thread Cert.ValueWeightIdeal.nD Cert.ValueWeightIdeal.τ).loc Cert.ValueWeightIdeal.main_arg0)
      ∧ m' ((c.tc : Thread Cert.ValueWeightRefIdeal.nD Cert.ValueWeightRefIdeal.τ).loc Cert.ValueWeightRefIdeal.main_arg1) = m ((c.tc : Thread Cert.ValueWeightIdeal.nD Cert.ValueWeightIdeal.τ).loc Cert.ValueWeightIdeal.main_arg1)) →
    ∃ (v0 : (c : Dev Cert.ValueWeightIdeal.nD) → Buf (Elt Ideal) ((c.tc : Thread Cert.ValueWeightIdeal.nD Cert.ValueWeightIdeal.τ).loc Cert.ValueWeightIdeal.main_v0)),
      θ_run (Cert.ValueWeightIdeal.defs (F := Ideal)) (onTc (τ := Cert.ValueWeightIdeal.τ) (Cert.ValueWeightIdeal.main (F := Ideal))) ⟨m, fun _ => 0, g⟩ (fun r => ∀ c : Dev Cert.ValueWeightIdeal.nD,
          r.2.mem ((c.tc : Thread Cert.ValueWeightIdeal.nD Cert.ValueWeightIdeal.τ).loc Cert.ValueWeightIdeal.main_v0) = v0 c
          ∧ r.2.mem ((c.tc : Thread Cert.ValueWeightIdeal.nD Cert.ValueWeightIdeal.τ).loc Cert.ValueWeightIdeal.main_arg0) = m ((c.tc : Thread Cert.ValueWeightIdeal.nD Cert.ValueWeightIdeal.τ).loc Cert.ValueWeightIdeal.main_arg0)
          ∧ r.2.mem ((c.tc : Thread Cert.ValueWeightIdeal.nD Cert.ValueWeightIdeal.τ).loc Cert.ValueWeightIdeal.main_arg1) = m ((c.tc : Thread Cert.ValueWeightIdeal.nD Cert.ValueWeightIdeal.τ).loc Cert.ValueWeightIdeal.main_arg1))
      ∧ θ_run (Cert.ValueWeightRefIdeal.defs (F := Ideal)) (onTc (τ := Cert.ValueWeightRefIdeal.τ) (Cert.ValueWeightRefIdeal.main (F := Ideal))) ⟨m', fun _ => 0, g'⟩ (fun r => ∀ c : Dev Cert.ValueWeightRefIdeal.nD,
          r.2.mem ((c.tc : Thread Cert.ValueWeightRefIdeal.nD Cert.ValueWeightRefIdeal.τ).loc Cert.ValueWeightRefIdeal.main_v5) = v0 c
          ∧ r.2.mem ((c.tc : Thread Cert.ValueWeightRefIdeal.nD Cert.ValueWeightRefIdeal.τ).loc Cert.ValueWeightRefIdeal.main_arg0) = m' ((c.tc : Thread Cert.ValueWeightRefIdeal.nD Cert.ValueWeightRefIdeal.τ).loc Cert.ValueWeightRefIdeal.main_arg0)
          ∧ r.2.mem ((c.tc : Thread Cert.ValueWeightRefIdeal.nD Cert.ValueWeightRefIdeal.τ).loc Cert.ValueWeightRefIdeal.main_arg1) = m' ((c.tc : Thread Cert.ValueWeightRefIdeal.nD Cert.ValueWeightRefIdeal.τ).loc Cert.ValueWeightRefIdeal.main_arg1))

def preserves_QueryProject_QueryProjectIdeal : Prop :=
  True

def algebraic_QueryProjectIdeal_QueryProjectRefIdeal [hQueryProjectIdeal : Cert.QueryProjectIdeal.Facts] [hQueryProjectRefIdeal : Cert.QueryProjectRefIdeal.Facts] : Prop :=
  ∀ (m : (ℓ : Loc Cert.QueryProjectIdeal.nD Cert.QueryProjectIdeal.τ Cert.QueryProjectIdeal.sig) → Buf (Elt Ideal) ℓ) (g : Dev Cert.QueryProjectIdeal.nD → PrngReg)
    (m' : (ℓ : Loc Cert.QueryProjectRefIdeal.nD Cert.QueryProjectRefIdeal.τ Cert.QueryProjectRefIdeal.sig) → Buf (Elt Ideal) ℓ) (g' : Dev Cert.QueryProjectRefIdeal.nD → PrngReg), Pre_QueryProjectIdeal m →
    (∀ c : Dev Cert.QueryProjectIdeal.nD,
      m' ((c.tc : Thread Cert.QueryProjectRefIdeal.nD Cert.QueryProjectRefIdeal.τ).loc Cert.QueryProjectRefIdeal.main_arg0) = m ((c.tc : Thread Cert.QueryProjectIdeal.nD Cert.QueryProjectIdeal.τ).loc Cert.QueryProjectIdeal.main_arg0)
      ∧ m' ((c.tc : Thread Cert.QueryProjectRefIdeal.nD Cert.QueryProjectRefIdeal.τ).loc Cert.QueryProjectRefIdeal.main_arg1) = m ((c.tc : Thread Cert.QueryProjectIdeal.nD Cert.QueryProjectIdeal.τ).loc Cert.QueryProjectIdeal.main_arg1)) →
    ∃ (v0 : (c : Dev Cert.QueryProjectIdeal.nD) → Buf (Elt Ideal) ((c.tc : Thread Cert.QueryProjectIdeal.nD Cert.QueryProjectIdeal.τ).loc Cert.QueryProjectIdeal.main_v0)),
      θ_run (Cert.QueryProjectIdeal.defs (F := Ideal)) (onTc (τ := Cert.QueryProjectIdeal.τ) (Cert.QueryProjectIdeal.main (F := Ideal))) ⟨m, fun _ => 0, g⟩ (fun r => ∀ c : Dev Cert.QueryProjectIdeal.nD,
          r.2.mem ((c.tc : Thread Cert.QueryProjectIdeal.nD Cert.QueryProjectIdeal.τ).loc Cert.QueryProjectIdeal.main_v0) = v0 c
          ∧ r.2.mem ((c.tc : Thread Cert.QueryProjectIdeal.nD Cert.QueryProjectIdeal.τ).loc Cert.QueryProjectIdeal.main_arg0) = m ((c.tc : Thread Cert.QueryProjectIdeal.nD Cert.QueryProjectIdeal.τ).loc Cert.QueryProjectIdeal.main_arg0)
          ∧ r.2.mem ((c.tc : Thread Cert.QueryProjectIdeal.nD Cert.QueryProjectIdeal.τ).loc Cert.QueryProjectIdeal.main_arg1) = m ((c.tc : Thread Cert.QueryProjectIdeal.nD Cert.QueryProjectIdeal.τ).loc Cert.QueryProjectIdeal.main_arg1))
      ∧ θ_run (Cert.QueryProjectRefIdeal.defs (F := Ideal)) (onTc (τ := Cert.QueryProjectRefIdeal.τ) (Cert.QueryProjectRefIdeal.main (F := Ideal))) ⟨m', fun _ => 0, g'⟩ (fun r => ∀ c : Dev Cert.QueryProjectRefIdeal.nD,
          r.2.mem ((c.tc : Thread Cert.QueryProjectRefIdeal.nD Cert.QueryProjectRefIdeal.τ).loc Cert.QueryProjectRefIdeal.main_v3) = v0 c
          ∧ r.2.mem ((c.tc : Thread Cert.QueryProjectRefIdeal.nD Cert.QueryProjectRefIdeal.τ).loc Cert.QueryProjectRefIdeal.main_arg0) = m' ((c.tc : Thread Cert.QueryProjectRefIdeal.nD Cert.QueryProjectRefIdeal.τ).loc Cert.QueryProjectRefIdeal.main_arg0)
          ∧ r.2.mem ((c.tc : Thread Cert.QueryProjectRefIdeal.nD Cert.QueryProjectRefIdeal.τ).loc Cert.QueryProjectRefIdeal.main_arg1) = m' ((c.tc : Thread Cert.QueryProjectRefIdeal.nD Cert.QueryProjectRefIdeal.τ).loc Cert.QueryProjectRefIdeal.main_arg1))

def preserves_KeyProject_KeyProjectIdeal : Prop :=
  True

def algebraic_KeyProjectIdeal_KeyProjectRefIdeal [hKeyProjectIdeal : Cert.KeyProjectIdeal.Facts] [hKeyProjectRefIdeal : Cert.KeyProjectRefIdeal.Facts] : Prop :=
  ∀ (m : (ℓ : Loc Cert.KeyProjectIdeal.nD Cert.KeyProjectIdeal.τ Cert.KeyProjectIdeal.sig) → Buf (Elt Ideal) ℓ) (g : Dev Cert.KeyProjectIdeal.nD → PrngReg)
    (m' : (ℓ : Loc Cert.KeyProjectRefIdeal.nD Cert.KeyProjectRefIdeal.τ Cert.KeyProjectRefIdeal.sig) → Buf (Elt Ideal) ℓ) (g' : Dev Cert.KeyProjectRefIdeal.nD → PrngReg), Pre_KeyProjectIdeal m →
    (∀ c : Dev Cert.KeyProjectIdeal.nD,
      m' ((c.tc : Thread Cert.KeyProjectRefIdeal.nD Cert.KeyProjectRefIdeal.τ).loc Cert.KeyProjectRefIdeal.main_arg0) = m ((c.tc : Thread Cert.KeyProjectIdeal.nD Cert.KeyProjectIdeal.τ).loc Cert.KeyProjectIdeal.main_arg0)
      ∧ m' ((c.tc : Thread Cert.KeyProjectRefIdeal.nD Cert.KeyProjectRefIdeal.τ).loc Cert.KeyProjectRefIdeal.main_arg1) = m ((c.tc : Thread Cert.KeyProjectIdeal.nD Cert.KeyProjectIdeal.τ).loc Cert.KeyProjectIdeal.main_arg1)) →
    ∃ (v0 : (c : Dev Cert.KeyProjectIdeal.nD) → Buf (Elt Ideal) ((c.tc : Thread Cert.KeyProjectIdeal.nD Cert.KeyProjectIdeal.τ).loc Cert.KeyProjectIdeal.main_v0)),
      θ_run (Cert.KeyProjectIdeal.defs (F := Ideal)) (onTc (τ := Cert.KeyProjectIdeal.τ) (Cert.KeyProjectIdeal.main (F := Ideal))) ⟨m, fun _ => 0, g⟩ (fun r => ∀ c : Dev Cert.KeyProjectIdeal.nD,
          r.2.mem ((c.tc : Thread Cert.KeyProjectIdeal.nD Cert.KeyProjectIdeal.τ).loc Cert.KeyProjectIdeal.main_v0) = v0 c
          ∧ r.2.mem ((c.tc : Thread Cert.KeyProjectIdeal.nD Cert.KeyProjectIdeal.τ).loc Cert.KeyProjectIdeal.main_arg0) = m ((c.tc : Thread Cert.KeyProjectIdeal.nD Cert.KeyProjectIdeal.τ).loc Cert.KeyProjectIdeal.main_arg0)
          ∧ r.2.mem ((c.tc : Thread Cert.KeyProjectIdeal.nD Cert.KeyProjectIdeal.τ).loc Cert.KeyProjectIdeal.main_arg1) = m ((c.tc : Thread Cert.KeyProjectIdeal.nD Cert.KeyProjectIdeal.τ).loc Cert.KeyProjectIdeal.main_arg1))
      ∧ θ_run (Cert.KeyProjectRefIdeal.defs (F := Ideal)) (onTc (τ := Cert.KeyProjectRefIdeal.τ) (Cert.KeyProjectRefIdeal.main (F := Ideal))) ⟨m', fun _ => 0, g'⟩ (fun r => ∀ c : Dev Cert.KeyProjectRefIdeal.nD,
          r.2.mem ((c.tc : Thread Cert.KeyProjectRefIdeal.nD Cert.KeyProjectRefIdeal.τ).loc Cert.KeyProjectRefIdeal.main_v3) = v0 c
          ∧ r.2.mem ((c.tc : Thread Cert.KeyProjectRefIdeal.nD Cert.KeyProjectRefIdeal.τ).loc Cert.KeyProjectRefIdeal.main_arg0) = m' ((c.tc : Thread Cert.KeyProjectRefIdeal.nD Cert.KeyProjectRefIdeal.τ).loc Cert.KeyProjectRefIdeal.main_arg0)
          ∧ r.2.mem ((c.tc : Thread Cert.KeyProjectRefIdeal.nD Cert.KeyProjectRefIdeal.τ).loc Cert.KeyProjectRefIdeal.main_arg1) = m' ((c.tc : Thread Cert.KeyProjectRefIdeal.nD Cert.KeyProjectRefIdeal.τ).loc Cert.KeyProjectRefIdeal.main_arg1))

def preserves_ValueProject_ValueProjectIdeal : Prop :=
  True

def algebraic_ValueProjectIdeal_ValueProjectRefIdeal [hValueProjectIdeal : Cert.ValueProjectIdeal.Facts] [hValueProjectRefIdeal : Cert.ValueProjectRefIdeal.Facts] : Prop :=
  ∀ (m : (ℓ : Loc Cert.ValueProjectIdeal.nD Cert.ValueProjectIdeal.τ Cert.ValueProjectIdeal.sig) → Buf (Elt Ideal) ℓ) (g : Dev Cert.ValueProjectIdeal.nD → PrngReg)
    (m' : (ℓ : Loc Cert.ValueProjectRefIdeal.nD Cert.ValueProjectRefIdeal.τ Cert.ValueProjectRefIdeal.sig) → Buf (Elt Ideal) ℓ) (g' : Dev Cert.ValueProjectRefIdeal.nD → PrngReg), Pre_ValueProjectIdeal m →
    (∀ c : Dev Cert.ValueProjectIdeal.nD,
      m' ((c.tc : Thread Cert.ValueProjectRefIdeal.nD Cert.ValueProjectRefIdeal.τ).loc Cert.ValueProjectRefIdeal.main_arg0) = m ((c.tc : Thread Cert.ValueProjectIdeal.nD Cert.ValueProjectIdeal.τ).loc Cert.ValueProjectIdeal.main_arg0)
      ∧ m' ((c.tc : Thread Cert.ValueProjectRefIdeal.nD Cert.ValueProjectRefIdeal.τ).loc Cert.ValueProjectRefIdeal.main_arg1) = m ((c.tc : Thread Cert.ValueProjectIdeal.nD Cert.ValueProjectIdeal.τ).loc Cert.ValueProjectIdeal.main_arg1)) →
    ∃ (v0 : (c : Dev Cert.ValueProjectIdeal.nD) → Buf (Elt Ideal) ((c.tc : Thread Cert.ValueProjectIdeal.nD Cert.ValueProjectIdeal.τ).loc Cert.ValueProjectIdeal.main_v0)),
      θ_run (Cert.ValueProjectIdeal.defs (F := Ideal)) (onTc (τ := Cert.ValueProjectIdeal.τ) (Cert.ValueProjectIdeal.main (F := Ideal))) ⟨m, fun _ => 0, g⟩ (fun r => ∀ c : Dev Cert.ValueProjectIdeal.nD,
          r.2.mem ((c.tc : Thread Cert.ValueProjectIdeal.nD Cert.ValueProjectIdeal.τ).loc Cert.ValueProjectIdeal.main_v0) = v0 c
          ∧ r.2.mem ((c.tc : Thread Cert.ValueProjectIdeal.nD Cert.ValueProjectIdeal.τ).loc Cert.ValueProjectIdeal.main_arg0) = m ((c.tc : Thread Cert.ValueProjectIdeal.nD Cert.ValueProjectIdeal.τ).loc Cert.ValueProjectIdeal.main_arg0)
          ∧ r.2.mem ((c.tc : Thread Cert.ValueProjectIdeal.nD Cert.ValueProjectIdeal.τ).loc Cert.ValueProjectIdeal.main_arg1) = m ((c.tc : Thread Cert.ValueProjectIdeal.nD Cert.ValueProjectIdeal.τ).loc Cert.ValueProjectIdeal.main_arg1))
      ∧ θ_run (Cert.ValueProjectRefIdeal.defs (F := Ideal)) (onTc (τ := Cert.ValueProjectRefIdeal.τ) (Cert.ValueProjectRefIdeal.main (F := Ideal))) ⟨m', fun _ => 0, g'⟩ (fun r => ∀ c : Dev Cert.ValueProjectRefIdeal.nD,
          r.2.mem ((c.tc : Thread Cert.ValueProjectRefIdeal.nD Cert.ValueProjectRefIdeal.τ).loc Cert.ValueProjectRefIdeal.main_v3) = v0 c
          ∧ r.2.mem ((c.tc : Thread Cert.ValueProjectRefIdeal.nD Cert.ValueProjectRefIdeal.τ).loc Cert.ValueProjectRefIdeal.main_arg0) = m' ((c.tc : Thread Cert.ValueProjectRefIdeal.nD Cert.ValueProjectRefIdeal.τ).loc Cert.ValueProjectRefIdeal.main_arg0)
          ∧ r.2.mem ((c.tc : Thread Cert.ValueProjectRefIdeal.nD Cert.ValueProjectRefIdeal.τ).loc Cert.ValueProjectRefIdeal.main_arg1) = m' ((c.tc : Thread Cert.ValueProjectRefIdeal.nD Cert.ValueProjectRefIdeal.τ).loc Cert.ValueProjectRefIdeal.main_arg1))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardRefIdeal : Cert.ForwardRefIdeal.Facts) (hScInput : Cert.ScInput.Facts) (hScInputIdeal : Cert.ScInputIdeal.Facts) (hScInputRefIdeal : Cert.ScInputRefIdeal.Facts) (hScWeight : Cert.ScWeight.Facts) (hScWeightIdeal : Cert.ScWeightIdeal.Facts) (hScWeightRefIdeal : Cert.ScWeightRefIdeal.Facts) (hWideInput : Cert.WideInput.Facts) (hWideInputIdeal : Cert.WideInputIdeal.Facts) (hWideInputRefIdeal : Cert.WideInputRefIdeal.Facts) (hWideWeight : Cert.WideWeight.Facts) (hWideWeightIdeal : Cert.WideWeightIdeal.Facts) (hWideWeightRefIdeal : Cert.WideWeightRefIdeal.Facts) (hOutInput : Cert.OutInput.Facts) (hOutInputIdeal : Cert.OutInputIdeal.Facts) (hOutInputRefIdeal : Cert.OutInputRefIdeal.Facts) (hOutWeight : Cert.OutWeight.Facts) (hOutWeightIdeal : Cert.OutWeightIdeal.Facts) (hOutWeightRefIdeal : Cert.OutWeightRefIdeal.Facts) (hLatentInput : Cert.LatentInput.Facts) (hLatentInputIdeal : Cert.LatentInputIdeal.Facts) (hLatentInputRefIdeal : Cert.LatentInputRefIdeal.Facts) (hLatentWeight : Cert.LatentWeight.Facts) (hLatentWeightIdeal : Cert.LatentWeightIdeal.Facts) (hLatentWeightRefIdeal : Cert.LatentWeightRefIdeal.Facts) (hLatentProject : Cert.LatentProject.Facts) (hLatentProjectIdeal : Cert.LatentProjectIdeal.Facts) (hLatentProjectRefIdeal : Cert.LatentProjectRefIdeal.Facts) (hScProject : Cert.ScProject.Facts) (hScProjectIdeal : Cert.ScProjectIdeal.Facts) (hScProjectRefIdeal : Cert.ScProjectRefIdeal.Facts) (hWideProject : Cert.WideProject.Facts) (hWideProjectIdeal : Cert.WideProjectIdeal.Facts) (hWideProjectRefIdeal : Cert.WideProjectRefIdeal.Facts) (hOutProject : Cert.OutProject.Facts) (hOutProjectIdeal : Cert.OutProjectIdeal.Facts) (hOutProjectRefIdeal : Cert.OutProjectRefIdeal.Facts) (hQueryInput : Cert.QueryInput.Facts) (hQueryInputIdeal : Cert.QueryInputIdeal.Facts) (hQueryInputRefIdeal : Cert.QueryInputRefIdeal.Facts) (hKeyInput : Cert.KeyInput.Facts) (hKeyInputIdeal : Cert.KeyInputIdeal.Facts) (hKeyInputRefIdeal : Cert.KeyInputRefIdeal.Facts) (hValueInput : Cert.ValueInput.Facts) (hValueInputIdeal : Cert.ValueInputIdeal.Facts) (hValueInputRefIdeal : Cert.ValueInputRefIdeal.Facts) (hQueryWeight : Cert.QueryWeight.Facts) (hQueryWeightIdeal : Cert.QueryWeightIdeal.Facts) (hQueryWeightRefIdeal : Cert.QueryWeightRefIdeal.Facts) (hKeyWeight : Cert.KeyWeight.Facts) (hKeyWeightIdeal : Cert.KeyWeightIdeal.Facts) (hKeyWeightRefIdeal : Cert.KeyWeightRefIdeal.Facts) (hValueWeight : Cert.ValueWeight.Facts) (hValueWeightIdeal : Cert.ValueWeightIdeal.Facts) (hValueWeightRefIdeal : Cert.ValueWeightRefIdeal.Facts) (hQueryProject : Cert.QueryProject.Facts) (hQueryProjectIdeal : Cert.QueryProjectIdeal.Facts) (hQueryProjectRefIdeal : Cert.QueryProjectRefIdeal.Facts) (hKeyProject : Cert.KeyProject.Facts) (hKeyProjectIdeal : Cert.KeyProjectIdeal.Facts) (hKeyProjectRefIdeal : Cert.KeyProjectRefIdeal.Facts) (hValueProject : Cert.ValueProject.Facts) (hValueProjectIdeal : Cert.ValueProjectIdeal.Facts) (hValueProjectRefIdeal : Cert.ValueProjectRefIdeal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_forward (hForwardIdeal := hForwardIdeal) (hPre_finite_forward := hPre_finite_forward)
    ∧ quiescent_ForwardRefIdeal (hForwardRefIdeal := hForwardRefIdeal)
    ∧ quiescent_ForwardRefIdeal_pre_finite_forward (hForwardRefIdeal := hForwardRefIdeal) (hPre_finite_forward := hPre_finite_forward)
    ∧ quiescent_ScInput (hScInput := hScInput)
    ∧ quiescent_ScInputIdeal (hScInputIdeal := hScInputIdeal)
    ∧ quiescent_ScInputRefIdeal (hScInputRefIdeal := hScInputRefIdeal)
    ∧ quiescent_ScWeight (hScWeight := hScWeight)
    ∧ quiescent_ScWeightIdeal (hScWeightIdeal := hScWeightIdeal)
    ∧ quiescent_ScWeightRefIdeal (hScWeightRefIdeal := hScWeightRefIdeal)
    ∧ quiescent_WideInput (hWideInput := hWideInput)
    ∧ quiescent_WideInputIdeal (hWideInputIdeal := hWideInputIdeal)
    ∧ quiescent_WideInputRefIdeal (hWideInputRefIdeal := hWideInputRefIdeal)
    ∧ quiescent_WideWeight (hWideWeight := hWideWeight)
    ∧ quiescent_WideWeightIdeal (hWideWeightIdeal := hWideWeightIdeal)
    ∧ quiescent_WideWeightRefIdeal (hWideWeightRefIdeal := hWideWeightRefIdeal)
    ∧ quiescent_OutInput (hOutInput := hOutInput)
    ∧ quiescent_OutInputIdeal (hOutInputIdeal := hOutInputIdeal)
    ∧ quiescent_OutInputRefIdeal (hOutInputRefIdeal := hOutInputRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_LatentInput (hLatentInput := hLatentInput)
    ∧ quiescent_LatentInputIdeal (hLatentInputIdeal := hLatentInputIdeal)
    ∧ quiescent_LatentInputRefIdeal (hLatentInputRefIdeal := hLatentInputRefIdeal)
    ∧ quiescent_LatentWeight (hLatentWeight := hLatentWeight)
    ∧ quiescent_LatentWeightIdeal (hLatentWeightIdeal := hLatentWeightIdeal)
    ∧ quiescent_LatentWeightRefIdeal (hLatentWeightRefIdeal := hLatentWeightRefIdeal)
    ∧ quiescent_LatentProject (hLatentProject := hLatentProject)
    ∧ quiescent_LatentProjectIdeal (hLatentProjectIdeal := hLatentProjectIdeal)
    ∧ quiescent_LatentProjectRefIdeal (hLatentProjectRefIdeal := hLatentProjectRefIdeal)
    ∧ quiescent_ScProject (hScProject := hScProject)
    ∧ quiescent_ScProjectIdeal (hScProjectIdeal := hScProjectIdeal)
    ∧ quiescent_ScProjectRefIdeal (hScProjectRefIdeal := hScProjectRefIdeal)
    ∧ quiescent_WideProject (hWideProject := hWideProject)
    ∧ quiescent_WideProjectIdeal (hWideProjectIdeal := hWideProjectIdeal)
    ∧ quiescent_WideProjectRefIdeal (hWideProjectRefIdeal := hWideProjectRefIdeal)
    ∧ quiescent_OutProject (hOutProject := hOutProject)
    ∧ quiescent_OutProjectIdeal (hOutProjectIdeal := hOutProjectIdeal)
    ∧ quiescent_OutProjectRefIdeal (hOutProjectRefIdeal := hOutProjectRefIdeal)
    ∧ quiescent_QueryInput (hQueryInput := hQueryInput)
    ∧ quiescent_QueryInputIdeal (hQueryInputIdeal := hQueryInputIdeal)
    ∧ quiescent_QueryInputRefIdeal (hQueryInputRefIdeal := hQueryInputRefIdeal)
    ∧ quiescent_KeyInput (hKeyInput := hKeyInput)
    ∧ quiescent_KeyInputIdeal (hKeyInputIdeal := hKeyInputIdeal)
    ∧ quiescent_KeyInputRefIdeal (hKeyInputRefIdeal := hKeyInputRefIdeal)
    ∧ quiescent_ValueInput (hValueInput := hValueInput)
    ∧ quiescent_ValueInputIdeal (hValueInputIdeal := hValueInputIdeal)
    ∧ quiescent_ValueInputRefIdeal (hValueInputRefIdeal := hValueInputRefIdeal)
    ∧ quiescent_QueryWeight (hQueryWeight := hQueryWeight)
    ∧ quiescent_QueryWeightIdeal (hQueryWeightIdeal := hQueryWeightIdeal)
    ∧ quiescent_QueryWeightRefIdeal (hQueryWeightRefIdeal := hQueryWeightRefIdeal)
    ∧ quiescent_KeyWeight (hKeyWeight := hKeyWeight)
    ∧ quiescent_KeyWeightIdeal (hKeyWeightIdeal := hKeyWeightIdeal)
    ∧ quiescent_KeyWeightRefIdeal (hKeyWeightRefIdeal := hKeyWeightRefIdeal)
    ∧ quiescent_ValueWeight (hValueWeight := hValueWeight)
    ∧ quiescent_ValueWeightIdeal (hValueWeightIdeal := hValueWeightIdeal)
    ∧ quiescent_ValueWeightRefIdeal (hValueWeightRefIdeal := hValueWeightRefIdeal)
    ∧ quiescent_QueryProject (hQueryProject := hQueryProject)
    ∧ quiescent_QueryProjectIdeal (hQueryProjectIdeal := hQueryProjectIdeal)
    ∧ quiescent_QueryProjectRefIdeal (hQueryProjectRefIdeal := hQueryProjectRefIdeal)
    ∧ quiescent_KeyProject (hKeyProject := hKeyProject)
    ∧ quiescent_KeyProjectIdeal (hKeyProjectIdeal := hKeyProjectIdeal)
    ∧ quiescent_KeyProjectRefIdeal (hKeyProjectRefIdeal := hKeyProjectRefIdeal)
    ∧ quiescent_ValueProject (hValueProject := hValueProject)
    ∧ quiescent_ValueProjectIdeal (hValueProjectIdeal := hValueProjectIdeal)
    ∧ quiescent_ValueProjectRefIdeal (hValueProjectRefIdeal := hValueProjectRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardRefIdeal_pre_finite_forward (hForwardIdeal := hForwardIdeal) (hForwardRefIdeal := hForwardRefIdeal) (hPre_finite_forward := hPre_finite_forward)
    ∧ preserves_ScInput_ScInputIdeal
    ∧ algebraic_ScInputIdeal_ScInputRefIdeal (hScInputIdeal := hScInputIdeal) (hScInputRefIdeal := hScInputRefIdeal)
    ∧ preserves_ScWeight_ScWeightIdeal
    ∧ algebraic_ScWeightIdeal_ScWeightRefIdeal (hScWeightIdeal := hScWeightIdeal) (hScWeightRefIdeal := hScWeightRefIdeal)
    ∧ preserves_WideInput_WideInputIdeal
    ∧ algebraic_WideInputIdeal_WideInputRefIdeal (hWideInputIdeal := hWideInputIdeal) (hWideInputRefIdeal := hWideInputRefIdeal)
    ∧ preserves_WideWeight_WideWeightIdeal
    ∧ algebraic_WideWeightIdeal_WideWeightRefIdeal (hWideWeightIdeal := hWideWeightIdeal) (hWideWeightRefIdeal := hWideWeightRefIdeal)
    ∧ preserves_OutInput_OutInputIdeal
    ∧ algebraic_OutInputIdeal_OutInputRefIdeal (hOutInputIdeal := hOutInputIdeal) (hOutInputRefIdeal := hOutInputRefIdeal)
    ∧ preserves_OutWeight_OutWeightIdeal
    ∧ algebraic_OutWeightIdeal_OutWeightRefIdeal (hOutWeightIdeal := hOutWeightIdeal) (hOutWeightRefIdeal := hOutWeightRefIdeal)
    ∧ preserves_LatentInput_LatentInputIdeal
    ∧ algebraic_LatentInputIdeal_LatentInputRefIdeal (hLatentInputIdeal := hLatentInputIdeal) (hLatentInputRefIdeal := hLatentInputRefIdeal)
    ∧ preserves_LatentWeight_LatentWeightIdeal
    ∧ algebraic_LatentWeightIdeal_LatentWeightRefIdeal (hLatentWeightIdeal := hLatentWeightIdeal) (hLatentWeightRefIdeal := hLatentWeightRefIdeal)
    ∧ preserves_LatentProject_LatentProjectIdeal
    ∧ algebraic_LatentProjectIdeal_LatentProjectRefIdeal (hLatentProjectIdeal := hLatentProjectIdeal) (hLatentProjectRefIdeal := hLatentProjectRefIdeal)
    ∧ preserves_ScProject_ScProjectIdeal
    ∧ algebraic_ScProjectIdeal_ScProjectRefIdeal (hScProjectIdeal := hScProjectIdeal) (hScProjectRefIdeal := hScProjectRefIdeal)
    ∧ preserves_WideProject_WideProjectIdeal
    ∧ algebraic_WideProjectIdeal_WideProjectRefIdeal (hWideProjectIdeal := hWideProjectIdeal) (hWideProjectRefIdeal := hWideProjectRefIdeal)
    ∧ preserves_OutProject_OutProjectIdeal
    ∧ algebraic_OutProjectIdeal_OutProjectRefIdeal (hOutProjectIdeal := hOutProjectIdeal) (hOutProjectRefIdeal := hOutProjectRefIdeal)
    ∧ preserves_QueryInput_QueryInputIdeal
    ∧ algebraic_QueryInputIdeal_QueryInputRefIdeal (hQueryInputIdeal := hQueryInputIdeal) (hQueryInputRefIdeal := hQueryInputRefIdeal)
    ∧ preserves_KeyInput_KeyInputIdeal
    ∧ algebraic_KeyInputIdeal_KeyInputRefIdeal (hKeyInputIdeal := hKeyInputIdeal) (hKeyInputRefIdeal := hKeyInputRefIdeal)
    ∧ preserves_ValueInput_ValueInputIdeal
    ∧ algebraic_ValueInputIdeal_ValueInputRefIdeal (hValueInputIdeal := hValueInputIdeal) (hValueInputRefIdeal := hValueInputRefIdeal)
    ∧ preserves_QueryWeight_QueryWeightIdeal
    ∧ algebraic_QueryWeightIdeal_QueryWeightRefIdeal (hQueryWeightIdeal := hQueryWeightIdeal) (hQueryWeightRefIdeal := hQueryWeightRefIdeal)
    ∧ preserves_KeyWeight_KeyWeightIdeal
    ∧ algebraic_KeyWeightIdeal_KeyWeightRefIdeal (hKeyWeightIdeal := hKeyWeightIdeal) (hKeyWeightRefIdeal := hKeyWeightRefIdeal)
    ∧ preserves_ValueWeight_ValueWeightIdeal
    ∧ algebraic_ValueWeightIdeal_ValueWeightRefIdeal (hValueWeightIdeal := hValueWeightIdeal) (hValueWeightRefIdeal := hValueWeightRefIdeal)
    ∧ preserves_QueryProject_QueryProjectIdeal
    ∧ algebraic_QueryProjectIdeal_QueryProjectRefIdeal (hQueryProjectIdeal := hQueryProjectIdeal) (hQueryProjectRefIdeal := hQueryProjectRefIdeal)
    ∧ preserves_KeyProject_KeyProjectIdeal
    ∧ algebraic_KeyProjectIdeal_KeyProjectRefIdeal (hKeyProjectIdeal := hKeyProjectIdeal) (hKeyProjectRefIdeal := hKeyProjectRefIdeal)
    ∧ preserves_ValueProject_ValueProjectIdeal
    ∧ algebraic_ValueProjectIdeal_ValueProjectRefIdeal (hValueProjectIdeal := hValueProjectIdeal) (hValueProjectRefIdeal := hValueProjectRefIdeal)
-- ==== Pre_finite.lean ====
abbrev S1x4096x32x192 : Shape := ⟨4, ![1, 4096, 32, 192]⟩
abbrev S1x4096x32x128 : Shape := ⟨4, ![1, 4096, 32, 128]⟩
abbrev S1x4096x4096 : Shape := ⟨3, ![1, 4096, 4096]⟩
abbrev S_ : Shape := ⟨0, ![]⟩

class Facts : Prop where
  bcast_S_S1x4096x32x192 : S_.BroadcastsInDim S1x4096x32x192 (![] : Fin 0 → Fin S1x4096x32x192.rank)
  bcast_S_S1x4096x32x128 : S_.BroadcastsInDim S1x4096x32x128 (![] : Fin 0 → Fin S1x4096x32x128.rank)
  bcast_S_S1x4096x4096 : S_.BroadcastsInDim S1x4096x4096 (![] : Fin 0 → Fin S1x4096x4096.rank)

variable [Facts]

def fn {F : FTy → Type} [FloatOps F] (main_arg0 : FVec F S1x4096x32x192 .f32) (main_arg1 : FVec F S1x4096x32x192 .f32) (main_arg2 : FVec F S1x4096x32x128 .f32) (main_arg3 : FVec F S1x4096x4096 .f32) : IVec S1x4096x32x192 1 × IVec S1x4096x32x192 1 × IVec S1x4096x32x128 1 × IVec S1x4096x4096 1 :=
  let main_v0 : FVec F S1x4096x32x192 .f32 := Host.absf main_arg0
  let main_cst : FVec F S_ .f32 := constant S_ .f32 0x7F800000#32
  let main_v1 : FVec F S1x4096x32x192 .f32 := broadcastInDim S1x4096x32x192 ![] bcast_S_S1x4096x32x192 main_cst
  let main_v2 : IVec S1x4096x32x192 1 := cmpf .olt main_v0 main_v1
  let main_v3 : FVec F S1x4096x32x192 .f32 := Host.absf main_arg1
  let main_cst_0 : FVec F S_ .f32 := constant S_ .f32 0x7F800000#32
  let main_v4 : FVec F S1x4096x32x192 .f32 := broadcastInDim S1x4096x32x192 ![] bcast_S_S1x4096x32x192 main_cst_0
  let main_v5 : IVec S1x4096x32x192 1 := cmpf .olt main_v3 main_v4
  let main_v6 : FVec F S1x4096x32x128 .f32 := Host.absf main_arg2
  let main_cst_1 : FVec F S_ .f32 := constant S_ .f32 0x7F800000#32
  let main_v7 : FVec F S1x4096x32x128 .f32 := broadcastInDim S1x4096x32x128 ![] bcast_S_S1x4096x32x128 main_cst_1
  let main_v8 : IVec S1x4096x32x128 1 := cmpf .olt main_v6 main_v7
  let main_v9 : FVec F S1x4096x4096 .f32 := Host.absf main_arg3
  let main_cst_2 : FVec F S_ .f32 := constant S_ .f32 0x7F800000#32
  let main_v10 : FVec F S1x4096x4096 .f32 := broadcastInDim S1x4096x4096 ![] bcast_S_S1x4096x4096 main_cst_2
  let main_v11 : IVec S1x4096x4096 1 := cmpf .olt main_v9 main_v10
  (main_v2, main_v5, main_v8, main_v11)
-- ==== Pre_finite_forward.lean ====
abbrev S1x4096x32x192 : Shape := ⟨4, ![1, 4096, 32, 192]⟩
abbrev S1x4096x32x128 : Shape := ⟨4, ![1, 4096, 32, 128]⟩
abbrev S4096x6144 : Shape := ⟨2, ![4096, 6144]⟩
abbrev S_ : Shape := ⟨0, ![]⟩

class Facts : Prop where
  bcast_S_S1x4096x32x192 : S_.BroadcastsInDim S1x4096x32x192 (![] : Fin 0 → Fin S1x4096x32x192.rank)

variable [Facts]

def fn {F : FTy → Type} [FloatOps F] (main_arg0 : FVec F S1x4096x32x192 .f32) (main_arg1 : FVec F S1x4096x32x192 .f32) (main_arg2 : FVec F S1x4096x32x128 .f32) (main_arg3 : FVec F S4096x6144 .bf16) : IVec S1x4096x32x192 1 × IVec S1x4096x32x192 1 :=
  let main_v0 : FVec F S1x4096x32x192 .f32 := Host.absf main_arg0
  let main_cst : FVec F S_ .f32 := constant S_ .f32 0x7F800000#32
  let main_v1 : FVec F S1x4096x32x192 .f32 := broadcastInDim S1x4096x32x192 ![] bcast_S_S1x4096x32x192 main_cst
  let main_v2 : IVec S1x4096x32x192 1 := cmpf .olt main_v0 main_v1
  let main_v3 : FVec F S1x4096x32x192 .f32 := Host.absf main_arg1
  let main_cst_0 : FVec F S_ .f32 := constant S_ .f32 0x7F800000#32
  let main_v4 : FVec F S1x4096x32x192 .f32 := broadcastInDim S1x4096x32x192 ![] bcast_S_S1x4096x32x192 main_cst_0
  let main_v5 : IVec S1x4096x32x192 1 := cmpf .olt main_v3 main_v4
  (main_v2, main_v5)
-- ==== Kernel.lean ====
abbrev S1x4096x32x192 : Shape := ⟨4, ![1, 4096, 32, 192]⟩
abbrev S1x4096x32x128 : Shape := ⟨4, ![1, 4096, 32, 128]⟩
abbrev S1x4096x4096 : Shape := ⟨3, ![1, 4096, 4096]⟩
abbrev S4096 : Shape := ⟨1, ![4096]⟩
abbrev S1x32x4096x4096 : Shape := ⟨4, ![1, 32, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x32x4096 : Shape := ⟨3, ![1, 32, 4096]⟩
abbrev S1x32x4096x1 : Shape := ⟨4, ![1, 32, 4096, 1]⟩
abbrev S1x32x128x4096 : Shape := ⟨4, ![1, 32, 128, 4096]⟩
abbrev S32x4096x1 : Shape := ⟨3, ![32, 4096, 1]⟩
abbrev S4096x32x128 : Shape := ⟨3, ![4096, 32, 128]⟩
abbrev S4096x32 : Shape := ⟨2, ![4096, 32]⟩
abbrev S32x4096 : Shape := ⟨2, ![32, 4096]⟩
abbrev S4096x32x192 : Shape := ⟨3, ![4096, 32, 192]⟩
abbrev S4096x32x256 : Shape := ⟨3, ![4096, 32, 256]⟩
abbrev S4096x8192 : Shape := ⟨2, ![4096, 8192]⟩
abbrev S32x4096x128 : Shape := ⟨3, ![32, 4096, 128]⟩
abbrev S4096x256 : Shape := ⟨2, ![4096, 256]⟩
abbrev S4096x128 : Shape := ⟨2, ![4096, 128]⟩
abbrev S1x4096x128 : Shape := ⟨3, ![1, 4096, 128]⟩
abbrev S512x256 : Shape := ⟨2, ![512, 256]⟩
abbrev S512x128 : Shape := ⟨2, ![512, 128]⟩
abbrev S512x512 : Shape := ⟨2, ![512, 512]⟩
abbrev S1x512x1 : Shape := ⟨3, ![1, 512, 1]⟩
abbrev S512x1 : Shape := ⟨2, ![512, 1]⟩

abbrev nBuf : Space → Nat
  | .hbm => 64
  | .vmem => 21
  | .smem => 0
  | _ => 0

abbrev bufTy : (tb : Table) → Fin (tcTables nBuf tb) → BufTy
  | .hbm, ⟨0, _⟩ => ⟨S1x4096x32x192, .f32⟩
  | .hbm, ⟨1, _⟩ => ⟨S1x4096x32x192, .f32⟩
  | .hbm, ⟨2, _⟩ => ⟨S1x4096x32x128, .f32⟩
  | .hbm, ⟨3, _⟩ => ⟨S1x4096x4096, .f32⟩
  | .hbm, ⟨4, _⟩ => ⟨S4096, .i32⟩
  | .hbm, ⟨5, _⟩ => ⟨S1x32x4096x4096, .f32⟩
  | .hbm, ⟨6, _⟩ => ⟨S_, .f32⟩
  | .hbm, ⟨7, _⟩ => ⟨S_, .f32⟩
  | .hbm, ⟨8, _⟩ => ⟨S1x32x4096x4096, .f32⟩
  | .hbm, ⟨9, _⟩ => ⟨S1x32x4096x4096, .f32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S1x32x4096x4096, .i1⟩
  | .hbm, ⟨18, _⟩ => ⟨S1x32x4096x4096, .f32⟩
  | .hbm, ⟨19, _⟩ => ⟨S1x32x4096x4096, .f32⟩
  | .hbm, ⟨20, _⟩ => ⟨S_, .f32⟩
  | .hbm, ⟨21, _⟩ => ⟨S1x32x4096, .f32⟩
  | .hbm, ⟨22, _⟩ => ⟨S1x32x4096x1, .f32⟩
  | .hbm, ⟨23, _⟩ => ⟨S1x32x4096x4096, .f32⟩
  | .hbm, ⟨24, _⟩ => ⟨S1x32x4096x4096, .f32⟩
  | .hbm, ⟨25, _⟩ => ⟨S1x32x4096x4096, .f32⟩
  | .hbm, ⟨26, _⟩ => ⟨S_, .f32⟩
  | .hbm, ⟨27, _⟩ => ⟨S1x32x4096, .f32⟩
  | .hbm, ⟨28, _⟩ => ⟨S1x32x4096x1, .f32⟩
  | .hbm, ⟨29, _⟩ => ⟨S1x32x4096x4096, .f32⟩
  | .hbm, ⟨30, _⟩ => ⟨S1x32x4096x4096, .f32⟩
  | .hbm, ⟨31, _⟩ => ⟨S1x32x128x4096, .f32⟩
  | .hbm, ⟨32, _⟩ => ⟨S1x4096x32x128, .f32⟩
  | .hbm, ⟨33, _⟩ => ⟨S1x32x4096x1, .f32⟩
  | .hbm, ⟨34, _⟩ => ⟨S1x32x4096x1, .f32⟩
  | .hbm, ⟨35, _⟩ => ⟨S32x4096x1, .f32⟩
  | .hbm, ⟨36, _⟩ => ⟨S4096x32x128, .f32⟩
  | .hbm, ⟨37, _⟩ => ⟨S4096x32x128, .f32⟩
  | .hbm, ⟨38, _⟩ => ⟨S4096x32x128, .f32⟩
  | .hbm, ⟨39, _⟩ => ⟨S_, .f32⟩
  | .hbm, ⟨40, _⟩ => ⟨S4096x32, .f32⟩
  | .hbm, ⟨41, _⟩ => ⟨S32x4096, .f32⟩
  | .hbm, ⟨42, _⟩ => ⟨S32x4096x1, .f32⟩
  | .hbm, ⟨43, _⟩ => ⟨S4096x32x192, .f32⟩
  | .hbm, ⟨44, _⟩ => ⟨S4096x32x192, .bf16⟩
  | .hbm, ⟨45, _⟩ => ⟨S_, .i32⟩
  | .hbm, ⟨46, _⟩ => ⟨S_, .bf16⟩
  | .hbm, ⟨47, _⟩ => ⟨S4096x32x256, .bf16⟩
  | .hbm, ⟨48, _⟩ => ⟨S4096x8192, .bf16⟩
  | .hbm, ⟨49, _⟩ => ⟨S4096x32x192, .f32⟩
  | .hbm, ⟨50, _⟩ => ⟨S4096x32x192, .bf16⟩
  | .hbm, ⟨51, _⟩ => ⟨S_, .i32⟩
  | .hbm, ⟨52, _⟩ => ⟨S_, .bf16⟩
  | .hbm, ⟨53, _⟩ => ⟨S4096x32x256, .bf16⟩
  | .hbm, ⟨54, _⟩ => ⟨S4096x8192, .bf16⟩
  | .hbm, ⟨55, _⟩ => ⟨S4096x4096, .f32⟩
  | .hbm, ⟨56, _⟩ => ⟨S4096x4096, .bf16⟩
  | .hbm, ⟨57, _⟩ => ⟨S4096x4096, .f32⟩
  | .hbm, ⟨58, _⟩ => ⟨S4096x4096, .bf16⟩
  | .hbm, ⟨59, _⟩ => ⟨S32x4096x128, .f32⟩
  | .hbm, ⟨60, _⟩ => ⟨S32x4096x128, .f32⟩
  | .hbm, ⟨61, _⟩ => ⟨S4096x8192, .bf16⟩
  | .hbm, ⟨62, _⟩ => ⟨S4096x8192, .bf16⟩
  | .hbm, ⟨63, _⟩ => ⟨S4096x4096, .bf16⟩
  | .local _ .vmem, ⟨0, _⟩ => ⟨S4096x256, .bf16⟩
  | .local _ .vmem, ⟨1, _⟩ => ⟨S4096x256, .bf16⟩
  | .local _ .vmem, ⟨2, _⟩ => ⟨S4096x128, .bf16⟩
  | .local _ .vmem, ⟨3, _⟩ => ⟨S4096x128, .bf16⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S4096x256, .bf16⟩
  | .local _ .vmem, ⟨13, _⟩ => ⟨S4096x256, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S4096x256, .f32⟩
  | .local _ .vmem, ⟨19, _⟩ => ⟨S512x256, .f32⟩
  | .local _ .vmem, ⟨20, _⟩ => ⟨S512x128, .f32⟩
  | _, _ => ⟨S1x4096x32x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_call2_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_9 : Index := 0#32
  ![v17.toNat, 0]
def k0_off2 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c0_10 : Index := 0#32
  ![v20.toNat, 0]
def k0_off3 (i : grid0.Coords) : Fin 3 → Nat :=
  let c0_14 : Index := 0#32
  let arg1 : BitVec 32 := BitVec.ofNat 32 (i 1).val
  let c512_i32 : BitVec 32 := 512#32
  let v15 : BitVec 32 := Scalar.muli arg1 c512_i32
  let v16 : BitVec 32 := v15
  let v31 : Index := Scalar.indexCast v16
  let c0_15 : Index := 0#32
  ![0, v31.toNat, 0]
@[reducible] def k0_t1_loop (i : grid0.Coords) : Scf.Loop 32 :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_35 : BitVec 32 := 1#32
  let v73 : BitVec 32 := Scalar.divsi v71 c1_i32_35
  let v74 : BitVec 32 := Scalar.muli v73 c1_i32_35
  let v75 : BitVec 32 := Scalar.addi v70 v74
  let c1_i32_36 : BitVec 32 := 1#32
  ⟨v70, v75, c1_i32_36⟩
def k0_mult2 (i : grid0.Coords) (k0_t1 : Fin (k0_t1_loop i).trips) : BitVec 32 :=
  let arg1 : BitVec 32 := BitVec.ofNat 32 (i 1).val
  let c1_i32 : BitVec 32 := 1#32
  let v70 : BitVec 32 := Scalar.addi arg1 c1_i32
  let c1_i32_36 : BitVec 32 := 1#32
  let arg14 : BitVec 32 := Scf.iv v70 c1_i32_36 k0_t1
  let c512_i32_47 : BitVec 32 := 512#32
  let v85 : BitVec 32 := Scalar.muli arg14 c512_i32_47
  v85
def k0_off4 (i : grid0.Coords) (k0_t1 : Fin (k0_t1_loop i).trips) : Fin 2 → Nat :=
  let arg1 : BitVec 32 := BitVec.ofNat 32 (i 1).val
  let c1_i32 : BitVec 32 := 1#32
  let v70 : BitVec 32 := Scalar.addi arg1 c1_i32
  let c1_i32_36 : BitVec 32 := 1#32
  let arg14 : BitVec 32 := Scf.iv v70 c1_i32_36 k0_t1
  let c512_i32_47 : BitVec 32 := 512#32
  let v85 : BitVec 32 := Scalar.muli arg14 c512_i32_47
  let v86 : BitVec 32 := v85
  let v87 : Index := Scalar.indexCast v86
  let c0_48 : Index := 0#32
  ![v87.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v70 : BitVec 32 := Scalar.addi arg1 c1_i32
  let c1_i32_36 : BitVec 32 := 1#32
  let arg14 : BitVec 32 := Scf.iv v70 c1_i32_36 k0_t1
  let c512_i32_47 : BitVec 32 := 512#32
  let v85 : BitVec 32 := Scalar.muli arg14 c512_i32_47
  let v86 : BitVec 32 := v85
  let v90 : Index := Scalar.indexCast v86
  let c0_49 : Index := 0#32
  ![v90.toNat, 0]
def k0_off6 (i : grid0.Coords) (k0_t1 : Fin (k0_t1_loop i).trips) : Fin 3 → Nat :=
  let c0_52 : Index := 0#32
  let arg1 : BitVec 32 := BitVec.ofNat 32 (i 1).val
  let c1_i32 : BitVec 32 := 1#32
  let v70 : BitVec 32 := Scalar.addi arg1 c1_i32
  let c1_i32_36 : BitVec 32 := 1#32
  let arg14 : BitVec 32 := Scf.iv v70 c1_i32_36 k0_t1
  let c512_i32_47 : BitVec 32 := 512#32
  let v85 : BitVec 32 := Scalar.muli arg14 c512_i32_47
  let v86 : BitVec 32 := v85
  let v96 : Index := Scalar.indexCast v86
  let c0_53 : Index := 0#32
  ![0, v96.toNat, 0]
@[reducible] def k0_t2_loop (i : grid0.Coords) : Scf.Loop 32 :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_35 : BitVec 32 := 1#32
  let v73 : BitVec 32 := Scalar.divsi v71 c1_i32_35
  let v74 : BitVec 32 := Scalar.muli v73 c1_i32_35
  let v75 : BitVec 32 := Scalar.addi v70 v74
  let v72 : BitVec 32 := Scalar.addi v70 v71
  let c1_i32_37 : BitVec 32 := 1#32
  ⟨v75, v72, c1_i32_37⟩
def k0_mult3 (i : grid0.Coords) (k0_t2 : Fin (k0_t2_loop i).trips) : BitVec 32 :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_35 : BitVec 32 := 1#32
  let v73 : BitVec 32 := Scalar.divsi v71 c1_i32_35
  let v74 : BitVec 32 := Scalar.muli v73 c1_i32_35
  let v75 : BitVec 32 := Scalar.addi v70 v74
  let c1_i32_37 : BitVec 32 := 1#32
  let arg14 : BitVec 32 := Scf.iv v75 c1_i32_37 k0_t2
  let c512_i32_47 : BitVec 32 := 512#32
  let v85 : BitVec 32 := Scalar.muli arg14 c512_i32_47
  v85
def k0_off7 (i : grid0.Coords) (k0_t2 : Fin (k0_t2_loop i).trips) : Fin 2 → Nat :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_35 : BitVec 32 := 1#32
  let v73 : BitVec 32 := Scalar.divsi v71 c1_i32_35
  let v74 : BitVec 32 := Scalar.muli v73 c1_i32_35
  let v75 : BitVec 32 := Scalar.addi v70 v74
  let c1_i32_37 : BitVec 32 := 1#32
  let arg14 : BitVec 32 := Scf.iv v75 c1_i32_37 k0_t2
  let c512_i32_47 : BitVec 32 := 512#32
  let v85 : BitVec 32 := Scalar.muli arg14 c512_i32_47
  let v86 : BitVec 32 := v85
  let v87 : Index := Scalar.indexCast v86
  let c0_48 : Index := 0#32
  ![v87.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_35 : BitVec 32 := 1#32
  let v73 : BitVec 32 := Scalar.divsi v71 c1_i32_35
  let v74 : BitVec 32 := Scalar.muli v73 c1_i32_35
  let v75 : BitVec 32 := Scalar.addi v70 v74
  let c1_i32_37 : BitVec 32 := 1#32
  let arg14 : BitVec 32 := Scf.iv v75 c1_i32_37 k0_t2
  let c512_i32_47 : BitVec 32 := 512#32
  let v85 : BitVec 32 := Scalar.muli arg14 c512_i32_47
  let v86 : BitVec 32 := v85
  let v90 : Index := Scalar.indexCast v86
  let c0_49 : Index := 0#32
  ![v90.toNat, 0]
def k0_off9 (i : grid0.Coords) (k0_t2 : Fin (k0_t2_loop i).trips) : Fin 3 → Nat :=
  let c0_52 : Index := 0#32
  let arg1 : BitVec 32 := BitVec.ofNat 32 (i 1).val
  let c1_i32 : BitVec 32 := 1#32
  let v70 : BitVec 32 := Scalar.addi arg1 c1_i32
  let c8_i32 : BitVec 32 := 8#32
  let v71 : BitVec 32 := Scalar.subi c8_i32 v70
  let c1_i32_35 : BitVec 32 := 1#32
  let v73 : BitVec 32 := Scalar.divsi v71 c1_i32_35
  let v74 : BitVec 32 := Scalar.muli v73 c1_i32_35
  let v75 : BitVec 32 := Scalar.addi v70 v74
  let c1_i32_37 : BitVec 32 := 1#32
  let arg14 : BitVec 32 := Scf.iv v75 c1_i32_37 k0_t2
  let c512_i32_47 : BitVec 32 := 512#32
  let v85 : BitVec 32 := Scalar.muli arg14 c512_i32_47
  let v86 : BitVec 32 := v85
  let v96 : Index := Scalar.indexCast v86
  let c0_53 : Index := 0#32
  ![0, v96.toNat, 0]
def k0_cond2 (i : grid0.Coords) : BitVec 1 :=
  let arg1 : BitVec 32 := BitVec.ofNat 32 (i 1).val
  let c7_i32 : BitVec 32 := 7#32
  let v82 : BitVec 1 := Scalar.cmpi .eq arg1 c7_i32
  let v83 : BitVec 32 := Scalar.extui v82
  let c0_i32_46 : BitVec 32 := 0#32
  let v84 : BitVec 1 := Scalar.cmpi .ne v83 c0_i32_46
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "c2" => some (((Real.sqrt 192)⁻¹ * (Real.log 2)⁻¹ : ℝ) : EReal)
  | "log2e" => some (((Real.log 2)⁻¹ : ℝ) : EReal)
  | "mask" => some ⊥
  | "scale" => some (((Real.sqrt 192)⁻¹ : ℝ) : EReal)
  | _ => none
-- ==== ReferenceIdeal.lean ====
abbrev S1x4096x32x192 : Shape := ⟨4, ![1, 4096, 32, 192]⟩
abbrev S1x4096x32x128 : Shape := ⟨4, ![1, 4096, 32, 128]⟩
abbrev S1x4096x4096 : Shape := ⟨3, ![1, 4096, 4096]⟩
abbrev S1x32x4096x4096 : Shape := ⟨4, ![1, 32, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x32x4096 : Shape := ⟨3, ![1, 32, 4096]⟩
abbrev S1x32x4096x1 : Shape := ⟨4, ![1, 32, 4096, 1]⟩
abbrev S1x32x128x4096 : Shape := ⟨4, ![1, 32, 128, 4096]⟩
abbrev S32x4096 : Shape := ⟨2, ![32, 4096]⟩
abbrev S1x32x4096x192 : Shape := ⟨4, ![1, 32, 4096, 192]⟩
abbrev S4096x32x192 : Shape := ⟨3, ![4096, 32, 192]⟩
abbrev S4096x32x256 : Shape := ⟨3, ![4096, 32, 256]⟩
abbrev S4096x8192 : Shape := ⟨2, ![4096, 8192]⟩
abbrev S4096x32x128 : Shape := ⟨3, ![4096, 32, 128]⟩

abbrev nBuf : Space → Nat
  | .hbm => 107
  | .vmem => 0
  | .smem => 0
  | _ => 0

abbrev bufTy : (tb : Table) → Fin (tcTables nBuf tb) → BufTy
  | .hbm, ⟨0, _⟩ => ⟨S1x4096x32x192, .f32⟩
  | .hbm, ⟨1, _⟩ => ⟨S1x4096x32x192, .f32⟩
  | .hbm, ⟨2, _⟩ => ⟨S1x4096x32x128, .f32⟩
  | .hbm, ⟨3, _⟩ => ⟨S1x4096x4096, .f32⟩
  | .hbm, ⟨4, _⟩ => ⟨S1x32x4096x4096, .f32⟩
  | .hbm, ⟨5, _⟩ => ⟨S_, .f32⟩
  | .hbm, ⟨6, _⟩ => ⟨S_, .f32⟩
  | .hbm, ⟨7, _⟩ => ⟨S1x32x4096x4096, .f32⟩
  | .hbm, ⟨8, _⟩ => ⟨S1x32x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S1x32x4096x4096, .i1⟩
  | .hbm, ⟨18, _⟩ => ⟨S1x32x4096x4096, .f32⟩
  | .hbm, ⟨19, _⟩ => ⟨S1x32x4096x4096, .f32⟩
  | .hbm, ⟨20, _⟩ => ⟨S_, .f32⟩
  | .hbm, ⟨21, _⟩ => ⟨S1x32x4096x4096, .f32⟩
  | .hbm, ⟨22, _⟩ => ⟨S_, .f32⟩
  | .hbm, ⟨23, _⟩ => ⟨S1x32x4096, .f32⟩
  | .hbm, ⟨24, _⟩ => ⟨S1x32x4096x1, .f32⟩
  | .hbm, ⟨25, _⟩ => ⟨S1x32x4096x4096, .f32⟩
  | .hbm, ⟨26, _⟩ => ⟨S1x32x4096x4096, .i1⟩
  | .hbm, ⟨27, _⟩ => ⟨S1x32x4096x4096, .f32⟩
  | .hbm, ⟨28, _⟩ => ⟨S_, .f32⟩
  | .hbm, ⟨29, _⟩ => ⟨S1x32x4096, .f32⟩
  | .hbm, ⟨30, _⟩ => ⟨S_, .f32⟩
  | .hbm, ⟨31, _⟩ => ⟨S1x32x4096, .f32⟩
  | .hbm, ⟨32, _⟩ => ⟨S1x32x4096, .f32⟩
  | .hbm, ⟨33, _⟩ => ⟨S_, .f32⟩
  | .hbm, ⟨34, _⟩ => ⟨S1x32x4096, .f32⟩
  | .hbm, ⟨35, _⟩ => ⟨S1x32x4096, .i1⟩
  | .hbm, ⟨36, _⟩ => ⟨S_, .f32⟩
  | .hbm, ⟨37, _⟩ => ⟨S1x32x4096, .f32⟩
  | .hbm, ⟨38, _⟩ => ⟨S1x32x4096, .i1⟩
  | .hbm, ⟨39, _⟩ => ⟨S_, .f32⟩
  | .hbm, ⟨40, _⟩ => ⟨S1x32x4096, .f32⟩
  | .hbm, ⟨41, _⟩ => ⟨S_, .f32⟩
  | .hbm, ⟨42, _⟩ => ⟨S1x32x4096, .f32⟩
  | .hbm, ⟨43, _⟩ => ⟨S_, .f32⟩
  | .hbm, ⟨44, _⟩ => ⟨S1x32x4096, .f32⟩
  | .hbm, ⟨45, _⟩ => ⟨S1x32x4096, .f32⟩
  | .hbm, ⟨46, _⟩ => ⟨S1x32x4096, .f32⟩
  | .hbm, ⟨47, _⟩ => ⟨S1x32x4096x1, .f32⟩
  | .hbm, ⟨48, _⟩ => ⟨S1x32x4096x4096, .f32⟩
  | .hbm, ⟨49, _⟩ => ⟨S1x32x4096x4096, .f32⟩
  | .hbm, ⟨50, _⟩ => ⟨S1x32x4096x4096, .f32⟩
  | .hbm, ⟨51, _⟩ => ⟨S_, .f32⟩
  | .hbm, ⟨52, _⟩ => ⟨S1x32x4096, .f32⟩
  | .hbm, ⟨53, _⟩ => ⟨S1x32x4096x1, .f32⟩
  | .hbm, ⟨54, _⟩ => ⟨S1x32x4096x4096, .f32⟩
  | .hbm, ⟨55, _⟩ => ⟨S1x32x4096x4096, .f32⟩
  | .hbm, ⟨56, _⟩ => ⟨S1x32x4096x1, .f32⟩
  | .hbm, ⟨57, _⟩ => ⟨S_, .f32⟩
  | .hbm, ⟨58, _⟩ => ⟨S1x32x4096x1, .f32⟩
  | .hbm, ⟨59, _⟩ => ⟨S1x32x4096x1, .f32⟩
  | .hbm, ⟨60, _⟩ => ⟨S1x32x128x4096, .f32⟩
  | .hbm, ⟨61, _⟩ => ⟨S1x4096x32x128, .f32⟩
  | .hbm, ⟨62, _⟩ => ⟨S1x4096x4096, .f32⟩
  | .hbm, ⟨63, _⟩ => ⟨S1x4096x32x128, .f32⟩
  | .hbm, ⟨64, _⟩ => ⟨S1x32x128x4096, .f32⟩
  | .hbm, ⟨65, _⟩ => ⟨S1x32x4096x4096, .f32⟩
  | .hbm, ⟨66, _⟩ => ⟨S1x32x128x4096, .f32⟩
  | .hbm, ⟨67, _⟩ => ⟨S1x4096x32x128, .f32⟩
  | .hbm, ⟨68, _⟩ => ⟨S1x32x4096x4096, .f32⟩
  | .hbm, ⟨69, _⟩ => ⟨S1x32x4096x4096, .f32⟩
  | .hbm, ⟨70, _⟩ => ⟨S1x32x4096x4096, .f32⟩
  | .hbm, ⟨71, _⟩ => ⟨S_, .f32⟩
  | .hbm, ⟨72, _⟩ => ⟨S1x32x4096, .f32⟩
  | .hbm, ⟨73, _⟩ => ⟨S1x32x4096x1, .f32⟩
  | .hbm, ⟨74, _⟩ => ⟨S1x32x4096x1, .f32⟩
  | .hbm, ⟨75, _⟩ => ⟨S1x32x4096x4096, .f32⟩
  | .hbm, ⟨76, _⟩ => ⟨S1x32x4096x4096, .f32⟩
  | .hbm, ⟨77, _⟩ => ⟨S_, .f32⟩
  | .hbm, ⟨78, _⟩ => ⟨S32x4096, .f32⟩
  | .hbm, ⟨79, _⟩ => ⟨S1x32x4096, .f32⟩
  | .hbm, ⟨80, _⟩ => ⟨S1x32x4096x4096, .f32⟩
  | .hbm, ⟨81, _⟩ => ⟨S1x32x4096x4096, .f32⟩
  | .hbm, ⟨82, _⟩ => ⟨S1x32x4096x4096, .f32⟩
  | .hbm, ⟨83, _⟩ => ⟨S_, .f32⟩
  | .hbm, ⟨84, _⟩ => ⟨S1x32x4096x4096, .f32⟩
  | .hbm, ⟨85, _⟩ => ⟨S1x32x4096x4096, .f32⟩
  | .hbm, ⟨86, _⟩ => ⟨S1x32x4096x4096, .f32⟩
  | .hbm, ⟨87, _⟩ => ⟨S1x32x4096x4096, .f32⟩
  | .hbm, ⟨88, _⟩ => ⟨S1x32x4096x192, .f32⟩
  | .hbm, ⟨89, _⟩ => ⟨S1x4096x32x192, .f32⟩
  | .hbm, ⟨90, _⟩ => ⟨S1x32x4096x192, .f32⟩
  | .hbm, ⟨91, _⟩ => ⟨S1x4096x32x192, .f32⟩
  | .hbm, ⟨92, _⟩ => ⟨S4096x32x192, .f32⟩
  | .hbm, ⟨93, _⟩ => ⟨S_, .i32⟩
  | .hbm, ⟨94, _⟩ => ⟨S_, .f32⟩
  | .hbm, ⟨95, _⟩ => ⟨S4096x32x256, .f32⟩
  | .hbm, ⟨96, _⟩ => ⟨S4096x8192, .f32⟩
  | .hbm, ⟨97, _⟩ => ⟨S4096x8192, .bf16⟩
  | .hbm, ⟨98, _⟩ => ⟨S4096x32x192, .f32⟩
  | .hbm, ⟨99, _⟩ => ⟨S_, .i32⟩
  | .hbm, ⟨100, _⟩ => ⟨S_, .f32⟩
  | .hbm, ⟨101, _⟩ => ⟨S4096x32x256, .f32⟩
  | .hbm, ⟨102, _⟩ => ⟨S4096x8192, .f32⟩
  | .hbm, ⟨103, _⟩ => ⟨S4096x8192, .bf16⟩
  | .hbm, ⟨104, _⟩ => ⟨S4096x32x128, .f32⟩
  | .hbm, ⟨105, _⟩ => ⟨S4096x4096, .f32⟩
  | .hbm, ⟨106, _⟩ => ⟨S4096x4096, .bf16⟩
  | _, _ => ⟨S1x4096x32x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c : Ref sig .tc := ⟨.hbm, 93, rfl⟩
abbrev main_call2_v0 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_call3_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== Forward.lean ====
abbrev S1x4096x32x192 : Shape := ⟨4, ![1, 4096, 32, 192]⟩
abbrev S1x4096x32x128 : Shape := ⟨4, ![1, 4096, 32, 128]⟩
abbrev S4096x6144 : Shape := ⟨2, ![4096, 6144]⟩
abbrev S4096x32x192 : Shape := ⟨3, ![4096, 32, 192]⟩
abbrev S_ : Shape := ⟨0, ![]⟩
abbrev S4096x32x256 : Shape := ⟨3, ![4096, 32, 256]⟩
abbrev S4096x8192 : Shape := ⟨2, ![4096, 8192]⟩
abbrev S4096x32x128 : Shape := ⟨3, ![4096, 32, 128]⟩
abbrev S4096x4096 : Shape := ⟨2, ![4096, 4096]⟩
abbrev S32x4096x128 : Shape := ⟨3, ![32, 4096, 128]⟩
abbrev S512x512 : Shape := ⟨2, ![512, 512]⟩
abbrev S4096x512 : Shape := ⟨2, ![4096, 512]⟩
abbrev S512x256 : Shape := ⟨2, ![512, 256]⟩
abbrev S2x512x128 : Shape := ⟨3, ![2, 512, 128]⟩
abbrev S2x512x1 : Shape := ⟨3, ![2, 512, 1]⟩
abbrev S2x512x256 : Shape := ⟨3, ![2, 512, 256]⟩
abbrev S1x512x1 : Shape := ⟨3, ![1, 512, 1]⟩
abbrev S512x1 : Shape := ⟨2, ![512, 1]⟩
abbrev S512 : Shape := ⟨1, ![512]⟩
abbrev S1x512x256 : Shape := ⟨3, ![1, 512, 256]⟩
abbrev S1x512x128 : Shape := ⟨3, ![1, 512, 128]⟩
abbrev S512x128 : Shape := ⟨2, ![512, 128]⟩

abbrev nBuf : Space → Nat
  | .hbm => 25
  | .vmem => 16
  | .smem => 0
  | _ => 0

abbrev bufTy : (tb : Table) → Fin (tcTables nBuf tb) → BufTy
  | .hbm, ⟨0, _⟩ => ⟨S1x4096x32x192, .f32⟩
  | .hbm, ⟨1, _⟩ => ⟨S1x4096x32x192, .f32⟩
  | .hbm, ⟨2, _⟩ => ⟨S1x4096x32x128, .f32⟩
  | .hbm, ⟨3, _⟩ => ⟨S4096x6144, .bf16⟩
  | .hbm, ⟨4, _⟩ => ⟨S4096x32x192, .f32⟩
  | .hbm, ⟨5, _⟩ => ⟨S4096x32x192, .bf16⟩
  | .hbm, ⟨6, _⟩ => ⟨S_, .i32⟩
  | .hbm, ⟨7, _⟩ => ⟨S_, .bf16⟩
  | .hbm, ⟨8, _⟩ => ⟨S4096x32x256, .bf16⟩
  | .hbm, ⟨9, _⟩ => ⟨S4096x8192, .bf16⟩
  | .hbm, ⟨10, _⟩ => ⟨S4096x32x192, .f32⟩
  | .hbm, ⟨11, _⟩ => ⟨S4096x32x192, .bf16⟩
  | .hbm, ⟨12, _⟩ => ⟨S_, .i32⟩
  | .hbm, ⟨13, _⟩ => ⟨S_, .bf16⟩
  | .hbm, ⟨14, _⟩ => ⟨S4096x32x256, .bf16⟩
  | .hbm, ⟨15, _⟩ => ⟨S4096x8192, .bf16⟩
  | .hbm, ⟨16, _⟩ => ⟨S4096x32x128, .f32⟩
  | .hbm, ⟨17, _⟩ => ⟨S4096x32x128, .bf16⟩
  | .hbm, ⟨18, _⟩ => ⟨S_, .i32⟩
  | .hbm, ⟨19, _⟩ => ⟨S_, .bf16⟩
  | .hbm, ⟨20, _⟩ => ⟨S4096x32x256, .bf16⟩
  | .hbm, ⟨21, _⟩ => ⟨S4096x8192, .bf16⟩
  | .hbm, ⟨22, _⟩ => ⟨S4096x4096, .bf16⟩
  | .hbm, ⟨23, _⟩ => ⟨S4096x4096, .bf16⟩
  | .hbm, ⟨24, _⟩ => ⟨S32x4096x128, .f32⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S2x512x128, .f32⟩
  | .local _ .vmem, ⟨13, _⟩ => ⟨S2x512x128, .f32⟩
  | .local _ .vmem, ⟨14, _⟩ => ⟨S2x512x1, .f32⟩
  | .local _ .vmem, ⟨15, _⟩ => ⟨S2x512x256, .f32⟩
  | _, _ => ⟨S1x4096x32x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_6 : BitVec 32 := 0#32
  let arg1 : BitVec 32 := BitVec.ofNat 32 (i 1).val
  let v8 : BitVec 32 := Scalar.subi arg1 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_7 : BitVec 32 := 1#32
  ⟨c0_i32_6, v12, c1_i32_7⟩
def k0_mult1 (i : grid0.Coords) (k0_t1 : Fin (k0_t1_loop i).trips) : BitVec 32 :=
  let c0_i32_6 : BitVec 32 := 0#32
  let c1_i32_7 : BitVec 32 := 1#32
  let arg11 : BitVec 32 := Scf.iv c0_i32_6 c1_i32_7 k0_t1
  let c512_i32_88 : BitVec 32 := 512#32
  let v145 : BitVec 32 := Scalar.muli arg11 c512_i32_88
  v145
def k0_off1 (i : grid0.Coords) (k0_t1 : Fin (k0_t1_loop i).trips) : Fin 2 → Nat :=
  let c0_i32_6 : BitVec 32 := 0#32
  let c1_i32_7 : BitVec 32 := 1#32
  let arg11 : BitVec 32 := Scf.iv c0_i32_6 c1_i32_7 k0_t1
  let c512_i32_88 : BitVec 32 := 512#32
  let v145 : BitVec 32 := Scalar.muli arg11 c512_i32_88
  let v146 : BitVec 32 := v145
  let v149 : Index := Scalar.indexCast v146
  let c0_91 : Index := 0#32
  ![v149.toNat, 0]
def k0_off2 (i : grid0.Coords) (k0_t1 : Fin (k0_t1_loop i).trips) : Fin 2 → Nat :=
  let c0_i32_6 : BitVec 32 := 0#32
  let c1_i32_7 : BitVec 32 := 1#32
  let arg11 : BitVec 32 := Scf.iv c0_i32_6 c1_i32_7 k0_t1
  let c512_i32_88 : BitVec 32 := 512#32
  let v145 : BitVec 32 := Scalar.muli arg11 c512_i32_88
  let v146 : BitVec 32 := v145
  let v185 : Index := Scalar.indexCast v146
  let c256_112 : Index := 256#32
  ![v185.toNat, 256]
@[reducible] def k0_t2_loop (i : grid0.Coords) : Scf.Loop 32 :=
  let c0_i32_6 : BitVec 32 := 0#32
  let arg1 : BitVec 32 := BitVec.ofNat 32 (i 1).val
  let v8 : BitVec 32 := Scalar.subi arg1 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let v9 : BitVec 32 := Scalar.addi c0_i32_6 v8
  let c1_i32_8 : BitVec 32 := 1#32
  ⟨v12, v9, c1_i32_8⟩
def k0_mult2 (i : grid0.Coords) (k0_t2 : Fin (k0_t2_loop i).trips) : BitVec 32 :=
  let c0_i32_6 : BitVec 32 := 0#32
  let arg1 : BitVec 32 := BitVec.ofNat 32 (i 1).val
  let v8 : BitVec 32 := Scalar.subi arg1 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_88 : BitVec 32 := 512#32
  let v145 : BitVec 32 := Scalar.muli arg11 c512_i32_88
  v145
def k0_off3 (i : grid0.Coords) (k0_t2 : Fin (k0_t2_loop i).trips) : Fin 2 → Nat :=
  let c0_i32_6 : BitVec 32 := 0#32
  let arg1 : BitVec 32 := BitVec.ofNat 32 (i 1).val
  let v8 : BitVec 32 := Scalar.subi arg1 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_88 : BitVec 32 := 512#32
  let v145 : BitVec 32 := Scalar.muli arg11 c512_i32_88
  let v146 : BitVec 32 := v145
  let v149 : Index := Scalar.indexCast v146
  let c0_91 : Index := 0#32
  ![v149.toNat, 0]
def k0_off4 (i : grid0.Coords) (k0_t2 : Fin (k0_t2_loop i).trips) : Fin 2 → Nat :=
  let c0_i32_6 : BitVec 32 := 0#32
  let arg1 : BitVec 32 := BitVec.ofNat 32 (i 1).val
  let v8 : BitVec 32 := Scalar.subi arg1 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_88 : BitVec 32 := 512#32
  let v145 : BitVec 32 := Scalar.muli arg11 c512_i32_88
  let v146 : BitVec 32 := v145
  let v185 : Index := Scalar.indexCast v146
  let c256_112 : Index := 256#32
  ![v185.toNat, 256]
def k0_mult3 (i : grid0.Coords) : BitVec 32 :=
  let arg1 : BitVec 32 := BitVec.ofNat 32 (i 1).val
  let c512_i32 : BitVec 32 := 512#32
  let v13 : BitVec 32 := Scalar.muli arg1 c512_i32
  v13
def k0_off5 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v17 : Index := Scalar.indexCast v14
  let c0_11 : Index := 0#32
  ![v17.toNat, 0]
def k0_off6 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v58 : Index := Scalar.indexCast v14
  let c256_32 : Index := 256#32
  ![v58.toNat, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ForwardIdeal.lean ====
variable {F : FTy → Type} [FloatOps F] [Named F]
def κ : String → Option EReal := fun
  | "c2" => some (((Real.sqrt 192)⁻¹ * (Real.log 2)⁻¹ : ℝ) : EReal)
  | "mask" => some ⊥
  | "scale" => some (((Real.sqrt 192)⁻¹ : ℝ) : EReal)
  | _ => none
-- ==== ForwardRefIdeal.lean ====
abbrev S1x4096x32x192 : Shape := ⟨4, ![1, 4096, 32, 192]⟩
abbrev S1x4096x32x128 : Shape := ⟨4, ![1, 4096, 32, 128]⟩
abbrev S4096x6144 : Shape := ⟨2, ![4096, 6144]⟩
abbrev S1x32x4096x4096 : Shape := ⟨4, ![1, 32, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x32x4096 : Shape := ⟨3, ![1, 32, 4096]⟩
abbrev S1x32x4096x1 : Shape := ⟨4, ![1, 32, 4096, 1]⟩
abbrev S1x32x128x4096 : Shape := ⟨4, ![1, 32, 128, 4096]⟩
abbrev S1x4096x4096 : Shape := ⟨3, ![1, 4096, 4096]⟩
abbrev S32x4096x4096 : Shape := ⟨3, ![32, 4096, 4096]⟩
abbrev S32x4096 : Shape := ⟨2, ![32, 4096]⟩
abbrev S32x4096x1 : Shape := ⟨3, ![32, 4096, 1]⟩
abbrev S32x4096x128 : Shape := ⟨3, ![32, 4096, 128]⟩

abbrev nBuf : Space → Nat
  | .hbm => 81
  | .vmem => 0
  | .smem => 0
  | _ => 0

abbrev bufTy : (tb : Table) → Fin (tcTables nBuf tb) → BufTy
  | .hbm, ⟨0, _⟩ => ⟨S1x4096x32x192, .f32⟩
  | .hbm, ⟨1, _⟩ => ⟨S1x4096x32x192, .f32⟩
  | .hbm, ⟨2, _⟩ => ⟨S1x4096x32x128, .f32⟩
  | .hbm, ⟨3, _⟩ => ⟨S4096x6144, .bf16⟩
  | .hbm, ⟨4, _⟩ => ⟨S1x32x4096x4096, .f32⟩
  | .hbm, ⟨5, _⟩ => ⟨S_, .f32⟩
  | .hbm, ⟨6, _⟩ => ⟨S_, .f32⟩
  | .hbm, ⟨7, _⟩ => ⟨S1x32x4096x4096, .f32⟩
  | .hbm, ⟨8, _⟩ => ⟨S1x32x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S1x32x4096x4096, .i1⟩
  | .hbm, ⟨18, _⟩ => ⟨S1x32x4096x4096, .f32⟩
  | .hbm, ⟨19, _⟩ => ⟨S1x32x4096x4096, .f32⟩
  | .hbm, ⟨20, _⟩ => ⟨S_, .f32⟩
  | .hbm, ⟨21, _⟩ => ⟨S1x32x4096, .f32⟩
  | .hbm, ⟨22, _⟩ => ⟨S_, .f32⟩
  | .hbm, ⟨23, _⟩ => ⟨S1x32x4096, .f32⟩
  | .hbm, ⟨24, _⟩ => ⟨S1x32x4096, .f32⟩
  | .hbm, ⟨25, _⟩ => ⟨S1x32x4096x1, .f32⟩
  | .hbm, ⟨26, _⟩ => ⟨S1x32x4096x4096, .f32⟩
  | .hbm, ⟨27, _⟩ => ⟨S1x32x4096x4096, .f32⟩
  | .hbm, ⟨28, _⟩ => ⟨S1x32x4096x4096, .f32⟩
  | .hbm, ⟨29, _⟩ => ⟨S_, .f32⟩
  | .hbm, ⟨30, _⟩ => ⟨S1x32x4096, .f32⟩
  | .hbm, ⟨31, _⟩ => ⟨S1x32x4096x1, .f32⟩
  | .hbm, ⟨32, _⟩ => ⟨S1x32x4096x4096, .f32⟩
  | .hbm, ⟨33, _⟩ => ⟨S1x32x4096x4096, .f32⟩
  | .hbm, ⟨34, _⟩ => ⟨S1x32x128x4096, .f32⟩
  | .hbm, ⟨35, _⟩ => ⟨S1x4096x32x128, .f32⟩
  | .hbm, ⟨36, _⟩ => ⟨S1x4096x4096, .f32⟩
  | .hbm, ⟨37, _⟩ => ⟨S4096x4096, .f32⟩
  | .hbm, ⟨38, _⟩ => ⟨S4096x4096, .bf16⟩
  | .hbm, ⟨39, _⟩ => ⟨S4096x4096, .f32⟩
  | .hbm, ⟨40, _⟩ => ⟨S1x32x4096x4096, .f32⟩
  | .hbm, ⟨41, _⟩ => ⟨S_, .f32⟩
  | .hbm, ⟨42, _⟩ => ⟨S_, .f32⟩
  | .hbm, ⟨43, _⟩ => ⟨S1x32x4096x4096, .f32⟩
  | .hbm, ⟨44, _⟩ => ⟨S1x32x4096x4096, .f32⟩
  | .hbm, ⟨45, _⟩ => ⟨S4096, .i32⟩
  | .hbm, ⟨46, _⟩ => ⟨S1x4096, .i32⟩
  | .hbm, ⟨47, _⟩ => ⟨S4096x1, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S_, .f32⟩
  | .hbm, ⟨52, _⟩ => ⟨S_, .f32⟩
  | .hbm, ⟨53, _⟩ => ⟨S1x32x4096x4096, .i1⟩
  | .hbm, ⟨54, _⟩ => ⟨S1x32x4096x4096, .f32⟩
  | .hbm, ⟨55, _⟩ => ⟨S1x32x4096x4096, .f32⟩
  | .hbm, ⟨56, _⟩ => ⟨S32x4096x4096, .f32⟩
  | .hbm, ⟨57, _⟩ => ⟨S_, .f32⟩
  | .hbm, ⟨58, _⟩ => ⟨S32x4096, .f32⟩
  | .hbm, ⟨59, _⟩ => ⟨S32x4096x1, .f32⟩
  | .hbm, ⟨60, _⟩ => ⟨S32x4096x4096, .f32⟩
  | .hbm, ⟨61, _⟩ => ⟨S32x4096x4096, .f32⟩
  | .hbm, ⟨62, _⟩ => ⟨S32x4096x4096, .f32⟩
  | .hbm, ⟨63, _⟩ => ⟨S_, .f32⟩
  | .hbm, ⟨64, _⟩ => ⟨S32x4096, .f32⟩
  | .hbm, ⟨65, _⟩ => ⟨S32x4096x1, .f32⟩
  | .hbm, ⟨66, _⟩ => ⟨S32x4096x1, .f32⟩
  | .hbm, ⟨67, _⟩ => ⟨S32x4096x1, .f32⟩
  | .hbm, ⟨68, _⟩ => ⟨S4096x4096, .bf16⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S4096x4096, .bf16⟩
  | .hbm, ⟨80, _⟩ => ⟨S32x4096x128, .f32⟩
  | _, _ => ⟨S1x4096x32x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]
-- ==== ScInput.lean ====
abbrev S4x4096x4096 : Shape := ⟨3, ![4, 4096, 4096]⟩
abbrev S4096x16384 : Shape := ⟨2, ![4096, 16384]⟩
abbrev S4096x4096 : Shape := ⟨2, ![4096, 4096]⟩
abbrev S1x1024x4096 : Shape := ⟨3, ![1, 1024, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x4096, .bf16⟩
  | .hbm, ⟨1, _⟩ => ⟨S4096x16384, .bf16⟩
  | .hbm, ⟨2, _⟩ => ⟨S4096x4096, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScInputRefIdeal.lean ====
abbrev S4x4096x4096 : Shape := ⟨3, ![4, 4096, 4096]⟩
abbrev S4096x16384 : Shape := ⟨2, ![4096, 16384]⟩
abbrev S4096x4x4096 : Shape := ⟨3, ![4096, 4, 4096]⟩
abbrev S_ : Shape := ⟨0, ![]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4096x16384, .bf16⟩
  | .hbm, ⟨2, _⟩ => ⟨S4x4096x4096, .f32⟩
  | .hbm, ⟨3, _⟩ => ⟨S4096x4x4096, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x4096, .f32⟩
  | .hbm, ⟨8, _⟩ => ⟨S4096x16384, .f32⟩
  | .hbm, ⟨9, _⟩ => ⟨S4096x4096, .f32⟩
  | .hbm, ⟨10, _⟩ => ⟨S4096x4096, .bf16⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ScWeight.lean ====
abbrev S4096x4096 : Shape := ⟨2, ![4096, 4096]⟩
abbrev S4x4096x4096 : Shape := ⟨3, ![4, 4096, 4096]⟩
abbrev S8x4096x2048 : Shape := ⟨3, ![8, 4096, 2048]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S8x4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScWeightRefIdeal.lean ====
abbrev S4096x4096 : Shape := ⟨2, ![4096, 4096]⟩
abbrev S4x4096x4096 : Shape := ⟨3, ![4, 4096, 4096]⟩
abbrev S4096x4x4096 : Shape := ⟨3, ![4096, 4, 4096]⟩
abbrev S4096x16384 : Shape := ⟨2, ![4096, 16384]⟩
abbrev S_ : Shape := ⟨0, ![]⟩
abbrev S16384x4096 : Shape := ⟨2, ![16384, 4096]⟩
abbrev S4096x8x2048 : Shape := ⟨3, ![4096, 8, 2048]⟩
abbrev S8x4096x2048 : Shape := ⟨3, ![8, 4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4096x4096, .f32⟩
  | .hbm, ⟨3, _⟩ => ⟨S4x4096x4096, .f32⟩
  | .hbm, ⟨4, _⟩ => ⟨S4096x4x4096, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S16384x4096, .f32⟩
  | .hbm, ⟨10, _⟩ => ⟨S4096x16384, .f32⟩
  | .hbm, ⟨11, _⟩ => ⟨S4096x8x2048, .f32⟩
  | .hbm, ⟨12, _⟩ => ⟨S8x4096x2048, .f32⟩
  | .hbm, ⟨13, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== WideInput.lean ====
abbrev S4096x12288 : Shape := ⟨2, ![4096, 12288]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4096x12288, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideInputRefIdeal.lean ====
abbrev S4096x12288 : Shape := ⟨2, ![4096, 12288]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x12288, .bf16⟩
  | .hbm, ⟨2, _⟩ => ⟨S4096x12288, .f32⟩
  | .hbm, ⟨3, _⟩ => ⟨S4096x12288, .f32⟩
  | .hbm, ⟨4, _⟩ => ⟨S_, .f32⟩
  | .hbm, ⟨5, _⟩ => ⟨S4096x4096, .f32⟩
  | .hbm, ⟨6, _⟩ => ⟨S4096x12288, .f32⟩
  | .hbm, ⟨7, _⟩ => ⟨S4096x4096, .f32⟩
  | .hbm, ⟨8, _⟩ => ⟨S4096x4096, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WideWeight.lean ====
abbrev S4096x4096 : Shape := ⟨2, ![4096, 4096]⟩
abbrev S4096x12288 : Shape := ⟨2, ![4096, 12288]⟩
abbrev S8x4096x1536 : Shape := ⟨3, ![8, 4096, 1536]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S8x4096x1536, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .bf16⟩
  | .local _ .vmem, ⟨5, _⟩ => ⟨S1x1024x768, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideWeightRefIdeal.lean ====
abbrev S4096x4096 : Shape := ⟨2, ![4096, 4096]⟩
abbrev S4096x12288 : Shape := ⟨2, ![4096, 12288]⟩
abbrev S_ : Shape := ⟨0, ![]⟩
abbrev S12288x4096 : Shape := ⟨2, ![12288, 4096]⟩
abbrev S4096x8x1536 : Shape := ⟨3, ![4096, 8, 1536]⟩
abbrev S8x4096x1536 : Shape := ⟨3, ![8, 4096, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x4096, .f32⟩
  | .hbm, ⟨3, _⟩ => ⟨S4096x12288, .f32⟩
  | .hbm, ⟨4, _⟩ => ⟨S_, .f32⟩
  | .hbm, ⟨5, _⟩ => ⟨S4096x12288, .f32⟩
  | .hbm, ⟨6, _⟩ => ⟨S4096x12288, .f32⟩
  | .hbm, ⟨7, _⟩ => ⟨S12288x4096, .f32⟩
  | .hbm, ⟨8, _⟩ => ⟨S4096x12288, .f32⟩
  | .hbm, ⟨9, _⟩ => ⟨S4096x8x1536, .f32⟩
  | .hbm, ⟨10, _⟩ => ⟨S8x4096x1536, .f32⟩
  | .hbm, ⟨11, _⟩ => ⟨S8x4096x1536, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutInput.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutInputRefIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeight.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LatentInput.lean ====
abbrev S4096x6144 : Shape := ⟨2, ![4096, 6144]⟩
abbrev S4096x4096 : Shape := ⟨2, ![4096, 4096]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .bf16⟩
  | .hbm, ⟨2, _⟩ => ⟨S4096x4096, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentInputRefIdeal.lean ====
abbrev S4096x6144 : Shape := ⟨2, ![4096, 6144]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x6144, .bf16⟩
  | .hbm, ⟨2, _⟩ => ⟨S4096x6144, .f32⟩
  | .hbm, ⟨3, _⟩ => ⟨S4096x6144, .f32⟩
  | .hbm, ⟨4, _⟩ => ⟨S_, .f32⟩
  | .hbm, ⟨5, _⟩ => ⟨S4096x4096, .f32⟩
  | .hbm, ⟨6, _⟩ => ⟨S4096x6144, .f32⟩
  | .hbm, ⟨7, _⟩ => ⟨S4096x4096, .f32⟩
  | .hbm, ⟨8, _⟩ => ⟨S4096x4096, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LatentWeight.lean ====
abbrev S4096x4096 : Shape := ⟨2, ![4096, 4096]⟩
abbrev S4096x6144 : Shape := ⟨2, ![4096, 6144]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x6144, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentWeightRefIdeal.lean ====
abbrev S4096x4096 : Shape := ⟨2, ![4096, 4096]⟩
abbrev S4096x6144 : Shape := ⟨2, ![4096, 6144]⟩
abbrev S_ : Shape := ⟨0, ![]⟩
abbrev S6144x4096 : Shape := ⟨2, ![6144, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x4096, .f32⟩
  | .hbm, ⟨3, _⟩ => ⟨S4096x6144, .f32⟩
  | .hbm, ⟨4, _⟩ => ⟨S_, .f32⟩
  | .hbm, ⟨5, _⟩ => ⟨S4096x6144, .f32⟩
  | .hbm, ⟨6, _⟩ => ⟨S4096x6144, .f32⟩
  | .hbm, ⟨7, _⟩ => ⟨S6144x4096, .f32⟩
  | .hbm, ⟨8, _⟩ => ⟨S4096x6144, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LatentProject.lean ====
abbrev S4096x4096 : Shape := ⟨2, ![4096, 4096]⟩
abbrev S4096x6144 : Shape := ⟨2, ![4096, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatentProjectRefIdeal.lean ====
abbrev S4096x4096 : Shape := ⟨2, ![4096, 4096]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x6144, .bf16⟩
  | .hbm, ⟨2, _⟩ => ⟨S4096x4096, .f32⟩
  | .hbm, ⟨3, _⟩ => ⟨S4096x6144, .f32⟩
  | .hbm, ⟨4, _⟩ => ⟨S4096x6144, .f32⟩
  | .hbm, ⟨5, _⟩ => ⟨S4096x6144, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ScProject.lean ====
abbrev S4096x4096 : Shape := ⟨2, ![4096, 4096]⟩
abbrev S4096x16384 : Shape := ⟨2, ![4096, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ScProjectRefIdeal.lean ====
abbrev S4096x4096 : Shape := ⟨2, ![4096, 4096]⟩
abbrev S4096x16384 : Shape := ⟨2, ![4096, 16384]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .f32⟩
  | .hbm, ⟨3, _⟩ => ⟨S4096x16384, .f32⟩
  | .hbm, ⟨4, _⟩ => ⟨S4096x16384, .f32⟩
  | .hbm, ⟨5, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WideProject.lean ====
abbrev S4096x4096 : Shape := ⟨2, ![4096, 4096]⟩
abbrev S4096x12288 : Shape := ⟨2, ![4096, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideProjectRefIdeal.lean ====
abbrev S4096x4096 : Shape := ⟨2, ![4096, 4096]⟩
abbrev S4096x12288 : Shape := ⟨2, ![4096, 12288]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x4096, .f32⟩
  | .hbm, ⟨3, _⟩ => ⟨S4096x12288, .f32⟩
  | .hbm, ⟨4, _⟩ => ⟨S4096x12288, .f32⟩
  | .hbm, ⟨5, _⟩ => ⟨S4096x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProject.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjectRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QueryInput.lean ====
abbrev S4096x8192 : Shape := ⟨2, ![4096, 8192]⟩
abbrev S1024x8192 : Shape := ⟨2, ![1024, 8192]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryInputIdeal.lean ====
abbrev S4096x8192 : Shape := ⟨2, ![4096, 8192]⟩
abbrev S1024x8192 : Shape := ⟨2, ![1024, 8192]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryInputRefIdeal.lean ====
abbrev S4096x8192 : Shape := ⟨2, ![4096, 8192]⟩
abbrev S1024x8192 : Shape := ⟨2, ![1024, 8192]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .bf16⟩
  | .hbm, ⟨2, _⟩ => ⟨S4096x8192, .f32⟩
  | .hbm, ⟨3, _⟩ => ⟨S1024x8192, .f32⟩
  | .hbm, ⟨4, _⟩ => ⟨S_, .f32⟩
  | .hbm, ⟨5, _⟩ => ⟨S4096x1024, .f32⟩
  | .hbm, ⟨6, _⟩ => ⟨S4096x8192, .f32⟩
  | .hbm, ⟨7, _⟩ => ⟨S4096x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KeyInput.lean ====
abbrev S4096x8192 : Shape := ⟨2, ![4096, 8192]⟩
abbrev S512x8192 : Shape := ⟨2, ![512, 8192]⟩
abbrev S4096x512 : Shape := ⟨2, ![4096, 512]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S512x8192, .bf16⟩
  | .hbm, ⟨2, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyInputIdeal.lean ====
abbrev S4096x8192 : Shape := ⟨2, ![4096, 8192]⟩
abbrev S512x8192 : Shape := ⟨2, ![512, 8192]⟩
abbrev S4096x512 : Shape := ⟨2, ![4096, 512]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S512x8192, .bf16⟩
  | .hbm, ⟨2, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyInputRefIdeal.lean ====
abbrev S4096x8192 : Shape := ⟨2, ![4096, 8192]⟩
abbrev S512x8192 : Shape := ⟨2, ![512, 8192]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S512x8192, .bf16⟩
  | .hbm, ⟨2, _⟩ => ⟨S4096x8192, .f32⟩
  | .hbm, ⟨3, _⟩ => ⟨S512x8192, .f32⟩
  | .hbm, ⟨4, _⟩ => ⟨S_, .f32⟩
  | .hbm, ⟨5, _⟩ => ⟨S4096x512, .f32⟩
  | .hbm, ⟨6, _⟩ => ⟨S4096x8192, .f32⟩
  | .hbm, ⟨7, _⟩ => ⟨S4096x512, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ValueInput.lean ====
abbrev S4096x4096 : Shape := ⟨2, ![4096, 4096]⟩
abbrev S512x4096 : Shape := ⟨2, ![512, 4096]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S1024x512, .f32⟩
  | .local _ .vmem, ⟨4, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ValueInputRefIdeal.lean ====
abbrev S4096x4096 : Shape := ⟨2, ![4096, 4096]⟩
abbrev S512x4096 : Shape := ⟨2, ![512, 4096]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x4096, .bf16⟩
  | .hbm, ⟨2, _⟩ => ⟨S4096x4096, .f32⟩
  | .hbm, ⟨3, _⟩ => ⟨S512x4096, .f32⟩
  | .hbm, ⟨4, _⟩ => ⟨S_, .f32⟩
  | .hbm, ⟨5, _⟩ => ⟨S4096x512, .f32⟩
  | .hbm, ⟨6, _⟩ => ⟨S4096x4096, .f32⟩
  | .hbm, ⟨7, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryWeight.lean ====
abbrev S4096x1024 : Shape := ⟨2, ![4096, 1024]⟩
abbrev S4096x8192 : Shape := ⟨2, ![4096, 8192]⟩
abbrev S1024x8192 : Shape := ⟨2, ![1024, 8192]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S1024x8192, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryWeightIdeal.lean ====
abbrev S4096x1024 : Shape := ⟨2, ![4096, 1024]⟩
abbrev S4096x8192 : Shape := ⟨2, ![4096, 8192]⟩
abbrev S1024x8192 : Shape := ⟨2, ![1024, 8192]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S1024x8192, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryWeightRefIdeal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S4096x1024, .f32⟩
  | .hbm, ⟨3, _⟩ => ⟨S4096x8192, .f32⟩
  | .hbm, ⟨4, _⟩ => ⟨S_, .f32⟩
  | .hbm, ⟨5, _⟩ => ⟨S1024x8192, .f32⟩
  | .hbm, ⟨6, _⟩ => ⟨S4096x8192, .f32⟩
  | .hbm, ⟨7, _⟩ => ⟨S8192x1024, .f32⟩
  | .hbm, ⟨8, _⟩ => ⟨S1024x8192, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KeyWeight.lean ====
abbrev S4096x512 : Shape := ⟨2, ![4096, 512]⟩
abbrev S4096x8192 : Shape := ⟨2, ![4096, 8192]⟩
abbrev S512x8192 : Shape := ⟨2, ![512, 8192]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x8192, .bf16⟩
  | .hbm, ⟨2, _⟩ => ⟨S512x8192, .f32⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyWeightIdeal.lean ====
abbrev S4096x512 : Shape := ⟨2, ![4096, 512]⟩
abbrev S4096x8192 : Shape := ⟨2, ![4096, 8192]⟩
abbrev S512x8192 : Shape := ⟨2, ![512, 8192]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x8192, .bf16⟩
  | .hbm, ⟨2, _⟩ => ⟨S512x8192, .f32⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyWeightRefIdeal.lean ====
abbrev S4096x512 : Shape := ⟨2, ![4096, 512]⟩
abbrev S4096x8192 : Shape := ⟨2, ![4096, 8192]⟩
abbrev S_ : Shape := ⟨0, ![]⟩
abbrev S512x8192 : Shape := ⟨2, ![512, 8192]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x8192, .bf16⟩
  | .hbm, ⟨2, _⟩ => ⟨S4096x512, .f32⟩
  | .hbm, ⟨3, _⟩ => ⟨S4096x8192, .f32⟩
  | .hbm, ⟨4, _⟩ => ⟨S_, .f32⟩
  | .hbm, ⟨5, _⟩ => ⟨S512x8192, .f32⟩
  | .hbm, ⟨6, _⟩ => ⟨S4096x8192, .f32⟩
  | .hbm, ⟨7, _⟩ => ⟨S8192x512, .f32⟩
  | .hbm, ⟨8, _⟩ => ⟨S512x8192, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ValueWeight.lean ====
abbrev S4096x512 : Shape := ⟨2, ![4096, 512]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x4096, .f32⟩
  | .local _ .vmem, ⟨0, _⟩ => ⟨S4096x512, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ValueWeightRefIdeal.lean ====
abbrev S4096x512 : Shape := ⟨2, ![4096, 512]⟩
abbrev S4096x4096 : Shape := ⟨2, ![4096, 4096]⟩
abbrev S_ : Shape := ⟨0, ![]⟩
abbrev S512x4096 : Shape := ⟨2, ![512, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S4096x512, .f32⟩
  | .hbm, ⟨3, _⟩ => ⟨S4096x4096, .f32⟩
  | .hbm, ⟨4, _⟩ => ⟨S_, .f32⟩
  | .hbm, ⟨5, _⟩ => ⟨S512x4096, .f32⟩
  | .hbm, ⟨6, _⟩ => ⟨S4096x4096, .f32⟩
  | .hbm, ⟨7, _⟩ => ⟨S4096x512, .f32⟩
  | .hbm, ⟨8, _⟩ => ⟨S512x4096, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QueryProject.lean ====
abbrev S4096x1024 : Shape := ⟨2, ![4096, 1024]⟩
abbrev S1024x8192 : Shape := ⟨2, ![1024, 8192]⟩
abbrev S4096x8192 : Shape := ⟨2, ![4096, 8192]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryProjectIdeal.lean ====
abbrev S4096x1024 : Shape := ⟨2, ![4096, 1024]⟩
abbrev S1024x8192 : Shape := ⟨2, ![1024, 8192]⟩
abbrev S4096x8192 : Shape := ⟨2, ![4096, 8192]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryProjectRefIdeal.lean ====
abbrev S4096x1024 : Shape := ⟨2, ![4096, 1024]⟩
abbrev S1024x8192 : Shape := ⟨2, ![1024, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x1024, .f32⟩
  | .hbm, ⟨3, _⟩ => ⟨S1024x8192, .f32⟩
  | .hbm, ⟨4, _⟩ => ⟨S4096x8192, .f32⟩
  | .hbm, ⟨5, _⟩ => ⟨S4096x8192, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KeyProject.lean ====
abbrev S4096x512 : Shape := ⟨2, ![4096, 512]⟩
abbrev S512x8192 : Shape := ⟨2, ![512, 8192]⟩
abbrev S4096x8192 : Shape := ⟨2, ![4096, 8192]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyProjectIdeal.lean ====
abbrev S4096x512 : Shape := ⟨2, ![4096, 512]⟩
abbrev S512x8192 : Shape := ⟨2, ![512, 8192]⟩
abbrev S4096x8192 : Shape := ⟨2, ![4096, 8192]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyProjectRefIdeal.lean ====
abbrev S4096x512 : Shape := ⟨2, ![4096, 512]⟩
abbrev S512x8192 : Shape := ⟨2, ![512, 8192]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x512, .f32⟩
  | .hbm, ⟨3, _⟩ => ⟨S512x8192, .f32⟩
  | .hbm, ⟨4, _⟩ => ⟨S4096x8192, .f32⟩
  | .hbm, ⟨5, _⟩ => ⟨S4096x8192, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ValueProject.lean ====
abbrev S4096x512 : Shape := ⟨2, ![4096, 512]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ValueProjectRefIdeal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x4096, .bf16⟩
  | .hbm, ⟨2, _⟩ => ⟨S4096x512, .f32⟩
  | .hbm, ⟨3, _⟩ => ⟨S512x4096, .f32⟩
  | .hbm, ⟨4, _⟩ => ⟨S4096x4096, .f32⟩
  | .hbm, ⟨5, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Step.lean ====
/- What one grid point of the attention gradient does to its buffers, as functions of values: the masked block on the
   diagonal, then one block after another below it.  Written over any float instance. -/
module

public import proofs.«01_k».proof.Proof.Gen.KernelIdeal.Loops
public import Idealize.ShloMosaic.Lib.VecWindow

@[expose] public section

set_option maxRecDepth 16384

noncomputable section

namespace Cert.Proof.Flash

open Cert.KernelIdeal Cert.KernelIdeal.Gen
open Idealize.ShloMosaic Idealize.ShloMosaic.TcCoe

variable {F : FTy → Type} [FloatOps F] [Named F]

/-- The three accumulators: the gradient of the queries (the whole head), of the keys and of the values (one block). -/
structure Acc (F : FTy → Type) where
  dq : Vec F S4096x256 .f32
  dk : Vec F S512x256 .f32
  dv : Vec F S512x128 .f32

/-- What a grid point reads: the head's queries, output gradient, row log-sums and row sums, and the block's keys and values. -/
structure Inp (F : FTy → Type) where
  q : Vec F S4096x256 .bf16
  dO : Vec F S4096x128 .bf16
  lse : Vec F S1x4096x128 .f32
  del : Vec F S1x4096x128 .f32
  k : Vec F S512x256 .bf16
  v : Vec F S512x128 .bf16

variable (i : grid0.Coords) (x : Inp F)

/-- The 512 query rows read by the masked block. -/
abbrev q0 : Vec F S512x256 .bf16 := VecWindow.window x.q (k0_off1 i) S512x256.size (k0_off1_inb i)
abbrev do0 : Vec F S512x128 .bf16 := VecWindow.window x.dO (k0_off2 i) S512x128.size (k0_off2_inb i)
abbrev lse0 : Vec F S1x512x1 .f32 := VecWindow.window x.lse (k0_off3 i) S1x512x1.size (k0_off3_inb i)
abbrev del0 : Vec F S1x512x1 .f32 := VecWindow.window x.del (k0_off3 i) S1x512x1.size (k0_off3_inb i)

/-- The constant `1 / log 2` of the masked block. -/
abbrev log2e : F .f32 := Named.named κ "log2e" 0x3FB8AA3B#32

/-- The accumulators after the masked block, from the queries' accumulator `dq` as it stood. -/
def first (dq : Vec F S4096x256 .f32) : Acc F where
  dq := VecWindow.put dq (k0_off1 i) S512x256.size
    (k0_pay33 (k0_pay20 x.k) (k0_pay21 x.v) (k0_pay26 (do0 i x)) (k0_pay27 x.k (q0 i x)) (k0_pay28 (lse0 i x)) log2e (del0 i x)
      (VecWindow.window dq (k0_off1 i) S512x256.size (k0_off1_inb i)))
  dk := k0_pay32 (k0_pay21 x.v) (k0_pay25 (q0 i x)) (k0_pay26 (do0 i x)) (k0_pay27 x.k (q0 i x)) (k0_pay28 (lse0 i x)) log2e (del0 i x) k0_pay22
  dv := k0_pay30 (k0_pay26 (do0 i x)) (k0_pay27 x.k (q0 i x)) (k0_pay28 (lse0 i x)) log2e k0_pay23

/-- One unmasked block: trip `k` of the loop, from the keys `v1` and values `v3`. -/
def trip (v1 : FVec F S512x256 .bf16) (v3 : FVec F S512x128 .bf16) (q : Vec F S4096x256 .bf16) (dO : Vec F S4096x128 .bf16)
    (lse del : Vec F S1x4096x128 .f32) (k : Fin (k0_t1_loop i).trips) (s : Acc F) : Acc F :=
  let qb : Vec F S512x256 .bf16 := VecWindow.window q (k0_off4 i k) S512x256.size (k0_off4_inb i k)
  let dob : Vec F S512x128 .bf16 := VecWindow.window dO (k0_off5 i k) S512x128.size (k0_off5_inb i k)
  let lb : Vec F S1x512x1 .f32 := VecWindow.window lse (k0_off6 i k) S1x512x1.size (k0_off6_inb i k)
  let db : Vec F S1x512x1 .f32 := VecWindow.window del (k0_off6 i k) S1x512x1.size (k0_off6_inb i k)
  { dq := VecWindow.put s.dq (k0_off4 i k) S512x256.size
      (k0_pay2 v1 (k0_pay12 v1 v3 qb dob lb db) (VecWindow.window s.dq (k0_off4 i k) S512x256.size (k0_off4_inb i k)))
    dk := k0_pay1 s.dk (k0_pay13 v1 v3 qb dob lb db)
    dv := k0_pay11 v1 qb dob lb s.dv }

/-- The accumulators before trip `k`. -/
def trips (v1 : FVec F S512x256 .bf16) (v3 : FVec F S512x128 .bf16) (q : Vec F S4096x256 .bf16) (dO : Vec F S4096x128 .bf16)
    (lse del : Vec F S1x4096x128 .f32) (s : Acc F) : ℕ → Acc F
  | 0 => s
  | k + 1 => if h : k < (k0_t1_loop i).trips then trip i v1 v3 q dO lse del ⟨k, h⟩ (trips v1 v3 q dO lse del s k) else trips v1 v3 q dO lse del s k

theorem trips_succ (v1 : FVec F S512x256 .bf16) (v3 : FVec F S512x128 .bf16) (q : Vec F S4096x256 .bf16) (dO : Vec F S4096x128 .bf16)
    (lse del : Vec F S1x4096x128 .f32) (s : Acc F) (k : Fin (k0_t1_loop i).trips) :
    trips i v1 v3 q dO lse del s (k.val + 1) = trip i v1 v3 q dO lse del k (trips i v1 v3 q dO lse del s k.val) := by
  rw [trips, dif_pos k.isLt]

/-- The queries' accumulator at the start of the point: zero at a head's first block, else as the last block left it. -/
def start (dq : Vec F S4096x256 .f32) : Vec F S4096x256 .f32 := if (i 1).val = 0 then k0_pay24 else dq

/-- The accumulators after the whole point. -/
def point (dq : Vec F S4096x256 .f32) : Acc F :=
  trips i (k0_pay20 x.k) (k0_pay21 x.v) x.q x.dO x.lse x.del (first i x (start i dq)) (k0_t1_loop i).trips

end Cert.Proof.Flash

end
-- ==== Proof.Body.lean ====
/- One grid point of the attention gradient runs as `Flash.point` says: the loop by its invariant, then the whole body. -/
module

public import proofs.«01_k».proof.Proof.Step
public import proofs.«01_k».proof.Proof.Gen.KernelIdeal.Frame
public import Idealize.ShloMosaic.Lib.Pipeline.TableIdle

@[expose] public section

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Body

variable (c : Dev nD) (E : Set ℕ) (i : grid0.Coords)
  (arg2 : Memref sig .tc .vmem S4096x256 .bf16) (harg2 : arg2.IsWhole) (arg3 : Memref sig .tc .vmem S4096x128 .bf16) (harg3 : arg3.IsWhole)
  (arg4 : Memref sig .tc .vmem S1x4096x128 .f32) (harg4 : arg4.IsWhole) (arg5 : Memref sig .tc .vmem S1x4096x128 .f32) (harg5 : arg5.IsWhole)
  (arg6 : Memref sig .tc .vmem S512x256 .bf16) (harg6 : arg6.IsWhole) (arg7 : Memref sig .tc .vmem S512x128 .bf16) (harg7 : arg7.IsWhole)
  (arg8 : Memref sig .tc .vmem S4096x256 .bf16) (harg8 : arg8.IsWhole) (arg9 : Memref sig .tc .vmem S512x256 .bf16) (harg9 : arg9.IsWhole)
  (arg10 : Memref sig .tc .vmem S512x128 .bf16) (harg10 : arg10.IsWhole) (arg11 : Memref sig .tc .vmem S4096x256 .f32) (harg11 : arg11.IsWhole)
  (arg12 : Memref sig .tc .vmem S512x256 .f32) (harg12 : arg12.IsWhole) (arg13 : Memref sig .tc .vmem S512x128 .f32) (harg13 : arg13.IsWhole)

/-- One trip's buffers: the four inputs at their values, the three accumulators at contents that read `s`. -/
abbrev held (x2 : Vec F S4096x256 .bf16) (x3 : Vec F S4096x128 .bf16) (x4 x5 : Vec F S1x4096x128 .f32) (s : Acc F) : sProp 𝕄 :=
  iprop((arg2.view.loc (c : Thread nD τ) ↦[arg2.view.set]{fullShare} arg2.view.rep x2)
    ∗ (arg3.view.loc (c : Thread nD τ) ↦[arg3.view.set]{fullShare} arg3.view.rep x3)
    ∗ (arg4.view.loc (c : Thread nD τ) ↦[arg4.view.set]{fullShare} arg4.view.rep x4)
    ∗ (arg5.view.loc (c : Thread nD τ) ↦[arg5.view.set]{fullShare} arg5.view.rep x5)
    ∗ (∃ f, (arg11.view.loc (c : Thread nD τ) ↦[arg11.view.set]{fullShare} f) ∗ ⌜arg11.view.read (Elt F) f = s.dq⌝)
    ∗ (∃ f, (arg12.view.loc (c : Thread nD τ) ↦[arg12.view.set]{fullShare} f) ∗ ⌜arg12.view.read (Elt F) f = s.dk⌝)
    ∗ (∃ f, (arg13.view.loc (c : Thread nD τ) ↦[arg13.view.set]{fullShare} f) ∗ ⌜arg13.view.read (Elt F) f = s.dv⌝))

/-- One trip of the loop takes the accumulators from `s` to `trip … s`. -/
theorem trip_run (v1 : FVec F S512x256 .bf16) (v3 : FVec F S512x128 .bf16) (v70 : BitVec 32)
    (x2 : Vec F S4096x256 .bf16) (x3 : Vec F S4096x128 .bf16) (x4 x5 : Vec F S1x4096x128 .f32) (k : Fin (k0_t1_loop i).trips) (s : Acc F) :
    held c arg2 arg3 arg4 arg5 arg11 arg12 arg13 x2 x3 x4 x5 s
      ⊢ wp frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 arg12 harg12 arg13 harg13 v1 v3 v70 k PUnit.unit)
        (fun _ => held c arg2 arg3 arg4 arg5 arg11 arg12 arg13 x2 x3 x4 x5 (trip i v1 v3 x2 x3 x4 x5 k s)) := by
  unfold k0_t1_body
  iintro ⟨H2, H3, H4, H5, ⟨%f11, H11, %h11⟩, ⟨%f12, H12, %h12⟩, ⟨%f13, H13, %h13⟩⟩
  sl_exec
  sl_step
  isplitl [H2]; · iexact H2
  isplitl [H3]; · iexact H3
  isplitl [H4]; · iexact H4
  isplitl [H5]; · iexact H5
  isplitl [H11]
  · iexists _; isplitl [H11]; · iexact H11
    ipureintro
    refine (View.read_writes_cons_put _ _ _ _ [] rfl).trans ?_
    rw [View.writes_nil, View.readAt_unit _ _ _ rfl (k0_off4_inb i k), h11]
    unfold trip_run.sl.r
    rw [View.readAt_rep_unit _ _ _ rfl (k0_off4_inb i k), View.readAt_rep_unit _ _ _ rfl (k0_off5_inb i k),
      View.readAt_rep_unit _ _ _ rfl (k0_off6_inb i k), View.readAt_rep_unit _ _ _ rfl (k0_off6_inb i k)]
    rfl
  isplitl [H12]
  · iexists _; isplitl [H12]; · iexact H12
    ipureintro
    refine (View.read_writes_full _ _ _ _ []).trans ?_
    unfold trip_run.sl.r_1 trip_run.sl.r_2
    rw [View.readAt_rep_unit _ _ _ rfl (k0_off4_inb i k), View.readAt_rep_unit _ _ _ rfl (k0_off5_inb i k),
      View.readAt_rep_unit _ _ _ rfl (k0_off6_inb i k), View.readAt_rep_unit _ _ _ rfl (k0_off6_inb i k),
      View.readAt_full, h12]
    rfl
  iexists _; isplitl [H13]; · iexact H13
  ipureintro
  refine (View.read_writes_full _ _ _ _ []).trans ?_
  rw [View.readAt_rep_unit _ _ _ rfl (k0_off4_inb i k), View.readAt_rep_unit _ _ _ rfl (k0_off5_inb i k),
    View.readAt_rep_unit _ _ _ rfl (k0_off6_inb i k), View.readAt_full, h13]
  rfl

/-- A buffer before trip `k`: as it stood at the loop's entry, then at the value `y k`. -/
def cont {s : Shape} {e : EltTy} (v : View sig .tc .vmem s e) (g : v.ty.Contents (Elt F)) (y : ℕ → Vec F s e) : ℕ → v.ty.Contents (Elt F)
  | 0 => g
  | k + 1 => v.rep (y (k + 1))

theorem read_cont {s : Shape} {e : EltTy} (v : View sig .tc .vmem s e) (g : v.ty.Contents (Elt F)) (y : ℕ → Vec F s e)
    (h : v.read (Elt F) g = y 0) (k : ℕ) : v.read (Elt F) (cont v g y k) = y k := by
  cases k with
  | zero => exact h
  | succ k => exact View.read_rep v _

/-- The accumulators before trip `k`, from the buffers' contents at the loop's entry. -/
abbrev fromBufs (v1 : FVec F S512x256 .bf16) (v3 : FVec F S512x128 .bf16)
    (x2 : Vec F S4096x256 .bf16) (x3 : Vec F S4096x128 .bf16) (x4 x5 : Vec F S1x4096x128 .f32)
    (g11 : BufTy.Contents (Elt F) arg11.view.ty) (g12 : BufTy.Contents (Elt F) arg12.view.ty) (g13 : BufTy.Contents (Elt F) arg13.view.ty) (k : ℕ) : Acc F :=
  trips i v1 v3 x2 x3 x4 x5 ⟨arg11.view.read (Elt F) g11, arg12.view.read (Elt F) g12, arg13.view.read (Elt F) g13⟩ k

set_option warn.classDefReducibility false in
/-- The loop by its invariant: before trip `k` the accumulators hold `trips … k`, from their contents at the loop's entry. -/
@[sl_loop] def loop1 (v1 : FVec F S512x256 .bf16) (v3 : FVec F S512x128 .bf16) (v70 : BitVec 32)
    (x2 : Vec F S4096x256 .bf16) (x3 : Vec F S4096x128 .bf16) (x4 x5 : Vec F S1x4096x128 .f32)
    (g11 : BufTy.Contents (Elt F) arg11.view.ty) (g12 : BufTy.Contents (Elt F) arg12.view.ty) (g13 : BufTy.Contents (Elt F) arg13.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 v1 v3 v70 where
  inv k _ := iprop((arg2.view.loc (c : Thread nD τ) ↦[arg2.view.set]{fullShare} arg2.view.rep x2)
    ∗ (arg3.view.loc (c : Thread nD τ) ↦[arg3.view.set]{fullShare} arg3.view.rep x3)
    ∗ (arg4.view.loc (c : Thread nD τ) ↦[arg4.view.set]{fullShare} arg4.view.rep x4)
    ∗ (arg5.view.loc (c : Thread nD τ) ↦[arg5.view.set]{fullShare} arg5.view.rep x5)
    ∗ (∃ f, (arg11.view.loc (c : Thread nD τ) ↦[arg11.view.set]{fullShare} f) ∗ ⌜f = cont arg11.view g11 (fun k => (fromBufs i arg11 arg12 arg13 v1 v3 x2 x3 x4 x5 g11 g12 g13 k).dq) k⌝)
    ∗ (∃ f, (arg12.view.loc (c : Thread nD τ) ↦[arg12.view.set]{fullShare} f) ∗ ⌜f = cont arg12.view g12 (fun k => (fromBufs i arg11 arg12 arg13 v1 v3 x2 x3 x4 x5 g11 g12 g13 k).dk) k⌝)
    ∗ (∃ f, (arg13.view.loc (c : Thread nD τ) ↦[arg13.view.set]{fullShare} f) ∗ ⌜f = cont arg13.view g13 (fun k => (fromBufs i arg11 arg12 arg13 v1 v3 x2 x3 x4 x5 g11 g12 g13 k).dv) k⌝))
  step k _ := by
    iintro ⟨H2, H3, H4, H5, ⟨%f11, H11, %h11⟩, ⟨%f12, H12, %h12⟩, ⟨%f13, H13, %h13⟩⟩
    iapply (wp_wand_r Idealize.ShloMosaic.frame (wpE (defs₀ (F := F)) Variants.none (c : Thread nD τ) none) E)
    isplitl [H2 H3 H4 H5 H11 H12 H13]
    · iapply (trip_run c E i arg2 harg2 arg3 harg3 arg4 harg4 arg5 harg5 arg6 harg6 arg7 harg7 arg8 harg8 arg9 harg9 arg10 harg10 arg11 harg11 arg12 harg12 arg13 harg13 v1 v3 v70 x2 x3 x4 x5 k
        (fromBufs i arg11 arg12 arg13 v1 v3 x2 x3 x4 x5 g11 g12 g13 k.val))
      isplitl [H2]; · iexact H2
      isplitl [H3]; · iexact H3
      isplitl [H4]; · iexact H4
      isplitl [H5]; · iexact H5
      isplitl [H11]
      · iexists f11; isplitl [H11]; · iexact H11
        ipureintro; rw [h11]; exact read_cont _ _ _ rfl _
      isplitl [H12]
      · iexists f12; isplitl [H12]; · iexact H12
        ipureintro; rw [h12]; exact read_cont _ _ _ rfl _
      iexists f13; isplitl [H13]; · iexact H13
      ipureintro; rw [h13]; exact read_cont _ _ _ rfl _
    · iintro %_ ⟨H2, H3, H4, H5, ⟨%f11, H11, %h11⟩, ⟨%f12, H12, %h12⟩, ⟨%f13, H13, %h13⟩⟩
      isplitl [H2]; · iexact H2
      isplitl [H3]; · iexact H3
      isplitl [H4]; · iexact H4
      isplitl [H5]; · iexact H5
      rw [← trips_succ] at h11 h12 h13
      isplitl [H11]
      · iexists _; isplitl [H11]; · iapply (pointsTo_rep_of_read (c : Thread nD τ) arg11 f11 fullShare _ h11); iexact H11
        ipureintro; rfl
      isplitl [H12]
      · iexists _; isplitl [H12]; · iapply (pointsTo_rep_of_read (c : Thread nD τ) arg12 f12 fullShare _ h12); iexact H12
        ipureintro; rfl
      iexists _; isplitl [H13]; · iapply (pointsTo_rep_of_read (c : Thread nD τ) arg13 f13 fullShare _ h13); iexact H13
      ipureintro; rfl

/-- The remainder loop makes no trip. -/
theorem no_trips2 : ∀ i : grid0.Coords, (k0_t2_loop i).trips = 0 := by decide +kernel

set_option warn.classDefReducibility false in
/-- The remainder loop by its invariant: it makes no trip, so nothing is asked. -/
@[sl_loop] def loop2 (v1 : FVec F S512x256 .bf16) (v3 : FVec F S512x128 .bf16) (v75 : BitVec 32) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 v1 v3 v75 where
  inv _ _ := iprop(emp)
  step k _ := (Nat.not_lt_zero _ (Nat.lt_of_lt_of_eq k.isLt (no_trips2 i))).elim

/-- From contents that read the accumulators after the masked block, the loop leaves contents that read `point`. -/
theorem reads_after (x : Inp F) (dq : Vec F S4096x256 .f32)
    (g11 : BufTy.Contents (Elt F) arg11.view.ty) (g12 : BufTy.Contents (Elt F) arg12.view.ty) (g13 : BufTy.Contents (Elt F) arg13.view.ty)
    (e11 : arg11.view.read (Elt F) g11 = (first i x (start i dq)).dq) (e12 : arg12.view.read (Elt F) g12 = (first i x (start i dq)).dk)
    (e13 : arg13.view.read (Elt F) g13 = (first i x (start i dq)).dv) :
    arg11.view.read (Elt F) (cont arg11.view g11 (fun k => (fromBufs i arg11 arg12 arg13 (k0_pay20 x.k) (k0_pay21 x.v) x.q x.dO x.lse x.del g11 g12 g13 k).dq) (k0_t1_loop i).trips) = (point i x dq).dq
    ∧ arg12.view.read (Elt F) (cont arg12.view g12 (fun k => (fromBufs i arg11 arg12 arg13 (k0_pay20 x.k) (k0_pay21 x.v) x.q x.dO x.lse x.del g11 g12 g13 k).dk) (k0_t1_loop i).trips) = (point i x dq).dk
    ∧ arg13.view.read (Elt F) (cont arg13.view g13 (fun k => (fromBufs i arg11 arg12 arg13 (k0_pay20 x.k) (k0_pay21 x.v) x.q x.dO x.lse x.del g11 g12 g13 k).dv) (k0_t1_loop i).trips) = (point i x dq).dv := by
  rw [read_cont _ _ _ rfl, read_cont _ _ _ rfl, read_cont _ _ _ rfl]
  unfold fromBufs point
  rw [e11, e12, e13]
  exact ⟨rfl, rfl, rfl⟩

/-- The accumulators' buffers after the loop, from contents that read the accumulators after the masked block, hold `point`. -/
theorem close_loop (x : Inp F) (dq : Vec F S4096x256 .f32)
    (g11 : BufTy.Contents (Elt F) arg11.view.ty) (g12 : BufTy.Contents (Elt F) arg12.view.ty) (g13 : BufTy.Contents (Elt F) arg13.view.ty)
    (e11 : arg11.view.read (Elt F) g11 = (first i x (start i dq)).dq) (e12 : arg12.view.read (Elt F) g12 = (first i x (start i dq)).dk)
    (e13 : arg13.view.read (Elt F) g13 = (first i x (start i dq)).dv)
    (y8 : Vec F S4096x256 .bf16) (w8 : Vec F S4096x256 .f32) (w9 : Vec F S512x256 .f32) (w10 : Vec F S512x128 .f32)
    (f8 : BufTy.Contents (Elt F) arg8.view.ty) (y9 : BufTy.Contents (Elt F) arg9.view.ty) (y10 : BufTy.Contents (Elt F) arg10.view.ty)
    (h8 : w8 = arg11.view.read (Elt F) (cont arg11.view g11 (fun k => (fromBufs i arg11 arg12 arg13 (k0_pay20 x.k) (k0_pay21 x.v) x.q x.dO x.lse x.del g11 g12 g13 k).dq) (k0_t1_loop i).trips))
    (h9 : w9 = arg12.view.read (Elt F) (cont arg12.view g12 (fun k => (fromBufs i arg11 arg12 arg13 (k0_pay20 x.k) (k0_pay21 x.v) x.q x.dO x.lse x.del g11 g12 g13 k).dk) (k0_t1_loop i).trips))
    (h10 : w10 = arg13.view.read (Elt F) (cont arg13.view g13 (fun k => (fromBufs i arg11 arg12 arg13 (k0_pay20 x.k) (k0_pay21 x.v) x.q x.dO x.lse x.del g11 g12 g13 k).dv) (k0_t1_loop i).trips))
    (e8 : arg8.view.read (Elt F) f8 = if k0_cond2 i = 1#1 then k0_pay7 w8 else y8)
    (e9 : arg9.view.read (Elt F) y9 = k0_pay5 w9) (e10 : arg10.view.read (Elt F) y10 = k0_pay6 w10) :
    iprop((arg8.view.loc (c : Thread nD τ) ↦[arg8.view.set]{fullShare} f8) ∗ (arg9.view.loc (c : Thread nD τ) ↦[arg9.view.set]{fullShare} y9) ∗ (arg10.view.loc (c : Thread nD τ) ↦[arg10.view.set]{fullShare} y10)
      ∗ (arg11.view.loc (c : Thread nD τ) ↦[arg11.view.set]{fullShare} cont arg11.view g11 (fun k => (fromBufs i arg11 arg12 arg13 (k0_pay20 x.k) (k0_pay21 x.v) x.q x.dO x.lse x.del g11 g12 g13 k).dq) (k0_t1_loop i).trips)
      ∗ (arg12.view.loc (c : Thread nD τ) ↦[arg12.view.set]{fullShare} cont arg12.view g12 (fun k => (fromBufs i arg11 arg12 arg13 (k0_pay20 x.k) (k0_pay21 x.v) x.q x.dO x.lse x.del g11 g12 g13 k).dk) (k0_t1_loop i).trips)
      ∗ (arg13.view.loc (c : Thread nD τ) ↦[arg13.view.set]{fullShare} cont arg13.view g13 (fun k => (fromBufs i arg11 arg12 arg13 (k0_pay20 x.k) (k0_pay21 x.v) x.q x.dO x.lse x.del g11 g12 g13 k).dv) (k0_t1_loop i).trips))
    ⊢ (iprop((arg8.view.loc (c : Thread nD τ) ↦[arg8.view.set]{fullShare} arg8.view.rep (if k0_cond2 i = 1#1 then k0_pay7 (point i x dq).dq else y8))
      ∗ (arg9.view.loc (c : Thread nD τ) ↦[arg9.view.set]{fullShare} arg9.view.rep (k0_pay5 (point i x dq).dk))
      ∗ (arg10.view.loc (c : Thread nD τ) ↦[arg10.view.set]{fullShare} arg10.view.rep (k0_pay6 (point i x dq).dv))
      ∗ (arg11.view.loc (c : Thread nD τ) ↦[arg11.view.set]{fullShare} arg11.view.rep (point i x dq).dq)
      ∗ (arg12.view.loc (c : Thread nD τ) ↦[arg12.view.set]{fullShare} arg12.view.rep (point i x dq).dk)
      ∗ (arg13.view.loc (c : Thread nD τ) ↦[arg13.view.set]{fullShare} arg13.view.rep (point i x dq).dv)) : sProp 𝕄) := by
  obtain ⟨k11, k12, k13⟩ := reads_after i arg11 arg12 arg13 x dq g11 g12 g13 e11 e12 e13
  iintro ⟨H8, H9, H10, H11, H12, H13⟩
  isplitl [H8]; · iapply (pointsTo_rep_of_read (c : Thread nD τ) arg8 _ fullShare _ (by rw [e8, h8, k11])); iexact H8
  isplitl [H9]; · iapply (pointsTo_rep_of_read (c : Thread nD τ) arg9 _ fullShare _ (by rw [e9, h9, k12])); iexact H9
  isplitl [H10]; · iapply (pointsTo_rep_of_read (c : Thread nD τ) arg10 _ fullShare _ (by rw [e10, h10, k13])); iexact H10
  isplitl [H11]; · iapply (pointsTo_rep_of_read (c : Thread nD τ) arg11 _ fullShare _ k11); iexact H11
  isplitl [H12]; · iapply (pointsTo_rep_of_read (c : Thread nD τ) arg12 _ fullShare _ k12); iexact H12
  iapply (pointsTo_rep_of_read (c : Thread nD τ) arg13 _ fullShare _ k13); iexact H13

/-- The body's first condition asks for a head's first block. -/
theorem cond1_iff : ∀ i : grid0.Coords, Scalar.cmpi .ne (Scalar.extui (Scalar.cmpi .eq (BitVec.ofNat 32 (i 1).val) 0#32) : BitVec 32) 0#32 = 1#1 ↔ (i 1).val = 0 := by
  decide +kernel

/-- The queries' accumulator after the first condition: zero at a head's first block, else as it was. -/
theorem read_start (dq : Vec F S4096x256 .f32) (b : BitVec 1) (hb : b = 1#1 ↔ (i 1).val = 0) :
    arg11.view.read (Elt F) (if hc : b = 1#1 then arg11.view.writes (Elt F) (arg11.view.rep dq)
        [⟨Rect.unit ![0, 0] S4096x256.size inb_S4096x256_S4096x256_0_0, k0_pay24⟩] else arg11.view.rep dq) = start i dq := by
  unfold start
  by_cases h : b = 1#1
  · rw [dif_pos h, if_pos (hb.mp h)]; exact View.read_writes_full _ _ _ _ []
  · rw [dif_neg h, if_neg (fun h' => h (hb.mpr h'))]; exact View.read_rep _ _

/-- The head's result after the last condition: written at a head's last block, else as it was. -/
theorem read_last (w : Vec F S4096x256 .f32) (y8 : Vec F S4096x256 .bf16) :
    arg8.view.read (Elt F) (if hc : k0_cond2 i = 1#1 then arg8.view.writes (Elt F) (arg8.view.rep y8)
        [⟨Rect.unit ![0, 0] S4096x256.size inb_S4096x256_S4096x256_0_0, k0_pay7 w⟩] else arg8.view.rep y8) = if k0_cond2 i = 1#1 then k0_pay7 w else y8 := by
  by_cases h : k0_cond2 i = 1#1
  · rw [dif_pos h, if_pos h]; exact View.read_writes_full _ _ _ _ []
  · rw [dif_neg h, if_neg h]; exact View.read_rep _ _

/-- One grid point: the block's two results and the accumulators are `point`'s, and at a head's last block the head's result is written. -/
theorem body_run (x : Inp F) (dq : Vec F S4096x256 .f32) (y8 : Vec F S4096x256 .bf16) (K : PUnit → sProp 𝕄) :
    iprop(owns (c : Thread nD τ) arg2 fullShare x.q ∗ owns (c : Thread nD τ) arg3 fullShare x.dO ∗ owns (c : Thread nD τ) arg4 fullShare x.lse
        ∗ owns (c : Thread nD τ) arg5 fullShare x.del ∗ owns (c : Thread nD τ) arg6 fullShare x.k ∗ owns (c : Thread nD τ) arg7 fullShare x.v
        ∗ owns (c : Thread nD τ) arg8 fullShare y8 ∗ (∃ d, owns (c : Thread nD τ) arg9 fullShare d) ∗ (∃ d, owns (c : Thread nD τ) arg10 fullShare d)
        ∗ owns (c : Thread nD τ) arg11 fullShare dq ∗ (∃ d, owns (c : Thread nD τ) arg12 fullShare d) ∗ (∃ d, owns (c : Thread nD τ) arg13 fullShare d)
        ∗ (iprop(owns (c : Thread nD τ) arg2 fullShare x.q ∗ owns (c : Thread nD τ) arg3 fullShare x.dO ∗ owns (c : Thread nD τ) arg4 fullShare x.lse
        ∗ owns (c : Thread nD τ) arg5 fullShare x.del ∗ owns (c : Thread nD τ) arg6 fullShare x.k ∗ owns (c : Thread nD τ) arg7 fullShare x.v
        ∗ owns (c : Thread nD τ) arg8 fullShare (if k0_cond2 i = 1#1 then k0_pay7 (point i x dq).dq else y8) ∗ owns (c : Thread nD τ) arg9 fullShare (k0_pay5 (point i x dq).dk) ∗ owns (c : Thread nD τ) arg10 fullShare (k0_pay6 (point i x dq).dv)
        ∗ owns (c : Thread nD τ) arg11 fullShare (point i x dq).dq ∗ owns (c : Thread nD τ) arg12 fullShare (point i x dq).dk ∗ owns (c : Thread nD τ) arg13 fullShare (point i x dq).dv) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [owns_eq_rep]
  iintro ⟨H2, H3, H4, H5, H6, H7, H8, ⟨%y9, H9⟩, ⟨%y10, H10⟩, H11, ⟨%y12, H12⟩, ⟨%y13, H13⟩, Hk⟩
  sl_exec
  sl_step
  unfold body_run.sl.r body_run.sl.r_1
  rw [View.readAt_rep_full, View.readAt_rep_full]
  ihave ⟨H8, H9, H10, H11, H12, H13⟩ := (close_loop c i arg8 arg9 arg10 arg11 arg12 arg13 x dq _ _ _ ?_ ?_ ?_ y8 _ _ _ _ _ _ ?_ ?_ ?_ ?_ ?_ ?_) $$ [H8 H9 H10 H11 H12 H13]
  rotate_left 9
  · isplitl [H8]; · iexact H8
    isplitl [H9]; · iexact H9
    isplitl [H10]; · iexact H10
    isplitl [H11]; · iexact H11
    isplitl [H12]; · iexact H12
    iexact H13
  · iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  pick_goal -1
  · exact View.read_writes_full _ _ _ _ []
  pick_goal -1
  · exact View.read_writes_full _ _ _ _ []
  pick_goal -1
  · exact read_last i arg8 _ y8
  pick_goal -1
  · unfold body_run.sl.v79 body_run.sl.r body_run.sl.r_1
    rw [View.readAt_rep_full, View.readAt_rep_full]
    exact View.readAt_full _ _ _
  pick_goal -1
  · unfold body_run.sl.v76 body_run.sl.r body_run.sl.r_1
    rw [View.readAt_rep_full, View.readAt_rep_full]
    exact View.readAt_full _ _ _
  pick_goal -1
  · unfold body_run.sl.v85 body_run.sl.r body_run.sl.r_1
    rw [View.readAt_rep_full, View.readAt_rep_full]
    exact View.readAt_full _ _ _
  · refine (View.read_writes_cons_put _ _ _ _ [] rfl).trans ?_
    unfold body_run.sl.r_3 body_run.sl.r_4 body_run.sl.r_5 body_run.sl.cst_16 body_run.sl.v63
    rw [View.writes_nil, read_start i arg11 dq (body_run.sl.v14 i) (cond1_iff i), View.readAt_rep_unit arg5.view _ _ rfl (k0_off3_inb i),
      View.readAt_unit arg11.view _ _ rfl (k0_off1_inb i), read_start i arg11 dq (body_run.sl.v14 i) (cond1_iff i),
      View.readAt_rep_unit arg2.view _ _ rfl (k0_off1_inb i), View.readAt_rep_unit arg3.view _ _ rfl (k0_off2_inb i),
      View.readAt_rep_unit arg4.view _ _ rfl (k0_off3_inb i), View.readAt_rep_full]
    rfl
  · refine (View.read_writes_full _ _ _ _ body_run.sl.H12_1).trans ?_
    unfold body_run.sl.r_2 body_run.sl.r_3 body_run.sl.r_4 body_run.sl.r_5 body_run.sl.cst_16 body_run.sl.v56 body_run.sl.H12_1
    rw [View.readAt_rep_unit arg5.view _ _ rfl (k0_off3_inb i), View.readAt_rep_unit arg2.view _ _ rfl (k0_off1_inb i),
      View.readAt_rep_unit arg3.view _ _ rfl (k0_off2_inb i), View.readAt_rep_unit arg4.view _ _ rfl (k0_off3_inb i),
      View.readAt_rep_full, View.readCov_full]
    rfl
  · refine (View.read_writes_full _ _ _ _ body_run.sl.H13_1).trans ?_
    unfold body_run.sl.r_3 body_run.sl.r_4 body_run.sl.r_5 body_run.sl.cst_16 body_run.sl.v39 body_run.sl.H13_1
    rw [View.readAt_rep_unit arg2.view _ _ rfl (k0_off1_inb i),
      View.readAt_rep_unit arg3.view _ _ rfl (k0_off2_inb i), View.readAt_rep_unit arg4.view _ _ rfl (k0_off3_inb i),
      View.readAt_rep_full, View.readCov_full]
    rfl

end Body

end Cert.Proof.Flash

end
-- ==== Proof.Run.lean ====
/- The run of the attention gradient: what the buffers hold at each grid point, the body's obligation, the launch, and
   the frame.  The queries' accumulator carries from one key block to the next inside a head. -/
module

public import proofs.«01_k».proof.Proof.Body
public import proofs.«01_k».proof.Proof.Gen.KernelIdeal.Frame
public import Idealize.ShloMosaic.Lib.Claim

@[expose] public section

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's order -/

/-- The key block runs fastest: it is the point's number modulo 8. -/
theorem coords_block : ∀ t : Fin grid0.N, (grid0.coords t 1).val = t.val % 8 := by decide +kernel

/-- The head is the point's number divided by 8. -/
theorem coords_head : ∀ t : Fin grid0.N, (grid0.coords t 0).val = t.val / 8 := by decide +kernel

/-- The queries' gradient is stored at a head's last point. -/
theorem cond2_iff : ∀ t : Fin grid0.N, k0_cond2 (grid0.coords t) = 1#1 ↔ t.val % 8 = 7 := by decide +kernel

/-! ## What the buffers hold -/

/-- What point `t` reads. -/
def inp (c : Dev nD) (t : Fin cfg0.N) : Inp F where
  q := iblk m c 0 t
  dO := iblk m c 1 t
  lse := iblk m c 2 t
  del := iblk m c 3 t
  k := iblk m c 4 t
  v := iblk m c 5 t

/-- The queries' accumulator before point `n`. -/
def dqAt (c : Dev nD) : ℕ → Vec F S4096x256 .f32
  | 0 => k0_pay24
  | n + 1 => if h : n < cfg0.N then (point (grid0.coords ⟨n, h⟩) (inp m c ⟨n, h⟩) (dqAt c n)).dq else dqAt c n

/-- The accumulators after point `t`. -/
def accAfter (c : Dev nD) (t : Fin cfg0.N) : Acc F := point (grid0.coords t) (inp m c t) (dqAt m c t.val)

theorem dqAt_succ (c : Dev nD) (t : Fin cfg0.N) : dqAt m c (t.val + 1) = (accAfter m c t).dq := by
  rw [dqAt, dif_pos t.isLt]; rfl

/-- At a head's first point the accumulator starts from zero whatever it held. -/
theorem point_start (i : grid0.Coords) (x : Inp F) (d d' : Vec F S4096x256 .f32) (h : (i 1).val = 0) : point i x d = point i x d' := by
  simp only [point, start, if_pos h]

/-- The three scratch accumulators between points: the queries' holds `dqAt` inside a head. -/
def inv (c : Dev nD) (n : ℕ) : sProp 𝕄 :=
  iprop((∃ d, owns (c : Thread nD τ) (Memref.whole cc0_scratch0) fullShare d ∗ ⌜n % 8 ≠ 0 → d = dqAt m c n⌝)
    ∗ (∃ d, owns (c : Thread nD τ) (Memref.whole cc0_scratch1) fullShare d)
    ∗ (∃ d, owns (c : Thread nD τ) (Memref.whole cc0_scratch2) fullShare d)
    ∗ ∃ r, prngReg c r)

/-- The proof data: the arrays as the region finds them, each input's buffer at its block, each output's at the
    accumulator cast to its type. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (accAfter m c t).dq
    | ⟨7, _⟩ => k0_pay5 (accAfter m c t).dk
    | ⟨8, _⟩ => k0_pay6 (accAfter m c t).dv
  Φ t := inv m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay7 (accAfter m c t).dq := by dsimp only [dats]
theorem after0_7 (c : Dev nD) (t : Fin cfg0.N) : (dats m 0 c).after 7 t = k0_pay5 (accAfter m c t).dk := by dsimp only [dats]
theorem after0_8 (c : Dev nD) (t : Fin cfg0.N) : (dats m 0 c).after 8 t = k0_pay6 (accAfter m c t).dv := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What is left in the queries' output buffer: the accumulator at a head's last point, else what it held. -/
def left6 (c : Dev nD) (t : Fin cfg0.N) : sProp 𝕄 :=
  match cfg0.idle 6 (cfg0.grid.coords t) with
  | true => match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ left6 m c t
    ∗ owns (c : Thread nD τ) (st0_7 t) fullShare ((dats m 0 c).after 7 t)
    ∗ owns (c : Thread nD τ) (st0_8 t) fullShare ((dats m 0 c).after 8 t))

/-- A conditional store into the queries' output buffer leaves what the pipeline asks for. -/
theorem left6_of (c : Dev nD) (t : Fin cfg0.N) (d) :
    owns (c : Thread nD τ) (st0_6 t) fullShare (if k0_cond2 (grid0.coords t) = 1#1 then k0_pay7 (accAfter m c t).dq else (dats m 0 c).before 6 t d)
      ⊢ left6 m c t := by
  unfold left6
  rw [show cfg0.idle 6 (cfg0.grid.coords t) = !(k0_cond2 (grid0.coords t) == 1#1) from rfl]
  by_cases hc : k0_cond2 (grid0.coords t) = 1#1
  · rw [hc, if_pos rfl, ← after0_6]; exact .rfl
  · have hf : (cfg0.win 6).flush t = false := by
      rw [Bool.eq_false_iff]; exact fun h => hc ((cond2_iff t).2 ((flush0_6 t).1 h))
    rw [if_neg hc, show (k0_cond2 (grid0.coords t) == 1#1) = false from by simpa using hc, hf]
    exact exists_intro (Φ := fun d => owns (c : Thread nD τ) (st0_6 t) fullShare ((dats m 0 c).before 6 t d)) d

section
variable (c : Dev nD) (E : Set ℕ) (i : grid0.Coords)
  (arg2 : Memref sig .tc .vmem S4096x256 .bf16) (harg2 : arg2.IsWhole)
  (arg3 : Memref sig .tc .vmem S4096x128 .bf16) (harg3 : arg3.IsWhole)
  (arg4 : Memref sig .tc .vmem S1x4096x128 .f32) (harg4 : arg4.IsWhole)
  (arg5 : Memref sig .tc .vmem S1x4096x128 .f32) (harg5 : arg5.IsWhole)
  (arg6 : Memref sig .tc .vmem S512x256 .bf16) (harg6 : arg6.IsWhole)
  (arg7 : Memref sig .tc .vmem S512x128 .bf16) (harg7 : arg7.IsWhole)
  (arg8 : Memref sig .tc .vmem S4096x256 .bf16) (harg8 : arg8.IsWhole)
  (arg9 : Memref sig .tc .vmem S512x256 .bf16) (harg9 : arg9.IsWhole)
  (arg10 : Memref sig .tc .vmem S512x128 .bf16) (harg10 : arg10.IsWhole)
  (arg11 : Memref sig .tc .vmem S4096x256 .f32) (harg11 : arg11.IsWhole)
  (arg12 : Memref sig .tc .vmem S512x256 .f32) (harg12 : arg12.IsWhole)
  (arg13 : Memref sig .tc .vmem S512x128 .f32) (harg13 : arg13.IsWhole)

/-- `body_run` with the accumulators after the point and the six inputs given names. -/
theorem body_run_as (x0 : Vec F S4096x256 .bf16) (x1 : Vec F S4096x128 .bf16) (x2 x3 : Vec F S1x4096x128 .f32) (x4 : Vec F S512x256 .bf16) (x5 : Vec F S512x128 .bf16) (dq : Vec F S4096x256 .f32) (y8 : Vec F S4096x256 .bf16) (a : Acc F) (hp : point i ⟨x0, x1, x2, x3, x4, x5⟩ dq = a) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare y8 ∗ (∃ d, owns (c : Thread nD τ) arg9 fullShare d) ∗ (∃ d, owns (c : Thread nD τ) arg10 fullShare d)
        ∗ owns (c : Thread nD τ) arg11 fullShare dq ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (if k0_cond2 i = 1#1 then k0_pay7 a.dq else y8) ∗ owns (c : Thread nD τ) arg9 fullShare (k0_pay5 a.dk) ∗ owns (c : Thread nD τ) arg10 fullShare (k0_pay6 a.dv)
        ∗ owns (c : Thread nD τ) arg11 fullShare a.dq ∗ owns (c : Thread nD τ) arg12 fullShare a.dk ∗ owns (c : Thread nD τ) arg13 fullShare a.dv) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  subst hp; exact body_run c E i arg2 harg2 arg3 harg3 arg4 harg4 arg5 harg5 arg6 harg6 arg7 harg7 arg8 harg8 arg9 harg9 arg10 harg10 arg11 harg11 arg12 harg12 arg13 harg13 ⟨x0, x1, x2, x3, x4, x5⟩ dq y8 K
end

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.castSucc = inv m c t.val from rfl, show (dats m 0 c).Φ t.succ = inv m c (t.val + 1) from rfl,
    show (dats m 0 c).owesAt () t.succ = (dats m 0 c).owesAt () t.castSucc from rfl,
    after0_0, after0_1, after0_2, after0_3, after0_4, after0_5, after0_7, after0_8]
  unfold inv
  iintro ⟨⟨⟨%d, Hd, %hd⟩, Hs1, Hs2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hp : point (grid0.coords t) ⟨iblk m c 0 t, iblk m c 1 t, iblk m c 2 t, iblk m c 3 t, iblk m c 4 t, iblk m c 5 t⟩ d = accAfter m c t := by
    by_cases h : t.val % 8 = 0
    · exact point_start _ _ _ _ ((coords_block t).trans h)
    · rw [hd h]; rfl
  iapply (body_run_as (hp := hp) (y8 := (dats m 0 c).before 6 t d6))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [Hd]; · iexact Hd
  isplitl [Hs1]; · iexact Hs1
  isplitl [Hs2]; · iexact Hs2
  iintro ⟨H0, H1, H2, H3, H4, H5, H6, H7, H8, Hd, Hs1, Hs2⟩
  isplitl [Hd Hs1 Hs2 Hr]
  · isplitl [Hd]
    · iexists _; isplitl [Hd]; · iexact Hd
      ipureintro; exact fun _ => (dqAt_succ m c t).symm
    isplitl [Hs1]; · iexists _; iexact Hs1
    isplitl [Hs2]; · iexists _; iexact Hs2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (left6_of m c t d6); iexact H6
  isplitl [H7]; · iexact H7
  iexact H8

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The scratch at entry, at any contents. -/
theorem enter (c : Dev nD) : (Pipeline.ΦA spec0 c : sProp 𝕄) ⊢ inv m c 0 := by
  unfold Pipeline.ΦA inv
  rw [scopedRest0_eq]
  simp only [owns_whole]
  iintro ⟨⟨⟨%f0, H0⟩, ⟨%f1, H1⟩, ⟨%f2, H2⟩⟩, Hr⟩
  isplitl [H0]
  · iexists f0; isplitl [H0]; · iexact H0
    ipureintro; exact fun h => absurd rfl h
  isplitl [H1]; · iexists f1; iexact H1
  isplitl [H2]; · iexists f2; iexact H2
  iexact Hr

/-- The scratch at exit, its contents forgotten. -/
theorem leave (c : Dev nD) (n : ℕ) : inv m c n ⊢ (Pipeline.ΦA spec0 c : sProp 𝕄) := by
  unfold Pipeline.ΦA inv
  rw [scopedRest0_eq]
  simp only [owns_whole]
  iintro ⟨⟨%f0, H0, -⟩, ⟨%f1, H1⟩, ⟨%f2, H2⟩, Hr⟩
  isplitr [Hr]
  · isplitl [H0]; · iexists f0; iexact H0
    isplitl [H1]; · iexists f1; iexact H1
    iexists f2; iexact H2
  iexact Hr

set_option backward.isDefEq.respectTransparency.types false in
/-- The run: the arrays end at what the proof data computes, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Flash

end
-- ==== Proof.Frames.lean ====
/- The frame of the kernel as printed: its text is the ideal program's with the named constants at their float words, so
   the one run, stated over any float instance, is the run of both. -/
module

public import proofs.«01_k».proof.Defs
public import proofs.«01_k».proof.Proof.Gen.Kernel
public import proofs.«01_k».proof.Proof.Run

@[expose] public section

set_option maxRecDepth 16384
set_option maxHeartbeats 2000000

noncomputable section

namespace Cert.Proof

open Idealize.ShloMosaic Idealize.ShloMosaic.TcCoe Idealize.SL.Sem

/-- Every named constant at its float word. -/
@[reducible] def namedBits : Named Bits := ⟨fun _ _ _ bits => Scalar.ofBits _ bits⟩

local instance : Named Bits := namedBits

theorem body_eq : @Cert.Kernel.cc0_attn_bwd Bits _ _ = @Cert.KernelIdeal.cc0_attn_bwd Bits _ _ _ := rfl

theorem defs₀_eq : Cert.Kernel.defs₀ (F := Bits) = Cert.KernelIdeal.defs₀ (F := Bits) := by
  unfold Cert.Kernel.defs₀ Cert.KernelIdeal.defs₀
  congr 1
  funext l x
  match l with
  | 0 => rfl

theorem defs_eq : Cert.Kernel.defs (F := Bits) = Cert.KernelIdeal.defs (F := Bits) :=
  congrArg (Idealize.ShloMosaic.Pipeline.defs (Cert.KernelIdeal.pcfgs (F := Bits))) defs₀_eq

theorem main_eq : Cert.Kernel.main (F := Bits) = Cert.KernelIdeal.main (F := Bits) := rfl

/-- The kernel runs without fault, leaves its arguments unchanged and every semaphore counter at zero. -/
theorem frame_kernel : Cert.quiescent_Kernel := fun m ρ _ => by
  rw [defs_eq, main_eq]
  exact (θ_run Cert.KernelIdeal.defs _ _).mono (fun _ h => h) (Cert.Proof.Flash.frame (F := Bits) m ρ)

end Cert.Proof

end
-- ==== Proof.Real.lean ====
/- The gradient of one head of causal attention over the real numbers: softmax of the scaled products, its row maximum and
   row sum, and the three gradients as sums over rows and columns.  Rows, columns and lanes are natural numbers. -/
module

public import Mathlib.Analysis.SpecialFunctions.Pow.Real
public import Idealize.ShloMosaic.PureOps.Ideal.Laws
public import Mathlib.Tactic.FieldSimp
public import Mathlib.Tactic.Ring

@[expose] public section

noncomputable section

namespace Cert.Proof.Flash

open Finset

/-- One head's arguments: queries and keys (row, lane), values and the output's gradient (row, lane).  Lanes from 192 on are zero. -/
structure Head where
  q : ℕ → ℕ → ℝ
  k : ℕ → ℕ → ℝ
  v : ℕ → ℕ → ℝ
  g : ℕ → ℕ → ℝ
  qz : ∀ i d, 192 ≤ d → q i d = 0
  kz : ∀ j d, 192 ≤ d → k j d = 0

/-- The softmax's scale, `1/√192`. -/
def scale : ℝ := (Real.sqrt 192)⁻¹

namespace Head

variable (H : Head)

/-- The product of query `i` and key `j`. -/
def dot (i j : ℕ) : ℝ := ∑ d ∈ range 192, H.q i d * H.k j d

/-- Row `i`'s largest scaled product among the keys up to `i`. -/
def top (i : ℕ) : ℝ := (range (i + 1)).sup' nonempty_range_add_one fun j => H.dot i j * scale

/-- The exponential of a scaled product less its row's largest; zero for a key after the query. -/
def e (i j : ℕ) : ℝ := if j ≤ i then Real.exp (H.dot i j * scale - H.top i) else 0

/-- The row sum of the exponentials. -/
def l (i : ℕ) : ℝ := ∑ j ∈ range 4096, H.e i j

/-- The softmax. -/
def p (i j : ℕ) : ℝ := H.e i j / H.l i

/-- The row log-sum of the exponentials of the scaled products. -/
def lse (i : ℕ) : ℝ := H.top i + Real.log (H.l i)

/-- The gradient of the softmax. -/
def dp (i j : ℕ) : ℝ := ∑ d ∈ range 128, H.g i d * H.v j d

/-- The row sum of the output times its gradient. -/
def delta (i : ℕ) : ℝ := ∑ d ∈ range 128, H.g i d * ∑ j ∈ range 4096, H.p i j * H.v j d

/-- The gradient of the products before the scale. -/
def ds (i j : ℕ) : ℝ := H.p i j * (H.dp i j - H.delta i) * scale

theorem e_nonneg (i j : ℕ) : 0 ≤ H.e i j := by
  unfold e; split_ifs
  · exact (Real.exp_pos _).le
  · exact le_rfl

theorem l_pos (i : ℕ) (hi : i < 4096) : 0 < H.l i := by
  refine sum_pos' (fun j _ => H.e_nonneg i j) ⟨i, mem_range.2 hi, ?_⟩
  unfold e; rw [if_pos le_rfl]; exact Real.exp_pos _

theorem p_zero {i j : ℕ} (h : i < j) : H.p i j = 0 := by
  unfold p e; rw [if_neg (by omega), zero_div]

theorem ds_zero {i j : ℕ} (h : i < j) : H.ds i j = 0 := by
  unfold ds; rw [H.p_zero h, zero_mul, zero_mul]

/-- The products over 256 lanes are those over 192. -/
theorem dot_wide (i j : ℕ) : ∑ d ∈ range 256, H.q i d * H.k j d = H.dot i j := by
  rw [show (256 : ℕ) = 192 + 64 from rfl, sum_range_add, dot, add_eq_left]
  exact sum_eq_zero fun d _ => by rw [H.qz i _ (by omega), zero_mul]

/-- The softmax as a power of two of a scaled product less the scaled row log-sum. -/
theorem p_pow {i j : ℕ} (hi : i < 4096) (h : j ≤ i) :
    Real.rpow 2 (H.dot i j * ((Real.sqrt 192)⁻¹ * (Real.log 2)⁻¹) - H.lse i * (Real.log 2)⁻¹) = H.p i j := by
  have hl := H.l_pos i hi
  have h2 : Real.log 2 ≠ 0 := (Real.log_pos (by norm_num)).ne'
  show (2 : ℝ) ^ (_ : ℝ) = _
  rw [Real.rpow_def_of_pos (by norm_num), p, e, if_pos h, lse,
    show Real.log 2 * (H.dot i j * ((Real.sqrt 192)⁻¹ * (Real.log 2)⁻¹) - (H.top i + Real.log (H.l i)) * (Real.log 2)⁻¹)
      = (H.dot i j * scale - H.top i) - Real.log (H.l i) by unfold scale; field_simp; ring,
    Real.exp_sub _ (Real.log _), Real.exp_log hl]

/-- The row sum of the output times its gradient is the softmax's average of its gradient. -/
theorem delta_eq (i : ℕ) : H.delta i = ∑ j ∈ range 4096, H.dp i j * H.p i j := by
  simp only [delta, dp, mul_sum, sum_mul]
  rw [sum_comm]
  exact sum_congr rfl fun j _ => sum_congr rfl fun d _ => by ring

/-- The gradient of the products, as the quotient's derivative writes it. -/
theorem ds_quotient {i j : ℕ} (hi : i < 4096) :
    (H.dp i j / H.l i + -(∑ j' ∈ range 4096, H.dp i j' * (1 / (H.l i * H.l i)) * H.e i j')) * H.e i j * scale = H.ds i j := by
  have hl := (H.l_pos i hi).ne'
  have hs : ∑ j' ∈ range 4096, H.dp i j' * (1 / (H.l i * H.l i)) * H.e i j' = H.delta i / H.l i := by
    rw [delta_eq, sum_div]
    exact sum_congr rfl fun j' _ => by unfold p; field_simp
  rw [hs, ds, p]; field_simp; ring

/-- The gradient of the queries over the keys before `n`. -/
def dqTo (n i d : ℕ) : ℝ := ∑ j ∈ range n, H.ds i j * H.k j d
/-- The gradient of the keys over the queries before `n`. -/
def dkTo (n j d : ℕ) : ℝ := ∑ i ∈ range n, H.ds i j * H.q i d
/-- The gradient of the values over the queries before `n`. -/
def dvTo (n j d : ℕ) : ℝ := ∑ i ∈ range n, H.p i j * H.g i d

theorem dqTo_zero (i d : ℕ) : H.dqTo 0 i d = 0 := sum_range_zero _
theorem dqTo_add (n i d : ℕ) : H.dqTo n i d + ∑ j ∈ range 512, H.ds i (n + j) * H.k (n + j) d = H.dqTo (n + 512) i d :=
  (sum_range_add _ _ _).symm
theorem dkTo_add (n j d : ℕ) : H.dkTo n j d + ∑ i ∈ range 512, H.ds (n + i) j * H.q (n + i) d = H.dkTo (n + 512) j d :=
  (sum_range_add _ _ _).symm
theorem dvTo_add (n j d : ℕ) : H.dvTo n j d + ∑ i ∈ range 512, H.p (n + i) j * H.g (n + i) d = H.dvTo (n + 512) j d :=
  (sum_range_add _ _ _).symm

/-- Keys after a query add nothing to its gradient. -/
theorem dqTo_same {n i : ℕ} (h : i < n) (d : ℕ) : H.dqTo (n + 512) i d = H.dqTo n i d := by
  rw [← dqTo_add, add_eq_left]
  exact sum_eq_zero fun j _ => by rw [H.ds_zero (by omega), zero_mul]
/-- Queries before a key add nothing to its gradient. -/
theorem dkTo_before {n j : ℕ} (h : n ≤ j) (d : ℕ) : H.dkTo n j d = 0 :=
  sum_eq_zero fun i hi => by rw [H.ds_zero (by have := mem_range.1 hi; omega), zero_mul]
theorem dvTo_before {n j : ℕ} (h : n ≤ j) (d : ℕ) : H.dvTo n j d = 0 :=
  sum_eq_zero fun i hi => by rw [H.p_zero (by have := mem_range.1 hi; omega), zero_mul]

end Head

/-- A finite sum of real numbers among the extended reals. -/
theorem sum_real {n : ℕ} (f : ℕ → ℝ) (g : Fin n → EReal) (h : ∀ k, g k = (f k.val : EReal)) :
    ∑ k, g k = ((∑ k ∈ range n, f k : ℝ) : EReal) := by
  rw [Finset.sum_range, show g = fun k : Fin n => ((f k.val : ℝ) : EReal) from funext h]
  exact (map_sum (⟨⟨((↑) : ℝ → EReal), EReal.coe_zero⟩, EReal.coe_add⟩ : ℝ →+ EReal) (fun k : Fin n => f k.val) univ).symm

end Cert.Proof.Flash

end
-- ==== Proof.Args.lean ====
/- The heads of the attention as real numbers, read off the four argument arrays: head `h` has queries and keys of 192 lanes,
   values of 128, and its output's gradient in the lanes from `128 h` of the last array.  Also the program's constants and
   the row maximum as extended reals. -/
module

public import proofs.«01_k».proof.Proof.Real
public import Idealize.ShloMosaic.Lib.Pointwise

@[expose] public section

noncomputable section

namespace Cert.Proof.Flash

open Idealize.ShloMosaic

/-- Arrays of the queries' and keys' shape, of the values', and of the output gradient's. -/
abbrev Wide := (⟨4, ![1, 4096, 32, 192]⟩ : Shape).Idx → EReal
abbrev Narrow := (⟨4, ![1, 4096, 32, 128]⟩ : Shape).Idx → EReal
abbrev Flat := (⟨3, ![1, 4096, 4096]⟩ : Shape).Idx → EReal

/-- The lane of the output gradient that holds lane `d` of head `h`. -/
def lane (h : Fin 32) (d : Fin 128) : Fin 4096 := ⟨h.val * 128 + d.val, by omega⟩

/-- Head `h` of the arguments. -/
def headOf (x0 x1 : Wide) (x2 : Narrow) (x3 : Flat) (h : Fin 32) : Head where
  q i d := if hb : i < 4096 ∧ d < 192 then (x0 (ix4 0 ⟨i, hb.1⟩ h ⟨d, hb.2⟩)).toReal else 0
  k i d := if hb : i < 4096 ∧ d < 192 then (x1 (ix4 0 ⟨i, hb.1⟩ h ⟨d, hb.2⟩)).toReal else 0
  v i d := if hb : i < 4096 ∧ d < 128 then (x2 (ix4 0 ⟨i, hb.1⟩ h ⟨d, hb.2⟩)).toReal else 0
  g i d := if hb : i < 4096 ∧ d < 128 then (x3 (ix3 0 ⟨i, hb.1⟩ (lane h ⟨d, hb.2⟩))).toReal else 0
  qz i d h := dif_neg (by omega)
  kz i d h := dif_neg (by omega)

/-- Every element of the arguments is a real number. -/
structure Finite (x0 x1 : Wide) (x2 : Narrow) (x3 : Flat) : Prop where
  q : ∀ i, x0 i = ((x0 i).toReal : EReal)
  k : ∀ i, x1 i = ((x1 i).toReal : EReal)
  v : ∀ i, x2 i = ((x2 i).toReal : EReal)
  g : ∀ i, x3 i = ((x3 i).toReal : EReal)

namespace Finite

variable {x0 x1 : Wide} {x2 : Narrow} {x3 : Flat} (A : Finite x0 x1 x2 x3)
include A

theorem q_at (h : Fin 32) (i : Fin 4096) (d : Fin 192) : x0 (ix4 0 i h d) = ((headOf x0 x1 x2 x3 h).q i d : EReal) := by
  rw [A.q]; unfold headOf; dsimp only; rw [dif_pos ⟨i.isLt, d.isLt⟩]
theorem k_at (h : Fin 32) (i : Fin 4096) (d : Fin 192) : x1 (ix4 0 i h d) = ((headOf x0 x1 x2 x3 h).k i d : EReal) := by
  rw [A.k]; unfold headOf; dsimp only; rw [dif_pos ⟨i.isLt, d.isLt⟩]
theorem v_at (h : Fin 32) (i : Fin 4096) (d : Fin 128) : x2 (ix4 0 i h d) = ((headOf x0 x1 x2 x3 h).v i d : EReal) := by
  rw [A.v]; unfold headOf; dsimp only; rw [dif_pos ⟨i.isLt, d.isLt⟩]
theorem g_at (h : Fin 32) (i : Fin 4096) (d : Fin 128) : x3 (ix3 0 i (lane h d)) = ((headOf x0 x1 x2 x3 h).g i d : EReal) := by
  rw [A.g]; unfold headOf; dsimp only; rw [dif_pos ⟨i.isLt, d.isLt⟩]

end Finite

/-! ## Constants -/

theorem word_192 : Ideal.ofBits .f32 0x43400000#32 = ((192 : ℝ) : EReal) := by
  simp [Ideal.ofBits, Ideal.ieee, -EReal.coe_mul]; norm_num
theorem word_neg_inf : Ideal.ofBits .f32 0xFF800000#32 = ⊥ := by simp [Ideal.ofBits, Ideal.ieee]

/-- The logarithm of a positive real. -/
theorem log_real {a : ℝ} (h : 0 < a) : Ideal.log (a : EReal) = ((Real.log a : ℝ) : EReal) := by
  rw [Ideal.log_coe, if_neg h.not_ge]

/-- The integer zero as a float. -/
theorem float_zero (φ : FTy) : (FloatOps.sitofp φ (0#32) : Ideal φ) = (0 : EReal) := by
  show (((0#32 : BitVec 32).toInt : ℝ) : EReal) = 0
  simp

/-- The host's `rsqrt 192` is the scale. -/
theorem rsqrt_192 : Ideal.rsqrt (Ideal.ofBits .f32 0x43400000#32) = (scale : EReal) := by
  rw [word_192]
  show (if (192 : ℝ) < 0 then ⊥ else if (192 : ℝ) = 0 then ⊤ else (((Real.sqrt 192)⁻¹ : ℝ) : EReal)) = _
  rw [if_neg (by norm_num), if_neg (by norm_num)]; rfl

/-- A quotient of real numbers. -/
theorem div_real (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-! ## The row maximum -/

/-- The scaled product, masked: minus infinity for a key after the query. -/
def Head.masked (H : Head) (i j : ℕ) : EReal := if j ≤ i then ((H.dot i j * scale : ℝ) : EReal) else ⊥

/-- The largest of a row of masked products. -/
theorem Head.fold_max (H : Head) (i : Fin 4096) : Finset.univ.fold max ⊥ (fun j : Fin 4096 => H.masked i j) = ((H.top i : ℝ) : EReal) := by
  show Finset.univ.sup (fun j : Fin 4096 => H.masked i j) = _
  refine le_antisymm (Finset.sup_le fun j _ => ?_) ?_
  · unfold masked
    split_ifs with h
    · exact EReal.coe_le_coe_iff.2 (Finset.le_sup' (fun j => H.dot i j * scale) (Finset.mem_range.2 (by omega)))
    · exact bot_le
  · obtain ⟨j, hj, he⟩ := Finset.exists_mem_eq_sup' (s := Finset.range (i.val + 1)) Finset.nonempty_range_add_one fun j => H.dot i j * scale
    have hj' : j ≤ i.val := Nat.lt_succ_iff.1 (Finset.mem_range.1 hj)
    rw [show H.top i = _ from he]
    refine le_trans (le_of_eq ?_) (Finset.le_sup (f := fun j : Fin 4096 => H.masked i j) (Finset.mem_univ ⟨j, by omega⟩))
    unfold masked; rw [if_pos hj']

/-- The exponential of a masked product less the row's largest. -/
theorem Head.exp_masked (H : Head) (i j : ℕ) : Ideal.exp (H.masked i j - (H.top i : EReal)) = ((H.e i j : ℝ) : EReal) := by
  unfold masked e
  split_ifs
  · rw [← EReal.coe_sub]; rfl
  · rw [EReal.bot_sub]; rfl

end Cert.Proof.Flash

end
-- ==== Proof.Reference.lean ====
/- What the reference computes over the extended reals, one buffer after another: each element of its three results is a
   gradient of `Head`, the head being that of the element's column. -/
module

public import proofs.«01_k».proof.Proof.Gen.ReferenceIdeal.Read
public import proofs.«01_k».proof.Proof.Args

@[expose] public section

set_option maxRecDepth 16384

noncomputable section

namespace Cert.Proof.Flash

open Cert.ReferenceIdeal Cert.ReferenceIdeal.Read
open Idealize.ShloMosaic Idealize.ShloMosaic.TcCoe

variable {x0 x1 : (⟨S1x4096x32x192, .f32⟩ : BufTy).Contents (Elt Ideal)} {x2 : (⟨S1x4096x32x128, .f32⟩ : BufTy).Contents (Elt Ideal)} {x3 : (⟨S1x4096x4096, .f32⟩ : BufTy).Contents (Elt Ideal)}
  (A : Finite x0 x1 x2 x3)

local notation "hd" => headOf x0 x1 x2 x3

/-- A signed comparison of two rows' numbers. -/
theorem sle_rows (i j : Fin 4096) : IntOp.cmpi CmpIPredicate.sle (BitVec.ofNat 32 j.val) (BitVec.ofNat 32 i.val) = 1#1 ↔ j.val ≤ i.val := by
  have small (n : Fin 4096) : (BitVec.ofNat 32 n.val).toInt = n.val := by
    have hn : (BitVec.ofNat 32 n.val).toNat = n.val := Nat.mod_eq_of_lt (lt_trans n.isLt (by norm_num))
    rw [BitVec.toInt_eq_toNat_of_lt (by rw [hn]; have := n.isLt; omega), hn]
  rw [IntOp.cmpi_sle, small, small, Nat.cast_le]

/-- A sum over the two unit axes is the one element. -/
theorem sum_units (h' : S1x32x4096x1.ReducesTo [0, 3] S32x4096) (x : S1x32x4096x1.Idx → EReal) (h : Fin 32) (i : Fin 4096) :
    Ideal.hostReduceAdd h' x 0 (ix2 h i) = x (ix4 0 h i 0) := by
  unfold Ideal.hostReduceAdd
  have hf : (Finset.univ.filter fun y : S1x32x4096x1.Idx => h'.drop y = ix2 h i) = {ix4 0 h i 0} := by
    ext y
    rw [Finset.mem_filter, Finset.mem_singleton]
    constructor
    · rintro ⟨-, hy⟩
      have h0 : (y 1).val = h.val := congrArg (fun z : S32x4096.Idx => (z 0).val) hy
      have h1 : (y 2).val = i.val := congrArg (fun z : S32x4096.Idx => (z 1).val) hy
      funext a
      match a with
      | 0 => exact Fin.ext (by have : (y 0).val < 1 := (y 0).isLt; show (y 0).val = 0; omega)
      | 1 => exact Fin.ext h0
      | 2 => exact Fin.ext h1
      | 3 => exact Fin.ext (by have : (y 3).val < 1 := (y 3).isLt; show (y 3).val = 0; omega)
    · rintro rfl
      refine ⟨Finset.mem_univ _, ?_⟩
      funext a
      match a with
      | 0 => rfl
      | 1 => rfl
  rw [hf, Finset.sum_singleton, zero_add]

include A

theorem ref_dot (h : Fin 32) (i j : Fin 4096) : val_main_v0 x0 x1 (ix4 0 h i j) = (((hd h).dot i j : ℝ) : EReal) := by
  pointwise [val_main_v0]
  exact sum_real _ _ fun d => by rw [A.q_at, A.k_at, EReal.coe_mul]

theorem ref_masked (h : Fin 32) (i j : Fin 4096) : val_main_v10_0 x0 x1 (ix4 0 h i j) = (hd h).masked i j := by
  have hs : val_main_v3 x0 x1 (ix4 0 h i j) = (((hd h).dot i j * scale : ℝ) : EReal) := by
    pointwise [val_main_v3, val_main_v2, val_main_v1, val_main_cst]
    rw [ref_dot A, rsqrt_192, EReal.coe_mul]
  pointwise [val_main_v10_0, val_main_v10_1, val_main_v9, val_main_v7, val_main_v8, val_main_v6, val_main_v5, val_main_v4, val_main_call0_v2, val_main_call0_v0, val_main_cst_0]
  unfold Head.masked
  by_cases hij : j.val ≤ i.val
  · rw [if_pos hij, (sle_rows i j).2 hij]; exact hs
  · have hn : ¬IntOp.cmpi CmpIPredicate.sle (BitVec.ofNat 32 j.val) (BitVec.ofNat 32 i.val) = 1 := mt (sle_rows i j).1 hij
    rw [if_neg hij, Scalar.select, if_neg hn]; exact word_neg_inf

theorem ref_top (h : Fin 32) (i : Fin 4096) : val_main_v11 x0 x1 (ix3 0 h i) = (((hd h).top i : ℝ) : EReal) := by
  pointwise [val_main_v11, val_main_cst_1]
  rw [word_neg_inf, ← Head.fold_max]
  exact congrArg (fun f => Finset.univ.fold max ⊥ f) (funext fun j => ref_masked A h i j)

theorem ref_exp (h : Fin 32) (i j : Fin 4096) : val_main_v31 x0 x1 (ix4 0 h i j) = (((hd h).e i j : ℝ) : EReal) := by
  have h18 : val_main_v18 x0 x1 (ix3 0 h i) = (((hd h).top i : ℝ) : EReal) := by
    rw [val_main_v18_apply, ref_top A, val_main_v17_apply, val_main_cst_3_apply]
    show max (Ideal.ofBits .f32 0xFF800000#32) _ = _
    rw [word_neg_inf]; exact max_eq_right bot_le
  have h29 : val_main_v29 x0 x1 (ix4 0 h i j) = (((hd h).top i : ℝ) : EReal) := by
    have hi : idx_main_v28 (idx_main_v29 (ix4 0 h i j)) = ix3 0 h i := funext fun a => match a with
      | 0 => rfl
      | 1 => rfl
      | 2 => rfl
    rw [val_main_v29_apply, val_main_v28_apply, hi, h18]
  rw [val_main_v31_apply, val_main_v30_apply, h29, ref_masked A, ← Head.exp_masked]
  rfl

theorem ref_sum (h : Fin 32) (i : Fin 4096) : val_main_v33 x0 x1 (ix4 0 h i 0) = (((hd h).l i : ℝ) : EReal) := by
  pointwise [val_main_v33, val_main_v32, val_main_cst_9]
  exact sum_real _ _ fun j => ref_exp A h i j

theorem ref_p (h : Fin 32) (i j : Fin 4096) : val_main_v35 x0 x1 (ix4 0 h i j) = (((hd h).p i j : ℝ) : EReal) := by
  pointwise [val_main_v35, val_main_v34]
  rw [ref_exp A, ref_sum A, div_real _ _ ((hd h).l_pos i i.isLt).ne']; rfl

theorem ref_dp (h : Fin 32) (i j : Fin 4096) : val_main_v44 x2 x3 (ix4 0 h i j) = (((hd h).dp i j : ℝ) : EReal) := by
  pointwise [val_main_v44, val_main_v43, val_main_v42]
  exact sum_real _ _ fun d => by rw [EReal.coe_mul, ← A.g_at, ← A.v_at]; rfl

/-- The negated row sum that the quotient's derivative adds. -/
theorem ref_row (h : Fin 32) (i : Fin 4096) :
    val_main_v55 x0 x1 x2 x3 (ix2 h i) = ((-(∑ j ∈ Finset.range 4096, (hd h).dp i j * (1 / ((hd h).l i * (hd h).l i)) * (hd h).e i j) : ℝ) : EReal) := by
  have h47 (j : Fin 4096) : val_main_v47 x0 x1 (ix4 0 h i j) = ((1 / ((hd h).l i * (hd h).l i) : ℝ) : EReal) := by
    have hl := ((hd h).l_pos i i.isLt).ne'
    pointwise [val_main_v47, val_main_v38, val_main_v37, val_main_v36, val_main_cst_10]
    rw [ref_sum A, ← EReal.coe_mul, ← EReal.coe_one, div_real _ _ (mul_ne_zero hl hl)]
  have h51 : val_main_v51 x0 x1 x2 x3 (ix4 0 h i 0) = ((∑ j ∈ Finset.range 4096, (hd h).dp i j * (1 / ((hd h).l i * (hd h).l i)) * (hd h).e i j : ℝ) : EReal) := by
    pointwise [val_main_v51, val_main_v50, val_main_v49, val_main_v48, val_main_cst_11]
    exact sum_real _ _ fun j => by rw [ref_dp A, h47, ref_exp A, EReal.coe_mul, EReal.coe_mul]
  have h12 : val_main_cst_12 (F := Ideal) (Shape.Idx.first Gen.h_S_) = (0 : EReal) := Ideal.ofBits_zero_f32
  pointwise [val_main_v55, val_main_v52]
  rw [h12, sum_units]
  show -(val_main_v51 x0 x1 x2 x3 (ix4 0 h i 0)) = _
  rw [h51, EReal.coe_neg]

/-- The gradient of the products. -/
theorem ref_ds (h : Fin 32) (i j : Fin 4096) : val_main_v62 x0 x1 x2 x3 (ix4 0 h i j) = (((hd h).ds i j : ℝ) : EReal) := by
  have h59 : val_main_v59 x0 x1 x2 x3 (ix4 0 h i j) * (scale : EReal) = (((hd h).ds i j : ℝ) : EReal) := by
    pointwise [val_main_v59, val_main_v58, val_main_v57, val_main_v56, val_main_v54, val_main_v53]
    rw [ref_dp A, ref_sum A, ref_row A, ref_exp A, div_real _ _ ((hd h).l_pos i i.isLt).ne', ← EReal.coe_add, ← EReal.coe_mul, ← EReal.coe_mul,
      Head.ds_quotient _ i.isLt]
  pointwise [val_main_v62, val_main_v61, val_main_v60, val_main_v1, val_main_cst, val_main_v10_1, val_main_v9, val_main_v7, val_main_v8, val_main_v6, val_main_v5, val_main_v4, val_main_call1_v0]
  rw [rsqrt_192]
  by_cases hij : j.val ≤ i.val
  · rw [(sle_rows i j).2 hij]; exact h59
  · have hn : ¬IntOp.cmpi CmpIPredicate.sle (BitVec.ofNat 32 j.val) (BitVec.ofNat 32 i.val) = 1 := mt (sle_rows i j).1 hij
    rw [Scalar.select, if_neg hn, Head.ds_zero _ (by omega)]
    show Ideal.ofBits .f32 0x00000000#32 * _ = _
    rw [Ideal.ofBits_zero_f32, zero_mul]; rfl

/-- The head of a column of 256 lanes a head. -/
def wideHead (d : Fin 8192) : Fin 32 := ⟨d.val / 256, by omega⟩
/-- The head of a column of 128 lanes a head. -/
def narrowHead (d : Fin 4096) : Fin 32 := ⟨d.val / 128, by omega⟩

/-- The queries' gradient. -/
theorem ref_dq (i : Fin 4096) (d : Fin 8192) : val_main_v70 x0 x1 x2 x3 (ix2 i d) = (((hd (wideHead d)).dqTo 4096 i (d.val % 256) : ℝ) : EReal) := by
  pointwise [val_main_v70, val_main_v69, val_main_v68]
  split_ifs with h
  · pointwise [val_main_v67, val_main_v66, val_main_v65]
    exact sum_real _ _ fun x => (congrArg₂ (· * ·) (ref_ds A (wideHead d) i x) (A.k_at (wideHead d) x ⟨d.val % 256, h.2⟩)).trans (EReal.coe_mul _ _).symm
  · have hz : val_main_call2_v0 (F := Ideal) (Shape.Idx.first Gen.h_S_) = (0 : EReal) := float_zero .f32
    rw [hz, show (hd (wideHead d)).dqTo 4096 i (d.val % 256) = 0 from Finset.sum_eq_zero fun x _ => by rw [Head.kz _ _ _ (by omega), mul_zero]]
    rfl

/-- The keys' gradient. -/
theorem ref_dk (i : Fin 4096) (d : Fin 8192) : val_main_v74 x0 x1 x2 x3 (ix2 i d) = (((hd (wideHead d)).dkTo 4096 i (d.val % 256) : ℝ) : EReal) := by
  pointwise [val_main_v74, val_main_v73, val_main_v72]
  split_ifs with h
  · pointwise [val_main_v71, val_main_v64, val_main_v63]
    exact sum_real _ _ fun x => (congrArg₂ (· * ·) (ref_ds A (wideHead d) x i) (A.q_at (wideHead d) x ⟨d.val % 256, h.2⟩)).trans (EReal.coe_mul _ _).symm
  · have hz : val_main_call3_v0 (F := Ideal) (Shape.Idx.first Gen.h_S_) = (0 : EReal) := float_zero .f32
    rw [hz, show (hd (wideHead d)).dkTo 4096 i (d.val % 256) = 0 from Finset.sum_eq_zero fun x _ => by rw [Head.qz _ _ _ (by omega), mul_zero]]
    rfl

/-- The values' gradient. -/
theorem ref_dv (i : Fin 4096) (d : Fin 4096) : val_main_v77 x0 x1 x3 (ix2 i d) = (((hd (narrowHead d)).dvTo 4096 i (d.val % 128) : ℝ) : EReal) := by
  pointwise [val_main_v77, val_main_v76, val_main_v75, val_main_v46, val_main_v45, val_main_v43, val_main_v42]
  have hd' : d = lane (narrowHead d) ⟨d.val % 128, Nat.mod_lt _ (by norm_num)⟩ := Fin.ext (by show d.val = d.val / 128 * 128 + d.val % 128; omega)
  refine sum_real _ _ fun x => ?_
  rw [ref_p A, mul_comm, show x3 (ix3 0 x d) = _ from (congrArg (fun l => x3 (ix3 0 x l)) hd').trans (A.g_at _ _ _), EReal.coe_mul]; rfl

end Cert.Proof.Flash

end
-- ==== Proof.Host.lean ====
/- What the host hands the launch: the six arrays of its windows over the real numbers, the row log-sums and the row terms
   among them. -/
module

public import proofs.«01_k».proof.Proof.Run
public import proofs.«01_k».proof.Proof.Reference
public import Idealize.ShloMosaic.Lib.StableHlo.ReadAt

@[expose] public section

set_option maxRecDepth 16384

noncomputable section

namespace Cert.Proof.Flash

open Cert.KernelIdeal Cert.KernelIdeal.Gen
open Idealize.ShloMosaic Idealize.ShloMosaic.TcCoe

variable (m : (ℓ : Loc nD τ sig) → Buf (Elt Ideal) ℓ) (c : Dev nD)

/-- Head `h` of the arguments on device `c`. -/
abbrev head (h : Fin 32) : Head := headOf (m (c, main_arg0)) (m (c, main_arg1)) (m (c, main_arg2)) (m (c, main_arg3)) h

variable (A : Finite (m (c, main_arg0)) (m (c, main_arg1)) (m (c, main_arg2)) (m (c, main_arg3)))

/-- A buffer's element as an extended real. -/
abbrev real (x : EReal) : EReal := x

/-- A sum of two columns, one a head, spread over 128 lanes. -/
def spread (u w : FVec Ideal S1x32x4096x1 .f32) : FVec Ideal S32x4096x128 .f32 :=
  broadcastInDim S32x4096x128 ![0, 1, 2] bcast_S32x4096x1_S32x4096x128_0_1_2 (shapeCast S32x4096x1 (addf u w) shapeCasts_S1x32x4096x1_S32x4096x1)

omit A in
theorem spread_at (u w : FVec Ideal S1x32x4096x1 .f32) (h : Fin 32) (i : Fin 4096) (d : Fin 128) :
    spread u w (ix3 h i d) = u (ix4 0 h i 0) + w (ix4 0 h i 0) := by
  pointwise [spread]

include A

theorem host_masked (h : Fin 32) (i j : Fin 4096) : real (V m c main_v10 (ix4 0 h i j)) = (head m c h).masked i j := by
  refine Eq.trans ?_ (ref_masked A h i j)
  have e : V m c main_v10 = Cert.ReferenceIdeal.Read.val_main_v10_0 (F := Ideal) (m (c, main_arg0)) (m (c, main_arg1)) := by
    unfold V; after_reads_simp; rfl
  rw [e]

theorem host_top (h : Fin 32) (i : Fin 4096) : real (V m c main_v11 (ix3 0 h i)) = (((head m c h).top i : ℝ) : EReal) := by
  refine Eq.trans ?_ (ref_top A h i)
  have e : V m c main_v11 = Cert.ReferenceIdeal.Read.val_main_v11 (F := Ideal) (m (c, main_arg0)) (m (c, main_arg1)) := by
    unfold V; after_reads_simp; rfl
  rw [e]

theorem host_exp (h : Fin 32) (i j : Fin 4096) : real (V m c main_v15 (ix4 0 h i j)) = (((head m c h).e i j : ℝ) : EReal) := by
  have e : real (V m c main_v15 (ix4 0 h i j)) = Ideal.exp (real (V m c main_v10 (ix4 0 h i j)) - real (V m c main_v11 (ix3 0 h i))) := by
    unfold real V; after_reads_at
  rw [e, host_masked m c A, host_top m c A, Head.exp_masked]

theorem host_sum (h : Fin 32) (i : Fin 4096) : real (V m c main_v16 (ix3 0 h i)) = (((head m c h).l i : ℝ) : EReal) := by
  have e : real (V m c main_v16 (ix3 0 h i)) = ∑ j : Fin 4096, real (V m c main_v15 (ix4 0 h i j)) := by
    unfold real V; after_reads_at
  rw [e]
  exact sum_real _ _ fun j => host_exp m c A h i j

theorem host_p (h : Fin 32) (i j : Fin 4096) : real (V m c main_v19 (ix4 0 h i j)) = (((head m c h).p i j : ℝ) : EReal) := by
  have e : real (V m c main_v19 (ix4 0 h i j)) = Ideal.div (real (V m c main_v15 (ix4 0 h i j))) (real (V m c main_v16 (ix3 0 h i))) := by
    unfold real V; after_reads_at
  rw [e, host_exp m c A, host_sum m c A, div_real _ _ ((head m c h).l_pos i i.isLt).ne']; rfl

/-- The attention's output. -/
theorem host_out (h : Fin 32) (i : Fin 4096) (d : Fin 128) :
    real (V m c main_v26 (ix3 i h d)) = ((∑ j ∈ Finset.range 4096, (head m c h).p i j * (head m c h).v j d : ℝ) : EReal) := by
  have e : real (V m c main_v26 (ix3 i h d)) = ∑ j : Fin 4096, real (m (c, main_arg2) (ix4 0 j h d)) * real (V m c main_v19 (ix4 0 h i j)) := by
    unfold real V; after_reads_at
  rw [e]
  exact sum_real _ _ fun j => by rw [host_p m c A, real, A.v_at, mul_comm, EReal.coe_mul]

/-- The row log-sums, each in 128 lanes. -/
theorem host_lse (h : Fin 32) (i : Fin 4096) (d : Fin 128) : real (V m c main_v43 (ix3 h i d)) = (((head m c h).lse i : ℝ) : EReal) := by
  have e0 : V m c main_v43 = spread (V m c main_v12) (V m c main_v22) := by
    unfold V; after_reads_simp; rfl
  have e1 : real (V m c main_v43 (ix3 h i d)) = real (V m c main_v12 (ix4 0 h i 0)) + real (V m c main_v22 (ix4 0 h i 0)) := by
    rw [e0]; exact spread_at _ _ h i d
  have e2 : real (V m c main_v12 (ix4 0 h i 0)) = real (V m c main_v11 (ix3 0 h i)) := by
    unfold real V; after_reads_at
  have e3 : real (V m c main_v22 (ix4 0 h i 0)) = Ideal.log (real (V m c main_v16 (ix3 0 h i))) := by
    unfold real V; after_reads_at
  rw [e1, e2, e3, host_top m c A, host_sum m c A, log_real ((head m c h).l_pos i i.isLt), ← EReal.coe_add]; rfl

/-- The row terms, each in 128 lanes. -/
theorem host_delta (h : Fin 32) (i : Fin 4096) (d : Fin 128) : real (V m c main_v44 (ix3 h i d)) = (((head m c h).delta i : ℝ) : EReal) := by
  have e : real (V m c main_v44 (ix3 h i d)) = ∑ y : Fin 128, real (m (c, main_arg3) (ix3 0 i (lane h y))) * real (V m c main_v26 (ix3 i h y)) := by
    unfold real lane V; after_reads_at
  rw [e]
  exact sum_real _ _ fun y => by rw [host_out m c A, real, A.g_at, EReal.coe_mul]

/-- The queries, padded with zeros. -/
theorem host_q (i : Fin 4096) (d : Fin 8192) : real (V m c main_v34 (ix2 i d)) = (((head m c (wideHead d)).q i (d.val % 256) : ℝ) : EReal) := by
  have e : real (V m c main_v34 (ix2 i d)) = if h : d.val / 256 < 32 ∧ d.val % 256 < 192 then real (m (c, main_arg0) (ix4 0 i ⟨d.val / 256, h.1⟩ ⟨d.val % 256, h.2⟩)) else (FloatOps.sitofp FTy.bf16 0#32 : Ideal .bf16) := by
    unfold real V; after_reads_at
  rw [e]
  split_ifs with h
  · exact A.q_at (wideHead d) i ⟨d.val % 256, h.2⟩
  · rw [float_zero, Head.qz _ _ _ (by omega)]; rfl

/-- The keys, padded with zeros. -/
theorem host_k (i : Fin 4096) (d : Fin 8192) : real (V m c main_v38 (ix2 i d)) = (((head m c (wideHead d)).k i (d.val % 256) : ℝ) : EReal) := by
  have e : real (V m c main_v38 (ix2 i d)) = if h : d.val / 256 < 32 ∧ d.val % 256 < 192 then real (m (c, main_arg1) (ix4 0 i ⟨d.val / 256, h.1⟩ ⟨d.val % 256, h.2⟩)) else (FloatOps.sitofp FTy.bf16 0#32 : Ideal .bf16) := by
    unfold real V; after_reads_at
  rw [e]
  split_ifs with h
  · exact A.k_at (wideHead d) i ⟨d.val % 256, h.2⟩
  · rw [float_zero, Head.kz _ _ _ (by omega)]; rfl

theorem host_v (i d : Fin 4096) : real (V m c main_v40 (ix2 i d)) = (((head m c (narrowHead d)).v i (d.val % 128) : ℝ) : EReal) := by
  refine Eq.trans ?_ (A.v_at (narrowHead d) i ⟨d.val % 128, Nat.mod_lt _ (by norm_num)⟩)
  unfold real V; after_reads_at; rfl

theorem host_g (i d : Fin 4096) : real (V m c main_v42 (ix2 i d)) = (((head m c (narrowHead d)).g i (d.val % 128) : ℝ) : EReal) := by
  refine Eq.trans ?_ (A.g_at (narrowHead d) i ⟨d.val % 128, Nat.mod_lt _ (by norm_num)⟩)
  have hd : lane (narrowHead d) ⟨d.val % 128, Nat.mod_lt _ (by norm_num)⟩ = d := Fin.ext (by show d.val / 128 * 128 + d.val % 128 = d.val; omega)
  rw [hd]
  unfold real V; after_reads_at

end Cert.Proof.Flash

end
-- ==== Proof.Block.lean ====
/- What one block of the attention gradient computes, element by element, over the extended reals: its softmax, the
   gradient of its products, and what it adds to the three accumulators are the real numbers of Real.lean. -/
module

public import proofs.«01_k».proof.Proof.Real
public import proofs.«01_k».proof.Proof.Gen.KernelIdeal.Skeleton
public import Idealize.ShloMosaic.Lib.Pointwise

@[expose] public section

set_option maxRecDepth 16384

noncomputable section

namespace Cert.Proof.Flash

open Cert.KernelIdeal Cert.KernelIdeal.Gen
open Idealize.ShloMosaic Idealize.ShloMosaic.TcCoe

/-- Every element of the table is the real number `f` gives at its row and lane. -/
def Is2 {a b : ℕ} (v : (⟨2, ![a, b]⟩ : Shape).Idx → EReal) (f : ℕ → ℕ → ℝ) : Prop := ∀ (r : Fin a) (d : Fin b), v (ix2 r d) = (f r.val d.val : EReal)

/-- Every element of the column is the real number `f` gives at its row. -/
def IsCol {a : ℕ} (v : (⟨3, ![1, a, 1]⟩ : Shape).Idx → EReal) (f : ℕ → ℝ) : Prop := ∀ r : Fin a, v (ix3 0 r 0) = (f r.val : EReal)

/-- The block of rows from `r0` and columns from `c0` of head `H`: keys and values, queries and output gradients, and the
    queries' row log-sums and row sums. -/
structure Block (H : Head) (r0 c0 : ℕ) (k : FVec Ideal S512x256 .bf16) (v : FVec Ideal S512x128 .bf16) (q : Vec Ideal S512x256 .bf16)
    (g : Vec Ideal S512x128 .bf16) (lse del : Vec Ideal S1x512x1 .f32) : Prop where
  k : Is2 k fun j d => H.k (c0 + j) d
  v : Is2 v fun j d => H.v (c0 + j) d
  q : Is2 q fun i d => H.q (r0 + i) d
  g : Is2 g fun i d => H.g (r0 + i) d
  lse : IsCol lse fun i => H.lse (r0 + i)
  del : IsCol del fun i => H.delta (r0 + i)
  rows : r0 + 512 ≤ 4096

theorem named_c2 : (Named.named κ "c2" 0x3DD53B95#32 : Ideal .f32) = (((Real.sqrt 192)⁻¹ * (Real.log 2)⁻¹ : ℝ) : EReal) := rfl
theorem named_log2e : (Named.named κ "log2e" 0x3FB8AA3B#32 : Ideal .f32) = (((Real.log 2)⁻¹ : ℝ) : EReal) := rfl
theorem named_scale : (Named.named κ "scale" 0x3D93CD3A#32 : Ideal .f32) = ((scale : ℝ) : EReal) := rfl
theorem named_mask : (Named.named κ "mask" 0xF149F2CA#32 : Ideal .f32) = (⊥ : EReal) := rfl

variable {H : Head} {r0 c0 : ℕ}
  {k : FVec Ideal S512x256 .bf16} {v : FVec Ideal S512x128 .bf16} {q : Vec Ideal S512x256 .bf16} {g : Vec Ideal S512x128 .bf16}
  {lse del : Vec Ideal S1x512x1 .f32}

namespace Block

variable (B : Block H r0 c0 k v q g lse del)
include B

/-- The product of a query and a key over the block's 256 lanes. -/
theorem dot (r c : Fin 512) : ∑ x, q (ix2 r x) * k (ix2 c x) = ((H.dot (r0 + r) (c0 + c) : ℝ) : EReal) := by
  rw [← H.dot_wide]
  exact sum_real _ _ fun x => by rw [B.q, B.k, EReal.coe_mul]

/-- The product of an output gradient and a value. -/
theorem dp (r c : Fin 512) : ∑ x, g (ix2 r x) * v (ix2 c x) = ((H.dp (r0 + r) (c0 + c) : ℝ) : EReal) :=
  sum_real _ _ fun x => by rw [B.g, B.v, EReal.coe_mul]

/-- The power of two the kernel takes, at a key up to the query. -/
theorem power (r c : Fin 512) (h : c0 + c.val ≤ r0 + r.val) :
    Ideal.exp2 ((∑ x, q (ix2 r x) * k (ix2 c x)) * (Named.named κ "c2" 0x3DD53B95#32 : Ideal .f32) - lse (ix3 0 r 0) * (Named.named κ "log2e" 0x3FB8AA3B#32 : Ideal .f32))
      = ((H.p (r0 + r) (c0 + c) : ℝ) : EReal) := by
  rw [B.dot, B.lse, named_c2, named_log2e, ← EReal.coe_mul, ← EReal.coe_mul, ← EReal.coe_sub]
  exact congrArg Real.toEReal (H.p_pow (by have := B.rows; have := r.isLt; omega) h)

/-- The softmax of a block below the diagonal. -/
theorem pay10 (h : c0 + 512 ≤ r0) : Is2 (k0_pay10 k q lse) fun r c => H.p (r0 + r) (c0 + c) := fun r c => by
  pointwise [k0_pay10, k0_pay8]
  exact B.power r c (by have := c.isLt; omega)

/-- The gradient of the products of a block below the diagonal. -/
theorem pay12 (h : c0 + 512 ≤ r0) : Is2 (k0_pay12 k v q g lse del) fun r c => H.ds (r0 + r) (c0 + c) := fun r c => by
  pointwise [k0_pay12, k0_pay8, k0_pay9]
  rw [B.pay10 h r c, B.dp, B.del, named_scale, ← EReal.coe_sub, ← EReal.coe_mul, ← EReal.coe_mul]
  rfl

/-- What the block adds to the keys' gradient. -/
theorem pay13 (h : c0 + 512 ≤ r0) :
    Is2 (k0_pay13 k v q g lse del) fun c d => ∑ i ∈ Finset.range 512, H.ds (r0 + i) (c0 + c) * H.q (r0 + i) d := fun c d => by
  pointwise [k0_pay13, k0_pay8]
  exact sum_real _ _ fun x => by rw [B.pay12 h, B.q, EReal.coe_mul]

/-- The values' gradient with the block's part added. -/
theorem pay11 (h : c0 + 512 ≤ r0) {acc : Vec Ideal S512x128 .f32} {a : ℕ → ℕ → ℝ} (ha : Is2 acc a) :
    Is2 (k0_pay11 k q g lse acc) fun c d => a c d + ∑ i ∈ Finset.range 512, H.p (r0 + i) (c0 + c) * H.g (r0 + i) d := fun c d => by
  pointwise [k0_pay11, k0_pay9]
  rw [ha, EReal.coe_add]
  exact congrArg _ (sum_real _ _ fun x => by rw [B.pay10 h, B.g, EReal.coe_mul])

/-- The keys' gradient with the block's part added. -/
theorem pay1 (h : c0 + 512 ≤ r0) {acc : Vec Ideal S512x256 .f32} {a : ℕ → ℕ → ℝ} (ha : Is2 acc a) :
    Is2 (k0_pay1 acc (k0_pay13 k v q g lse del)) fun c d => a c d + ∑ i ∈ Finset.range 512, H.ds (r0 + i) (c0 + c) * H.q (r0 + i) d := fun c d => by
  pointwise [k0_pay1]
  rw [ha, B.pay13 h, EReal.coe_add]

/-- The queries' gradient with the block's part added. -/
theorem pay2 (h : c0 + 512 ≤ r0) {acc : Vec Ideal S512x256 .f32} {a : ℕ → ℕ → ℝ} (ha : Is2 acc a) :
    Is2 (k0_pay2 k (k0_pay12 k v q g lse del) acc) fun r d => a r d + ∑ j ∈ Finset.range 512, H.ds (r0 + r) (c0 + j) * H.k (c0 + j) d := fun r d => by
  pointwise [k0_pay2]
  rw [ha, EReal.coe_add]
  exact congrArg _ (sum_real _ _ fun x => by rw [B.pay12 h, B.k, EReal.coe_mul])

/-- The softmax of the block on the diagonal: the keys after a query are masked. -/
theorem pay29 (h : c0 = r0) : Is2 (k0_pay29 (k0_pay27 k q) (k0_pay28 lse) (Named.named κ "log2e" 0x3FB8AA3B#32)) fun r c => H.p (r0 + r) (c0 + c) := fun r c => by
  pointwise [k0_pay29, k0_pay27, k0_pay28, k0_pay20, k0_pay25]
  have small (n : Fin 512) : (BitVec.ofNat 32 n.val).toInt = n.val := by
    have hn : (BitVec.ofNat 32 n.val).toNat = n.val := Nat.mod_eq_of_lt (lt_trans n.isLt (by norm_num))
    rw [BitVec.toInt_eq_toNat_of_lt (by rw [hn]; have := n.isLt; omega), hn]
  have hc : (IntOp.cmpi CmpIPredicate.sle (BitVec.ofNat 32 c.val) (BitVec.ofNat 32 r.val) = 1#1) ↔ c.val ≤ r.val := by
    rw [IntOp.cmpi_sle, small, small, Nat.cast_le]
  by_cases hcr : c.val ≤ r.val
  · rw [hc.2 hcr]
    exact B.power r c (by omega)
  · have : (H.p (r0 + r) (c0 + c) : ℝ) = 0 := H.p_zero (by omega)
    have hn : ¬IntOp.cmpi CmpIPredicate.sle (BitVec.ofNat 32 c.val) (BitVec.ofNat 32 r.val) = 1 := mt hc.1 hcr
    rw [this, Scalar.select, if_neg hn, B.lse, named_mask, named_c2, named_log2e, ← EReal.coe_mul,
      EReal.bot_mul_coe_of_pos (mul_pos (inv_pos.2 (Real.sqrt_pos.2 (by norm_num))) (inv_pos.2 (Real.log_pos (by norm_num)))), EReal.bot_sub]
    exact Ideal.exp2_bot

/-- The gradient of the products of the block on the diagonal. -/
theorem pay31 (h : c0 = r0) : Is2 (k0_pay31 v g (k0_pay27 k q) (k0_pay28 lse) (Named.named κ "log2e" 0x3FB8AA3B#32) del) fun r c => H.ds (r0 + r) (c0 + c) := fun r c => by
  pointwise [k0_pay31]
  rw [B.pay29 h r c, B.dp, B.del, named_scale, ← EReal.coe_sub, ← EReal.coe_mul, ← EReal.coe_mul]
  rfl

/-- The values' gradient with the diagonal block's part added. -/
theorem pay30 (h : c0 = r0) {acc : Vec Ideal S512x128 .f32} {a : ℕ → ℕ → ℝ} (ha : Is2 acc a) :
    Is2 (k0_pay30 g (k0_pay27 k q) (k0_pay28 lse) (Named.named κ "log2e" 0x3FB8AA3B#32) acc)
      fun c d => a c d + ∑ i ∈ Finset.range 512, H.p (r0 + i) (c0 + c) * H.g (r0 + i) d := fun c d => by
  pointwise [k0_pay30]
  rw [ha, EReal.coe_add]
  exact congrArg _ (sum_real _ _ fun x => by rw [B.pay29 h, B.g, EReal.coe_mul])

/-- The keys' gradient with the diagonal block's part added. -/
theorem pay32 (h : c0 = r0) {acc : Vec Ideal S512x256 .f32} {a : ℕ → ℕ → ℝ} (ha : Is2 acc a) :
    Is2 (k0_pay32 v q g (k0_pay27 k q) (k0_pay28 lse) (Named.named κ "log2e" 0x3FB8AA3B#32) del acc)
      fun c d => a c d + ∑ i ∈ Finset.range 512, H.ds (r0 + i) (c0 + c) * H.q (r0 + i) d := fun c d => by
  pointwise [k0_pay32]
  rw [ha, EReal.coe_add]
  exact congrArg _ (sum_real _ _ fun x => by rw [B.pay31 h, B.q, EReal.coe_mul])

/-- The queries' gradient with the diagonal block's part added. -/
theorem pay33 (h : c0 = r0) {acc : Vec Ideal S512x256 .f32} {a : ℕ → ℕ → ℝ} (ha : Is2 acc a) :
    Is2 (k0_pay33 k v g (k0_pay27 k q) (k0_pay28 lse) (Named.named κ "log2e" 0x3FB8AA3B#32) del acc)
      fun r d => a r d + ∑ j ∈ Finset.range 512, H.ds (r0 + r) (c0 + j) * H.k (c0 + j) d := fun r d => by
  pointwise [k0_pay33]
  rw [ha, EReal.coe_add]
  exact congrArg _ (sum_real _ _ fun x => by rw [B.pay31 h, B.k, EReal.coe_mul])

end Block

/-- The reshapes that change nothing. -/
theorem pay20_eq (x : Vec Ideal S512x256 .bf16) : k0_pay20 x = x := by funext j; idx_vars j; pointwise [k0_pay20]
theorem pay21_eq (x : Vec Ideal S512x128 .bf16) : k0_pay21 x = x := by funext j; idx_vars j; pointwise [k0_pay21]
theorem pay25_eq (x : Vec Ideal S512x256 .bf16) : k0_pay25 x = x := by funext j; idx_vars j; pointwise [k0_pay25]
theorem pay26_eq (x : Vec Ideal S512x128 .bf16) : k0_pay26 x = x := by funext j; idx_vars j; pointwise [k0_pay26]

/-- The accumulators start from zero. -/
theorem pay22_zero : Is2 (k0_pay22 (F := Ideal)) fun _ _ => 0 := fun r d => by pointwise [k0_pay22]; rfl
theorem pay23_zero : Is2 (k0_pay23 (F := Ideal)) fun _ _ => 0 := fun r d => by pointwise [k0_pay23]; rfl
theorem pay24_zero : Is2 (k0_pay24 (F := Ideal)) fun _ _ => 0 := fun r d => by pointwise [k0_pay24]; rfl

/-- The casts at the end change nothing. -/
theorem pay5_eq (x : Vec Ideal S512x256 .f32) : k0_pay5 x = x := rfl
theorem pay6_eq (x : Vec Ideal S512x128 .f32) : k0_pay6 x = x := rfl
theorem pay7_eq (x : Vec Ideal S4096x256 .f32) : k0_pay7 x = x := rfl

end Cert.Proof.Flash

end
-- ==== Proof.Point.lean ====
/- What one grid point of the attention gradient leaves in its accumulators over the extended reals: after key block `b`
   the queries' gradient over the keys up to the block's end, and the gradients of the block's keys and values. -/
module

public import proofs.«01_k».proof.Proof.Block
public import proofs.«01_k».proof.Proof.Step

@[expose] public section

set_option maxRecDepth 16384

noncomputable section

namespace Cert.Proof.Flash

open Cert.KernelIdeal Cert.KernelIdeal.Gen
open Idealize.ShloMosaic Idealize.ShloMosaic.TcCoe

/-! ## Where a point reads and writes -/

theorem off1_eq : ∀ t : Fin grid0.N, k0_off1 (grid0.coords t) = ![t.val % 8 * 512, 0] := by decide +kernel
theorem off2_eq : ∀ t : Fin grid0.N, k0_off2 (grid0.coords t) = ![t.val % 8 * 512, 0] := by decide +kernel
theorem off3_eq : ∀ t : Fin grid0.N, k0_off3 (grid0.coords t) = ![0, t.val % 8 * 512, 0] := by decide +kernel
theorem loop_trips : ∀ t : Fin grid0.N, (k0_t1_loop (grid0.coords t)).trips = 7 - t.val % 8 := by decide +kernel
theorem off4_eq : ∀ (t : Fin grid0.N) (k : Fin (k0_t1_loop (grid0.coords t)).trips), k0_off4 (grid0.coords t) k = ![(t.val % 8 + 1 + k.val) * 512, 0] := by decide +kernel
theorem off5_eq : ∀ (t : Fin grid0.N) (k : Fin (k0_t1_loop (grid0.coords t)).trips), k0_off5 (grid0.coords t) k = ![(t.val % 8 + 1 + k.val) * 512, 0] := by decide +kernel
theorem off6_eq : ∀ (t : Fin grid0.N) (k : Fin (k0_t1_loop (grid0.coords t)).trips), k0_off6 (grid0.coords t) k = ![0, (t.val % 8 + 1 + k.val) * 512, 0] := by decide +kernel
theorem first_block : ∀ t : Fin grid0.N, (grid0.coords t 1).val = t.val % 8 := by decide +kernel

/-! ## Tables of real numbers under windows and puts -/

theorem Is2.congr {a b : ℕ} {x : (⟨2, ![a, b]⟩ : Shape).Idx → EReal} {f g : ℕ → ℕ → ℝ} (hx : Is2 x f) (h : ∀ i d, i < a → f i d = g i d) : Is2 x g :=
  fun r d => (hx r d).trans (congrArg _ (h _ _ r.isLt))

/-- A window of rows from `n`. -/
theorem Is2.window {a' a b n : ℕ} {x : (⟨2, ![a', b]⟩ : Shape).Idx → EReal} {f : ℕ → ℕ → ℝ} (hx : Is2 x f) {off : Fin 2 → ℕ}
    (ho : off = ![n, 0]) (inb : ∀ i, off i + (![a, b] : Fin 2 → ℕ) i ≤ (⟨2, ![a', b]⟩ : Shape).size i) :
    Is2 (a := a) (b := b) (VecWindow.window (s := ⟨2, ![a', b]⟩) x off ![a, b] inb) fun i d => f (n + i) d := by
  subst ho
  intro r d
  have hr : n + r.val < a' := by have : n + a ≤ a' := inb 0; have := r.isLt; omega
  refine (congrArg x (?_ : _ = ix2 ⟨n + r.val, hr⟩ d)).trans (hx _ _)
  funext i
  match i with
  | 0 => exact Fin.ext (show n + 1 * r.val = n + r.val by omega)
  | 1 => exact Fin.ext (show 0 + 1 * d.val = d.val by omega)

/-- A window of rows from `n` of a table whose columns are all the column read. -/
theorem column_window {a' a b n : ℕ} {x : (⟨3, ![1, a', b]⟩ : Shape).Idx → EReal} {f : ℕ → ℝ} {o : Fin b} (ho0 : o.val = 0)
    (hx : ∀ r : Fin a', x (ix3 0 r o) = (f r.val : EReal)) {off : Fin 3 → ℕ}
    (ho : off = ![0, n, 0]) (inb : ∀ i, off i + (![1, a, 1] : Fin 3 → ℕ) i ≤ (⟨3, ![1, a', b]⟩ : Shape).size i) :
    IsCol (a := a) (VecWindow.window (s := ⟨3, ![1, a', b]⟩) x off ![1, a, 1] inb) fun i => f (n + i) := by
  subst ho
  intro r
  have hr : n + r.val < a' := by have : n + a ≤ a' := inb 1; have := r.isLt; omega
  refine (congrArg x (?_ : _ = ix3 0 ⟨n + r.val, hr⟩ o)).trans (hx _)
  funext i
  match i with
  | 0 => rfl
  | 1 => exact Fin.ext (show n + 1 * r.val = n + r.val by omega)
  | 2 => exact Fin.ext (show 0 + 1 * 0 = o.val by omega)

/-- Rows from `n` replaced. -/
theorem Is2.put {a' a b n : ℕ} {x : (⟨2, ![a', b]⟩ : Shape).Idx → EReal} {f : ℕ → ℕ → ℝ} (hx : Is2 x f)
    {w : (⟨2, ![a, b]⟩ : Shape).Idx → EReal} {g : ℕ → ℕ → ℝ} (hw : Is2 w g) {off : Fin 2 → ℕ} (ho : off = ![n, 0]) :
    Is2 (VecWindow.put (s := ⟨2, ![a', b]⟩) x off ![a, b] w) fun i d => if n ≤ i ∧ i < n + a then g (i - n) d else f i d := by
  subst ho
  intro r d
  unfold VecWindow.put
  by_cases h : n ≤ r.val ∧ r.val < n + a
  · have h' : ∀ i : Fin 2, (![n, 0] : Fin 2 → ℕ) i ≤ (ix2 r d i).val ∧ (ix2 r d i).val < (![n, 0] : Fin 2 → ℕ) i + (![a, b] : Fin 2 → ℕ) i := fun i => by
      match i with
      | 0 => exact h
      | 1 => exact ⟨Nat.zero_le _, (show d.val < 0 + b by have := d.isLt; omega)⟩
    rw [dif_pos h']
    simp only [if_pos h]
    refine (congrArg w (?_ : _ = ix2 ⟨r.val - n, by omega⟩ d)).trans (hw _ _)
    funext i
    match i with
    | 0 => rfl
    | 1 => rfl
  · rw [dif_neg (fun h' => h (h' 0))]
    simp only [if_neg h]
    exact hx r d

/-! ## One point -/

/-- What a point of key block `b` reads of head `H`. -/
structure Reads (H : Head) (b : ℕ) (x : Inp Ideal) : Prop where
  q : Is2 x.q H.q
  g : Is2 x.dO H.g
  lse : ∀ r : Fin 4096, x.lse (ix3 0 r 0) = (H.lse r : EReal)
  del : ∀ r : Fin 4096, x.del (ix3 0 r 0) = (H.delta r : EReal)
  k : Is2 x.k fun j d => H.k (b * 512 + j) d
  v : Is2 x.v fun j d => H.v (b * 512 + j) d

/-- The accumulators when the query blocks from `b` to before `n` have been added. -/
structure State (H : Head) (b n : ℕ) (s : Acc Ideal) : Prop where
  dq : Is2 s.dq fun i d => if i < n * 512 then H.dqTo (b * 512 + 512) i d else H.dqTo (b * 512) i d
  dk : Is2 s.dk fun j d => H.dkTo (n * 512) (b * 512 + j) d
  dv : Is2 s.dv fun j d => H.dvTo (n * 512) (b * 512 + j) d

variable {H : Head} (t : Fin grid0.N) {x : Inp Ideal} (X : Reads H (t.val % 8) x)
include X

theorem first_state {dq : Vec Ideal S4096x256 .f32} (hdq : Is2 dq (H.dqTo (t.val % 8 * 512))) :
    State H (t.val % 8) (t.val % 8 + 1) (first (grid0.coords t) x dq) := by
  have B : Block H (t.val % 8 * 512) (t.val % 8 * 512) x.k x.v (q0 (grid0.coords t) x) (do0 (grid0.coords t) x) (lse0 (grid0.coords t) x) (del0 (grid0.coords t) x) :=
    { k := X.k, v := X.v
      q := X.q.window (off1_eq t) _
      g := X.g.window (off2_eq t) _
      lse := column_window (o := 0) rfl X.lse (off3_eq t) _
      del := column_window (o := 0) rfl X.del (off3_eq t) _
      rows := by omega }
  unfold first
  simp only [pay20_eq, pay21_eq, pay25_eq, pay26_eq]
  refine ⟨?_, ?_, ?_⟩
  · refine (hdq.put (B.pay33 rfl (hdq.window (off1_eq t) _)) (off1_eq t)).congr fun i d _ => ?_
    by_cases h : t.val % 8 * 512 ≤ i ∧ i < t.val % 8 * 512 + 512
    · rw [if_pos h, if_pos (by omega), Nat.add_sub_cancel' h.1, H.dqTo_add]
    · rw [if_neg h]
      by_cases h2 : i < (t.val % 8 + 1) * 512
      · rw [if_pos h2, H.dqTo_same (by omega)]
      · rw [if_neg h2]
  · refine (B.pay32 rfl pay22_zero).congr fun j d _ => ?_
    rw [← H.dkTo_before (n := t.val % 8 * 512) (j := t.val % 8 * 512 + j) (by omega) d, H.dkTo_add, Nat.add_mul, Nat.one_mul]
  · refine (B.pay30 rfl pay23_zero).congr fun j d _ => ?_
    rw [← H.dvTo_before (n := t.val % 8 * 512) (j := t.val % 8 * 512 + j) (by omega) d, H.dvTo_add, Nat.add_mul, Nat.one_mul]

theorem trip_state (k : Fin (k0_t1_loop (grid0.coords t)).trips) {s : Acc Ideal} (S : State H (t.val % 8) (t.val % 8 + 1 + k.val) s) :
    State H (t.val % 8) (t.val % 8 + 1 + k.val + 1) (trip (grid0.coords t) x.k x.v x.q x.dO x.lse x.del k s) := by
  have hk : k.val < 7 - t.val % 8 := (loop_trips t) ▸ k.isLt
  have B : Block H ((t.val % 8 + 1 + k.val) * 512) (t.val % 8 * 512) x.k x.v
      (VecWindow.window x.q (k0_off4 (grid0.coords t) k) S512x256.size (k0_off4_inb (grid0.coords t) k))
      (VecWindow.window x.dO (k0_off5 (grid0.coords t) k) S512x128.size (k0_off5_inb (grid0.coords t) k))
      (VecWindow.window x.lse (k0_off6 (grid0.coords t) k) S1x512x1.size (k0_off6_inb (grid0.coords t) k))
      (VecWindow.window x.del (k0_off6 (grid0.coords t) k) S1x512x1.size (k0_off6_inb (grid0.coords t) k)) :=
    { k := X.k, v := X.v
      q := X.q.window (off4_eq t k) _
      g := X.g.window (off5_eq t k) _
      lse := column_window (o := 0) rfl X.lse (off6_eq t k) _
      del := column_window (o := 0) rfl X.del (off6_eq t k) _
      rows := by omega }
  have below : t.val % 8 * 512 + 512 ≤ (t.val % 8 + 1 + k.val) * 512 := by omega
  unfold trip
  refine ⟨?_, ?_, ?_⟩
  · refine (S.dq.put (B.pay2 below (S.dq.window (off4_eq t k) _)) (off4_eq t k)).congr fun i d _ => ?_
    by_cases h : (t.val % 8 + 1 + k.val) * 512 ≤ i ∧ i < (t.val % 8 + 1 + k.val) * 512 + 512
    · rw [if_pos h, Nat.add_sub_cancel' h.1, if_neg (by omega), if_pos (by omega), H.dqTo_add]
    · rw [if_neg h]
      by_cases h2 : i < (t.val % 8 + 1 + k.val) * 512
      · rw [if_pos h2, if_pos (by omega)]
      · rw [if_neg h2, if_neg (by omega)]
  · refine (B.pay1 below S.dk).congr fun j d _ => ?_
    rw [H.dkTo_add, Nat.add_mul _ 1, Nat.one_mul]
  · refine (B.pay11 below S.dv).congr fun j d _ => ?_
    rw [H.dvTo_add, Nat.add_mul _ 1, Nat.one_mul]

/-- After the point every query block has been added. -/
theorem point_state {dq : Vec Ideal S4096x256 .f32} (hdq : t.val % 8 ≠ 0 → Is2 dq (H.dqTo (t.val % 8 * 512))) :
    State H (t.val % 8) 8 (point (grid0.coords t) x dq) := by
  have hs : Is2 (start (grid0.coords t) dq) (H.dqTo (t.val % 8 * 512)) := by
    unfold start
    by_cases h : t.val % 8 = 0
    · rw [if_pos ((first_block t).trans h), h]
      exact pay24_zero.congr fun i d _ => (H.dqTo_zero i d).symm
    · rw [if_neg (by rw [first_block]; exact h)]; exact hdq h
  unfold point
  rw [pay20_eq, pay21_eq]
  have all : ∀ k ≤ (k0_t1_loop (grid0.coords t)).trips, State H (t.val % 8) (t.val % 8 + 1 + k)
      (trips (grid0.coords t) x.k x.v x.q x.dO x.lse x.del (first (grid0.coords t) x (start (grid0.coords t) dq)) k) := by
    intro k
    induction k with
    | zero => exact fun _ => first_state t X hs
    | succ k ih =>
      intro hk
      rw [trips_succ (k := ⟨k, hk⟩)]
      exact trip_state t X ⟨k, hk⟩ (ih (by omega))
  have := all _ le_rfl
  rwa [show t.val % 8 + 1 + (k0_t1_loop (grid0.coords t)).trips = 8 by rw [loop_trips]; omega] at this

end Cert.Proof.Flash

end
-- ==== Proof.Final.lean ====
/- The launch over the real numbers: what each point reads, what its accumulators hold, and the three result arrays, which
   are the reference's. -/
module

public import proofs.«01_k».proof.Proof.Host
public import proofs.«01_k».proof.Proof.Point
public import Idealize.ShloMosaic.Lib.Pipeline.ValueKit

@[expose] public section

set_option maxRecDepth 16384

noncomputable section

namespace Cert.Proof.Flash

open Cert.KernelIdeal Cert.KernelIdeal.Gen
open Idealize.ShloMosaic Idealize.ShloMosaic.TcCoe

theorem pair_eq {a b : ℕ} (y : (⟨2, ![a, b]⟩ : Shape).Idx) : y = ix2 (y 0) (y 1) := funext fun a => match a with
  | 0 => rfl
  | 1 => rfl

/-- `Reads` of six blocks. -/
theorem Reads.of {H : Head} {b : ℕ} (q : Vec Ideal S4096x256 .bf16) (g : Vec Ideal S4096x128 .bf16) (lse del : Vec Ideal S1x4096x128 .f32)
    (k : Vec Ideal S512x256 .bf16) (v : Vec Ideal S512x128 .bf16) (hq : Is2 q H.q) (hg : Is2 g H.g)
    (hl : ∀ r : Fin 4096, lse (ix3 0 r 0) = (H.lse r : EReal)) (hd : ∀ r : Fin 4096, del (ix3 0 r 0) = (H.delta r : EReal))
    (hk : Is2 k fun j d => H.k (b * 512 + j) d) (hv : Is2 v fun j d => H.v (b * 512 + j) d) : Reads H b ⟨q, g, lse, del, k, v⟩ :=
  ⟨hq, hg, hl, hd, hk, hv⟩

variable (m : (ℓ : Loc nD τ sig) → Buf (Elt Ideal) ℓ) (c : Dev nD)

/-! ## The windows' blocks -/

theorem index0 : ∀ t : Fin cfg0.N, (cfg0.win 0).index t 0 = 0 ∧ (cfg0.win 0).index t 1 = t.val / 8 := by decide +kernel
theorem index1 : ∀ t : Fin cfg0.N, (cfg0.win 1).index t 0 = 0 ∧ (cfg0.win 1).index t 1 = t.val / 8 := by decide +kernel
theorem index2 : ∀ t : Fin cfg0.N, (cfg0.win 2).index t 0 = t.val / 8 ∧ (cfg0.win 2).index t 1 = 0 ∧ (cfg0.win 2).index t 2 = 0 := by decide +kernel
theorem index3 : ∀ t : Fin cfg0.N, (cfg0.win 3).index t 0 = t.val / 8 ∧ (cfg0.win 3).index t 1 = 0 ∧ (cfg0.win 3).index t 2 = 0 := by decide +kernel
theorem index4 : ∀ t : Fin cfg0.N, (cfg0.win 4).index t 0 = t.val % 8 ∧ (cfg0.win 4).index t 1 = t.val / 8 := by decide +kernel
theorem index5 : ∀ t : Fin cfg0.N, (cfg0.win 5).index t 0 = t.val % 8 ∧ (cfg0.win 5).index t 1 = t.val / 8 := by decide +kernel
theorem index6 : ∀ t : Fin cfg0.N, (cfg0.win 6).index t 0 = 0 ∧ (cfg0.win 6).index t 1 = t.val / 8 := by decide +kernel
theorem index7 : ∀ t : Fin cfg0.N, (cfg0.win 7).index t 0 = t.val % 8 ∧ (cfg0.win 7).index t 1 = t.val / 8 := by decide +kernel
theorem index8 : ∀ t : Fin cfg0.N, (cfg0.win 8).index t 0 = t.val % 8 ∧ (cfg0.win 8).index t 1 = t.val / 8 := by decide +kernel

/-- The head that point `t` works on. -/
def headAt (t : Fin cfg0.N) : Fin 32 := ⟨t.val / 8, by have : t.val < 256 := t.isLt; omega⟩

theorem block_row (t : Fin cfg0.N) (r : Fin 512) : t.val % 8 * 512 + r.val < 4096 := by omega
theorem wide_lane (t : Fin cfg0.N) (d : Fin 256) : t.val / 8 * 256 + d.val < 8192 := by have : t.val < 256 := t.isLt; omega
theorem narrow_lane (t : Fin cfg0.N) (d : Fin 128) : t.val / 8 * 128 + d.val < 4096 := by have : t.val < 256 := t.isLt; omega

/-! Where a point's blocks lie in their arrays. -/

theorem place_q (t : Fin cfg0.N) (r : Fin 4096) (d : Fin 256) : ((cfg0.win 0).blk t).view.emb (ix2 r d) = ix2 r ⟨t.val / 8 * 256 + d.val, wide_lane t d⟩ := by
  blk_ext [index0 t, headAt]
theorem place_g (t : Fin cfg0.N) (r : Fin 4096) (d : Fin 128) : ((cfg0.win 1).blk t).view.emb (ix2 r d) = ix2 r ⟨t.val / 8 * 128 + d.val, narrow_lane t d⟩ := by
  blk_ext [index1 t, headAt]
theorem place_lse (t : Fin cfg0.N) (r : Fin 4096) (d : Fin 128) : ((cfg0.win 2).blk t).view.emb (ix3 0 r d) = ix3 (headAt t) r d := by
  blk_ext [index2 t, headAt]
theorem place_del (t : Fin cfg0.N) (r : Fin 4096) (d : Fin 128) : ((cfg0.win 3).blk t).view.emb (ix3 0 r d) = ix3 (headAt t) r d := by
  blk_ext [index3 t, headAt]
theorem place_k (t : Fin cfg0.N) (r : Fin 512) (d : Fin 256) : ((cfg0.win 4).blk t).view.emb (ix2 r d) = ix2 ⟨t.val % 8 * 512 + r.val, block_row t r⟩ ⟨t.val / 8 * 256 + d.val, wide_lane t d⟩ := by
  blk_ext [index4 t, headAt]
theorem place_v (t : Fin cfg0.N) (r : Fin 512) (d : Fin 128) : ((cfg0.win 5).blk t).view.emb (ix2 r d) = ix2 ⟨t.val % 8 * 512 + r.val, block_row t r⟩ ⟨t.val / 8 * 128 + d.val, narrow_lane t d⟩ := by
  blk_ext [index5 t, headAt]
theorem place_dq (t : Fin cfg0.N) (r : Fin 4096) (d : Fin 256) : ((cfg0.win 6).blk t).view.emb (ix2 r d) = ix2 r ⟨t.val / 8 * 256 + d.val, wide_lane t d⟩ := by
  blk_ext [index6 t, headAt]
theorem place_dk (t : Fin cfg0.N) (r : Fin 512) (d : Fin 256) : ((cfg0.win 7).blk t).view.emb (ix2 r d) = ix2 ⟨t.val % 8 * 512 + r.val, block_row t r⟩ ⟨t.val / 8 * 256 + d.val, wide_lane t d⟩ := by
  blk_ext [index7 t, headAt]
theorem place_dv (t : Fin cfg0.N) (r : Fin 512) (d : Fin 128) : ((cfg0.win 8).blk t).view.emb (ix2 r d) = ix2 ⟨t.val % 8 * 512 + r.val, block_row t r⟩ ⟨t.val / 8 * 128 + d.val, narrow_lane t d⟩ := by
  blk_ext [index8 t, headAt]

theorem cut_q (t : Fin cfg0.N) (r : Fin 4096) (d : Fin 256) (X : FVec Ideal S4096x8192 .bf16) :
    real (((cfg0.win 0).blk t).view.read (Elt Ideal) X (ix2 r d)) = real (X (ix2 r ⟨t.val / 8 * 256 + d.val, wide_lane t d⟩)) := congrArg X (place_q t r d)
theorem cut_g (t : Fin cfg0.N) (r : Fin 4096) (d : Fin 128) (X : FVec Ideal S4096x4096 .bf16) :
    real (((cfg0.win 1).blk t).view.read (Elt Ideal) X (ix2 r d)) = real (X (ix2 r ⟨t.val / 8 * 128 + d.val, narrow_lane t d⟩)) := congrArg X (place_g t r d)
theorem cut_lse (t : Fin cfg0.N) (r : Fin 4096) (d : Fin 128) (X : FVec Ideal S32x4096x128 .f32) :
    real (((cfg0.win 2).blk t).view.read (Elt Ideal) X (ix3 0 r d)) = real (X (ix3 (headAt t) r d)) := congrArg X (place_lse t r d)
theorem cut_del (t : Fin cfg0.N) (r : Fin 4096) (d : Fin 128) (X : FVec Ideal S32x4096x128 .f32) :
    real (((cfg0.win 3).blk t).view.read (Elt Ideal) X (ix3 0 r d)) = real (X (ix3 (headAt t) r d)) := congrArg X (place_del t r d)
theorem cut_k (t : Fin cfg0.N) (r : Fin 512) (d : Fin 256) (X : FVec Ideal S4096x8192 .bf16) :
    real (((cfg0.win 4).blk t).view.read (Elt Ideal) X (ix2 r d)) = real (X (ix2 ⟨t.val % 8 * 512 + r.val, block_row t r⟩ ⟨t.val / 8 * 256 + d.val, wide_lane t d⟩)) := congrArg X (place_k t r d)
theorem cut_v (t : Fin cfg0.N) (r : Fin 512) (d : Fin 128) (X : FVec Ideal S4096x4096 .bf16) :
    real (((cfg0.win 5).blk t).view.read (Elt Ideal) X (ix2 r d)) = real (X (ix2 ⟨t.val % 8 * 512 + r.val, block_row t r⟩ ⟨t.val / 8 * 128 + d.val, narrow_lane t d⟩)) := congrArg X (place_v t r d)

theorem read_q (t : Fin cfg0.N) (r : Fin 4096) (d : Fin 256) : real (iblk m c 0 t (ix2 r d)) = real (V m c main_v34 (ix2 r ⟨t.val / 8 * 256 + d.val, wide_lane t d⟩)) :=
  cut_q t r d (V m c main_v34)
theorem read_g (t : Fin cfg0.N) (r : Fin 4096) (d : Fin 128) : real (iblk m c 1 t (ix2 r d)) = real (V m c main_v42 (ix2 r ⟨t.val / 8 * 128 + d.val, narrow_lane t d⟩)) :=
  cut_g t r d (V m c main_v42)
theorem read_lse (t : Fin cfg0.N) (r : Fin 4096) (d : Fin 128) : real (iblk m c 2 t (ix3 0 r d)) = real (V m c main_v43 (ix3 (headAt t) r d)) :=
  cut_lse t r d (V m c main_v43)
theorem read_del (t : Fin cfg0.N) (r : Fin 4096) (d : Fin 128) : real (iblk m c 3 t (ix3 0 r d)) = real (V m c main_v44 (ix3 (headAt t) r d)) :=
  cut_del t r d (V m c main_v44)
theorem read_k (t : Fin cfg0.N) (r : Fin 512) (d : Fin 256) : real (iblk m c 4 t (ix2 r d)) = real (V m c main_v38 (ix2 ⟨t.val % 8 * 512 + r.val, block_row t r⟩ ⟨t.val / 8 * 256 + d.val, wide_lane t d⟩)) :=
  cut_k t r d (V m c main_v38)
theorem read_v (t : Fin cfg0.N) (r : Fin 512) (d : Fin 128) : real (iblk m c 5 t (ix2 r d)) = real (V m c main_v40 (ix2 ⟨t.val % 8 * 512 + r.val, block_row t r⟩ ⟨t.val / 8 * 128 + d.val, narrow_lane t d⟩)) :=
  cut_v t r d (V m c main_v40)

/-- A wide column of a point's block lies in the point's head, at the block's own lane. -/
theorem wide_head (t : Fin cfg0.N) (d : Fin 256) :
    wideHead ⟨t.val / 8 * 256 + d.val, wide_lane t d⟩ = headAt t ∧ (t.val / 8 * 256 + d.val) % 256 = d.val :=
  ⟨Fin.ext (by show (t.val / 8 * 256 + d.val) / 256 = t.val / 8; omega), by omega⟩
theorem narrow_head (t : Fin cfg0.N) (d : Fin 128) :
    narrowHead ⟨t.val / 8 * 128 + d.val, narrow_lane t d⟩ = headAt t ∧ (t.val / 8 * 128 + d.val) % 128 = d.val :=
  ⟨Fin.ext (by show (t.val / 8 * 128 + d.val) / 128 = t.val / 8; omega), by omega⟩

/-- So a head read off a column's number is the point's. -/
theorem wide_of {α : Type} (f : Fin 32 → ℕ → α) (t : Fin cfg0.N) (d : Fin 256) :
    f (wideHead ⟨t.val / 8 * 256 + d.val, wide_lane t d⟩) ((t.val / 8 * 256 + d.val) % 256) = f (headAt t) d.val := by
  rw [(wide_head t d).1, (wide_head t d).2]
theorem narrow_of {α : Type} (f : Fin 32 → ℕ → α) (t : Fin cfg0.N) (d : Fin 128) :
    f (narrowHead ⟨t.val / 8 * 128 + d.val, narrow_lane t d⟩) ((t.val / 8 * 128 + d.val) % 128) = f (headAt t) d.val := by
  rw [(narrow_head t d).1, (narrow_head t d).2]

variable (A : Finite (m (c, main_arg0)) (m (c, main_arg1)) (m (c, main_arg2)) (m (c, main_arg3)))
include A

theorem block_q (t : Fin cfg0.N) (r : Fin 4096) (d : Fin 256) : real (iblk m c 0 t (ix2 r d)) = (((head m c (headAt t)).q r d : ℝ) : EReal) := by
  rw [read_q, host_q m c A]
  exact wide_of (fun h l => (((head m c h).q r l : ℝ) : EReal)) t d
theorem block_g (t : Fin cfg0.N) (r : Fin 4096) (d : Fin 128) : real (iblk m c 1 t (ix2 r d)) = (((head m c (headAt t)).g r d : ℝ) : EReal) := by
  rw [read_g, host_g m c A]
  exact narrow_of (fun h l => (((head m c h).g r l : ℝ) : EReal)) t d
theorem block_lse (t : Fin cfg0.N) (r : Fin 4096) (d : Fin 128) : real (iblk m c 2 t (ix3 0 r d)) = (((head m c (headAt t)).lse r : ℝ) : EReal) := by
  rw [read_lse, host_lse m c A]
theorem block_del (t : Fin cfg0.N) (r : Fin 4096) (d : Fin 128) : real (iblk m c 3 t (ix3 0 r d)) = (((head m c (headAt t)).delta r : ℝ) : EReal) := by
  rw [read_del, host_delta m c A]
theorem block_k (t : Fin cfg0.N) (r : Fin 512) (d : Fin 256) :
    real (iblk m c 4 t (ix2 r d)) = (((head m c (headAt t)).k (t.val % 8 * 512 + r.val) d : ℝ) : EReal) := by
  rw [read_k, host_k m c A]
  exact wide_of (fun h l => (((head m c h).k (t.val % 8 * 512 + r.val) l : ℝ) : EReal)) t d
theorem block_v (t : Fin cfg0.N) (r : Fin 512) (d : Fin 128) :
    real (iblk m c 5 t (ix2 r d)) = (((head m c (headAt t)).v (t.val % 8 * 512 + r.val) d : ℝ) : EReal) := by
  rw [read_v, host_v m c A]
  exact narrow_of (fun h l => (((head m c h).v (t.val % 8 * 512 + r.val) l : ℝ) : EReal)) t d

/-- What point `t` reads is its head's. -/
theorem reads (t : Fin cfg0.N) : Reads (head m c (headAt t)) (t.val % 8) (inp m c t) :=
  Reads.of (iblk m c 0 t) (iblk m c 1 t) (iblk m c 2 t) (iblk m c 3 t) (iblk m c 4 t) (iblk m c 5 t) (block_q m c A t) (block_g m c A t)
    (fun r => block_lse m c A t r 0) (fun r => block_del m c A t r 0) (block_k m c A t) (block_v m c A t)

/-! ## The accumulators -/

/-- Before point `n` the queries' accumulator holds its head's gradient over the key blocks gone by. -/
theorem dqAt_eq : ∀ (n : ℕ) (h : n < cfg0.N), n % 8 ≠ 0 → Is2 (dqAt m c n) ((head m c (headAt ⟨n, h⟩)).dqTo (n % 8 * 512))
  | 0, _, h0 => absurd rfl h0
  | n + 1, h, h0 => by
    have hn : n < cfg0.N := Nat.lt_of_succ_lt h
    have S := point_state ⟨n, hn⟩ (reads m c A ⟨n, hn⟩) (dqAt_eq n hn)
    rw [show dqAt m c (n + 1) = _ from dqAt_succ m c ⟨n, hn⟩]
    have hh : headAt ⟨n + 1, h⟩ = headAt ⟨n, hn⟩ := Fin.ext (by show (n + 1) / 8 = n / 8; omega)
    rw [hh, show (n + 1) % 8 * 512 = n % 8 * 512 + 512 by omega]
    exact S.dq.congr fun i d hi => if_pos (by omega)

/-- After point `t` the three accumulators hold their sums. -/
theorem after_state (t : Fin cfg0.N) : State (head m c (headAt t)) (t.val % 8) 8 (accAfter m c t) :=
  point_state t (reads m c A t) (dqAt_eq m c A t.val t.isLt)

/-! ## The results -/

theorem stored_dq (t : Fin cfg0.N) (hf : (cfg0.win 6).flush t = true) (r : Fin 4096) (d : Fin 256) :
    real (k0_pay7 (accAfter m c t).dq (ix2 r d))
      = real (Cert.ReferenceIdeal.Read.val_main_v70 (F := Ideal) (m (c, main_arg0)) (m (c, main_arg1)) (m (c, main_arg2)) (m (c, main_arg3)) (((cfg0.win 6).blk t).view.emb (ix2 r d))) := by
  rw [place_dq t r d, pay7_eq]
  refine Eq.trans ?_ (ref_dq A _ _).symm
  refine Eq.trans ?_ (wide_of (fun h l => (((head m c h).dqTo 4096 r.val l : ℝ) : EReal)) t d).symm
  refine ((after_state m c A t).dq r d).trans ?_
  have h7 : t.val % 8 = 7 := (flush0_6 t).1 hf
  show ((if r.val < 8 * 512 then _ else _ : ℝ) : EReal) = _
  rw [if_pos (by omega), h7]

/-- The result dq is the reference's. -/
theorem final_dq : (dats m 0 c).arrAt 6 (cfgs 0).N = Cert.ReferenceIdeal.Read.val_main_v70 (F := Ideal) (m (c, main_arg0)) (m (c, main_arg1)) (m (c, main_arg2)) (m (c, main_arg3)) := by
  refine (dats m 0 c).arrAt_eq_of_covers 6 _ (by decide +kernel) fun t hf y => ?_
  rw [after0_6]
  have hy : y = ix2 (y 0) (y 1) := pair_eq y
  rw [hy]
  exact stored_dq m c A t hf (y 0) (y 1)

theorem stored_dk (t : Fin cfg0.N) (hf : (cfg0.win 7).flush t = true) (r : Fin 512) (d : Fin 256) :
    real (k0_pay5 (accAfter m c t).dk (ix2 r d))
      = real (Cert.ReferenceIdeal.Read.val_main_v74 (F := Ideal) (m (c, main_arg0)) (m (c, main_arg1)) (m (c, main_arg2)) (m (c, main_arg3)) (((cfg0.win 7).blk t).view.emb (ix2 r d))) := by
  rw [place_dk t r d, pay5_eq]
  refine Eq.trans ?_ (ref_dk A _ _).symm
  refine Eq.trans ?_ (wide_of (fun h l => (((head m c h).dkTo 4096 (t.val % 8 * 512 + r.val) l : ℝ) : EReal)) t d).symm
  exact ((after_state m c A t).dk r d).trans rfl

/-- The result dk is the reference's. -/
theorem final_dk : (dats m 0 c).arrAt 7 (cfgs 0).N = Cert.ReferenceIdeal.Read.val_main_v74 (F := Ideal) (m (c, main_arg0)) (m (c, main_arg1)) (m (c, main_arg2)) (m (c, main_arg3)) := by
  refine (dats m 0 c).arrAt_eq_of_covers 7 _ (by decide +kernel) fun t hf y => ?_
  rw [after0_7]
  have hy : y = ix2 (y 0) (y 1) := pair_eq y
  rw [hy]
  exact stored_dk m c A t hf (y 0) (y 1)

theorem stored_dv (t : Fin cfg0.N) (hf : (cfg0.win 8).flush t = true) (r : Fin 512) (d : Fin 128) :
    real (k0_pay6 (accAfter m c t).dv (ix2 r d))
      = real (Cert.ReferenceIdeal.Read.val_main_v77 (F := Ideal) (m (c, main_arg0)) (m (c, main_arg1)) (m (c, main_arg3)) (((cfg0.win 8).blk t).view.emb (ix2 r d))) := by
  rw [place_dv t r d, pay6_eq]
  refine Eq.trans ?_ (ref_dv A _ _).symm
  refine Eq.trans ?_ (narrow_of (fun h l => (((head m c h).dvTo 4096 (t.val % 8 * 512 + r.val) l : ℝ) : EReal)) t d).symm
  exact ((after_state m c A t).dv r d).trans rfl

/-- The result dv is the reference's. -/
theorem final_dv : (dats m 0 c).arrAt 8 (cfgs 0).N = Cert.ReferenceIdeal.Read.val_main_v77 (F := Ideal) (m (c, main_arg0)) (m (c, main_arg1)) (m (c, main_arg3)) := by
  refine (dats m 0 c).arrAt_eq_of_covers 8 _ (by decide +kernel) fun t hf y => ?_
  rw [after0_8]
  have hy : y = ix2 (y 0) (y 1) := pair_eq y
  rw [hy]
  exact stored_dv m c A t hf (y 0) (y 1)

end Cert.Proof.Flash

end
-- ==== Proof.Equal.lean ====
/- The kernel's run and the reference's end with equal results when the arguments are finite. -/
module

public import proofs.«01_k».proof.Proof.Final
public import proofs.«01_k».proof.Proof.Gen.ReferenceIdeal.Run
public import proofs.«01_k».proof.Proof.Gen.Pre_finite
public import proofs.«01_k».proof.Defs

@[expose] public section

set_option maxRecDepth 16384

noncomputable section

namespace Cert.Proof.Flash

open Idealize.ShloMosaic Idealize.ShloMosaic.TcCoe Idealize.SL.Sem

theorem word_inf : Ideal.ofBits .f32 0x7F800000#32 = ⊤ := by simp [Ideal.ofBits, Ideal.ieee]

/-- An element whose absolute value is less than infinity is a real number. -/
theorem real_of_lt {x : EReal} (h : FloatOps.cmpf (F := Ideal) (φ := .f32) .olt (max x (-x)) (Ideal.ofBits .f32 0x7F800000#32) = 1#1) : x = (x.toReal : EReal) := by
  rw [word_inf] at h
  have hlt : max x (-x) < ⊤ := by
    by_contra hn
    have h0 : FloatOps.cmpf (F := Ideal) (φ := .f32) .olt (max x (-x)) ⊤ = 0#1 := by
      show BitVec.ofBool (decide (max x (-x) < ⊤)) = 0#1
      rw [decide_eq_false hn]; rfl
    rw [h0] at h
    exact absurd h (by decide)
  refine (EReal.coe_toReal ?_ ?_).symm
  · rintro rfl; simp at hlt
  · rintro rfl; simp at hlt

/-- The precondition: every element is a real number. -/
theorem finite_of {m : (ℓ : Loc KernelIdeal.nD KernelIdeal.τ KernelIdeal.sig) → Buf (Elt Ideal) ℓ} (h : Cert.Pre_KernelIdeal_finite m) (c : Dev KernelIdeal.nD) :
    Finite (m (c, KernelIdeal.main_arg0)) (m (c, KernelIdeal.main_arg1)) (m (c, KernelIdeal.main_arg2)) (m (c, KernelIdeal.main_arg3)) where
  q i := real_of_lt (congrFun (h c).1 i)
  k i := real_of_lt (congrFun (h c).2.1 i)
  v i := real_of_lt (congrFun (h c).2.2.1 i)
  g i := real_of_lt (congrFun (h c).2.2.2 i)

/-- Kernel and reference end with equal results. -/
theorem algebraic : Cert.algebraic_KernelIdeal_ReferenceIdeal_pre_finite := by
  intro m g m' g' hpre harg
  refine ⟨fun c => Cert.ReferenceIdeal.Read.val_main_v70 (F := Ideal) (m (c, KernelIdeal.main_arg0)) (m (c, KernelIdeal.main_arg1)) (m (c, KernelIdeal.main_arg2)) (m (c, KernelIdeal.main_arg3)),
    fun c => Cert.ReferenceIdeal.Read.val_main_v74 (F := Ideal) (m (c, KernelIdeal.main_arg0)) (m (c, KernelIdeal.main_arg1)) (m (c, KernelIdeal.main_arg2)) (m (c, KernelIdeal.main_arg3)),
    fun c => Cert.ReferenceIdeal.Read.val_main_v77 (F := Ideal) (m (c, KernelIdeal.main_arg0)) (m (c, KernelIdeal.main_arg1)) (m (c, KernelIdeal.main_arg3)), ?_, ?_⟩
  · refine (θ_run _ _ _).mono (fun r h c => ⟨?_, ?_, ?_, (h.2.1 c)⟩) (θ_run_and (run_main m g) (frame m g))
    · exact (h.1.out_eq c 6).trans (final_dq m c (finite_of hpre c))
    · exact (h.1.out_eq c 7).trans (final_dk m c (finite_of hpre c))
    · exact (h.1.out_eq c 8).trans (final_dv m c (finite_of hpre c))
  · refine (θ_run _ _ _).mono (fun r h c => ⟨?_, ?_, ?_, (h c).2.2.2⟩) (Cert.ReferenceIdeal.Value.run (F := Ideal) m' g')
    · rw [(h c).1, Cert.ReferenceIdeal.Read.val_main_v70_eq, (harg c).1, (harg c).2.1, (harg c).2.2.1, (harg c).2.2.2]
    · rw [(h c).2.1, Cert.ReferenceIdeal.Read.val_main_v74_eq, (harg c).1, (harg c).2.1, (harg c).2.2.1, (harg c).2.2.2]
    · rw [(h c).2.2.1, Cert.ReferenceIdeal.Read.val_main_v77_eq, (harg c).1, (harg c).2.1, (harg c).2.2.2]

end Cert.Proof.Flash

end
-- ==== Proof.ForwardReal.lean ====
/- One row of one head of causal attention over the real numbers, its keys taken block by block: the running sums for any
   base `x` taken out of the exponentials, how a block is joined to them, and that the softmax's average of the values and
   the row log-sum come out the same whatever the base. -/
module

public import proofs.«01_k».proof.Proof.Args

@[expose] public section

noncomputable section

namespace Cert.Proof.Flash

open Finset Idealize.ShloMosaic

namespace Head

variable (H : Head) (u : ℕ → ℕ → EReal)

/-- The exponential of the scaled difference of a product and the base; zero for a key after the query. -/
def w (x : ℝ) (i j : ℕ) : ℝ := if j ≤ i then Real.exp ((H.dot i j - x) * scale) else 0

/-- A value's lane, and one in the lanes after the values'. -/
def ones (j d : ℕ) : EReal := if d < 128 then u j d else 1

/-- The running sum over the keys before `n`. -/
def acc (x : ℝ) (n i d : ℕ) : EReal := ∑ j ∈ range n, ((H.w x i j : ℝ) : EReal) * ones u j d

theorem acc_zero (x : ℝ) (i d : ℕ) : H.acc u x 0 i d = 0 := sum_range_zero _

theorem acc_add (x : ℝ) (n i d : ℕ) : H.acc u x n i d + ∑ j ∈ range 512, ((H.w x i (n + j) : ℝ) : EReal) * ones u (n + j) d = H.acc u x (n + 512) i d :=
  (sum_range_add _ _ _).symm

/-- A real factor that is not negative goes into a sum, whatever its terms. -/
theorem scale_sum {c : ℝ} (hc : 0 ≤ c) (f : ℕ → EReal) (n : ℕ) : (c : EReal) * ∑ j ∈ range n, f j = ∑ j ∈ range n, (c : EReal) * f j := by
  induction n with
  | zero => rw [sum_range_zero, sum_range_zero, mul_zero]
  | succ n ih => rw [sum_range_succ, sum_range_succ, ← ih, EReal.left_distrib_of_nonneg_of_ne_top (EReal.coe_nonneg.2 hc) (EReal.coe_ne_top c)]

/-- Another base scales the running sums. -/
theorem acc_base (x y : ℝ) (n i d : ℕ) : ((Real.exp ((x - y) * scale) : ℝ) : EReal) * H.acc u x n i d = H.acc u y n i d := by
  unfold acc
  rw [scale_sum (Real.exp_pos _).le]
  refine sum_congr rfl fun j _ => ?_
  rw [← mul_assoc, ← EReal.coe_mul]
  refine congrArg (fun a : ℝ => (a : EReal) * ones u j d) ?_
  unfold w
  split_ifs
  · rw [← Real.exp_add]; congr 1; ring
  · rw [mul_zero]

/-- Keys after the query add nothing. -/
theorem acc_whole (x : ℝ) {n i : ℕ} (h : i < n) (hn : n ≤ 4096) (d : ℕ) : H.acc u x n i d = H.acc u x 4096 i d := by
  refine sum_subset (range_subset_range.2 hn) fun j _ hj => ?_
  rw [mem_range, not_lt] at hj
  rw [w, if_neg (by omega), EReal.coe_zero, zero_mul]

/-- The running sums over all keys are the softmax's, scaled. -/
theorem w_eq (x : ℝ) (i j : ℕ) : H.w x i j = Real.exp (H.top i - x * scale) * H.e i j := by
  unfold w e
  split_ifs
  · rw [← Real.exp_add]; congr 1; ring
  · rw [mul_zero]

/-- The row sum, scaled. -/
def high (x : ℝ) (i : ℕ) : ℝ := Real.exp (H.top i - x * scale) * H.l i

theorem high_pos (x : ℝ) {i : ℕ} (hi : i < 4096) : 0 < H.high x i := mul_pos (Real.exp_pos _) (H.l_pos i hi)

theorem acc_high (x : ℝ) (i : ℕ) {d : ℕ} (hd : 128 ≤ d) : H.acc u x 4096 i d = ((H.high x i : ℝ) : EReal) := by
  unfold acc high l
  rw [mul_sum]
  refine (sum_range _).trans (sum_real (fun j => Real.exp (H.top i - x * scale) * H.e i j) _ fun j => ?_)
  rw [H.w_eq, ones, if_neg (by omega), mul_one]

/-- The attention's result. -/
def out (i d : ℕ) : EReal := ∑ j ∈ range 4096, ((H.p i j : ℝ) : EReal) * u j d

theorem acc_out (x : ℝ) {i d : ℕ} (hi : i < 4096) (hd : d < 128) : Ideal.div (H.acc u x 4096 i d) ((H.high x i : ℝ) : EReal) = H.out u i d := by
  have hl := (H.l_pos i hi).ne'
  have he := (Real.exp_pos (H.top i - x * scale)).ne'
  have hh := H.high_pos x hi
  rw [Ideal.div, if_neg (fun h => hh.ne' (EReal.coe_eq_zero.1 h)), ← EReal.coe_inv, mul_comm, acc, scale_sum (inv_pos.2 hh).le, out]
  refine sum_congr rfl fun j _ => ?_
  rw [← mul_assoc, ← EReal.coe_mul, ones, if_pos hd]
  refine congrArg (fun a : ℝ => (a : EReal) * u j d) ?_
  rw [H.w_eq, high, p]
  field_simp

theorem high_lse (x : ℝ) {i : ℕ} (hi : i < 4096) : x * scale + Real.log (H.high x i) = H.lse i := by
  rw [high, Real.log_mul (Real.exp_pos _).ne' (H.l_pos i hi).ne', Real.log_exp, lse]; ring

/-! ## One block over the extended reals -/

/-- A product, masked: minus infinity for a key after the query. -/
def score (i j : ℕ) : EReal := if j ≤ i then ((H.dot i j : ℝ) : EReal) else ⊥

/-- The constant by which the products are scaled before the power of two. -/
def c2 : ℝ := (Real.sqrt 192)⁻¹ * (Real.log 2)⁻¹

theorem c2_pos : 0 < c2 := mul_pos (inv_pos.2 (Real.sqrt_pos.2 (by norm_num))) (inv_pos.2 (Real.log_pos (by norm_num)))

/-- The power of two of a difference scaled. -/
theorem pow_real (a b : ℝ) : Ideal.exp2 (((a : EReal) - (b : EReal)) * (c2 : EReal)) = ((Real.exp ((a - b) * scale) : ℝ) : EReal) := by
  have h2 : Real.log 2 ≠ 0 := (Real.log_pos (by norm_num)).ne'
  rw [← EReal.coe_sub, ← EReal.coe_mul]
  refine congrArg Real.toEReal (?_ : Real.rpow 2 _ = _)
  show (2 : ℝ) ^ (_ : ℝ) = _
  rw [Real.rpow_def_of_pos (by norm_num)]
  congr 1
  unfold c2 scale; field_simp

/-- Minus infinity less a real, scaled, gives the power zero. -/
theorem pow_bot (b : ℝ) : Ideal.exp2 ((⊥ - (b : EReal)) * (c2 : EReal)) = 0 := by
  rw [EReal.bot_sub, EReal.bot_mul_coe_of_pos c2_pos]
  exact Ideal.exp2_bot

theorem pow_score (x : ℝ) (i j : ℕ) : Ideal.exp2 ((H.score i j - (x : EReal)) * (c2 : EReal)) = ((H.w x i j : ℝ) : EReal) := by
  unfold score w
  split_ifs
  · exact pow_real _ _
  · exact pow_bot x

/-- Row `i`'s running maximum `m` and sums `a` after the keys before `n`: as the row begins, or for a real base. -/
def Row (i n : ℕ) (m : EReal) (a : Fin 256 → EReal) : Prop :=
  (n = 0 ∧ m = ⊥ ∧ ∀ d, a d = 0) ∨ ∃ x : ℝ, m = x ∧ ∀ d : Fin 256, a d = H.acc u x n i d

/-- The running maximum joined with a block's products. -/
def join (m : EReal) (s : Fin 512 → EReal) : EReal := max m (Finset.univ.fold max ⊥ s)

/-- A block whose first key is not after the query makes the maximum real. -/
theorem join_real {i n : ℕ} (hn : n ≤ i) {m : EReal} {a : Fin 256 → EReal} (R : H.Row u i n m a) {s : Fin 512 → EReal}
    (hs : ∀ c : Fin 512, s c = H.score i (n + c)) : ∃ y : ℝ, join m s = y := by
  have hb : Finset.univ.fold max ⊥ s = Finset.univ.sup s := rfl
  obtain ⟨c, -, hc⟩ := Finset.exists_mem_eq_sup (Finset.univ : Finset (Fin 512)) Finset.univ_nonempty s
  have h0 : s 0 ≤ Finset.univ.sup s := Finset.le_sup (Finset.mem_univ 0)
  have hs0 : s 0 = ((H.dot i n : ℝ) : EReal) := by rw [hs]; exact if_pos hn
  obtain ⟨y, hy⟩ : ∃ y : ℝ, Finset.univ.sup s = y := by
    by_cases h : n + c.val ≤ i
    · exact ⟨H.dot i (n + c), by rw [hc, hs]; exact if_pos h⟩
    · exfalso
      rw [hc, hs c, score, if_neg h, hs0] at h0
      exact absurd h0 (not_le.2 (EReal.bot_lt_coe _))
  unfold join
  rw [hb, hy]
  rcases R with ⟨-, rfl, -⟩ | ⟨x, rfl, -⟩
  · exact ⟨y, max_eq_right bot_le⟩
  · exact ⟨max x y, (EReal.coe_strictMono.monotone.map_max).symm⟩

/-- The row after one more block. -/
theorem Row.step {i n : ℕ} (hn : n ≤ i) {m : EReal} {a : Fin 256 → EReal} (R : H.Row u i n m a) {s : Fin 512 → EReal}
    (hs : ∀ c : Fin 512, s c = H.score i (n + c)) {v : Fin 512 → Fin 256 → EReal}
    (hv : ∀ c d, v c d = ones u (n + c.val) d.val) :
    H.Row u i (n + 512) (join m s) fun d => Ideal.exp2 ((m - join m s) * (c2 : EReal)) * a d + ∑ c, Ideal.exp2 ((s c - join m s) * (c2 : EReal)) * v c d := by
  obtain ⟨y, hy⟩ := H.join_real u hn R hs
  refine .inr ⟨y, hy, fun d => ?_⟩
  rw [hy]
  have hsum : ∑ c, Ideal.exp2 ((s c - (y : EReal)) * (c2 : EReal)) * v c d = ∑ j ∈ range 512, ((H.w y i (n + j) : ℝ) : EReal) * ones u (n + j) d := by
    rw [sum_range]; exact sum_congr rfl fun c _ => by rw [hs, H.pow_score, hv]
  dsimp only
  rw [hsum, ← H.acc_add]
  congr 1
  rcases R with ⟨rfl, rfl, h0⟩ | ⟨x, rfl, ha⟩
  · rw [h0, mul_zero, H.acc_zero]
  · rw [pow_real, ha, H.acc_base]

end Head

end Cert.Proof.Flash

end
-- ==== Proof.ForwardReference.lean ====
/- What the attention's reference computes over the extended reals, each element of its three results by its head: the
   softmax's average of the values, that average times silu of the gate, and the row log-sum.  The softmax is the one that
   the gradients' reference begins with. -/
module

public import proofs.«01_k».proof.Proof.Gen.ForwardRefIdeal.Read
public import proofs.«01_k».proof.Proof.Reference
public import proofs.«01_k».proof.Proof.ForwardReal

@[expose] public section

set_option maxRecDepth 16384

noncomputable section

namespace Cert.Proof.Forward

open Cert.ForwardRefIdeal Cert.ForwardRefIdeal.Read Cert.Proof.Flash
open Idealize.ShloMosaic Idealize.ShloMosaic.TcCoe

/-- No gradient of the output takes part, and the softmax is not of the values. -/
def noGrad : (⟨Cert.ReferenceIdeal.S1x4096x4096, .f32⟩ : BufTy).Contents (Elt Ideal) := fun _ => (0 : EReal)
def noValue : (⟨S1x4096x32x128, .f32⟩ : BufTy).Contents (Elt Ideal) := fun _ => (0 : EReal)

/-- Head `h`'s values, whatever they are. -/
def valuesOf (x2 : (⟨S1x4096x32x128, .f32⟩ : BufTy).Contents (Elt Ideal)) (h : Fin 32) (j d : ℕ) : EReal :=
  if H : j < 4096 ∧ d < 128 then x2 (ix4 0 ⟨j, H.1⟩ h ⟨d, H.2⟩) else 0

theorem values_at (x2 : (⟨S1x4096x32x128, .f32⟩ : BufTy).Contents (Elt Ideal)) (h : Fin 32) (j : Fin 4096) (d : Fin 128) :
    x2 (ix4 0 j h d) = valuesOf x2 h j.val d.val := by
  rw [valuesOf, dif_pos ⟨j.isLt, d.isLt⟩]

variable {x0 x1 : (⟨S1x4096x32x192, .f32⟩ : BufTy).Contents (Elt Ideal)} (x2 : (⟨S1x4096x32x128, .f32⟩ : BufTy).Contents (Elt Ideal))
  (x3 : (⟨S4096x6144, .bf16⟩ : BufTy).Contents (Elt Ideal))
  (A : Finite x0 x1 noValue noGrad)

local notation "hd" => headOf x0 x1 noValue noGrad

theorem softmax_eq (x0 x1 : (⟨S1x4096x32x192, .f32⟩ : BufTy).Contents (Elt Ideal)) :
    val_main_v21 (F := Ideal) x0 x1 = Cert.ReferenceIdeal.Read.val_main_v35 (F := Ideal) x0 x1 := rfl

theorem masked_eq (x0 x1 : (⟨S1x4096x32x192, .f32⟩ : BufTy).Contents (Elt Ideal)) :
    val_main_v38 (F := Ideal) x0 x1 = Cert.ReferenceIdeal.Read.val_main_v10_0 (F := Ideal) x0 x1 := rfl

/-- A gate's column. -/
def gateLane (d : Fin 4096) : Fin 6144 := ⟨2048 + d.val, by omega⟩

theorem word_one : Ideal.ofBits .f32 0x3F800000#32 = 1 := by
  simp [Ideal.ofBits, Ideal.ieee, -EReal.coe_mul]; norm_num

/-- The gate's silu. -/
theorem silu_at (i d : Fin 4096) : val_main_v50 x3 (ix2 i d) = x3 (ix2 i (gateLane d)) * Ideal.logistic (x3 (ix2 i (gateLane d))) := by
  have hz : val_main_v27 x3 (ix2 i d) = x3 (ix2 i (gateLane d)) := by
    rw [val_main_v27_apply, val_main_v26_apply, show idx_main_v26 (ix2 i d) = ix2 i (gateLane d) from funext fun a => match a with
      | 0 => rfl
      | 1 => rfl]
    rfl
  rw [val_main_v50_apply, val_main_call2_v5_apply, val_main_call2_v4_apply, val_main_call2_v3_apply, val_main_call2_v2_apply,
    val_main_call2_v1_apply, val_main_call2_v0_apply, val_main_call2_cst_apply, val_main_call2_cst_0_apply, hz]
  show x3 _ * Ideal.div (Ideal.ofBits .f32 0x3F800000#32) (Ideal.ofBits .f32 0x3F800000#32 + Ideal.exp (-x3 _)) = _
  rw [word_one]; rfl

include A

theorem ref_average (i d : Fin 4096) : val_main_v25 x0 x1 x2 (ix2 i d) = (hd (narrowHead d)).out (valuesOf x2 (narrowHead d)) i (d.val % 128) := by
  pointwise [val_main_v25, val_main_v24, val_main_v23, val_main_v22]
  rw [Head.out, Finset.sum_range]
  refine Finset.sum_congr rfl fun j _ => ?_
  rw [softmax_eq, mul_comm]
  exact congrArg₂ (· * ·) (ref_p A (narrowHead d) i j) (values_at x2 (narrowHead d) j ⟨d.val % 128, Nat.mod_lt _ (by norm_num)⟩)

theorem ref_o (i d : Fin 4096) : val_main_v49 x0 x1 x2 (ix2 i d) = (hd (narrowHead d)).out (valuesOf x2 (narrowHead d)) i (d.val % 128) :=
  (rfl : _ = val_main_v25 x0 x1 x2 (ix2 i d)).trans (ref_average x2 A i d)

theorem ref_a (i d : Fin 4096) : val_main_v52 x0 x1 x2 x3 (ix2 i d)
    = (hd (narrowHead d)).out (valuesOf x2 (narrowHead d)) i (d.val % 128) * (x3 (ix2 i (gateLane d)) * Ideal.logistic (x3 (ix2 i (gateLane d)))) := by
  rw [← silu_at, ← ref_average x2 A, val_main_v52_apply, val_main_v51_apply]; rfl

theorem fwd_masked (h : Fin 32) (i j : Fin 4096) : val_main_v39 x0 x1 (ix3 h i j) = (hd h).masked i j := by
  have hi : idx_main_v39 (ix3 h i j) = ix4 0 h i j := funext fun a => match a with
    | 0 => rfl
    | 1 => Fin.ext (by show ((h.val * 4096 + i.val) * 4096 + j.val) / 16777216 % 32 = h.val; omega)
    | 2 => Fin.ext (by show ((h.val * 4096 + i.val) * 4096 + j.val) / 4096 % 4096 = i.val; omega)
    | 3 => Fin.ext (by show ((h.val * 4096 + i.val) * 4096 + j.val) % 4096 = j.val; omega)
  rw [val_main_v39_apply, hi, masked_eq, ref_masked A]

theorem fwd_top (h : Fin 32) (i : Fin 4096) : val_main_v40 x0 x1 (ix2 h i) = (((hd h).top i : ℝ) : EReal) := by
  pointwise [val_main_v40, val_main_cst_6]
  rw [word_neg_inf, ← Head.fold_max]
  exact congrArg (fun f => Finset.univ.fold max ⊥ f) (funext fun j => fwd_masked A h i j)

theorem fwd_column (h : Fin 32) (i : Fin 4096) : val_main_v41 x0 x1 (ix3 h i 0) = (((hd h).top i : ℝ) : EReal) := by
  rw [val_main_v41_apply, show idx_main_v41 (ix3 h i 0) = ix2 h i from funext fun a => match a with
    | 0 => rfl
    | 1 => rfl, fwd_top A]

theorem fwd_exp (h : Fin 32) (i j : Fin 4096) : val_main_v44 x0 x1 (ix3 h i j) = (((hd h).e i j : ℝ) : EReal) := by
  rw [val_main_v44_apply, val_main_v43_apply, val_main_v42_apply, show idx_main_v42 (ix3 h i j) = ix3 h i 0 from funext fun a => match a with
    | 0 => rfl
    | 1 => rfl
    | 2 => rfl, fwd_column A, fwd_masked A, ← Head.exp_masked]
  rfl

theorem fwd_sum (h : Fin 32) (i : Fin 4096) : val_main_v46 x0 x1 (ix3 h i 0) = (((hd h).l i : ℝ) : EReal) := by
  pointwise [val_main_v46, val_main_v45, val_main_cst_7]
  exact sum_real _ _ fun j => fwd_exp A h i j

theorem ref_l (h : Fin 32) (i : Fin 4096) (d : Fin 128) : val_main_v53 x0 x1 (ix3 h i d) = (((hd h).lse i : ℝ) : EReal) := by
  rw [val_main_v53_apply, show idx_main_v53 (ix3 h i d) = ix3 h i 0 from funext fun a => match a with
    | 0 => rfl
    | 1 => rfl
    | 2 => rfl, val_main_v48_apply, val_main_v47_apply, fwd_column A, fwd_sum A]
  show (((hd h).top i : ℝ) : EReal) + Ideal.log (((hd h).l i : ℝ) : EReal) = _
  rw [log_real ((hd h).l_pos i i.isLt), ← EReal.coe_add, Head.lse]

end Cert.Proof.Forward

end
-- ==== Proof.ForwardHost.lean ====
/- What the host hands the attention: queries and keys padded with zeros to 256 lanes a head, values with ones. -/
module

public import proofs.«01_k».proof.Proof.Gen.ForwardIdeal.Frame
public import proofs.«01_k».proof.Proof.Host
public import proofs.«01_k».proof.Proof.ForwardReference

@[expose] public section

set_option maxRecDepth 16384

noncomputable section

namespace Cert.Proof.Forward

open Cert.ForwardIdeal Cert.ForwardIdeal.Gen
open Cert.Proof.Flash hiding host_q host_k host_v head
open Idealize.ShloMosaic Idealize.ShloMosaic.TcCoe

variable (m : (ℓ : Loc nD τ sig) → Buf (Elt Ideal) ℓ) (c : Dev nD)

/-- Head `h` of the queries and keys on device `c`. -/
abbrev head (h : Fin 32) : Head := headOf (m (c, main_arg0)) (m (c, main_arg1)) noValue noGrad h

variable (A : Finite (m (c, main_arg0)) (m (c, main_arg1)) noValue noGrad)

theorem float_one : (FloatOps.sitofp FTy.bf16 1#32 : Ideal .bf16) = (1 : EReal) := by
  show (((1#32 : BitVec 32).toInt : ℝ) : EReal) = 1
  rw [show (1#32 : BitVec 32).toInt = 1 by decide, Int.cast_one, EReal.coe_one]

include A

theorem host_q (i : Fin 4096) (d : Fin 8192) : real (V m c main_v3 (ix2 i d)) = (((head m c (wideHead d)).q i (d.val % 256) : ℝ) : EReal) := by
  have e : real (V m c main_v3 (ix2 i d)) = if h : d.val / 256 < 32 ∧ d.val % 256 < 192 then real (m (c, main_arg0) (ix4 0 i ⟨d.val / 256, h.1⟩ ⟨d.val % 256, h.2⟩)) else (FloatOps.sitofp FTy.bf16 0#32 : Ideal .bf16) := by
    unfold real V; after_reads_at
  rw [e]
  split_ifs with h
  · exact A.q_at (wideHead d) i ⟨d.val % 256, h.2⟩
  · rw [float_zero, Head.qz _ _ _ (by omega)]; rfl

theorem host_k (i : Fin 4096) (d : Fin 8192) : real (V m c main_v7 (ix2 i d)) = (((head m c (wideHead d)).k i (d.val % 256) : ℝ) : EReal) := by
  have e : real (V m c main_v7 (ix2 i d)) = if h : d.val / 256 < 32 ∧ d.val % 256 < 192 then real (m (c, main_arg1) (ix4 0 i ⟨d.val / 256, h.1⟩ ⟨d.val % 256, h.2⟩)) else (FloatOps.sitofp FTy.bf16 0#32 : Ideal .bf16) := by
    unfold real V; after_reads_at
  rw [e]
  split_ifs with h
  · exact A.k_at (wideHead d) i ⟨d.val % 256, h.2⟩
  · rw [float_zero, Head.kz _ _ _ (by omega)]; rfl

omit A in
theorem host_v (i : Fin 4096) (d : Fin 8192) : real (V m c main_v11 (ix2 i d)) = Head.ones (valuesOf (m (c, main_arg2)) (wideHead d)) i (d.val % 256) := by
  have e : real (V m c main_v11 (ix2 i d)) = if h : d.val / 256 < 32 ∧ d.val % 256 < 128 then real (m (c, main_arg2) (ix4 0 i ⟨d.val / 256, h.1⟩ ⟨d.val % 256, h.2⟩)) else (FloatOps.sitofp FTy.bf16 1#32 : Ideal .bf16) := by
    unfold real V; after_reads_at
  rw [e, Head.ones]
  split_ifs with h h' h'
  · exact values_at _ (wideHead d) i ⟨d.val % 256, h.2⟩
  · omega
  · omega
  · rw [float_one]

end Cert.Proof.Forward

end
-- ==== Proof.ForwardStep.lean ====
/- What one grid point of the attention does to its two running tables, as functions of values: one block of keys after
   another for each of the point's two heads, the masked block on the diagonal last, then the three results. -/
module

public import proofs.«01_k».proof.Proof.Gen.ForwardIdeal.Loops
public import Idealize.ShloMosaic.Lib.VecWindow

@[expose] public section

set_option maxRecDepth 16384

noncomputable section

namespace Cert.Proof.Forward

open Cert.ForwardIdeal Cert.ForwardIdeal.Gen
open Idealize.ShloMosaic Idealize.ShloMosaic.TcCoe

variable {F : FTy → Type} [FloatOps F] [Named F]

/-- The running row maxima of the two heads, and their running sums: in lanes from 128 on, the row sum itself. -/
structure Run (F : FTy → Type) where
  m : Vec F S2x512x1 .f32
  acc : Vec F S2x512x256 .f32

/-- What a grid point reads: one block of queries, all keys and values, and the gate's block, of its two heads. -/
structure Inp (F : FTy → Type) where
  q : Vec F S512x512 .bf16
  k : Vec F S4096x512 .bf16
  v : Vec F S4096x512 .bf16
  z : Vec F S512x256 .bf16

/-- The two heads' positions in the row maxima and in the sums. -/
theorem m_inb (h : Fin 2) : ∀ a : Fin 3, (![h.val, 0, 0] : Fin 3 → ℕ) a + S1x512x1.size a ≤ S2x512x1.size a := by revert h; decide
theorem acc_inb (h : Fin 2) : ∀ a : Fin 3, (![h.val, 0, 0] : Fin 3 → ℕ) a + S1x512x256.size a ≤ S2x512x256.size a := by revert h; decide
theorem low_inb (h : Fin 2) : ∀ a : Fin 3, (![h.val, 0, 0] : Fin 3 → ℕ) a + S1x512x128.size a ≤ S2x512x256.size a := by revert h; decide
theorem high_inb (h : Fin 2) : ∀ a : Fin 3, (![h.val, 0, 128] : Fin 3 → ℕ) a + S1x512x128.size a ≤ S2x512x256.size a := by revert h; decide

/-- Head `h`'s row maxima and sums, and the sums' two halves. -/
abbrev Run.mh (x : Run F) (h : Fin 2) : Vec F S1x512x1 .f32 := VecWindow.window x.m ![h.val, 0, 0] S1x512x1.size (m_inb h)
abbrev Run.acch (x : Run F) (h : Fin 2) : Vec F S1x512x256 .f32 := VecWindow.window x.acc ![h.val, 0, 0] S1x512x256.size (acc_inb h)
abbrev Run.low (x : Run F) (h : Fin 2) : Vec F S1x512x128 .f32 := VecWindow.window x.acc ![h.val, 0, 0] S1x512x128.size (low_inb h)
abbrev Run.high (x : Run F) (h : Fin 2) : Vec F S1x512x128 .f32 := VecWindow.window x.acc ![h.val, 0, 128] S1x512x128.size (high_inb h)

/-- Head `h`'s products `s` and values `v` of one block, joined to what `x` holds for the head and written over it in `y`. -/
def step (h : Fin 2) (s : FVec F S512x512 .f32) (v : Vec F S512x256 .bf16) (x y : Run F) : Run F where
  m := VecWindow.put y.m ![h.val, 0, 0] S1x512x1.size (k0_pay29 s (k0_pay26 (x.mh h)))
  acc := VecWindow.put y.acc ![h.val, 0, 0] S1x512x256.size (k0_pay28 (k0_pay24 v) s (k0_pay26 (x.mh h)) (x.acch h))

variable (i : grid0.Coords) (x : Inp F)

/-- The two heads' queries. -/
abbrev q0 : Vec F S512x256 .bf16 := VecWindow.window x.q ![0, 0] S512x256.size inb_S512x512_S512x256_0_0
abbrev q1 : Vec F S512x256 .bf16 := VecWindow.window x.q ![0, 256] S512x256.size inb_S512x512_S512x256_0_256

/-- One block below the diagonal: trip `k` of the loop. -/
def trip (k : Fin (k0_t1_loop i).trips) (s : Run F) : Run F :=
  step 1 (k0_pay2 (q1 x) (VecWindow.window x.k (k0_off2 i k) S512x256.size (k0_off2_inb i k)))
    (VecWindow.window x.v (k0_off2 i k) S512x256.size (k0_off2_inb i k)) s
    (step 0 (k0_pay2 (q0 x) (VecWindow.window x.k (k0_off1 i k) S512x256.size (k0_off1_inb i k)))
      (VecWindow.window x.v (k0_off1 i k) S512x256.size (k0_off1_inb i k)) s s)

/-- The first `n` trips. -/
def trips (s : Run F) : ℕ → Run F
  | 0 => s
  | n + 1 => if h : n < (k0_t1_loop i).trips then trip i x ⟨n, h⟩ (trips s n) else trips s n

theorem trips_succ (s : Run F) (k : Fin (k0_t1_loop i).trips) : trips i x s (k.val + 1) = trip i x k (trips i x s k.val) := dif_pos k.isLt

/-- The tables as a point begins. -/
def start : Run F := ⟨k0_pay20, k0_pay21⟩

/-- The tables after the loop. -/
def looped : Run F := trips i x start (k0_t1_loop i).trips

/-- Head 0's masked block on the diagonal, and then head 1's. -/
def half : Run F :=
  step 0 (k0_pay25 (q0 x) (VecWindow.window x.k (k0_off5 i) S512x256.size (k0_off5_inb i)))
    (VecWindow.window x.v (k0_off5 i) S512x256.size (k0_off5_inb i)) (looped i x) (looped i x)
def point : Run F :=
  step 1 (k0_pay25 (q1 x) (VecWindow.window x.k (k0_off6 i) S512x256.size (k0_off6_inb i)))
    (VecWindow.window x.v (k0_off6 i) S512x256.size (k0_off6_inb i)) (half i x) (half i x)

/-- The gate's two halves. -/
abbrev z0 : Vec F S512x128 .bf16 := VecWindow.window x.z ![0, 0] S512x128.size inb_S512x256_S512x128_0_0
abbrev z1 : Vec F S512x128 .bf16 := VecWindow.window x.z ![0, 128] S512x128.size inb_S512x256_S512x128_0_128

/-- The attention's result, the gated result, and the row log-sums, written over any blocks. -/
def outO (p : Run F) (y : Vec F S512x256 .bf16) : Vec F S512x256 .bf16 :=
  VecWindow.put (VecWindow.put y ![0, 0] S512x128.size (k0_pay38 (p.high 0) (p.low 0))) ![0, 128] S512x128.size (k0_pay38 (p.high 1) (p.low 1))
def outA (p : Run F) (y : Vec F S512x256 .bf16) : Vec F S512x256 .bf16 :=
  VecWindow.put (VecWindow.put y ![0, 0] S512x128.size (k0_pay39 (k0_pay37 (p.high 0) (p.low 0)) (z0 x))) ![0, 128] S512x128.size
    (k0_pay39 (k0_pay37 (p.high 1) (p.low 1)) (z1 x))
def outL (p : Run F) (y : Vec F S2x512x128 .f32) : Vec F S2x512x128 .f32 :=
  VecWindow.put (VecWindow.put y ![0, 0, 0] S1x512x128.size (k0_pay40 (k0_pay36 (p.high 0)) (p.mh 0))) ![1, 0, 0] S1x512x128.size
    (k0_pay40 (k0_pay36 (p.high 1)) (p.mh 1))

end Cert.Proof.Forward

end
-- ==== Proof.ForwardRead.lean ====
/- What the run leaves in its buffers, read as the functions of values of ForwardStep.lean: the loop's trips, the masked
   blocks, and the three results. -/
module

public import proofs.«01_k».proof.Proof.ForwardStep
public import proofs.«01_k».proof.Proof.Gen.ForwardIdeal.Frame

@[expose] public section

set_option maxRecDepth 16384

noncomputable section

namespace Cert.Proof.Forward

open Cert.ForwardIdeal Cert.ForwardIdeal.Gen
open Idealize.ShloMosaic Idealize.ShloMosaic.TcCoe

variable {F : FTy → Type} [FloatOps F] [Named F]

variable (c : Dev nD) (i : grid0.Coords)
  (arg2 : Memref sig .tc .vmem S512x512 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S2x512x128 .f32) (harg8 : arg8.IsWhole) (arg9 : Memref sig .tc .vmem S2x512x1 .f32) (harg9 : arg9.IsWhole)
  (arg10 : Memref sig .tc .vmem S2x512x256 .f32) (harg10 : arg10.IsWhole)

/-- The two tables as two buffers hold them. -/
abbrev held (f9 : BufTy.Contents (Elt F) arg9.view.ty) (f10 : BufTy.Contents (Elt F) arg10.view.ty) : Run F :=
  ⟨arg9.view.read (Elt F) f9, arg10.view.read (Elt F) f10⟩

variable (X2 : BufTy.Contents (Elt F) arg2.view.ty) (X3 : BufTy.Contents (Elt F) arg3.view.ty) (X4 : BufTy.Contents (Elt F) arg4.view.ty)
  (z : Vec F S512x256 .bf16)

/-- What a point reads, of its buffers. -/
abbrev seen : Inp F := ⟨arg2.view.read (Elt F) X2, arg3.view.read (Elt F) X3, arg4.view.read (Elt F) X4, z⟩

/-- One trip's writes are `trip`. -/
theorem trip_held (k : Fin (k0_t1_loop i).trips) (f9 : BufTy.Contents (Elt F) arg9.view.ty) (f10 : BufTy.Contents (Elt F) arg10.view.ty) :
    held arg9 arg10 (arg9.view.writes (Elt F) f9 (tripL_k0_t1 (F := F) Variants.none c none i arg2 harg2 arg3 harg3 arg4 harg4 arg5 harg5 arg6 harg6 arg7 harg7 arg8 harg8 arg9 harg9 arg10 harg10 X2 X3 X4 k f9 f10).1)
      (arg10.view.writes (Elt F) f10 (tripL_k0_t1 (F := F) Variants.none c none i arg2 harg2 arg3 harg3 arg4 harg4 arg5 harg5 arg6 harg6 arg7 harg7 arg8 harg8 arg9 harg9 arg10 harg10 X2 X3 X4 k f9 f10).2)
      = trip i (seen arg2 arg3 arg4 X2 X3 X4 z) k (held arg9 arg10 f9 f10) := by
  unfold tripL_k0_t1 trip_k0_t1
  dsimp only [held]
  rw [View.read_writes_cons_put _ _ _ _ _ rfl, View.read_writes_cons_put _ _ _ _ [] rfl,
    View.read_writes_cons_put _ _ _ _ _ rfl, View.read_writes_cons_put _ _ _ _ [] rfl]
  rfl

/-- The writes of the first `n` trips are `trips`. -/
theorem trips_held (f9 : BufTy.Contents (Elt F) arg9.view.ty) (f10 : BufTy.Contents (Elt F) arg10.view.ty) :
    ∀ n ≤ (k0_t1_loop i).trips,
    held arg9 arg10 (arg9.view.writes (Elt F) f9 (pb_k0_t1 (F := F) Variants.none c none i arg2 harg2 arg3 harg3 arg4 harg4 arg5 harg5 arg6 harg6 arg7 harg7 arg8 harg8 arg9 harg9 arg10 harg10 X2 X3 X4 f9 f10 n).1)
      (arg10.view.writes (Elt F) f10 (pb_k0_t1 (F := F) Variants.none c none i arg2 harg2 arg3 harg3 arg4 harg4 arg5 harg5 arg6 harg6 arg7 harg7 arg8 harg8 arg9 harg9 arg10 harg10 X2 X3 X4 f9 f10 n).2)
      = trips i (seen arg2 arg3 arg4 X2 X3 X4 z) (held arg9 arg10 f9 f10) n
  | 0, _ => rfl
  | n + 1, h => by
    have e := pb_k0_t1_succ (F := F) Variants.none c none i arg2 harg2 arg3 harg3 arg4 harg4 arg5 harg5 arg6 harg6 arg7 harg7 arg8 harg8 arg9 harg9 arg10 harg10 X2 X3 X4 f9 f10 ⟨n, h⟩
    have ih := trips_held f9 f10 n (by omega)
    rw [show n + 1 = (⟨n, h⟩ : Fin (k0_t1_loop i).trips).val + 1 from rfl, e, trips_succ, View.writes_append, View.writes_append]
    rw [trip_held (z := z)]
    exact congrArg _ ih

variable (x : Inp F)

/-- The loop's pieces with the first stores, as the run writes them, give the tables after the loop. -/
theorem looped_held :
    held arg9 arg10
      (arg9.view.writes (Elt F) arg9.view.junk ((pb_k0_t1 (F := F) Variants.none c none i arg2 harg2 arg3 harg3 arg4 harg4 arg5 harg5 arg6 harg6 arg7 harg7 arg8 harg8 arg9 harg9 arg10 harg10 (harg2.unread x.q) (harg3.unread x.k) (harg4.unread x.v)
        (arg9.view.writes (Elt F) arg9.view.junk kernelRun0_A.sl.HS0_1) (arg10.view.writes (Elt F) arg10.view.junk kernelRun0_A.sl.HS1_1) (k0_t1_loop i).trips).1 ++ kernelRun0_A.sl.HS0_1))
      (arg10.view.writes (Elt F) arg10.view.junk ((pb_k0_t1 (F := F) Variants.none c none i arg2 harg2 arg3 harg3 arg4 harg4 arg5 harg5 arg6 harg6 arg7 harg7 arg8 harg8 arg9 harg9 arg10 harg10 (harg2.unread x.q) (harg3.unread x.k) (harg4.unread x.v)
        (arg9.view.writes (Elt F) arg9.view.junk kernelRun0_A.sl.HS0_1) (arg10.view.writes (Elt F) arg10.view.junk kernelRun0_A.sl.HS1_1) (k0_t1_loop i).trips).2 ++ kernelRun0_A.sl.HS1_1))
      = looped i x := by
  rw [View.writes_append, View.writes_append]
  refine (trips_held c i arg2 harg2 arg3 harg3 arg4 harg4 arg5 harg5 arg6 harg6 arg7 harg7 arg8 harg8 arg9 harg9 arg10 harg10 (harg2.unread x.q) (harg3.unread x.k) (harg4.unread x.v) x.z _ _ _ le_rfl).trans ?_
  unfold looped seen
  rw [harg2.read_unread, harg3.read_unread, harg4.read_unread]
  refine congrArg (fun s => trips i x s _) ?_
  unfold held kernelRun0_A.sl.HS0_1 kernelRun0_A.sl.HS1_1
  rw [View.read_writes_full, View.read_writes_full]
  rfl

/-- The tables after head 0's masked block. -/
theorem half_held (h2 : (k0_t2_loop i).trips = 0) :
    held arg9 arg10 (arg9.view.writes (Elt F) arg9.view.junk (kernelRun0_A.sl.HS0_1_1 c i arg2 harg2 arg3 harg3 arg4 harg4 arg5 harg5 arg6 harg6 arg7 harg7 arg8 harg8 arg9 harg9 arg10 harg10 x.q x.k x.v))
      (arg10.view.writes (Elt F) arg10.view.junk (kernelRun0_A.sl.HS1_1_1 c i arg2 harg2 arg3 harg3 arg4 harg4 arg5 harg5 arg6 harg6 arg7 harg7 arg8 harg8 arg9 harg9 arg10 harg10 x.q x.k x.v)) = half i x := by
  have hl := looped_held c i arg2 harg2 arg3 harg3 arg4 harg4 arg5 harg5 arg6 harg6 arg7 harg7 arg8 harg8 arg9 harg9 arg10 harg10 x
  have ht : Scf.trips (k0_t2_loop i).lb (k0_t2_loop i).ub (k0_t2_loop i).st = 0 := h2
  unfold kernelRun0_A.sl.HS0_1_1 kernelRun0_A.sl.HS1_1_1 kernelRun0_A.sl.r_2 kernelRun0_A.sl.v29 kernelRun0_A.sl.v44
  rw [ht]
  unfold pb_k0_t2
  simp only [List.nil_append]
  unfold held
  rw [View.read_writes_cons_put _ _ _ _ _ rfl, View.read_writes_cons_put _ _ _ _ _ rfl]
  unfold View.readCov
  rw [View.readAt_unit _ _ _ rfl (m_inb 0), View.readAt_unit _ _ _ rfl (acc_inb 0)]
  unfold kernelRun0_A.sl.r_1 kernelRun0_A.sl.r
  rw [View.readAt_unit _ _ _ rfl inb_S512x512_S512x256_0_0, View.readAt_unit _ _ _ rfl (k0_off5_inb i), View.readAt_unit _ _ _ rfl (k0_off5_inb i),
    harg2.read_unread, harg3.read_unread, harg4.read_unread]
  exact congrArg (fun s => step 0 (k0_pay25 (q0 x) (VecWindow.window x.k (k0_off5 i) S512x256.size (k0_off5_inb i)))
    (VecWindow.window x.v (k0_off5 i) S512x256.size (k0_off5_inb i)) s s) hl

/-- The tables after head 1's masked block. -/
theorem point_held (h2 : (k0_t2_loop i).trips = 0) :
    held arg9 arg10 (arg9.view.writes (Elt F) arg9.view.junk (kernelRun0_A.sl.HS0_2 c i arg2 harg2 arg3 harg3 arg4 harg4 arg5 harg5 arg6 harg6 arg7 harg7 arg8 harg8 arg9 harg9 arg10 harg10 x.q x.k x.v))
      (arg10.view.writes (Elt F) arg10.view.junk (kernelRun0_A.sl.HS1_2 c i arg2 harg2 arg3 harg3 arg4 harg4 arg5 harg5 arg6 harg6 arg7 harg7 arg8 harg8 arg9 harg9 arg10 harg10 x.q x.k x.v)) = point i x := by
  have hl := half_held c i arg2 harg2 arg3 harg3 arg4 harg4 arg5 harg5 arg6 harg6 arg7 harg7 arg8 harg8 arg9 harg9 arg10 harg10 x h2
  unfold kernelRun0_A.sl.HS0_2 kernelRun0_A.sl.HS1_2 kernelRun0_A.sl.v70 kernelRun0_A.sl.v85
  unfold held
  rw [View.read_writes_cons_put _ _ _ _ _ rfl, View.read_writes_cons_put _ _ _ _ _ rfl]
  unfold View.readCov
  rw [View.readAt_unit _ _ _ rfl (m_inb 1), View.readAt_unit _ _ _ rfl (acc_inb 1)]
  unfold kernelRun0_A.sl.r_4 kernelRun0_A.sl.r_3
  rw [View.readAt_unit _ _ _ rfl inb_S512x512_S512x256_0_256, View.readAt_unit _ _ _ rfl (k0_off6_inb i), View.readAt_unit _ _ _ rfl (k0_off6_inb i),
    harg2.read_unread, harg3.read_unread, harg4.read_unread]
  exact congrArg (fun s => step 1 (k0_pay25 (q1 x) (VecWindow.window x.k (k0_off6 i) S512x256.size (k0_off6_inb i)))
    (VecWindow.window x.v (k0_off6 i) S512x256.size (k0_off6_inb i)) s s) hl

/-- The three results of a point. -/
theorem out_o (h2 : (k0_t2_loop i).trips = 0) :
    out0_A_4 c i arg2 harg2 arg3 harg3 arg4 harg4 arg5 harg5 arg6 harg6 arg7 harg7 arg8 harg8 arg9 harg9 arg10 harg10 x.q x.k x.v x.z = outO (point i x) (VO0_4.read (Elt F) VO0_4.junk) := by
  rw [← point_held c i arg2 harg2 arg3 harg3 arg4 harg4 arg5 harg5 arg6 harg6 arg7 harg7 arg8 harg8 arg9 harg9 arg10 harg10 x h2]
  unfold out0_A_4 kernelRun0_A
  dsimp only
  rw [View.read_writes_cons_put _ _ _ _ _ rfl, View.read_writes_cons_put _ _ _ _ [] rfl]
  rfl
theorem out_a (h2 : (k0_t2_loop i).trips = 0) :
    out0_A_5 c i arg2 harg2 arg3 harg3 arg4 harg4 arg5 harg5 arg6 harg6 arg7 harg7 arg8 harg8 arg9 harg9 arg10 harg10 x.q x.k x.v x.z = outA x (point i x) (VO0_5.read (Elt F) VO0_5.junk) := by
  rw [← point_held c i arg2 harg2 arg3 harg3 arg4 harg4 arg5 harg5 arg6 harg6 arg7 harg7 arg8 harg8 arg9 harg9 arg10 harg10 x h2]
  unfold out0_A_5 kernelRun0_A
  dsimp only
  rw [View.read_writes_cons_put _ _ _ _ _ rfl, View.read_writes_cons_put _ _ _ _ [] rfl, View.readAt_unit _ _ _ rfl inb_S512x256_S512x128_0_0,
    View.readAt_unit _ _ _ rfl inb_S512x256_S512x128_0_128, harg5.read_unread]
  rfl
theorem out_l (h2 : (k0_t2_loop i).trips = 0) :
    out0_A_6 c i arg2 harg2 arg3 harg3 arg4 harg4 arg5 harg5 arg6 harg6 arg7 harg7 arg8 harg8 arg9 harg9 arg10 harg10 x.q x.k x.v x.z = outL (point i x) (VO0_6.read (Elt F) VO0_6.junk) := by
  rw [← point_held c i arg2 harg2 arg3 harg3 arg4 harg4 arg5 harg5 arg6 harg6 arg7 harg7 arg8 harg8 arg9 harg9 arg10 harg10 x h2]
  unfold out0_A_6 kernelRun0_A
  dsimp only
  rw [View.read_writes_cons_put _ _ _ _ _ rfl, View.read_writes_cons_put _ _ _ _ [] rfl]
  rfl

end Cert.Proof.Forward

end
-- ==== Proof.ForwardBlock.lean ====
/- What one block of the attention and its results compute, element by element. -/
module

public import proofs.«01_k».proof.Proof.ForwardReal
public import proofs.«01_k».proof.Proof.Gen.ForwardIdeal.Skeleton
public import Idealize.ShloMosaic.Lib.Pointwise

@[expose] public section

set_option maxRecDepth 16384

noncomputable section

namespace Cert.Proof.Forward

open Cert.ForwardIdeal Cert.ForwardIdeal.Gen Cert.Proof.Flash
open Idealize.ShloMosaic Idealize.ShloMosaic.TcCoe

/-- Every element of the table is what `f` gives at its row and lane. -/
def Is2 {a b : ℕ} (v : (⟨2, ![a, b]⟩ : Shape).Idx → EReal) (f : ℕ → ℕ → EReal) : Prop := ∀ (r : Fin a) (d : Fin b), v (ix2 r d) = f r.val d.val

theorem named_c2 : (Named.named κ "c2" 0x3DD53B95#32 : Ideal .f32) = ((Head.c2 : ℝ) : EReal) := rfl
theorem named_scale : (Named.named κ "scale" 0x3D93CD3A#32 : Ideal .f32) = ((scale : ℝ) : EReal) := rfl
theorem named_mask : (Named.named κ "mask" 0xF149F2CA#32 : Ideal .f32) = (⊥ : EReal) := rfl

/-- The running maximum joined with the block's. -/
theorem pay29_at (s : FVec Ideal S512x512 .f32) (m : Vec Ideal S1x512x1 .f32) (r : Fin 512) :
    k0_pay29 s (k0_pay26 m) (ix3 0 r 0) = Head.join (m (ix3 0 r 0)) fun c => s (ix2 r c) := by
  pointwise [k0_pay29, k0_pay27, k0_pay26]
  rw [word_neg_inf]; rfl

/-- The running sums with the block's joined. -/
theorem pay28_at (v : Vec Ideal S512x256 .bf16) (s : FVec Ideal S512x512 .f32) (m : Vec Ideal S1x512x1 .f32) (a : Vec Ideal S1x512x256 .f32) (r : Fin 512) (d : Fin 256) :
    k0_pay28 (k0_pay24 v) s (k0_pay26 m) a (ix3 0 r d)
      = Ideal.exp2 ((m (ix3 0 r 0) - Head.join (m (ix3 0 r 0)) fun c => s (ix2 r c)) * (Head.c2 : EReal)) * a (ix3 0 r d)
        + ∑ c, Ideal.exp2 ((s (ix2 r c) - Head.join (m (ix3 0 r 0)) fun c => s (ix2 r c)) * (Head.c2 : EReal)) * v (ix2 c d) := by
  pointwise [k0_pay28, k0_pay27, k0_pay26, k0_pay24]
  rw [word_neg_inf, named_c2]; rfl

variable {H : Head} {r0 c0 : ℕ} {q k : Vec Ideal S512x256 .bf16} (hq : Is2 q fun i d => ((H.q (r0 + i) d : ℝ) : EReal)) (hk : Is2 k fun j d => ((H.k (c0 + j) d : ℝ) : EReal))
include hq hk

/-- The products of queries and keys. -/
theorem dot_at (r c : Fin 512) : ∑ d, q (ix2 r d) * k (ix2 c d) = ((H.dot (r0 + r) (c0 + c) : ℝ) : EReal) := by
  rw [← H.dot_wide]
  exact sum_real _ _ fun x => by rw [hq, hk, EReal.coe_mul]

/-- The products of a block below the diagonal. -/
theorem pay2_at (h : c0 + 512 ≤ r0) (r c : Fin 512) : k0_pay2 q k (ix2 r c) = H.score (r0 + r) (c0 + c) := by
  pointwise [k0_pay2]
  rw [dot_at hq hk, Head.score, if_pos (by have := c.isLt; omega)]

/-- The products of the block on the diagonal: the keys after a query are masked. -/
theorem pay25_at (h : c0 = r0) (r c : Fin 512) : k0_pay25 q k (ix2 r c) = H.score (r0 + r) (c0 + c) := by
  pointwise [k0_pay25]
  have small (n : Fin 512) : (BitVec.ofNat 32 n.val).toInt = n.val := by
    have hn : (BitVec.ofNat 32 n.val).toNat = n.val := Nat.mod_eq_of_lt (lt_trans n.isLt (by norm_num))
    rw [BitVec.toInt_eq_toNat_of_lt (by rw [hn]; have := n.isLt; omega), hn]
  have hc : (IntOp.cmpi CmpIPredicate.sle (BitVec.ofNat 32 c.val) (BitVec.ofNat 32 r.val) = 1) ↔ c.val ≤ r.val := by
    show _ = 1#1 ↔ _
    rw [IntOp.cmpi_sle, small, small, Nat.cast_le]
  by_cases hcr : c.val ≤ r.val
  · rw [Scalar.select, if_pos (hc.2 hcr), dot_at hq hk, Head.score, if_pos (by omega)]
  · rw [Scalar.select, if_neg (mt hc.1 hcr), Head.score, if_neg (by omega), named_mask]

omit hq hk

/-- The result: the sums divided by the row sum. -/
theorem pay38_at (l a : Vec Ideal S1x512x128 .f32) (r : Fin 512) (d : Fin 128) :
    k0_pay38 l a (ix2 r d) = Ideal.div (a (ix3 0 r d)) (l (ix3 0 r d)) := by
  pointwise [k0_pay38, k0_pay37, k0_pay36]

/-- The gated result. -/
theorem pay39_at (l a : Vec Ideal S1x512x128 .f32) (z : Vec Ideal S512x128 .bf16) (r : Fin 512) (d : Fin 128) :
    k0_pay39 (k0_pay37 l a) z (ix2 r d) = Ideal.div (a (ix3 0 r d)) (l (ix3 0 r d)) * (z (ix2 r d) * Ideal.logistic (z (ix2 r d))) := by
  pointwise [k0_pay39, k0_pay37, k0_pay36]

/-- The row log-sum. -/
theorem pay40_at (l : Vec Ideal S1x512x128 .f32) (m : Vec Ideal S1x512x1 .f32) (r : Fin 512) (d : Fin 128) :
    k0_pay40 (k0_pay36 l) m (ix3 0 r d) = m (ix3 0 r 0) * (scale : EReal) + Ideal.log (l (ix3 0 r d)) := by
  pointwise [k0_pay40, k0_pay36]
  rw [named_scale]

/-- The tables as a point begins. -/
theorem pay20_at (h : Fin 2) (r : Fin 512) : k0_pay20 (F := Ideal) (ix3 h r 0) = ⊥ := by
  pointwise [k0_pay20]
  exact named_mask
theorem pay21_at (h : Fin 2) (r : Fin 512) (d : Fin 256) : k0_pay21 (F := Ideal) (ix3 h r d) = (0 : EReal) := by
  pointwise [k0_pay21]

end Cert.Proof.Forward

end
-- ==== Proof.ForwardPoint.lean ====
/- What one grid point of the attention leaves over the extended reals: its two heads' running maxima and sums after the
   blocks up to the diagonal, and the three results. -/
module

public import proofs.«01_k».proof.Proof.ForwardBlock
public import proofs.«01_k».proof.Proof.ForwardStep

@[expose] public section

set_option maxRecDepth 16384

noncomputable section

namespace Cert.Proof.Forward

open Cert.ForwardIdeal Cert.ForwardIdeal.Gen Cert.Proof.Flash
open Idealize.ShloMosaic Idealize.ShloMosaic.TcCoe

/-! ## Where a point reads -/

theorem loop_trips : ∀ t : Fin grid0.N, (k0_t1_loop (grid0.coords t)).trips = t.val % 8 := by decide +kernel
theorem no_trips : ∀ t : Fin grid0.N, (k0_t2_loop (grid0.coords t)).trips = 0 := by decide +kernel
theorem off1_eq : ∀ (t : Fin grid0.N) (k : Fin (k0_t1_loop (grid0.coords t)).trips), k0_off1 (grid0.coords t) k = ![k.val * 512, 0] := by decide +kernel
theorem off2_eq : ∀ (t : Fin grid0.N) (k : Fin (k0_t1_loop (grid0.coords t)).trips), k0_off2 (grid0.coords t) k = ![k.val * 512, 256] := by decide +kernel
theorem off5_eq : ∀ t : Fin grid0.N, k0_off5 (grid0.coords t) = ![t.val % 8 * 512, 0] := by decide +kernel
theorem off6_eq : ∀ t : Fin grid0.N, k0_off6 (grid0.coords t) = ![t.val % 8 * 512, 256] := by decide +kernel

/-! ## Windows and puts -/

/-- A window of rows from `n` and lanes from `o`. -/
theorem window_at {a' b' a b n o : ℕ} (X : (⟨2, ![a', b']⟩ : Shape).Idx → EReal) {off : Fin 2 → ℕ} (ho : off = ![n, o])
    (inb : ∀ i, off i + (![a, b] : Fin 2 → ℕ) i ≤ (⟨2, ![a', b']⟩ : Shape).size i) (r : Fin a) (d : Fin b) (hr : n + r.val < a') (hd : o + d.val < b') :
    VecWindow.window (s := ⟨2, ![a', b']⟩) X off ![a, b] inb (ix2 r d) = X (ix2 ⟨n + r.val, hr⟩ ⟨o + d.val, hd⟩) := by
  subst ho
  refine congrArg X (funext fun i => ?_)
  match i with
  | 0 => exact Fin.ext (show n + 1 * r.val = n + r.val by omega)
  | 1 => exact Fin.ext (show o + 1 * d.val = o + d.val by omega)

theorem window_is {a' b' a b n o : ℕ} {X : (⟨2, ![a', b']⟩ : Shape).Idx → EReal} {f : ℕ → ℕ → EReal} (hb : o + b ≤ b')
    (hX : ∀ (r : Fin a') (d : Fin b), X (ix2 r ⟨o + d.val, by omega⟩) = f r.val d.val) {off : Fin 2 → ℕ}
    (ho : off = ![n, o]) (inb : ∀ i, off i + (![a, b] : Fin 2 → ℕ) i ≤ (⟨2, ![a', b']⟩ : Shape).size i) :
    Is2 (a := a) (b := b) (VecWindow.window (s := ⟨2, ![a', b']⟩) X off ![a, b] inb) fun i d => f (n + i) d := fun r d => by
  have hr : n + r.val < a' := by have : n + a ≤ a' := by subst ho; exact inb 0
                                 have := r.isLt; omega
  exact (window_at X ho inb r d hr (by omega)).trans (hX _ _)

/-- One head's part of a table, its lanes from `o`. -/
theorem head_at {b' b o : ℕ} (X : (⟨3, ![2, 512, b']⟩ : Shape).Idx → EReal) (h : Fin 2)
    (inb : ∀ i, (![h.val, 0, o] : Fin 3 → ℕ) i + (![1, 512, b] : Fin 3 → ℕ) i ≤ (⟨3, ![2, 512, b']⟩ : Shape).size i) (r : Fin 512) (d : Fin b) (hd : o + d.val < b') :
    VecWindow.window (s := ⟨3, ![2, 512, b']⟩) X ![h.val, 0, o] ![1, 512, b] inb (ix3 0 r d) = X (ix3 h r ⟨o + d.val, hd⟩) := by
  refine congrArg X (funext fun i => ?_)
  match i with
  | 0 => exact Fin.ext (show h.val + 1 * 0 = h.val by omega)
  | 1 => exact Fin.ext (show 0 + 1 * r.val = r.val by omega)
  | 2 => exact Fin.ext (show o + 1 * d.val = o + d.val by omega)

/-- One head's part of a table replaced: what is read of that head, and of another. -/
theorem put_same {b : ℕ} (y : (⟨3, ![2, 512, b]⟩ : Shape).Idx → EReal) (h : Fin 2) (w : (⟨3, ![1, 512, b]⟩ : Shape).Idx → EReal) (r : Fin 512) (d : Fin b) :
    VecWindow.put (s := ⟨3, ![2, 512, b]⟩) y ![h.val, 0, 0] ![1, 512, b] w (ix3 h r d) = w (ix3 0 r d) := by
  unfold VecWindow.put
  rw [dif_pos (fun i : Fin 3 => by
    match i with
    | 0 => exact ⟨le_rfl, Nat.lt_succ_self _⟩
    | 1 => exact ⟨Nat.zero_le _, (show r.val < 0 + 512 by omega)⟩
    | 2 => exact ⟨Nat.zero_le _, (show d.val < 0 + b by omega)⟩)]
  refine congrArg w (funext fun i => ?_)
  match i with
  | 0 => exact Fin.ext (show h.val - h.val = 0 by omega)
  | 1 => rfl
  | 2 => rfl

theorem put_other {b : ℕ} (y : (⟨3, ![2, 512, b]⟩ : Shape).Idx → EReal) {h h' : Fin 2} (hh : h' ≠ h) (w : (⟨3, ![1, 512, b]⟩ : Shape).Idx → EReal) (r : Fin 512) (d : Fin b) :
    VecWindow.put (s := ⟨3, ![2, 512, b]⟩) y ![h.val, 0, 0] ![1, 512, b] w (ix3 h' r d) = y (ix3 h' r d) := by
  unfold VecWindow.put
  exact dif_neg fun hp => hh (Fin.ext (by
    obtain ⟨h1, h2⟩ := hp 0
    have h1' : h.val ≤ h'.val := h1
    have h2' : h'.val < h.val + 1 := h2
    omega))

/-- Lanes from `o` replaced: what is read of those lanes, and of others. -/
theorem lane_same {b o : ℕ} (y : (⟨2, ![512, b]⟩ : Shape).Idx → EReal) (w : (⟨2, ![512, 128]⟩ : Shape).Idx → EReal) (r : Fin 512) (d : Fin 128) (hd : o + d.val < b) :
    VecWindow.put (s := ⟨2, ![512, b]⟩) y ![0, o] ![512, 128] w (ix2 r ⟨o + d.val, hd⟩) = w (ix2 r d) := by
  unfold VecWindow.put
  rw [dif_pos (fun i : Fin 2 => by
    match i with
    | 0 => exact ⟨Nat.zero_le _, (show r.val < 0 + 512 by omega)⟩
    | 1 => exact ⟨Nat.le_add_right _ _, (show o + d.val < o + 128 by omega)⟩)]
  refine congrArg w (funext fun i => ?_)
  match i with
  | 0 => rfl
  | 1 => exact Fin.ext (show o + d.val - o = d.val by omega)

theorem lane_other {b o : ℕ} (y : (⟨2, ![512, b]⟩ : Shape).Idx → EReal) (w : (⟨2, ![512, 128]⟩ : Shape).Idx → EReal) (r : Fin 512) (d : Fin b) (hd : d.val < o) :
    VecWindow.put (s := ⟨2, ![512, b]⟩) y ![0, o] ![512, 128] w (ix2 r d) = y (ix2 r d) := by
  unfold VecWindow.put
  exact dif_neg fun hp => by
    have h1 : o ≤ d.val := (hp 1).1
    omega

/-! ## One block -/

/-- What a point of query block `b` reads of its two heads. -/
structure Reads (H : Fin 2 → Head) (u : Fin 2 → ℕ → ℕ → EReal) (b : ℕ) (x : Inp Ideal) : Prop where
  q : ∀ (h : Fin 2) (r : Fin 512) (d : Fin 256), x.q (ix2 r ⟨256 * h.val + d.val, by omega⟩) = ((H h).q (b * 512 + r) d : EReal)
  k : ∀ (h : Fin 2) (j : Fin 4096) (d : Fin 256), x.k (ix2 j ⟨256 * h.val + d.val, by omega⟩) = ((H h).k j d : EReal)
  v : ∀ (h : Fin 2) (j : Fin 4096) (d : Fin 256), x.v (ix2 j ⟨256 * h.val + d.val, by omega⟩) = Head.ones (u h) j d

/-- Head `h`'s rows hold the keys before `n`. -/
def Holds (H : Head) (u : ℕ → ℕ → EReal) (b n : ℕ) (h : Fin 2) (s : Run Ideal) : Prop :=
  ∀ r : Fin 512, H.Row u (b * 512 + r) n (s.m (ix3 h r 0)) fun d => s.acc (ix3 h r d)

theorem Holds.step {H : Head} {u : ℕ → ℕ → EReal} {b n : ℕ} {h : Fin 2} {x : Run Ideal} (S : Holds H u b n h x) (hn : n ≤ b * 512) {s : FVec Ideal S512x512 .f32}
    (hs : ∀ r c : Fin 512, s (ix2 r c) = H.score (b * 512 + r) (n + c)) {v : Vec Ideal S512x256 .bf16} (hv : Is2 v fun j d => Head.ones u (n + j) d) (y : Run Ideal) :
    Holds H u b (n + 512) h (Forward.step h s v x y) := fun r => by
  have hm : x.mh h (ix3 0 r 0) = x.m (ix3 h r 0) := head_at (b' := 1) (b := 1) (o := 0) x.m h _ r 0 (by decide)
  have ha (d : Fin 256) : x.acch h (ix3 0 r d) = x.acc (ix3 h r d) :=
    (head_at (b' := 256) (b := 256) (o := 0) x.acc h _ r d (by omega)).trans (congrArg (fun e => x.acc (ix3 h r e)) (Fin.ext (Nat.zero_add _)))
  have R := Head.Row.step H u (by omega) (S r) (s := fun c => s (ix2 r c)) (fun c => hs r c) (v := fun c d => v (ix2 c d)) (fun c d => hv c d)
  have e1 : (Forward.step h s v x y).m (ix3 h r 0) = Head.join (x.m (ix3 h r 0)) fun c => s (ix2 r c) := by
    rw [← hm]; exact (put_same (b := 1) _ _ _ r 0).trans (pay29_at _ _ r)
  have e2 (d : Fin 256) : (Forward.step h s v x y).acc (ix3 h r d)
      = Ideal.exp2 ((x.m (ix3 h r 0) - Head.join (x.m (ix3 h r 0)) fun c => s (ix2 r c)) * (Head.c2 : EReal)) * x.acc (ix3 h r d)
        + ∑ c, Ideal.exp2 ((s (ix2 r c) - Head.join (x.m (ix3 h r 0)) fun c => s (ix2 r c)) * (Head.c2 : EReal)) * v (ix2 c d) := by
    rw [← hm, ← ha]; exact (put_same (b := 256) _ _ _ r d).trans (pay28_at _ _ _ _ r d)
  rw [e1, funext e2]
  exact R

theorem Holds.other {H : Head} {u : ℕ → ℕ → EReal} {b n : ℕ} {h h' : Fin 2} (hh : h' ≠ h) {y : Run Ideal} (S : Holds H u b n h' y) (s : FVec Ideal S512x512 .f32)
    (v : Vec Ideal S512x256 .bf16) (x : Run Ideal) : Holds H u b n h' (Forward.step h s v x y) := fun r => by
  have e1 : (Forward.step h s v x y).m (ix3 h' r 0) = y.m (ix3 h' r 0) := put_other (b := 1) _ hh _ r 0
  have e2 (d : Fin 256) : (Forward.step h s v x y).acc (ix3 h' r d) = y.acc (ix3 h' r d) := put_other (b := 256) _ hh _ r d
  rw [e1, funext e2]
  exact S r

/-! ## One point -/

variable {H : Fin 2 → Head} {u : Fin 2 → ℕ → ℕ → EReal} (t : Fin grid0.N) {x : Inp Ideal} (X : Reads H u (t.val % 8) x)

theorem start_holds (h : Fin 2) (H : Head) (u : ℕ → ℕ → EReal) (b : ℕ) : Holds H u b 0 h start := fun r => .inl ⟨rfl, pay20_at h r, fun d => pay21_at h r d⟩

include X

theorem q0_is : Is2 (q0 x) fun i d => (((H 0).q (t.val % 8 * 512 + i) d : ℝ) : EReal) := fun r d =>
  (window_at (n := 0) (o := 0) x.q rfl _ r d (by omega) (by omega)).trans
    ((congrArg (fun e => x.q (ix2 e _)) (Fin.ext (Nat.zero_add _))).trans (X.q 0 r d))
theorem q1_is : Is2 (q1 x) fun i d => (((H 1).q (t.val % 8 * 512 + i) d : ℝ) : EReal) := fun r d =>
  (window_at (n := 0) (o := 256) x.q rfl _ r d (by omega) (by omega)).trans
    ((congrArg (fun e => x.q (ix2 e _)) (Fin.ext (Nat.zero_add _))).trans (X.q 1 r d))

theorem trip_holds (k : Fin (k0_t1_loop (grid0.coords t)).trips) {s : Run Ideal} (S : ∀ h, Holds (H h) (u h) (t.val % 8) (k.val * 512) h s) :
    ∀ h, Holds (H h) (u h) (t.val % 8) (k.val * 512 + 512) h (trip (grid0.coords t) x k s) := by
  have hk : k.val < t.val % 8 := (loop_trips t) ▸ k.isLt
  have below : k.val * 512 + 512 ≤ t.val % 8 * 512 := by omega
  unfold trip
  intro h
  match h with
  | 0 =>
    exact ((S 0).step (by omega) (pay2_at (q0_is t X) (window_is (f := fun j d => (((H 0).k j d : ℝ) : EReal)) (o := 0) (by decide) (X.k 0) (off1_eq t k) _) below)
      (window_is (f := Head.ones (u 0)) (o := 0) (by decide) (X.v 0) (off1_eq t k) _) _).other (show (0 : Fin 2) ≠ 1 by decide) _ _ _
  | 1 =>
    exact (S 1).step (by omega) (pay2_at (q1_is t X) (window_is (f := fun j d => (((H 1).k j d : ℝ) : EReal)) (o := 256) (by decide) (X.k 1) (off2_eq t k) _) below)
      (window_is (f := Head.ones (u 1)) (o := 256) (by decide) (X.v 1) (off2_eq t k) _) _

theorem looped_holds (h : Fin 2) : Holds (H h) (u h) (t.val % 8) (t.val % 8 * 512) h (looped (grid0.coords t) x) := by
  have all : ∀ k ≤ (k0_t1_loop (grid0.coords t)).trips, ∀ h, Holds (H h) (u h) (t.val % 8) (k * 512) h (trips (grid0.coords t) x start k) := by
    intro k
    induction k with
    | zero => exact fun _ h => by rw [Nat.zero_mul]; exact start_holds h _ _ _
    | succ k ih =>
      intro hk
      rw [trips_succ (k := ⟨k, hk⟩), Nat.succ_mul]
      exact trip_holds t X ⟨k, hk⟩ (ih (by omega))
  have := all _ le_rfl h
  rwa [show (k0_t1_loop (grid0.coords t)).trips * 512 = t.val % 8 * 512 by rw [loop_trips]] at this

/-- After the point every key up to the diagonal block's end has been joined. -/
theorem point_holds (h : Fin 2) : Holds (H h) (u h) (t.val % 8) (t.val % 8 * 512 + 512) h (point (grid0.coords t) x) := by
  have S := looped_holds t X
  unfold point half
  match h with
  | 0 =>
    exact ((S 0).step le_rfl (pay25_at (q0_is t X) (window_is (f := fun j d => (((H 0).k j d : ℝ) : EReal)) (o := 0) (by decide) (X.k 0) (off5_eq t) _) rfl)
      (window_is (f := Head.ones (u 0)) (o := 0) (by decide) (X.v 0) (off5_eq t) _) _).other (show (0 : Fin 2) ≠ 1 by decide) _ _ _
  | 1 =>
    exact ((S 1).other (show (1 : Fin 2) ≠ 0 by decide) _ _ _).step le_rfl (pay25_at (q1_is t X) (window_is (f := fun j d => (((H 1).k j d : ℝ) : EReal)) (o := 256) (by decide) (X.k 1) (off6_eq t) _) rfl)
      (window_is (f := Head.ones (u 1)) (o := 256) (by decide) (X.v 1) (off6_eq t) _) _

/-- A row after the point: for some real base, the maximum and the sums over all keys. -/
theorem point_row (h : Fin 2) (r : Fin 512) : ∃ y : ℝ, (point (grid0.coords t) x).m (ix3 h r 0) = y ∧
    ∀ d : Fin 256, (point (grid0.coords t) x).acc (ix3 h r d) = (H h).acc (u h) y 4096 (t.val % 8 * 512 + r) d := by
  rcases point_holds t X h r with ⟨h0, -⟩ | ⟨y, hm, ha⟩
  · omega
  · exact ⟨y, hm, fun d => (ha d).trans ((H h).acc_whole (u h) y (by omega) (by omega) d)⟩

/-- The sums divided by the row sum are the attention's result. -/
theorem quotient (h : Fin 2) (r : Fin 512) (d : Fin 128) :
    Ideal.div ((point (grid0.coords t) x).low h (ix3 0 r d)) ((point (grid0.coords t) x).high h (ix3 0 r d)) = (H h).out (u h) (t.val % 8 * 512 + r) d := by
  obtain ⟨y, -, ha⟩ := point_row t X h r
  have hi : t.val % 8 * 512 + r.val < 4096 := by omega
  rw [show (point (grid0.coords t) x).low h (ix3 0 r d) = _ from head_at (b' := 256) (b := 128) (o := 0) _ h _ r d (by omega),
    show (point (grid0.coords t) x).high h (ix3 0 r d) = _ from head_at (b' := 256) (b := 128) (o := 128) _ h _ r d (by omega), ha, ha,
    (H h).acc_high (u h) y _ (Nat.le_add_right _ _), (H h).acc_out (u h) y hi (by show 0 + d.val < 128; omega)]
  exact congrArg _ (Nat.zero_add _)

/-- The row log-sum. -/
theorem log_sum (h : Fin 2) (r : Fin 512) (d : Fin 128) :
    (point (grid0.coords t) x).mh h (ix3 0 r 0) * (scale : EReal) + Ideal.log ((point (grid0.coords t) x).high h (ix3 0 r d))
      = (((H h).lse (t.val % 8 * 512 + r) : ℝ) : EReal) := by
  obtain ⟨y, hm, ha⟩ := point_row t X h r
  have hi : t.val % 8 * 512 + r.val < 4096 := by omega
  rw [show (point (grid0.coords t) x).mh h (ix3 0 r 0) = _ from head_at (b' := 1) (b := 1) (o := 0) _ h _ r 0 (by decide),
    show (point (grid0.coords t) x).high h (ix3 0 r d) = _ from head_at (b' := 256) (b := 128) (o := 128) _ h _ r d (by omega), ha,
    (H h).acc_high (u h) y _ (Nat.le_add_right _ _), log_real ((H h).high_pos y hi), show (point (grid0.coords t) x).m (ix3 h r ⟨0 + (0 : Fin 1).val, _⟩) = _ from hm,
    ← EReal.coe_mul, ← EReal.coe_add, (H h).high_lse y hi]

/-- The three results of the point. -/
theorem outO_at (y : Vec Ideal S512x256 .bf16) (h : Fin 2) (r : Fin 512) (d : Fin 128) :
    outO (point (grid0.coords t) x) y (ix2 r ⟨128 * h.val + d.val, by omega⟩) = (H h).out (u h) (t.val % 8 * 512 + r) d := by
  unfold outO
  match h with
  | 0 =>
    refine (lane_other (b := 256) (o := 128) _ _ r _ (show 128 * 0 + d.val < 128 by omega)).trans ?_
    exact (lane_same (b := 256) (o := 0) _ _ r d _).trans ((pay38_at _ _ r d).trans (quotient t X 0 r d))
  | 1 => exact (lane_same (b := 256) (o := 128) _ _ r d _).trans ((pay38_at _ _ r d).trans (quotient t X 1 r d))

theorem outA_at (y : Vec Ideal S512x256 .bf16) (h : Fin 2) (r : Fin 512) (d : Fin 128) :
    outA x (point (grid0.coords t) x) y (ix2 r ⟨128 * h.val + d.val, by omega⟩)
      = (H h).out (u h) (t.val % 8 * 512 + r) d
        * (x.z (ix2 r ⟨128 * h.val + d.val, by omega⟩) * Ideal.logistic (x.z (ix2 r ⟨128 * h.val + d.val, by omega⟩))) := by
  have hz (o : ℕ) (inb) (ho : o + d.val < 256) :
      VecWindow.window x.z ![0, o] S512x128.size inb (ix2 r d) = x.z (ix2 r ⟨o + d.val, ho⟩) :=
    (window_at (n := 0) (o := o) x.z rfl inb r d (by omega) ho).trans (congrArg (fun e => x.z (ix2 e _)) (Fin.ext (Nat.zero_add _)))
  unfold outA
  match h with
  | 0 =>
    refine (lane_other (b := 256) (o := 128) _ _ r _ (show 128 * 0 + d.val < 128 by omega)).trans ?_
    refine (lane_same (b := 256) (o := 0) _ _ r d _).trans ((pay39_at _ _ _ r d).trans ?_)
    rw [quotient t X 0 r d, show z0 x (ix2 r d) = _ from hz 0 _ (by omega)]; rfl
  | 1 =>
    refine (lane_same (b := 256) (o := 128) _ _ r d _).trans ((pay39_at _ _ _ r d).trans ?_)
    rw [quotient t X 1 r d, show z1 x (ix2 r d) = _ from hz 128 _ (by omega)]; rfl

theorem outL_at (y : Vec Ideal S2x512x128 .f32) (h : Fin 2) (r : Fin 512) (d : Fin 128) :
    outL (point (grid0.coords t) x) y (ix3 h r d) = (((H h).lse (t.val % 8 * 512 + r) : ℝ) : EReal) := by
  unfold outL
  match h with
  | 0 =>
    refine (put_other (b := 128) (h := 1) (h' := 0) _ (by decide) _ r d).trans ?_
    exact (put_same (b := 128) _ 0 _ r d).trans ((pay40_at _ _ r d).trans (log_sum t X 0 r d))
  | 1 => exact (put_same (b := 128) _ 1 _ r d).trans ((pay40_at _ _ r d).trans (log_sum t X 1 r d))

end Cert.Proof.Forward

end
-- ==== Proof.ForwardFinal.lean ====
/- The attention's launch over the extended reals: what each point reads and the three result arrays, which are the
   reference's. -/
module

public import proofs.«01_k».proof.Proof.ForwardHost
public import proofs.«01_k».proof.Proof.ForwardRead
public import proofs.«01_k».proof.Proof.ForwardPoint
public import proofs.«01_k».proof.Proof.ForwardReference
public import Idealize.ShloMosaic.Lib.Pipeline.ValueKit

@[expose] public section

set_option maxRecDepth 16384

noncomputable section

namespace Cert.Proof.Forward

open Cert.ForwardIdeal Cert.ForwardIdeal.Gen
open Cert.Proof.Flash (real wideHead narrowHead Finite Head)
open Idealize.ShloMosaic Idealize.ShloMosaic.TcCoe

variable (m : (ℓ : Loc nD τ sig) → Buf (Elt Ideal) ℓ) (c : Dev nD)

/-! ## The windows' blocks -/

theorem index0 : ∀ t : Fin cfg0.N, (cfg0.win 0).index t 0 = t.val % 8 ∧ (cfg0.win 0).index t 1 = t.val / 8 := by decide +kernel
theorem index1 : ∀ t : Fin cfg0.N, (cfg0.win 1).index t 0 = 0 ∧ (cfg0.win 1).index t 1 = t.val / 8 := by decide +kernel
theorem index2 : ∀ t : Fin cfg0.N, (cfg0.win 2).index t 0 = 0 ∧ (cfg0.win 2).index t 1 = t.val / 8 := by decide +kernel
theorem index3 : ∀ t : Fin cfg0.N, (cfg0.win 3).index t 0 = t.val % 8 ∧ (cfg0.win 3).index t 1 = 8 + t.val / 8 := by decide +kernel
theorem index4 : ∀ t : Fin cfg0.N, (cfg0.win 4).index t 0 = t.val % 8 ∧ (cfg0.win 4).index t 1 = t.val / 8 := by decide +kernel
theorem index5 : ∀ t : Fin cfg0.N, (cfg0.win 5).index t 0 = t.val % 8 ∧ (cfg0.win 5).index t 1 = t.val / 8 := by decide +kernel
theorem index6 : ∀ t : Fin cfg0.N, (cfg0.win 6).index t 0 = t.val / 8 ∧ (cfg0.win 6).index t 1 = t.val % 8 ∧ (cfg0.win 6).index t 2 = 0 := by decide +kernel

/-- The two heads that point `t` works on. -/
def headAt (t : Fin cfg0.N) (h : Fin 2) : Fin 32 := ⟨t.val / 8 * 2 + h.val, by have : t.val < 128 := t.isLt; omega⟩

theorem block_row (t : Fin cfg0.N) (r : Fin 512) : t.val % 8 * 512 + r.val < 4096 := by omega
theorem wide_lane (t : Fin cfg0.N) (d : Fin 512) : t.val / 8 * 512 + d.val < 8192 := by have : t.val < 128 := t.isLt; omega
theorem narrow_lane (t : Fin cfg0.N) (d : Fin 256) : t.val / 8 * 256 + d.val < 4096 := by have : t.val < 128 := t.isLt; omega

/-! Where a point's blocks lie in their arrays. -/

theorem place_q (t : Fin cfg0.N) (r d : Fin 512) : ((cfg0.win 0).blk t).view.emb (ix2 r d) = ix2 ⟨t.val % 8 * 512 + r.val, block_row t r⟩ ⟨t.val / 8 * 512 + d.val, wide_lane t d⟩ := by
  blk_ext [index0 t, headAt]
theorem place_k (t : Fin cfg0.N) (r : Fin 4096) (d : Fin 512) : ((cfg0.win 1).blk t).view.emb (ix2 r d) = ix2 r ⟨t.val / 8 * 512 + d.val, wide_lane t d⟩ := by
  blk_ext [index1 t, headAt]
theorem place_v (t : Fin cfg0.N) (r : Fin 4096) (d : Fin 512) : ((cfg0.win 2).blk t).view.emb (ix2 r d) = ix2 r ⟨t.val / 8 * 512 + d.val, wide_lane t d⟩ := by
  blk_ext [index2 t, headAt]
theorem gate_lane (t : Fin cfg0.N) (d : Fin 256) : (8 + t.val / 8) * 256 + d.val < 6144 := by have : t.val < 128 := t.isLt; omega
theorem place_z (t : Fin cfg0.N) (r : Fin 512) (d : Fin 256) : ((cfg0.win 3).blk t).view.emb (ix2 r d) = ix2 ⟨t.val % 8 * 512 + r.val, block_row t r⟩ ⟨(8 + t.val / 8) * 256 + d.val, gate_lane t d⟩ := by
  blk_ext [index3 t, headAt]
theorem place_o (t : Fin cfg0.N) (r : Fin 512) (d : Fin 256) : ((cfg0.win 4).blk t).view.emb (ix2 r d) = ix2 ⟨t.val % 8 * 512 + r.val, block_row t r⟩ ⟨t.val / 8 * 256 + d.val, narrow_lane t d⟩ := by
  blk_ext [index4 t, headAt]
theorem place_a (t : Fin cfg0.N) (r : Fin 512) (d : Fin 256) : ((cfg0.win 5).blk t).view.emb (ix2 r d) = ix2 ⟨t.val % 8 * 512 + r.val, block_row t r⟩ ⟨t.val / 8 * 256 + d.val, narrow_lane t d⟩ := by
  blk_ext [index5 t, headAt]
theorem place_l (t : Fin cfg0.N) (h : Fin 2) (r : Fin 512) (d : Fin 128) : ((cfg0.win 6).blk t).view.emb (ix3 h r d) = ix3 (headAt t h) ⟨t.val % 8 * 512 + r.val, block_row t r⟩ ⟨d.val, d.isLt⟩ := by
  blk_ext [index6 t, headAt]

theorem cut_q (t : Fin cfg0.N) (r d : Fin 512) (X : FVec Ideal S4096x8192 .bf16) :
    real (((cfg0.win 0).blk t).view.read (Elt Ideal) X (ix2 r d)) = real (X (ix2 ⟨t.val % 8 * 512 + r.val, block_row t r⟩ ⟨t.val / 8 * 512 + d.val, wide_lane t d⟩)) := congrArg X (place_q t r d)
theorem cut_k (t : Fin cfg0.N) (r : Fin 4096) (d : Fin 512) (X : FVec Ideal S4096x8192 .bf16) :
    real (((cfg0.win 1).blk t).view.read (Elt Ideal) X (ix2 r d)) = real (X (ix2 r ⟨t.val / 8 * 512 + d.val, wide_lane t d⟩)) := congrArg X (place_k t r d)
theorem cut_v (t : Fin cfg0.N) (r : Fin 4096) (d : Fin 512) (X : FVec Ideal S4096x8192 .bf16) :
    real (((cfg0.win 2).blk t).view.read (Elt Ideal) X (ix2 r d)) = real (X (ix2 r ⟨t.val / 8 * 512 + d.val, wide_lane t d⟩)) := congrArg X (place_v t r d)
theorem cut_z (t : Fin cfg0.N) (r : Fin 512) (d : Fin 256) (X : FVec Ideal S4096x6144 .bf16) :
    real (((cfg0.win 3).blk t).view.read (Elt Ideal) X (ix2 r d)) = real (X (ix2 ⟨t.val % 8 * 512 + r.val, block_row t r⟩ ⟨(8 + t.val / 8) * 256 + d.val, gate_lane t d⟩)) := congrArg X (place_z t r d)

theorem read_q (t : Fin cfg0.N) (r d : Fin 512) : real (iblk m c 0 t (ix2 r d)) = real (V m c main_v3 (ix2 ⟨t.val % 8 * 512 + r.val, block_row t r⟩ ⟨t.val / 8 * 512 + d.val, wide_lane t d⟩)) :=
  cut_q t r d (V m c main_v3)
theorem read_k (t : Fin cfg0.N) (r : Fin 4096) (d : Fin 512) : real (iblk m c 1 t (ix2 r d)) = real (V m c main_v7 (ix2 r ⟨t.val / 8 * 512 + d.val, wide_lane t d⟩)) :=
  cut_k t r d (V m c main_v7)
theorem read_v (t : Fin cfg0.N) (r : Fin 4096) (d : Fin 512) : real (iblk m c 2 t (ix2 r d)) = real (V m c main_v11 (ix2 r ⟨t.val / 8 * 512 + d.val, wide_lane t d⟩)) :=
  cut_v t r d (V m c main_v11)
theorem read_z (t : Fin cfg0.N) (r : Fin 512) (d : Fin 256) : real (iblk m c 3 t (ix2 r d)) = real (m (c, main_arg3) (ix2 ⟨t.val % 8 * 512 + r.val, block_row t r⟩ ⟨(8 + t.val / 8) * 256 + d.val, gate_lane t d⟩)) :=
  cut_z t r d (m (c, main_arg3))

/-- A head and its lane read off a column's number. -/
theorem wide_of {α : Type} (f : Fin 32 → ℕ → α) (t : Fin cfg0.N) (h : Fin 2) (d : Fin 256) (hl : 256 * h.val + d.val < 512) :
    f (wideHead ⟨t.val / 8 * 512 + (256 * h.val + d.val), wide_lane t ⟨_, hl⟩⟩) ((t.val / 8 * 512 + (256 * h.val + d.val)) % 256) = f (headAt t h) d.val := by
  have hh : wideHead ⟨t.val / 8 * 512 + (256 * h.val + d.val), wide_lane t ⟨_, hl⟩⟩ = headAt t h :=
    Fin.ext (by show (t.val / 8 * 512 + (256 * h.val + d.val)) / 256 = t.val / 8 * 2 + h.val; omega)
  rw [hh, show (t.val / 8 * 512 + (256 * h.val + d.val)) % 256 = d.val by omega]
theorem narrow_of {α : Type} (f : Fin 32 → ℕ → α) (t : Fin cfg0.N) (h : Fin 2) (d : Fin 128) (hl : 128 * h.val + d.val < 256) :
    f (narrowHead ⟨t.val / 8 * 256 + (128 * h.val + d.val), narrow_lane t ⟨_, hl⟩⟩) ((t.val / 8 * 256 + (128 * h.val + d.val)) % 128) = f (headAt t h) d.val := by
  have hh : narrowHead ⟨t.val / 8 * 256 + (128 * h.val + d.val), narrow_lane t ⟨_, hl⟩⟩ = headAt t h :=
    Fin.ext (by show (t.val / 8 * 256 + (128 * h.val + d.val)) / 128 = t.val / 8 * 2 + h.val; omega)
  rw [hh, show (t.val / 8 * 256 + (128 * h.val + d.val)) % 128 = d.val by omega]

/-- What point `t` reads. -/
def inp (t : Fin cfg0.N) : Inp Ideal := ⟨iblk m c 0 t, iblk m c 1 t, iblk m c 2 t, iblk m c 3 t⟩

/-- What the point leaves of its three results, of any four blocks. -/
theorem left_o (t : Fin cfg0.N) (x : Inp Ideal) : out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) x.q x.k x.v x.z
    = outO (point (grid0.coords t) x) (VO0_4.read (Elt Ideal) VO0_4.junk) :=
  out_o c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) x (no_trips t)
theorem left_a (t : Fin cfg0.N) (x : Inp Ideal) : out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) x.q x.k x.v x.z
    = outA x (point (grid0.coords t) x) (VO0_5.read (Elt Ideal) VO0_5.junk) :=
  out_a c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) x (no_trips t)
theorem left_l (t : Fin cfg0.N) (x : Inp Ideal) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) x.q x.k x.v x.z
    = outL (point (grid0.coords t) x) (VO0_6.read (Elt Ideal) VO0_6.junk) :=
  out_l c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) scM0_1 (Memref.isWhole_whole _) x (no_trips t)
theorem leaves_o (t : Fin cfg0.N) : (outsAt0 m c t).1 = outO (point (grid0.coords t) (inp m c t)) (VO0_4.read (Elt Ideal) VO0_4.junk) := by
  unfold outsAt0
  dsimp only
  exact left_o c t (inp m c t)
theorem leaves_a (t : Fin cfg0.N) : (outsAt0 m c t).2.1 = outA (inp m c t) (point (grid0.coords t) (inp m c t)) (VO0_5.read (Elt Ideal) VO0_5.junk) := by
  unfold outsAt0
  dsimp only
  exact left_a c t (inp m c t)
theorem leaves_l (t : Fin cfg0.N) : (outsAt0 m c t).2.2 = outL (point (grid0.coords t) (inp m c t)) (VO0_6.read (Elt Ideal) VO0_6.junk) := by
  unfold outsAt0
  dsimp only
  exact left_l c t (inp m c t)

variable (A : Finite (m (c, main_arg0)) (m (c, main_arg1)) noValue noGrad)
include A

/-- What point `t` reads is its heads'. -/
theorem reads (t : Fin cfg0.N) : Reads (fun h => head m c (headAt t h)) (fun h => valuesOf (m (c, main_arg2)) (headAt t h)) (t.val % 8) (inp m c t) where
  q h r d := (read_q m c t r ⟨256 * h.val + d.val, by omega⟩).trans
    ((host_q m c A _ _).trans (wide_of (fun a l => (((head m c a).q (t.val % 8 * 512 + r.val) l : ℝ) : EReal)) t h d (by omega)))
  k h j d := (read_k m c t j ⟨256 * h.val + d.val, by omega⟩).trans
    ((host_k m c A _ _).trans (wide_of (fun a l => (((head m c a).k j.val l : ℝ) : EReal)) t h d (by omega)))
  v h j d := (read_v m c t j ⟨256 * h.val + d.val, by omega⟩).trans
    ((host_v m c _ _).trans (wide_of (fun a l => Head.ones (valuesOf (m (c, main_arg2)) a) j.val l) t h d (by omega)))

/-! ## The results -/

omit A in
/-- A lane of a block of two heads is a lane of one of them. -/
theorem lane_split (d : Fin 256) : ∃ (h : Fin 2) (e : Fin 128) (hl : 128 * h.val + e.val < 256), d = ⟨128 * h.val + e.val, hl⟩ :=
  ⟨⟨d.val / 128, by omega⟩, ⟨d.val % 128, Nat.mod_lt _ (by norm_num)⟩, by show 128 * (d.val / 128) + d.val % 128 < 256; omega,
    Fin.ext (by show d.val = 128 * (d.val / 128) + d.val % 128; omega)⟩

theorem stored_o (t : Fin cfg0.N) (r : Fin 512) (d : Fin 256) :
    real ((outsAt0 m c t).1 (ix2 r d))
      = real (Cert.ForwardRefIdeal.Read.val_main_v49 (F := Ideal) (m (c, main_arg0)) (m (c, main_arg1)) (m (c, main_arg2)) (((cfg0.win 4).blk t).view.emb (ix2 r d))) := by
  rw [place_o t r d, leaves_o]
  refine Eq.trans ?_ (ref_o _ A _ _).symm
  obtain ⟨h, e, hl, rfl⟩ := lane_split d
  refine Eq.trans ?_ (narrow_of (fun a l => (head m c a).out (valuesOf (m (c, main_arg2)) a) (t.val % 8 * 512 + r.val) l) t h e hl).symm
  exact outO_at t (reads m c A t) _ h r e

theorem stored_a (t : Fin cfg0.N) (r : Fin 512) (d : Fin 256) :
    real ((outsAt0 m c t).2.1 (ix2 r d))
      = real (Cert.ForwardRefIdeal.Read.val_main_v52 (F := Ideal) (m (c, main_arg0)) (m (c, main_arg1)) (m (c, main_arg2)) (m (c, main_arg3)) (((cfg0.win 5).blk t).view.emb (ix2 r d))) := by
  rw [place_a t r d, leaves_a]
  refine Eq.trans ?_ (ref_a _ _ A _ _).symm
  have hz : (inp m c t).z (ix2 r d) = m (c, main_arg3) (ix2 ⟨t.val % 8 * 512 + r.val, block_row t r⟩ (gateLane ⟨t.val / 8 * 256 + d.val, narrow_lane t d⟩)) :=
    (read_z m c t r d).trans (congrArg (fun l => m (c, main_arg3) (ix2 _ l)) (Fin.ext (by show (8 + t.val / 8) * 256 + d.val = 2048 + (t.val / 8 * 256 + d.val); omega)))
  rw [← hz]
  obtain ⟨h, e, hl, rfl⟩ := lane_split d
  refine (outA_at t (reads m c A t) _ h r e).trans (congrArg (· * _) ?_)
  exact (narrow_of (fun a l => (head m c a).out (valuesOf (m (c, main_arg2)) a) (t.val % 8 * 512 + r.val) l) t h e hl).symm

theorem stored_l (t : Fin cfg0.N) (h : Fin 2) (r : Fin 512) (d : Fin 128) :
    real ((outsAt0 m c t).2.2 (ix3 h r d))
      = real (Cert.ForwardRefIdeal.Read.val_main_v53 (F := Ideal) (m (c, main_arg0)) (m (c, main_arg1)) (((cfg0.win 6).blk t).view.emb (ix3 h r d))) := by
  rw [place_l t h r d, leaves_l]
  refine Eq.trans ?_ (ref_l A _ _ _).symm
  exact outL_at t (reads m c A t) _ h r d

omit A in
theorem pair_eq {a b : ℕ} (y : (⟨2, ![a, b]⟩ : Shape).Idx) : y = ix2 (y 0) (y 1) := funext fun a => match a with
  | 0 => rfl
  | 1 => rfl
omit A in
theorem triple_eq {a b d : ℕ} (y : (⟨3, ![a, b, d]⟩ : Shape).Idx) : y = ix3 (y 0) (y 1) (y 2) := funext fun a => match a with
  | 0 => rfl
  | 1 => rfl
  | 2 => rfl

/-- The output is the reference's. -/
theorem final_o : (dats m 0 c).arrAt 4 (cfgs 0).N = Cert.ForwardRefIdeal.Read.val_main_v49 (F := Ideal) (m (c, main_arg0)) (m (c, main_arg1)) (m (c, main_arg2)) := by
  refine (dats m 0 c).arrAt_eq_of_covers 4 _ (by decide +kernel) fun t hf y => ?_
  rw [after0_4]
  have hy : y = ix2 (y 0) (y 1) := pair_eq y
  rw [hy]
  exact stored_o m c A t (y 0) (y 1)

/-- The gated output is the reference's. -/
theorem final_a : (dats m 0 c).arrAt 5 (cfgs 0).N = Cert.ForwardRefIdeal.Read.val_main_v52 (F := Ideal) (m (c, main_arg0)) (m (c, main_arg1)) (m (c, main_arg2)) (m (c, main_arg3)) := by
  refine (dats m 0 c).arrAt_eq_of_covers 5 _ (by decide +kernel) fun t hf y => ?_
  rw [after0_5]
  have hy : y = ix2 (y 0) (y 1) := pair_eq y
  rw [hy]
  exact stored_a m c A t (y 0) (y 1)

/-- The row log-sums are the reference's. -/
theorem final_l : (dats m 0 c).arrAt 6 (cfgs 0).N = Cert.ForwardRefIdeal.Read.val_main_v53 (F := Ideal) (m (c, main_arg0)) (m (c, main_arg1)) := by
  refine (dats m 0 c).arrAt_eq_of_covers 6 _ (by decide +kernel) fun t hf y => ?_
  rw [after0_6]
  have hy : y = ix3 (y 0) (y 1) (y 2) := triple_eq y
  rw [hy]
  exact stored_l m c A t (y 0) (y 1) (y 2)

end Cert.Proof.Forward

end
-- ==== Proof.ForwardEqual.lean ====
/- The attention's run and its reference's end with equal results when queries and keys are finite. -/
module

public import proofs.«01_k».proof.Proof.ForwardFinal
public import proofs.«01_k».proof.Proof.Equal
public import proofs.«01_k».proof.Proof.Gen.ForwardRefIdeal.Run
public import proofs.«01_k».proof.Proof.Gen.Pre_finite_forward
public import proofs.«01_k».proof.Defs

@[expose] public section

set_option maxRecDepth 16384

noncomputable section

namespace Cert.Proof.Forward

open Cert.Proof.Flash (Finite real_of_lt)
open Cert.ForwardIdeal.Gen (run_main frame)
open Idealize.ShloMosaic Idealize.ShloMosaic.TcCoe Idealize.SL.Sem

/-- The precondition: every element of queries and keys is a real number. -/
theorem finite_of {m : (ℓ : Loc ForwardIdeal.nD ForwardIdeal.τ ForwardIdeal.sig) → Buf (Elt Ideal) ℓ} (h : Cert.Pre_ForwardIdeal_finite_forward m) (c : Dev ForwardIdeal.nD) :
    Finite (m (c, ForwardIdeal.main_arg0)) (m (c, ForwardIdeal.main_arg1)) noValue noGrad where
  q i := real_of_lt (congrFun (h c).1 i)
  k i := real_of_lt (congrFun (h c).2 i)
  v _ := EReal.toReal_zero ▸ EReal.coe_zero.symm
  g _ := EReal.toReal_zero ▸ EReal.coe_zero.symm

/-- Kernel and reference end with equal results. -/
theorem algebraic : Cert.algebraic_ForwardIdeal_ForwardRefIdeal_pre_finite_forward := by
  intro m g m' g' hpre harg
  refine ⟨fun c => Cert.ForwardRefIdeal.Read.val_main_v49 (F := Ideal) (m (c, ForwardIdeal.main_arg0)) (m (c, ForwardIdeal.main_arg1)) (m (c, ForwardIdeal.main_arg2)),
    fun c => Cert.ForwardRefIdeal.Read.val_main_v52 (F := Ideal) (m (c, ForwardIdeal.main_arg0)) (m (c, ForwardIdeal.main_arg1)) (m (c, ForwardIdeal.main_arg2)) (m (c, ForwardIdeal.main_arg3)),
    fun c => Cert.ForwardRefIdeal.Read.val_main_v53 (F := Ideal) (m (c, ForwardIdeal.main_arg0)) (m (c, ForwardIdeal.main_arg1)), ?_, ?_⟩
  · refine (θ_run _ _ _).mono (fun r h c => ⟨?_, ?_, ?_, (h.2.1 c)⟩) (θ_run_and (run_main m g) (frame m g))
    · exact (h.1.out_eq c 4).trans (final_o m c (finite_of hpre c))
    · exact (h.1.out_eq c 5).trans (final_a m c (finite_of hpre c))
    · exact (h.1.out_eq c 6).trans (final_l m c (finite_of hpre c))
  · refine (θ_run _ _ _).mono (fun r h c => ⟨?_, ?_, ?_, (h c).2.2.2⟩) (Cert.ForwardRefIdeal.Value.run (F := Ideal) m' g')
    · rw [(h c).1, Cert.ForwardRefIdeal.Read.val_main_v49_eq, (harg c).1, (harg c).2.1, (harg c).2.2.1]
    · rw [(h c).2.1, Cert.ForwardRefIdeal.Read.val_main_v52_eq, (harg c).1, (harg c).2.1, (harg c).2.2.1, (harg c).2.2.2]
    · rw [(h c).2.2.1, Cert.ForwardRefIdeal.Read.val_main_v53_eq, (harg c).1, (harg c).2.1]

/-- The reference runs without fault and leaves its arguments unchanged; it has no semaphore. -/
theorem frame_reference : Cert.quiescent_ForwardRefIdeal := fun m ρ _ =>
  (θ_run _ _ _).mono (fun r h => ⟨fun c => (h c).2.2.2, sem_eq_zero_of_no_sems (by decide) r.2⟩) (Cert.ForwardRefIdeal.Value.run (F := Ideal) m ρ)

/-- Each named constant is its float word up to rounding. -/
theorem preserves : Cert.preserves_Forward_ForwardIdeal :=
  ⟨IdealRules.named_const.statement _ _ _ _ _ rfl, IdealRules.named_const.statement _ _ _ _ _ rfl, IdealRules.named_const.statement _ _ _ _ _ rfl⟩

end Cert.Proof.Forward

end
-- ==== Proof.Product.lean ====
/- What the proofs of the blocked products share: an element as an extended real, a number as an index, and the sum over one
   more block of a product's inner axis. -/
module

public import Idealize.ShloMosaic.Lib.Pipeline.ValueKit
public import Idealize.ShloMosaic.Lib.Pointwise
public import Idealize.ShloMosaic.Init

@[expose] public section

noncomputable section

namespace Cert.Proof.Product

open Idealize.ShloMosaic

/-- An element of an array of floats, as the extended real that it is. -/
abbrev elt (x : EReal) : EReal := x

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- The `k`-th index of an axis of `n`. -/
def at' (n : ℕ) [NeZero n] (k : ℕ) : Fin n := ⟨k % n, Nat.mod_lt _ (Nat.pos_of_neZero n)⟩

theorem at_eq {n : ℕ} [NeZero n] {k : ℕ} (h : k < n) : (⟨k, h⟩ : Fin n) = at' n k := Fin.ext (Nat.mod_eq_of_lt h).symm

/-- A sum over an axis, by number. -/
theorem sum_at (n : ℕ) [NeZero n] (f : Fin n → EReal) : ∑ x : Fin n, f x = ∑ k ∈ Finset.range n, f (at' n k) := by
  rw [Finset.sum_range]
  exact Finset.sum_congr rfl fun x _ => by rw [← at_eq x.isLt]

/-- The first block's sum. -/
theorem sum_first (b : ℕ) (f : ℕ → EReal) : ∑ x : Fin b, f (0 * b + x.val) = ∑ k ∈ Finset.range ((0 + 1) * b), f k := by
  rw [Finset.sum_range, zero_mul, zero_add, one_mul]
  exact Finset.sum_congr rfl fun x _ => by rw [zero_add]

/-- One more block. -/
theorem sum_next (n b : ℕ) (f : ℕ → EReal) :
    ∑ k ∈ Finset.range (n * b), f k + ∑ x : Fin b, f (n * b + x.val) = ∑ k ∈ Finset.range ((n + 1) * b), f k := by
  rw [add_mul, one_mul, Finset.sum_range_add, ← Finset.sum_range (fun x => f (n * b + x))]

theorem pair_eq {a b : ℕ} (y : (⟨2, ![a, b]⟩ : Shape).Idx) : y = ix2 (y 0) (y 1) := funext fun a => match a with
  | 0 => rfl
  | 1 => rfl
theorem triple_eq {a b c : ℕ} (y : (⟨3, ![a, b, c]⟩ : Shape).Idx) : y = ix3 (y 0) (y 1) (y 2) := funext fun a => match a with
  | 0 => rfl
  | 1 => rfl
  | 2 => rfl
theorem block_eq {b c : ℕ} (y : (⟨3, ![1, b, c]⟩ : Shape).Idx) : y = ix3 0 (y 1) (y 2) :=
  (triple_eq y).trans (congrArg (fun a : Fin 1 => ix3 a (y 1) (y 2)) (Subsingleton.elim _ _))

end Cert.Proof.Product

end
-- ==== Proof.ScInput.lean ====
/- The gradient of what enters the short convolution's input projection. Four passes over the contracted axis, one
   part of the first operand each, add into an accumulator; the last one writes it back. -/
module

public import proofs.«01_k».proof.Defs
public import proofs.«01_k».proof.Proof.Product
public import proofs.«01_k».proof.Proof.Gen.ScInputIdeal.Value
public import proofs.«01_k».proof.Proof.Gen.ScInputRefIdeal.Run
public import proofs.«01_k».proof.Proof.Gen.ScInputRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.ScInput

open Cert.ScInputIdeal Cert.ScInputIdeal.Gen Cert.Proof.Product
open Idealize.ShloMosaic Idealize.ShloMosaic.TcCoe Idealize.SL.Sem

variable (m : (ℓ : Loc nD τ sig) → Buf (Elt Ideal) ℓ) (c : Dev nD)

/-! ## What one point leaves -/

section
variable (i : grid0.Coords) (a0 : Memref sig .tc .vmem S1x1024x4096 .bf16) (h0 : a0.IsWhole) (a1 : Memref sig .tc .vmem S1024x4096 .bf16) (h1 : a1.IsWhole)
  (a2 : Memref sig .tc .vmem S1024x1024 .bf16) (h2 : a2.IsWhole) (a3 : Memref sig .tc .vmem S1024x1024 .f32) (h3 : a3.IsWhole)
  (x0 : Vec Ideal S1x1024x4096 .bf16) (x1 : Vec Ideal S1024x4096 .bf16) (s : Vec Ideal S1024x1024 .f32)

/-- The first pass puts its product into the accumulator. -/
theorem first (c0 : cond0_0 i) (c1 : ¬cond0_1 i) (c2 : ¬cond0_2 i) : sout0_A_0 c i a0 h0 a1 h1 a2 h2 a3 h3 c0 c1 c2 x0 x1 = k0_pay2 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero zeros2]
  simp only [View.readAt_eq_ld, h0.read_unread, h1.read_unread, View.ld_unit_zero (S := S1x1024x4096) zeros3, View.ld_unit_zero (S := S1024x4096) zeros2]

/-- The ones between add their own. -/
theorem next (c0 : ¬cond0_0 i) (c1 : cond0_1 i) (c2 : ¬cond0_2 i) : sout0_B_0 c i a0 h0 a1 h1 a2 h2 a3 h3 c0 c1 c2 x0 x1 s = k0_pay3 x0 x1 s := by
  unfold sout0_B_0
  rw [View.read_writes_eq_canon _ _ _ (scover0_B_0 c i a0 h0 a1 h1 a2 h2 a3 h3 c0 c1 c2 x0 x1 s)]
  unfold kernelRun0_B
  dsimp only
  sl_unfold_words
  rw [View.canon_unit_zero zeros2]
  simp only [View.readAt_eq_ld, h0.read_unread, h1.read_unread, h3.read_unread, View.ld_unit_zero (S := S1x1024x4096) zeros3, View.ld_unit_zero (S := S1024x4096) zeros2, View.ld_unit_zero (S := S1024x1024) zeros2]

/-- The last adds its own and writes the accumulator back. -/
theorem last (c0 : ¬cond0_0 i) (c1 : cond0_1 i) (c2 : cond0_2 i) : out0_C_2 c i a0 h0 a1 h1 a2 h2 a3 h3 c0 c1 c2 x0 x1 s = k0_pay4 (k0_pay3 x0 x1 s) := by
  unfold out0_C_2
  rw [View.read_writes_eq_canon _ _ _ (cover0_C_2 c i a0 h0 a1 h1 a2 h2 a3 h3 c0 c1 c2 x0 x1 s)]
  unfold kernelRun0_C
  dsimp only
  sl_unfold_words
  rw [View.canon_unit_zero zeros2, View.readCov_unit_zero (S := S1024x1024) _ zeros2]
  simp only [View.readAt_eq_ld, h0.read_unread, h1.read_unread, h3.read_unread, View.ld_unit_zero (S := S1x1024x4096) zeros3, View.ld_unit_zero (S := S1024x4096) zeros2, View.ld_unit_zero (S := S1024x1024) zeros2]

theorem pay2 (r d : Fin 1024) : elt (k0_pay2 x0 x1 (ix2 r d)) = ∑ k : Fin 4096, elt (x0 (ix3 0 r k)) * elt (x1 (ix2 d k)) := by
  pointwise [k0_pay2, k0_pay1]

theorem pay3 (r d : Fin 1024) : elt (k0_pay3 x0 x1 s (ix2 r d)) = elt (s (ix2 r d)) + ∑ k : Fin 4096, elt (x0 (ix3 0 r k)) * elt (x1 (ix2 d k)) := by
  pointwise [k0_pay3, k0_pay1]

theorem pay4 (r d : Fin 1024) : elt (k0_pay4 s (ix2 r d)) = elt (s (ix2 r d)) := by
  pointwise [k0_pay4]

end

/-! ## The blocks -/

theorem index0 : ∀ t : Fin cfg0.N, (cfg0.win 0).index t 0 = t.val % 4 ∧ (cfg0.win 0).index t 1 = t.val / 16 ∧ (cfg0.win 0).index t 2 = 0 := by decide +kernel
theorem index1 : ∀ t : Fin cfg0.N, (cfg0.win 1).index t 0 = t.val / 4 % 4 ∧ (cfg0.win 1).index t 1 = t.val % 4 := by decide +kernel
theorem index2 : ∀ t : Fin cfg0.N, (cfg0.win 2).index t 0 = t.val / 16 ∧ (cfg0.win 2).index t 1 = t.val / 4 % 4 := by decide +kernel

theorem in_row (t : Fin cfg0.N) (r : Fin 1024) : t.val / 16 * 1024 + r.val < 4096 := by have : t.val < 64 := t.isLt; omega
theorem in_col (t : Fin cfg0.N) (d : Fin 1024) : t.val / 4 % 4 * 1024 + d.val < 4096 := by omega
theorem in_part (t : Fin cfg0.N) : t.val % 4 < 4 := by omega
theorem in_pass (t : Fin cfg0.N) (k : Fin 4096) : t.val % 4 * 4096 + k.val < 16384 := by omega

theorem place0 (t : Fin cfg0.N) (r : Fin 1024) (k : Fin 4096) :
    ((cfg0.win 0).blk t).view.emb (ix3 0 r k) = ix3 ⟨t.val % 4, in_part t⟩ ⟨t.val / 16 * 1024 + r.val, in_row t r⟩ k := by
  blk_ext [index0 t]
theorem place1 (t : Fin cfg0.N) (d : Fin 1024) (k : Fin 4096) :
    ((cfg0.win 1).blk t).view.emb (ix2 d k) = ix2 ⟨t.val / 4 % 4 * 1024 + d.val, in_col t d⟩ ⟨t.val % 4 * 4096 + k.val, in_pass t k⟩ := by
  blk_ext [index1 t]
theorem place2 (t : Fin cfg0.N) (r d : Fin 1024) :
    ((cfg0.win 2).blk t).view.emb (ix2 r d) = ix2 ⟨t.val / 16 * 1024 + r.val, in_row t r⟩ ⟨t.val / 4 % 4 * 1024 + d.val, in_col t d⟩ := by
  blk_ext [index2 t]

theorem cut0 (t : Fin cfg0.N) (r : Fin 1024) (k : Fin 4096) (X : FVec Ideal S4x4096x4096 .bf16) :
    elt (((cfg0.win 0).blk t).view.read (Elt Ideal) X (ix3 0 r k)) = elt (X (ix3 ⟨t.val % 4, in_part t⟩ ⟨t.val / 16 * 1024 + r.val, in_row t r⟩ k)) := congrArg X (place0 t r k)
theorem cut1 (t : Fin cfg0.N) (d : Fin 1024) (k : Fin 4096) (X : FVec Ideal S4096x16384 .bf16) :
    elt (((cfg0.win 1).blk t).view.read (Elt Ideal) X (ix2 d k)) = elt (X (ix2 ⟨t.val / 4 % 4 * 1024 + d.val, in_col t d⟩ ⟨t.val % 4 * 4096 + k.val, in_pass t k⟩)) := congrArg X (place1 t d k)

/-! ## The accumulator -/

/-- The `k`-th product of an element of the result. -/
def term (x0 : FVec Ideal S4x4096x4096 .bf16) (x1 : FVec Ideal S4096x16384 .bf16) (r d k : ℕ) : EReal :=
  elt (x0 (ix3 (at' 4 (k / 4096)) (at' 4096 r) (at' 4096 k))) * elt (x1 (ix2 (at' 4096 d) (at' 16384 k)))

/-- A point's product is its share of the terms. -/
theorem share (t : Fin cfg0.N) (r d : Fin 1024) :
    ∑ k : Fin 4096, elt ((iblk m c 0 t : Vec Ideal S1x1024x4096 .bf16) (ix3 0 r k)) * elt ((iblk m c 1 t : Vec Ideal S1024x4096 .bf16) (ix2 d k))
      = ∑ k : Fin 4096, term (m (c, main_arg0)) (m (c, main_arg1)) (t.val / 16 * 1024 + r.val) (t.val / 4 % 4 * 1024 + d.val) (t.val % 4 * 4096 + k.val) := by
  refine Finset.sum_congr rfl fun k _ => (congrArg₂ (· * ·) (cut0 t r k (m (c, main_arg0))) (cut1 t d k (m (c, main_arg1)))).trans ?_
  unfold term
  rw [← at_eq (in_row t r), ← at_eq (in_col t d), ← at_eq (in_pass t k), show at' 4 ((t.val % 4 * 4096 + k.val) / 4096) = ⟨t.val % 4, in_part t⟩ from
    Fin.ext (by show (t.val % 4 * 4096 + k.val) / 4096 % 4 = t.val % 4; omega), show at' 4096 (t.val % 4 * 4096 + k.val) = k from
    Fin.ext (by show (t.val % 4 * 4096 + k.val) % 4096 = k.val; omega)]

/-- After a point that is not the last of its four the accumulator holds the terms so far. -/
theorem held (r d : Fin 1024) : ∀ (n : ℕ) (h : n < cfg0.N), ¬n % 4 = 3 →
    elt ((outsAt0 m c n h).2 (ix2 r d))
      = ∑ k ∈ Finset.range ((n % 4 + 1) * 4096), term (m (c, main_arg0)) (m (c, main_arg1)) (n / 16 * 1024 + r.val) (n / 4 % 4 * 1024 + d.val) k := by
  intro n
  induction n with
  | zero =>
    intro h hl
    rw [outsAt0_A m c ⟨0, h⟩ (by rfl) (by show ¬1 ≤ 0 % 4; omega) hl]
    dsimp only
    rw [first, pay2, share]
    exact sum_first 4096 _
  | succ n ih =>
    intro h hl
    by_cases h0 : (n + 1) % 4 = 0
    · rw [outsAt0_A m c ⟨n + 1, h⟩ h0 (by show ¬1 ≤ (n + 1) % 4; omega) hl]
      dsimp only
      rw [first, pay2, share]
      dsimp only
      rw [h0]
      exact sum_first 4096 _
    · rw [outsAt0_B m c ⟨n + 1, h⟩ h0 (by show 1 ≤ (n + 1) % 4; omega) hl]
      dsimp only
      rw [next, pay3, share]
      have before := ih (Nat.lt_of_succ_lt h) (by omega)
      rw [show n / 16 = (n + 1) / 16 from by omega, show n / 4 % 4 = (n + 1) / 4 % 4 from by omega, show n % 4 + 1 = (n + 1) % 4 from by omega] at before
      exact (congrArg (· + _) before).trans (sum_next _ 4096 _)

/-- The last point of four writes the whole sum back. -/
theorem stored (t : Fin cfg0.N) (hl : t.val % 4 = 3) (r d : Fin 1024) :
    elt ((outsAt0 m c t.val t.isLt).1 (ix2 r d))
      = ∑ k ∈ Finset.range 16384, term (m (c, main_arg0)) (m (c, main_arg1)) (t.val / 16 * 1024 + r.val) (t.val / 4 % 4 * 1024 + d.val) k := by
  rw [outsAt0_C m c t (by omega) (by omega) hl]
  dsimp only
  rw [last, pay4, pay3, share]
  have before := held m c r d (t.val - 1) (Nat.lt_of_le_of_lt (Nat.sub_le _ _) t.isLt) (by omega)
  rw [show (t.val - 1) / 16 = t.val / 16 from by omega, show (t.val - 1) / 4 % 4 = t.val / 4 % 4 from by omega, show (t.val - 1) % 4 + 1 = 3 from by omega] at before
  rw [hl]
  exact (congrArg (· + _) before).trans (sum_next 3 4096 _)

/-- The reference's element. -/
theorem ref (x0 : FVec Ideal S4x4096x4096 .bf16) (x1 : FVec Ideal S4096x16384 .bf16) (r d : Fin 4096) :
    elt (Cert.ScInputRefIdeal.Read.val_main_v7 (F := Ideal) x0 x1 (ix2 r d))
      = ∑ k : Fin 16384, elt (x0 (ix3 ⟨k.val / 4096, by omega⟩ r ⟨k.val % 4096, by omega⟩)) * elt (x1 (ix2 d k)) := by
  pointwise [Cert.ScInputRefIdeal.Read.val_main_v7, Cert.ScInputRefIdeal.Read.val_main_v6, Cert.ScInputRefIdeal.Read.val_main_v3, Cert.ScInputRefIdeal.Read.val_main_v2, Cert.ScInputRefIdeal.Read.val_main_v1, Cert.ScInputRefIdeal.Read.val_main_v0]

/-- What is written back is the reference's block. -/
theorem written (t : Fin cfg0.N) (hl : t.val % 4 = 3) (r d : Fin 1024) :
    elt ((outsAt0 m c t.val t.isLt).1 (ix2 r d))
      = elt (Cert.ScInputRefIdeal.Read.val_main_v7 (F := Ideal) (m (c, main_arg0)) (m (c, main_arg1)) (((cfg0.win 2).blk t).view.emb (ix2 r d))) := by
  rw [place2]
  refine (stored m c t hl r d).trans (Eq.trans ?_ (ref _ _ _ _).symm)
  refine (Finset.sum_congr rfl fun k _ => ?_).trans (sum_at 16384 _).symm
  unfold term
  rw [← at_eq (in_row t r), ← at_eq (in_col t d)]
  refine congrArg₂ (fun p l => elt (m (c, main_arg0) (ix3 p _ l)) * elt (m (c, main_arg1) (ix2 _ (at' 16384 k)))) (Fin.ext ?_) (Fin.ext ?_)
  · show k / 4096 % 4 = k % 16384 / 4096
    omega
  · show k % 4096 = k % 16384 % 4096
    omega

/-- The result is the reference's. -/
theorem final : (dats m 0 c).arrAt 2 (cfgs 0).N = Cert.ScInputRefIdeal.Read.val_main_v7 (F := Ideal) (m (c, main_arg0)) (m (c, main_arg1)) := by
  refine (dats m 0 c).arrAt_eq_of_covers 2 _ (by decide +kernel) fun t hf y => ?_
  rw [after0_2]
  have hy : y = ix2 (y 0) (y 1) := pair_eq y
  rw [hy]
  exact written m c t ((flush0_2 t).mp hf) (y 0) (y 1)

/-- Kernel and reference end with equal results. -/
theorem algebraic : Cert.algebraic_ScInputIdeal_ScInputRefIdeal := by
  intro m g m' g' _ harg
  refine ⟨fun c => Cert.ScInputRefIdeal.Read.val_main_v7 (F := Ideal) (m (c, main_arg0)) (m (c, main_arg1)), ?_, ?_⟩
  · exact (θ_run _ _ _).mono (fun r h c => ⟨(h c).1.trans (final m c), (h c).2⟩) (Cert.ScInputIdeal.Value.run_blocks (F := Ideal) m g)
  · refine (θ_run _ _ _).mono (fun r h c => ⟨?_, (h c).2⟩) (Cert.ScInputRefIdeal.Value.run (F := Ideal) m' g')
    rw [(h c).1, Cert.ScInputRefIdeal.Read.val_main_v7_eq, (harg c).1, (harg c).2]

/-- The reference runs without fault and leaves its arguments unchanged; it has no semaphore. -/
theorem frame_reference : Cert.quiescent_ScInputRefIdeal := fun m ρ _ =>
  (θ_run _ _ _).mono (fun r h => ⟨fun c => (h c).2, sem_eq_zero_of_no_sems (by decide) r.2⟩) (Cert.ScInputRefIdeal.Value.run (F := Ideal) m ρ)

end Cert.Proof.ScInput

end
-- ==== Proof.ScWeight.lean ====
/- The gradient of the short convolution's input weight, in the eight devices' column blocks: the blocked product is the
   reference's. -/
module

public import proofs.«01_k».proof.Defs
public import proofs.«01_k».proof.Proof.Product
public import proofs.«01_k».proof.Proof.Gen.ScWeightIdeal.Value
public import proofs.«01_k».proof.Proof.Gen.ScWeightRefIdeal.Run
public import proofs.«01_k».proof.Proof.Gen.ScWeightRefIdeal.Read

@[expose] public section

set_option maxRecDepth 16384

noncomputable section

namespace Cert.Proof.ScWeight

open Cert.ScWeightIdeal Cert.ScWeightIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = 0 ∧ (cfg0.win 0).index t 1 = t.val / 16 := by decide +kernel
theorem index1 : ∀ t : Fin cfg0.N, (cfg0.win 1).index t 0 = t.val % 16 / 4 ∧ (cfg0.win 1).index t 1 = 0 ∧ (cfg0.win 1).index t 2 = t.val % 4 := by decide +kernel
theorem index2 : ∀ t : Fin cfg0.N, (cfg0.win 2).index t 0 = t.val % 16 / 2 ∧ (cfg0.win 2).index t 1 = t.val / 16 ∧ (cfg0.win 2).index t 2 = t.val % 2 := by decide +kernel

theorem in_row (t : Fin cfg0.N) (r : Fin 1024) : t.val / 16 * 1024 + r.val < 4096 := by have : t.val < 64 := t.isLt; omega
theorem in_part (t : Fin cfg0.N) : t.val % 16 / 4 < 4 := by omega
theorem in_lane (t : Fin cfg0.N) (d : Fin 1024) : t.val % 4 * 1024 + d.val < 4096 := by omega
theorem in_block (t : Fin cfg0.N) : t.val % 16 / 2 < 8 := by omega
theorem in_col (t : Fin cfg0.N) (d : Fin 1024) : t.val % 2 * 1024 + d.val < 2048 := by omega

theorem place0 (t : Fin cfg0.N) (k : Fin 4096) (r : Fin 1024) : ((cfg0.win 0).blk t).view.emb (ix2 k r) = ix2 k ⟨t.val / 16 * 1024 + r.val, in_row t r⟩ := by
  blk_ext [index0 t]
theorem place1 (t : Fin cfg0.N) (k : Fin 4096) (d : Fin 1024) : ((cfg0.win 1).blk t).view.emb (ix3 0 k d) = ix3 ⟨t.val % 16 / 4, in_part t⟩ k ⟨t.val % 4 * 1024 + d.val, in_lane t d⟩ := by
  blk_ext [index1 t]
theorem place2 (t : Fin cfg0.N) (r d : Fin 1024) :
    ((cfg0.win 2).blk t).view.emb (ix3 0 r d) = ix3 ⟨t.val % 16 / 2, in_block t⟩ ⟨t.val / 16 * 1024 + r.val, in_row t r⟩ ⟨t.val % 2 * 1024 + d.val, in_col t d⟩ := by
  blk_ext [index2 t]

theorem cut0 (t : Fin cfg0.N) (k : Fin 4096) (r : Fin 1024) (X : FVec Ideal S4096x4096 .bf16) :
    elt (((cfg0.win 0).blk t).view.read (Elt Ideal) X (ix2 k r)) = elt (X (ix2 k ⟨t.val / 16 * 1024 + r.val, in_row t r⟩)) := congrArg X (place0 t k r)
theorem cut1 (t : Fin cfg0.N) (k : Fin 4096) (d : Fin 1024) (X : FVec Ideal S4x4096x4096 .bf16) :
    elt (((cfg0.win 1).blk t).view.read (Elt Ideal) X (ix3 0 k d)) = elt (X (ix3 ⟨t.val % 16 / 4, in_part t⟩ k ⟨t.val % 4 * 1024 + d.val, in_lane t d⟩)) := congrArg X (place1 t k d)

/-- What a point stores. -/
theorem stored (x0 : Vec Ideal S4096x1024 .bf16) (x1 : Vec Ideal S1x4096x1024 .bf16) : out0_2 x0 x1 = k0_pay1 x0 x1 := by
  unfold out0_2
  rw [View.canon_unit_zero zeros3, View.ld_unit_zero (S := S4096x1024) zeros2, View.ld_unit_zero (S := S1x4096x1024) zeros3]

theorem pay (x0 : Vec Ideal S4096x1024 .bf16) (x1 : Vec Ideal S1x4096x1024 .bf16) (r d : Fin 1024) :
    elt (k0_pay1 x0 x1 (ix3 0 r d)) = ∑ k : Fin 4096, elt (x0 (ix2 k r)) * elt (x1 (ix3 0 k d)) := by
  pointwise [k0_pay1]

/-- The reference's element. -/
theorem ref (x0 : FVec Ideal S4096x4096 .bf16) (x1 : FVec Ideal S4x4096x4096 .bf16) (p : Fin 8) (r : Fin 4096) (d : Fin 2048) :
    elt (Cert.ScWeightRefIdeal.Read.val_main_v10 (F := Ideal) x0 x1 (ix3 p r d))
      = ∑ k : Fin 4096, elt (x0 (ix2 k r)) * elt (x1 (ix3 ⟨(p.val * 2048 + d.val) / 4096, by omega⟩ k ⟨(p.val * 2048 + d.val) % 4096, by omega⟩)) := by
  pointwise [Cert.ScWeightRefIdeal.Read.val_main_v10, Cert.ScWeightRefIdeal.Read.val_main_v9, Cert.ScWeightRefIdeal.Read.val_main_v8, Cert.ScWeightRefIdeal.Read.val_main_v7,
    Cert.ScWeightRefIdeal.Read.val_main_v6, Cert.ScWeightRefIdeal.Read.val_main_v3, Cert.ScWeightRefIdeal.Read.val_main_v2, Cert.ScWeightRefIdeal.Read.val_main_v1, Cert.ScWeightRefIdeal.Read.val_main_v0]
  exact Finset.sum_congr rfl fun k _ => mul_comm _ _

/-- What a point writes back is the reference's block. -/
theorem written (t : Fin cfg0.N) (r d : Fin 1024) :
    elt (k0_pay1 (iblk m c 0 t) (iblk m c 1 t) (ix3 0 r d))
      = elt (Cert.ScWeightRefIdeal.Read.val_main_v10 (F := Ideal) (m (c, main_arg0)) (m (c, main_arg1)) (((cfg0.win 2).blk t).view.emb (ix3 0 r d))) := by
  rw [place2]
  refine (pay _ _ r d).trans ((Finset.sum_congr rfl fun k _ => ?_).trans (ref _ _ _ _ _).symm)
  refine congrArg₂ (· * ·) (cut0 t k r (m (c, main_arg0))) ((cut1 t k d (m (c, main_arg1))).trans (congrArg (fun i => elt ((m (c, main_arg1)) i)) ?_))
  exact congrArg₂ (fun p l => ix3 p k l) (Fin.ext (by show t.val % 16 / 4 = (t.val % 16 / 2 * 2048 + (t.val % 2 * 1024 + d.val)) / 4096; omega))
    (Fin.ext (by show t.val % 4 * 1024 + d.val = (t.val % 16 / 2 * 2048 + (t.val % 2 * 1024 + d.val)) % 4096; omega))

/-- The result is the reference's. -/
theorem final : (dats m 0 c).arrAt 2 (cfgs 0).N = Cert.ScWeightRefIdeal.Read.val_main_v10 (F := Ideal) (m (c, main_arg0)) (m (c, main_arg1)) := by
  refine (dats m 0 c).arrAt_eq_of_covers 2 _ (by decide +kernel) fun t hf y => ?_
  rw [after0_2, stored]
  have hy : y = ix3 0 (y 1) (y 2) := block_eq y
  rw [hy]
  exact written m c t (y 1) (y 2)

/-- Kernel and reference end with equal results. -/
theorem algebraic : Cert.algebraic_ScWeightIdeal_ScWeightRefIdeal := by
  intro m g m' g' _ harg
  refine ⟨fun c => Cert.ScWeightRefIdeal.Read.val_main_v10 (F := Ideal) (m (c, main_arg0)) (m (c, main_arg1)), ?_, ?_⟩
  · exact (θ_run _ _ _).mono (fun r h c => ⟨(h c).1.trans (final m c), (h c).2⟩) (Cert.ScWeightIdeal.Value.run_blocks (F := Ideal) m g)
  · refine (θ_run _ _ _).mono (fun r h c => ⟨?_, (h c).2⟩) (Cert.ScWeightRefIdeal.Value.run (F := Ideal) m' g')
    rw [(h c).1, Cert.ScWeightRefIdeal.Read.val_main_v10_eq, (harg c).1, (harg c).2]

/-- The reference runs without fault and leaves its arguments unchanged; it has no semaphore. -/
theorem frame_reference : Cert.quiescent_ScWeightRefIdeal := fun m ρ _ =>
  (θ_run _ _ _).mono (fun r h => ⟨fun c => (h c).2, sem_eq_zero_of_no_sems (by decide) r.2⟩) (Cert.ScWeightRefIdeal.Value.run (F := Ideal) m ρ)

end Cert.Proof.ScWeight

end
-- ==== Proof.WideInput.lean ====
/- The gradient of what enters the input projection of the gated unit or of the conformer convolution. Three passes over the
   contracted axis add into an accumulator; the last one writes it back. -/
module

public import proofs.«01_k».proof.Defs
public import proofs.«01_k».proof.Proof.Product
public import proofs.«01_k».proof.Proof.Gen.WideInputIdeal.Value
public import proofs.«01_k».proof.Proof.Gen.WideInputRefIdeal.Run
public import proofs.«01_k».proof.Proof.Gen.WideInputRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.WideInput

open Cert.WideInputIdeal Cert.WideInputIdeal.Gen Cert.Proof.Product
open Idealize.ShloMosaic Idealize.ShloMosaic.TcCoe Idealize.SL.Sem

variable (m : (ℓ : Loc nD τ sig) → Buf (Elt Ideal) ℓ) (c : Dev nD)

/-! ## What one point leaves -/

section
variable (i : grid0.Coords) (a0 : Memref sig .tc .vmem S1024x4096 .bf16) (h0 : a0.IsWhole) (a1 : Memref sig .tc .vmem S1024x4096 .bf16) (h1 : a1.IsWhole)
  (a2 : Memref sig .tc .vmem S1024x1024 .bf16) (h2 : a2.IsWhole) (a3 : Memref sig .tc .vmem S1024x1024 .f32) (h3 : a3.IsWhole)
  (x0 x1 : Vec Ideal S1024x4096 .bf16) (s : Vec Ideal S1024x1024 .f32)

/-- The first pass puts its product into the accumulator. -/
theorem first (c0 : cond0_0 i) (c1 : ¬cond0_1 i) (c2 : ¬cond0_2 i) : sout0_A_0 c i a0 h0 a1 h1 a2 h2 a3 h3 c0 c1 c2 x0 x1 = k0_pay2 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero zeros2]
  simp only [View.readAt_eq_ld, h0.read_unread, h1.read_unread, View.ld_unit_zero (S := S1024x4096) zeros2]

/-- The second adds its own. -/
theorem next (c0 : ¬cond0_0 i) (c1 : cond0_1 i) (c2 : ¬cond0_2 i) : sout0_B_0 c i a0 h0 a1 h1 a2 h2 a3 h3 c0 c1 c2 x0 x1 s = k0_pay3 x0 x1 s := by
  unfold sout0_B_0
  rw [View.read_writes_eq_canon _ _ _ (scover0_B_0 c i a0 h0 a1 h1 a2 h2 a3 h3 c0 c1 c2 x0 x1 s)]
  unfold kernelRun0_B
  dsimp only
  sl_unfold_words
  rw [View.canon_unit_zero zeros2]
  simp only [View.readAt_eq_ld, h0.read_unread, h1.read_unread, h3.read_unread, View.ld_unit_zero (S := S1024x4096) zeros2, View.ld_unit_zero (S := S1024x1024) zeros2]

/-- The last adds its own and writes the accumulator back. -/
theorem last (c0 : ¬cond0_0 i) (c1 : cond0_1 i) (c2 : cond0_2 i) : out0_C_2 c i a0 h0 a1 h1 a2 h2 a3 h3 c0 c1 c2 x0 x1 s = k0_pay4 (k0_pay3 x0 x1 s) := by
  unfold out0_C_2
  rw [View.read_writes_eq_canon _ _ _ (cover0_C_2 c i a0 h0 a1 h1 a2 h2 a3 h3 c0 c1 c2 x0 x1 s)]
  unfold kernelRun0_C
  dsimp only
  sl_unfold_words
  rw [View.canon_unit_zero zeros2, View.readCov_unit_zero (S := S1024x1024) _ zeros2]
  simp only [View.readAt_eq_ld, h0.read_unread, h1.read_unread, h3.read_unread, View.ld_unit_zero (S := S1024x4096) zeros2, View.ld_unit_zero (S := S1024x1024) zeros2]

theorem pay2 (r d : Fin 1024) : elt (k0_pay2 x0 x1 (ix2 r d)) = ∑ k : Fin 4096, elt (x0 (ix2 r k)) * elt (x1 (ix2 d k)) := by
  pointwise [k0_pay2, k0_pay1]

theorem pay3 (r d : Fin 1024) : elt (k0_pay3 x0 x1 s (ix2 r d)) = elt (s (ix2 r d)) + ∑ k : Fin 4096, elt (x0 (ix2 r k)) * elt (x1 (ix2 d k)) := by
  pointwise [k0_pay3, k0_pay1]

theorem pay4 (r d : Fin 1024) : elt (k0_pay4 s (ix2 r d)) = elt (s (ix2 r d)) := by
  pointwise [k0_pay4]

end

/-! ## The blocks -/

theorem index0 : ∀ t : Fin cfg0.N, (cfg0.win 0).index t 0 = t.val / 12 ∧ (cfg0.win 0).index t 1 = t.val % 3 := by decide +kernel
theorem index1 : ∀ t : Fin cfg0.N, (cfg0.win 1).index t 0 = t.val / 3 % 4 ∧ (cfg0.win 1).index t 1 = t.val % 3 := by decide +kernel
theorem index2 : ∀ t : Fin cfg0.N, (cfg0.win 2).index t 0 = t.val / 12 ∧ (cfg0.win 2).index t 1 = t.val / 3 % 4 := by decide +kernel

theorem in_row (t : Fin cfg0.N) (r : Fin 1024) : t.val / 12 * 1024 + r.val < 4096 := by have : t.val < 48 := t.isLt; omega
theorem in_col (t : Fin cfg0.N) (d : Fin 1024) : t.val / 3 % 4 * 1024 + d.val < 4096 := by omega
theorem in_pass (t : Fin cfg0.N) (k : Fin 4096) : t.val % 3 * 4096 + k.val < 12288 := by omega

theorem place0 (t : Fin cfg0.N) (r : Fin 1024) (k : Fin 4096) :
    ((cfg0.win 0).blk t).view.emb (ix2 r k) = ix2 ⟨t.val / 12 * 1024 + r.val, in_row t r⟩ ⟨t.val % 3 * 4096 + k.val, in_pass t k⟩ := by
  blk_ext [index0 t]
theorem place1 (t : Fin cfg0.N) (d : Fin 1024) (k : Fin 4096) :
    ((cfg0.win 1).blk t).view.emb (ix2 d k) = ix2 ⟨t.val / 3 % 4 * 1024 + d.val, in_col t d⟩ ⟨t.val % 3 * 4096 + k.val, in_pass t k⟩ := by
  blk_ext [index1 t]
theorem place2 (t : Fin cfg0.N) (r d : Fin 1024) :
    ((cfg0.win 2).blk t).view.emb (ix2 r d) = ix2 ⟨t.val / 12 * 1024 + r.val, in_row t r⟩ ⟨t.val / 3 % 4 * 1024 + d.val, in_col t d⟩ := by
  blk_ext [index2 t]

theorem cut0 (t : Fin cfg0.N) (r : Fin 1024) (k : Fin 4096) (X : FVec Ideal S4096x12288 .bf16) :
    elt (((cfg0.win 0).blk t).view.read (Elt Ideal) X (ix2 r k)) = elt (X (ix2 ⟨t.val / 12 * 1024 + r.val, in_row t r⟩ ⟨t.val % 3 * 4096 + k.val, in_pass t k⟩)) := congrArg X (place0 t r k)
theorem cut1 (t : Fin cfg0.N) (d : Fin 1024) (k : Fin 4096) (X : FVec Ideal S4096x12288 .bf16) :
    elt (((cfg0.win 1).blk t).view.read (Elt Ideal) X (ix2 d k)) = elt (X (ix2 ⟨t.val / 3 % 4 * 1024 + d.val, in_col t d⟩ ⟨t.val % 3 * 4096 + k.val, in_pass t k⟩)) := congrArg X (place1 t d k)

/-! ## The accumulator -/

/-- The `k`-th product of an element of the result. -/
def term (x0 x1 : FVec Ideal S4096x12288 .bf16) (r d k : ℕ) : EReal := elt (x0 (ix2 (at' 4096 r) (at' 12288 k))) * elt (x1 (ix2 (at' 4096 d) (at' 12288 k)))

/-- A point's product is its share of the terms. -/
theorem share (t : Fin cfg0.N) (r d : Fin 1024) :
    ∑ k : Fin 4096, elt ((iblk m c 0 t : Vec Ideal S1024x4096 .bf16) (ix2 r k)) * elt ((iblk m c 1 t : Vec Ideal S1024x4096 .bf16) (ix2 d k))
      = ∑ k : Fin 4096, term (m (c, main_arg0)) (m (c, main_arg1)) (t.val / 12 * 1024 + r.val) (t.val / 3 % 4 * 1024 + d.val) (t.val % 3 * 4096 + k.val) := by
  refine Finset.sum_congr rfl fun k _ => (congrArg₂ (· * ·) (cut0 t r k (m (c, main_arg0))) (cut1 t d k (m (c, main_arg1)))).trans ?_
  rw [at_eq (in_row t r), at_eq (in_col t d), at_eq (in_pass t k)]
  rfl

/-- After a point that is not the last of its three the accumulator holds the terms so far. -/
theorem held (r d : Fin 1024) : ∀ (n : ℕ) (h : n < cfg0.N), ¬n % 3 = 2 →
    elt ((outsAt0 m c n h).2 (ix2 r d))
      = ∑ k ∈ Finset.range ((n % 3 + 1) * 4096), term (m (c, main_arg0)) (m (c, main_arg1)) (n / 12 * 1024 + r.val) (n / 3 % 4 * 1024 + d.val) k := by
  intro n
  induction n with
  | zero =>
    intro h hl
    rw [outsAt0_A m c ⟨0, h⟩ (by rfl) (by show ¬1 ≤ 0 % 3; omega) hl]
    dsimp only
    rw [first, pay2, share]
    exact sum_first 4096 _
  | succ n ih =>
    intro h hl
    by_cases h0 : (n + 1) % 3 = 0
    · rw [outsAt0_A m c ⟨n + 1, h⟩ h0 (by show ¬1 ≤ (n + 1) % 3; omega) hl]
      dsimp only
      rw [first, pay2, share]
      dsimp only
      rw [h0]
      exact sum_first 4096 _
    · rw [outsAt0_B m c ⟨n + 1, h⟩ h0 (by show 1 ≤ (n + 1) % 3; omega) hl]
      dsimp only
      rw [next, pay3, share]
      have before := ih (Nat.lt_of_succ_lt h) (by omega)
      rw [show n / 12 = (n + 1) / 12 from by omega, show n / 3 % 4 = (n + 1) / 3 % 4 from by omega, show n % 3 + 1 = (n + 1) % 3 from by omega] at before
      exact (congrArg (· + _) before).trans (sum_next _ 4096 _)

/-- The last point of three writes the whole sum back. -/
theorem stored (t : Fin cfg0.N) (hl : t.val % 3 = 2) (r d : Fin 1024) :
    elt ((outsAt0 m c t.val t.isLt).1 (ix2 r d))
      = ∑ k ∈ Finset.range 12288, term (m (c, main_arg0)) (m (c, main_arg1)) (t.val / 12 * 1024 + r.val) (t.val / 3 % 4 * 1024 + d.val) k := by
  rw [outsAt0_C m c t (by omega) (by omega) hl]
  dsimp only
  rw [last, pay4, pay3, share]
  have before := held m c r d (t.val - 1) (Nat.lt_of_le_of_lt (Nat.sub_le _ _) t.isLt) (by omega)
  rw [show (t.val - 1) / 12 = t.val / 12 from by omega, show (t.val - 1) / 3 % 4 = t.val / 3 % 4 from by omega, show (t.val - 1) % 3 + 1 = 2 from by omega] at before
  rw [hl]
  exact (congrArg (· + _) before).trans (sum_next 2 4096 _)

/-- The reference's element. -/
theorem ref (x0 x1 : FVec Ideal S4096x12288 .bf16) (r d : Fin 4096) :
    elt (Cert.WideInputRefIdeal.Read.val_main_v5 (F := Ideal) x0 x1 (ix2 r d)) = ∑ k : Fin 12288, elt (x0 (ix2 r k)) * elt (x1 (ix2 d k)) := by
  pointwise [Cert.WideInputRefIdeal.Read.val_main_v5, Cert.WideInputRefIdeal.Read.val_main_v4, Cert.WideInputRefIdeal.Read.val_main_v1, Cert.WideInputRefIdeal.Read.val_main_v0]

/-- What is written back is the reference's block. -/
theorem written (t : Fin cfg0.N) (hl : t.val % 3 = 2) (r d : Fin 1024) :
    elt ((outsAt0 m c t.val t.isLt).1 (ix2 r d))
      = elt (Cert.WideInputRefIdeal.Read.val_main_v5 (F := Ideal) (m (c, main_arg0)) (m (c, main_arg1)) (((cfg0.win 2).blk t).view.emb (ix2 r d))) := by
  rw [place2]
  refine (stored m c t hl r d).trans (Eq.trans ?_ (ref _ _ _ _).symm)
  refine (Finset.sum_congr rfl fun k _ => ?_).trans (sum_at 12288 _).symm
  rw [at_eq (in_row t r), at_eq (in_col t d)]
  rfl

/-- The result is the reference's. -/
theorem final : (dats m 0 c).arrAt 2 (cfgs 0).N = Cert.WideInputRefIdeal.Read.val_main_v5 (F := Ideal) (m (c, main_arg0)) (m (c, main_arg1)) := by
  refine (dats m 0 c).arrAt_eq_of_covers 2 _ (by decide +kernel) fun t hf y => ?_
  rw [after0_2]
  have hy : y = ix2 (y 0) (y 1) := pair_eq y
  rw [hy]
  exact written m c t ((flush0_2 t).mp hf) (y 0) (y 1)

/-- Kernel and reference end with equal results. -/
theorem algebraic : Cert.algebraic_WideInputIdeal_WideInputRefIdeal := by
  intro m g m' g' _ harg
  refine ⟨fun c => Cert.WideInputRefIdeal.Read.val_main_v5 (F := Ideal) (m (c, main_arg0)) (m (c, main_arg1)), ?_, ?_⟩
  · exact (θ_run _ _ _).mono (fun r h c => ⟨(h c).1.trans (final m c), (h c).2⟩) (Cert.WideInputIdeal.Value.run_blocks (F := Ideal) m g)
  · refine (θ_run _ _ _).mono (fun r h c => ⟨?_, (h c).2⟩) (Cert.WideInputRefIdeal.Value.run (F := Ideal) m' g')
    rw [(h c).1, Cert.WideInputRefIdeal.Read.val_main_v5_eq, (harg c).1, (harg c).2]

/-- The reference runs without fault and leaves its arguments unchanged; it has no semaphore. -/
theorem frame_reference : Cert.quiescent_WideInputRefIdeal := fun m ρ _ =>
  (θ_run _ _ _).mono (fun r h => ⟨fun c => (h c).2, sem_eq_zero_of_no_sems (by decide) r.2⟩) (Cert.WideInputRefIdeal.Value.run (F := Ideal) m ρ)

end Cert.Proof.WideInput

end
-- ==== Proof.WideWeight.lean ====
/- The gradient of the input weight of the gated unit or of the conformer convolution, in the eight devices' column blocks: the blocked product is the
   reference's. -/
module

public import proofs.«01_k».proof.Defs
public import proofs.«01_k».proof.Proof.Product
public import proofs.«01_k».proof.Proof.Gen.WideWeightIdeal.Value
public import proofs.«01_k».proof.Proof.Gen.WideWeightRefIdeal.Run
public import proofs.«01_k».proof.Proof.Gen.WideWeightRefIdeal.Read

@[expose] public section

set_option maxRecDepth 16384

noncomputable section

namespace Cert.Proof.WideWeight

open Cert.WideWeightIdeal Cert.WideWeightIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = 0 ∧ (cfg0.win 0).index t 1 = t.val / 16 := by decide +kernel
theorem index1 : ∀ t : Fin cfg0.N, (cfg0.win 1).index t 0 = 0 ∧ (cfg0.win 1).index t 1 = t.val % 16 := by decide +kernel
theorem index2 : ∀ t : Fin cfg0.N, (cfg0.win 2).index t 0 = t.val % 16 / 2 ∧ (cfg0.win 2).index t 1 = t.val / 16 ∧ (cfg0.win 2).index t 2 = t.val % 2 := by decide +kernel

theorem in_row (t : Fin cfg0.N) (r : Fin 1024) : t.val / 16 * 1024 + r.val < 4096 := by have : t.val < 64 := t.isLt; omega
theorem in_lane (t : Fin cfg0.N) (d : Fin 768) : t.val % 16 * 768 + d.val < 12288 := by omega
theorem in_block (t : Fin cfg0.N) : t.val % 16 / 2 < 8 := by omega
theorem in_col (t : Fin cfg0.N) (d : Fin 768) : t.val % 2 * 768 + d.val < 1536 := by omega

theorem place0 (t : Fin cfg0.N) (k : Fin 4096) (r : Fin 1024) : ((cfg0.win 0).blk t).view.emb (ix2 k r) = ix2 k ⟨t.val / 16 * 1024 + r.val, in_row t r⟩ := by
  blk_ext [index0 t]
theorem place1 (t : Fin cfg0.N) (k : Fin 4096) (d : Fin 768) : ((cfg0.win 1).blk t).view.emb (ix2 k d) = ix2 k ⟨t.val % 16 * 768 + d.val, in_lane t d⟩ := by
  blk_ext [index1 t]
theorem place2 (t : Fin cfg0.N) (r : Fin 1024) (d : Fin 768) :
    ((cfg0.win 2).blk t).view.emb (ix3 0 r d) = ix3 ⟨t.val % 16 / 2, in_block t⟩ ⟨t.val / 16 * 1024 + r.val, in_row t r⟩ ⟨t.val % 2 * 768 + d.val, in_col t d⟩ := by
  blk_ext [index2 t]

theorem cut0 (t : Fin cfg0.N) (k : Fin 4096) (r : Fin 1024) (X : FVec Ideal S4096x4096 .bf16) :
    elt (((cfg0.win 0).blk t).view.read (Elt Ideal) X (ix2 k r)) = elt (X (ix2 k ⟨t.val / 16 * 1024 + r.val, in_row t r⟩)) := congrArg X (place0 t k r)
theorem cut1 (t : Fin cfg0.N) (k : Fin 4096) (d : Fin 768) (X : FVec Ideal S4096x12288 .bf16) :
    elt (((cfg0.win 1).blk t).view.read (Elt Ideal) X (ix2 k d)) = elt (X (ix2 k ⟨t.val % 16 * 768 + d.val, in_lane t d⟩)) := congrArg X (place1 t k d)

/-- What a point stores. -/
theorem stored (x0 : Vec Ideal S4096x1024 .bf16) (x1 : Vec Ideal S4096x768 .bf16) : out0_2 x0 x1 = k0_pay1 x0 x1 := by
  unfold out0_2
  rw [View.canon_unit_zero zeros3, View.ld_unit_zero (S := S4096x1024) zeros2, View.ld_unit_zero (S := S4096x768) zeros2]

theorem pay (x0 : Vec Ideal S4096x1024 .bf16) (x1 : Vec Ideal S4096x768 .bf16) (r : Fin 1024) (d : Fin 768) :
    elt (k0_pay1 x0 x1 (ix3 0 r d)) = ∑ k : Fin 4096, elt (x0 (ix2 k r)) * elt (x1 (ix2 k d)) := by
  pointwise [k0_pay1]

/-- The reference's element. -/
theorem ref (x0 : FVec Ideal S4096x4096 .bf16) (x1 : FVec Ideal S4096x12288 .bf16) (p : Fin 8) (r : Fin 4096) (d : Fin 1536) :
    elt (Cert.WideWeightRefIdeal.Read.val_main_v8 (F := Ideal) x0 x1 (ix3 p r d))
      = ∑ k : Fin 4096, elt (x0 (ix2 k r)) * elt (x1 (ix2 k ⟨p.val * 1536 + d.val, by omega⟩)) := by
  pointwise [Cert.WideWeightRefIdeal.Read.val_main_v8, Cert.WideWeightRefIdeal.Read.val_main_v7, Cert.WideWeightRefIdeal.Read.val_main_v6, Cert.WideWeightRefIdeal.Read.val_main_v5,
    Cert.WideWeightRefIdeal.Read.val_main_v4, Cert.WideWeightRefIdeal.Read.val_main_v1, Cert.WideWeightRefIdeal.Read.val_main_v0]
  exact Finset.sum_congr rfl fun k _ => mul_comm _ _

/-- What a point writes back is the reference's block. -/
theorem written (t : Fin cfg0.N) (r : Fin 1024) (d : Fin 768) :
    elt (k0_pay1 (iblk m c 0 t) (iblk m c 1 t) (ix3 0 r d))
      = elt (Cert.WideWeightRefIdeal.Read.val_main_v8 (F := Ideal) (m (c, main_arg0)) (m (c, main_arg1)) (((cfg0.win 2).blk t).view.emb (ix3 0 r d))) := by
  rw [place2]
  refine (pay _ _ r d).trans ((Finset.sum_congr rfl fun k _ => ?_).trans (ref _ _ _ _ _).symm)
  refine congrArg₂ (· * ·) (cut0 t k r (m (c, main_arg0))) ((cut1 t k d (m (c, main_arg1))).trans (congrArg (fun i => elt ((m (c, main_arg1)) i)) ?_))
  exact congrArg (fun l => ix2 k l) (Fin.ext (by show t.val % 16 * 768 + d.val = t.val % 16 / 2 * 1536 + (t.val % 2 * 768 + d.val); omega))

/-- The result is the reference's. -/
theorem final : (dats m 0 c).arrAt 2 (cfgs 0).N = Cert.WideWeightRefIdeal.Read.val_main_v8 (F := Ideal) (m (c, main_arg0)) (m (c, main_arg1)) := by
  refine (dats m 0 c).arrAt_eq_of_covers 2 _ (by decide +kernel) fun t hf y => ?_
  rw [after0_2, stored]
  have hy : y = ix3 0 (y 1) (y 2) := block_eq y
  rw [hy]
  exact written m c t (y 1) (y 2)

/-- Kernel and reference end with equal results. -/
theorem algebraic : Cert.algebraic_WideWeightIdeal_WideWeightRefIdeal := by
  intro m g m' g' _ harg
  refine ⟨fun c => Cert.WideWeightRefIdeal.Read.val_main_v8 (F := Ideal) (m (c, main_arg0)) (m (c, main_arg1)), ?_, ?_⟩
  · exact (θ_run _ _ _).mono (fun r h c => ⟨(h c).1.trans (final m c), (h c).2⟩) (Cert.WideWeightIdeal.Value.run_blocks (F := Ideal) m g)
  · refine (θ_run _ _ _).mono (fun r h c => ⟨?_, (h c).2⟩) (Cert.WideWeightRefIdeal.Value.run (F := Ideal) m' g')
    rw [(h c).1, Cert.WideWeightRefIdeal.Read.val_main_v8_eq, (harg c).1, (harg c).2]

/-- The reference runs without fault and leaves its arguments unchanged; it has no semaphore. -/
theorem frame_reference : Cert.quiescent_WideWeightRefIdeal := fun m ρ _ =>
  (θ_run _ _ _).mono (fun r h => ⟨fun c => (h c).2, sem_eq_zero_of_no_sems (by decide) r.2⟩) (Cert.WideWeightRefIdeal.Value.run (F := Ideal) m ρ)

end Cert.Proof.WideWeight

end
-- ==== Proof.OutInput.lean ====
/- The gradient of what a mixer hands to its output weight: the blocked product is the reference's. -/
module

public import proofs.«01_k».proof.Defs
public import proofs.«01_k».proof.Proof.Product
public import proofs.«01_k».proof.Proof.Gen.OutInputIdeal.Value
public import proofs.«01_k».proof.Proof.Gen.OutInputRefIdeal.Run
public import proofs.«01_k».proof.Proof.Gen.OutInputRefIdeal.Read
public import Idealize.ShloMosaic.Lib.Pipeline.ValueKit
public import Idealize.ShloMosaic.Lib.Pointwise

@[expose] public section

set_option maxRecDepth 16384

noncomputable section

namespace Cert.Proof.OutInput

open Cert.OutInputIdeal Cert.OutInputIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val / 4 ∧ (cfg0.win 0).index t 1 = 0 := by decide +kernel
theorem index1 : ∀ t : Fin cfg0.N, (cfg0.win 1).index t 0 = t.val % 4 ∧ (cfg0.win 1).index t 1 = 0 := by decide +kernel
theorem index2 : ∀ t : Fin cfg0.N, (cfg0.win 2).index t 0 = t.val / 4 ∧ (cfg0.win 2).index t 1 = t.val % 4 := by decide +kernel

theorem in_row (t : Fin cfg0.N) (r : Fin 1024) : t.val / 4 * 1024 + r.val < 4096 := by have : t.val < 16 := t.isLt; omega
theorem in_col (t : Fin cfg0.N) (r : Fin 1024) : t.val % 4 * 1024 + r.val < 4096 := by omega

theorem place0 (t : Fin cfg0.N) (r : Fin 1024) (k : Fin 4096) : ((cfg0.win 0).blk t).view.emb (ix2 r k) = ix2 ⟨t.val / 4 * 1024 + r.val, in_row t r⟩ k := by
  blk_ext [index0 t]
theorem place1 (t : Fin cfg0.N) (r : Fin 1024) (k : Fin 4096) : ((cfg0.win 1).blk t).view.emb (ix2 r k) = ix2 ⟨t.val % 4 * 1024 + r.val, in_col t r⟩ k := by
  blk_ext [index1 t]
theorem place2 (t : Fin cfg0.N) (r d : Fin 1024) : ((cfg0.win 2).blk t).view.emb (ix2 r d) = ix2 ⟨t.val / 4 * 1024 + r.val, in_row t r⟩ ⟨t.val % 4 * 1024 + d.val, in_col t d⟩ := by
  blk_ext [index2 t]

theorem cut0 (t : Fin cfg0.N) (r : Fin 1024) (k : Fin 4096) (X : FVec Ideal S4096x4096 .bf16) :
    elt (((cfg0.win 0).blk t).view.read (Elt Ideal) X (ix2 r k)) = elt (X (ix2 ⟨t.val / 4 * 1024 + r.val, in_row t r⟩ k)) := congrArg X (place0 t r k)
theorem cut1 (t : Fin cfg0.N) (r : Fin 1024) (k : Fin 4096) (X : FVec Ideal S4096x4096 .bf16) :
    elt (((cfg0.win 1).blk t).view.read (Elt Ideal) X (ix2 r k)) = elt (X (ix2 ⟨t.val % 4 * 1024 + r.val, in_col t r⟩ k)) := congrArg X (place1 t r k)

/-- What a point stores. -/
theorem stored (x0 x1 : Vec Ideal S1024x4096 .bf16) : out0_2 x0 x1 = k0_pay1 x0 x1 := by
  unfold out0_2
  rw [View.canon_unit_zero zeros2]
  simp only [View.ld_unit_zero (S := S1024x4096) zeros2]

theorem pay (x0 x1 : Vec Ideal S1024x4096 .bf16) (r d : Fin 1024) : elt (k0_pay1 x0 x1 (ix2 r d)) = ∑ k : Fin 4096, elt (x0 (ix2 r k)) * elt (x1 (ix2 d k)) := by
  pointwise [k0_pay1]

/-- The reference's element. -/
theorem ref (x0 x1 : FVec Ideal S4096x4096 .bf16) (r d : Fin 4096) :
    elt (Cert.OutInputRefIdeal.Read.val_main_v5 (F := Ideal) x0 x1 (ix2 r d)) = ∑ k : Fin 4096, elt (x0 (ix2 r k)) * elt (x1 (ix2 d k)) := by
  pointwise [Cert.OutInputRefIdeal.Read.val_main_v5, Cert.OutInputRefIdeal.Read.val_main_v4, Cert.OutInputRefIdeal.Read.val_main_v3, Cert.OutInputRefIdeal.Read.val_main_v1, Cert.OutInputRefIdeal.Read.val_main_v0]

/-- What a point writes back is the reference's block. -/
theorem written (t : Fin cfg0.N) (r d : Fin 1024) :
    elt (k0_pay1 (iblk m c 0 t) (iblk m c 1 t) (ix2 r d))
      = elt (Cert.OutInputRefIdeal.Read.val_main_v5 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t d k (m (c, main_arg1)))

/-- The result is the reference's. -/
theorem final : (dats m 0 c).arrAt 2 (cfgs 0).N = Cert.OutInputRefIdeal.Read.val_main_v5 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_OutInputIdeal_OutInputRefIdeal := by
  intro m g m' g' _ harg
  refine ⟨fun c => Cert.OutInputRefIdeal.Read.val_main_v5 (F := Ideal) (m (c, main_arg0)) (m (c, main_arg1)), ?_, ?_⟩
  · exact (θ_run _ _ _).mono (fun r h c => ⟨(h c).1.trans (final m c), (h c).2⟩) (Cert.OutInputIdeal.Value.run_blocks (F := Ideal) m g)
  · refine (θ_run _ _ _).mono (fun r h c => ⟨?_, (h c).2⟩) (Cert.OutInputRefIdeal.Value.run (F := Ideal) m' g')
    rw [(h c).1, Cert.OutInputRefIdeal.Read.val_main_v5_eq, (harg c).1, (harg c).2]

/-- The reference runs without fault and leaves its arguments unchanged; it has no semaphore. -/
theorem frame_reference : Cert.quiescent_OutInputRefIdeal := fun m ρ _ =>
  (θ_run _ _ _).mono (fun r h => ⟨fun c => (h c).2, sem_eq_zero_of_no_sems (by decide) r.2⟩) (Cert.OutInputRefIdeal.Value.run (F := Ideal) m ρ)

end Cert.Proof.OutInput

end
-- ==== Proof.OutWeight.lean ====
/- The gradient of a mixer's output weight: the blocked product is the reference's. -/
module

public import proofs.«01_k».proof.Defs
public import proofs.«01_k».proof.Proof.Product
public import proofs.«01_k».proof.Proof.Gen.OutWeightIdeal.Value
public import proofs.«01_k».proof.Proof.Gen.OutWeightRefIdeal.Run
public import proofs.«01_k».proof.Proof.Gen.OutWeightRefIdeal.Read
public import Idealize.ShloMosaic.Lib.Pipeline.ValueKit
public import Idealize.ShloMosaic.Lib.Pointwise

@[expose] public section

set_option maxRecDepth 16384

noncomputable section

namespace Cert.Proof.OutWeight

open Cert.OutWeightIdeal Cert.OutWeightIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = 0 ∧ (cfg0.win 0).index t 1 = t.val / 4 := by decide +kernel
theorem index1 : ∀ t : Fin cfg0.N, (cfg0.win 1).index t 0 = 0 ∧ (cfg0.win 1).index t 1 = t.val % 4 := by decide +kernel
theorem index2 : ∀ t : Fin cfg0.N, (cfg0.win 2).index t 0 = t.val / 4 ∧ (cfg0.win 2).index t 1 = t.val % 4 := by decide +kernel

theorem in_row (t : Fin cfg0.N) (r : Fin 1024) : t.val / 4 * 1024 + r.val < 4096 := by have : t.val < 16 := t.isLt; omega
theorem in_col (t : Fin cfg0.N) (r : Fin 1024) : t.val % 4 * 1024 + r.val < 4096 := by omega

theorem place0 (t : Fin cfg0.N) (k : Fin 4096) (r : Fin 1024) : ((cfg0.win 0).blk t).view.emb (ix2 k r) = ix2 k ⟨t.val / 4 * 1024 + r.val, in_row t r⟩ := by
  blk_ext [index0 t]
theorem place1 (t : Fin cfg0.N) (k : Fin 4096) (r : Fin 1024) : ((cfg0.win 1).blk t).view.emb (ix2 k r) = ix2 k ⟨t.val % 4 * 1024 + r.val, in_col t r⟩ := by
  blk_ext [index1 t]
theorem place2 (t : Fin cfg0.N) (r d : Fin 1024) : ((cfg0.win 2).blk t).view.emb (ix2 r d) = ix2 ⟨t.val / 4 * 1024 + r.val, in_row t r⟩ ⟨t.val % 4 * 1024 + d.val, in_col t d⟩ := by
  blk_ext [index2 t]

theorem cut0 (t : Fin cfg0.N) (k : Fin 4096) (r : Fin 1024) (X : FVec Ideal S4096x4096 .bf16) :
    elt (((cfg0.win 0).blk t).view.read (Elt Ideal) X (ix2 k r)) = elt (X (ix2 k ⟨t.val / 4 * 1024 + r.val, in_row t r⟩)) := congrArg X (place0 t k r)
theorem cut1 (t : Fin cfg0.N) (k : Fin 4096) (r : Fin 1024) (X : FVec Ideal S4096x4096 .bf16) :
    elt (((cfg0.win 1).blk t).view.read (Elt Ideal) X (ix2 k r)) = elt (X (ix2 k ⟨t.val % 4 * 1024 + r.val, in_col t r⟩)) := congrArg X (place1 t k r)

/-- What a point stores. -/
theorem stored (x0 x1 : Vec Ideal S4096x1024 .bf16) : out0_2 x0 x1 = k0_pay1 x0 x1 := by
  unfold out0_2
  rw [View.canon_unit_zero zeros2]
  simp only [View.ld_unit_zero (S := S4096x1024) zeros2]

theorem pay (x0 x1 : Vec Ideal S4096x1024 .bf16) (r d : Fin 1024) : elt (k0_pay1 x0 x1 (ix2 r d)) = ∑ k : Fin 4096, elt (x0 (ix2 k r)) * elt (x1 (ix2 k d)) := by
  pointwise [k0_pay1]

/-- The reference's element. -/
theorem ref (x0 x1 : FVec Ideal S4096x4096 .bf16) (r d : Fin 4096) :
    elt (Cert.OutWeightRefIdeal.Read.val_main_v6 (F := Ideal) x0 x1 (ix2 r d)) = ∑ k : Fin 4096, elt (x0 (ix2 k r)) * elt (x1 (ix2 k d)) := by
  pointwise [Cert.OutWeightRefIdeal.Read.val_main_v6, Cert.OutWeightRefIdeal.Read.val_main_v5, Cert.OutWeightRefIdeal.Read.val_main_v4, Cert.OutWeightRefIdeal.Read.val_main_v1, Cert.OutWeightRefIdeal.Read.val_main_v0]
  exact Finset.sum_congr rfl fun k _ => mul_comm _ _

/-- What a point writes back is the reference's block. -/
theorem written (t : Fin cfg0.N) (r d : Fin 1024) :
    elt (k0_pay1 (iblk m c 0 t) (iblk m c 1 t) (ix2 r d))
      = elt (Cert.OutWeightRefIdeal.Read.val_main_v6 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t k r (m (c, main_arg0))) (cut1 t k d (m (c, main_arg1)))

/-- The result is the reference's. -/
theorem final : (dats m 0 c).arrAt 2 (cfgs 0).N = Cert.OutWeightRefIdeal.Read.val_main_v6 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_OutWeightIdeal_OutWeightRefIdeal := by
  intro m g m' g' _ harg
  refine ⟨fun c => Cert.OutWeightRefIdeal.Read.val_main_v6 (F := Ideal) (m (c, main_arg0)) (m (c, main_arg1)), ?_, ?_⟩
  · exact (θ_run _ _ _).mono (fun r h c => ⟨(h c).1.trans (final m c), (h c).2⟩) (Cert.OutWeightIdeal.Value.run_blocks (F := Ideal) m g)
  · refine (θ_run _ _ _).mono (fun r h c => ⟨?_, (h c).2⟩) (Cert.OutWeightRefIdeal.Value.run (F := Ideal) m' g')
    rw [(h c).1, Cert.OutWeightRefIdeal.Read.val_main_v6_eq, (harg c).1, (harg c).2]

/-- The reference runs without fault and leaves its arguments unchanged; it has no semaphore. -/
theorem frame_reference : Cert.quiescent_OutWeightRefIdeal := fun m ρ _ =>
  (θ_run _ _ _).mono (fun r h => ⟨fun c => (h c).2, sem_eq_zero_of_no_sems (by decide) r.2⟩) (Cert.OutWeightRefIdeal.Value.run (F := Ideal) m ρ)

end Cert.Proof.OutWeight

end
-- ==== Proof.LatentInput.lean ====
/- The gradient of what enters the input projection of the latent attention. Two passes over the contracted axis add into an
   accumulator; the second writes it back. -/
module

public import proofs.«01_k».proof.Defs
public import proofs.«01_k».proof.Proof.Product
public import proofs.«01_k».proof.Proof.Gen.LatentInputIdeal.Value
public import proofs.«01_k».proof.Proof.Gen.LatentInputRefIdeal.Run
public import proofs.«01_k».proof.Proof.Gen.LatentInputRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.LatentInput

open Cert.LatentInputIdeal Cert.LatentInputIdeal.Gen Cert.Proof.Product
open Idealize.ShloMosaic Idealize.ShloMosaic.TcCoe Idealize.SL.Sem

variable (m : (ℓ : Loc nD τ sig) → Buf (Elt Ideal) ℓ) (c : Dev nD)

/-! ## What one point leaves -/

section
variable (i : grid0.Coords) (a0 : Memref sig .tc .vmem S1024x3072 .bf16) (h0 : a0.IsWhole) (a1 : Memref sig .tc .vmem S1024x3072 .bf16) (h1 : a1.IsWhole)
  (a2 : Memref sig .tc .vmem S1024x1024 .bf16) (h2 : a2.IsWhole) (a3 : Memref sig .tc .vmem S1024x1024 .f32) (h3 : a3.IsWhole)
  (x0 x1 : Vec Ideal S1024x3072 .bf16) (s : Vec Ideal S1024x1024 .f32)

/-- The first pass puts its product into the accumulator. -/
theorem first (c0 : cond0_0 i) (c1 : ¬cond0_1 i) (c2 : ¬cond0_2 i) : sout0_A_0 c i a0 h0 a1 h1 a2 h2 a3 h3 c0 c1 c2 x0 x1 = k0_pay2 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero zeros2]
  simp only [View.readAt_eq_ld, h0.read_unread, h1.read_unread, View.ld_unit_zero (S := S1024x3072) zeros2]

/-- The second adds its own and writes the accumulator back. -/
theorem last (c0 : ¬cond0_0 i) (c1 : cond0_1 i) (c2 : cond0_2 i) : out0_B_2 c i a0 h0 a1 h1 a2 h2 a3 h3 c0 c1 c2 x0 x1 s = k0_pay4 (k0_pay3 x0 x1 s) := by
  unfold out0_B_2
  rw [View.read_writes_eq_canon _ _ _ (cover0_B_2 c i a0 h0 a1 h1 a2 h2 a3 h3 c0 c1 c2 x0 x1 s)]
  unfold kernelRun0_B
  dsimp only
  sl_unfold_words
  rw [View.canon_unit_zero zeros2, View.readCov_unit_zero (S := S1024x1024) _ zeros2]
  simp only [View.readAt_eq_ld, h0.read_unread, h1.read_unread, h3.read_unread, View.ld_unit_zero (S := S1024x3072) zeros2, View.ld_unit_zero (S := S1024x1024) zeros2]

theorem pay2 (r d : Fin 1024) : elt (k0_pay2 x0 x1 (ix2 r d)) = ∑ k : Fin 3072, elt (x0 (ix2 r k)) * elt (x1 (ix2 d k)) := by
  pointwise [k0_pay2, k0_pay1]

theorem pay3 (r d : Fin 1024) : elt (k0_pay3 x0 x1 s (ix2 r d)) = elt (s (ix2 r d)) + ∑ k : Fin 3072, elt (x0 (ix2 r k)) * elt (x1 (ix2 d k)) := by
  pointwise [k0_pay3, k0_pay1]

theorem pay4 (r d : Fin 1024) : elt (k0_pay4 s (ix2 r d)) = elt (s (ix2 r d)) := by
  pointwise [k0_pay4]

end

/-! ## The blocks -/

theorem index0 : ∀ t : Fin cfg0.N, (cfg0.win 0).index t 0 = t.val / 8 ∧ (cfg0.win 0).index t 1 = t.val % 2 := by decide +kernel
theorem index1 : ∀ t : Fin cfg0.N, (cfg0.win 1).index t 0 = t.val / 2 % 4 ∧ (cfg0.win 1).index t 1 = t.val % 2 := by decide +kernel
theorem index2 : ∀ t : Fin cfg0.N, (cfg0.win 2).index t 0 = t.val / 8 ∧ (cfg0.win 2).index t 1 = t.val / 2 % 4 := by decide +kernel

theorem in_row (t : Fin cfg0.N) (r : Fin 1024) : t.val / 8 * 1024 + r.val < 4096 := by have : t.val < 32 := t.isLt; omega
theorem in_col (t : Fin cfg0.N) (d : Fin 1024) : t.val / 2 % 4 * 1024 + d.val < 4096 := by omega
theorem in_pass (t : Fin cfg0.N) (k : Fin 3072) : t.val % 2 * 3072 + k.val < 6144 := by omega

theorem place0 (t : Fin cfg0.N) (r : Fin 1024) (k : Fin 3072) :
    ((cfg0.win 0).blk t).view.emb (ix2 r k) = ix2 ⟨t.val / 8 * 1024 + r.val, in_row t r⟩ ⟨t.val % 2 * 3072 + k.val, in_pass t k⟩ := by
  blk_ext [index0 t]
theorem place1 (t : Fin cfg0.N) (d : Fin 1024) (k : Fin 3072) :
    ((cfg0.win 1).blk t).view.emb (ix2 d k) = ix2 ⟨t.val / 2 % 4 * 1024 + d.val, in_col t d⟩ ⟨t.val % 2 * 3072 + k.val, in_pass t k⟩ := by
  blk_ext [index1 t]
theorem place2 (t : Fin cfg0.N) (r d : Fin 1024) :
    ((cfg0.win 2).blk t).view.emb (ix2 r d) = ix2 ⟨t.val / 8 * 1024 + r.val, in_row t r⟩ ⟨t.val / 2 % 4 * 1024 + d.val, in_col t d⟩ := by
  blk_ext [index2 t]

theorem cut0 (t : Fin cfg0.N) (r : Fin 1024) (k : Fin 3072) (X : FVec Ideal S4096x6144 .bf16) :
    elt (((cfg0.win 0).blk t).view.read (Elt Ideal) X (ix2 r k)) = elt (X (ix2 ⟨t.val / 8 * 1024 + r.val, in_row t r⟩ ⟨t.val % 2 * 3072 + k.val, in_pass t k⟩)) := congrArg X (place0 t r k)
theorem cut1 (t : Fin cfg0.N) (d : Fin 1024) (k : Fin 3072) (X : FVec Ideal S4096x6144 .bf16) :
    elt (((cfg0.win 1).blk t).view.read (Elt Ideal) X (ix2 d k)) = elt (X (ix2 ⟨t.val / 2 % 4 * 1024 + d.val, in_col t d⟩ ⟨t.val % 2 * 3072 + k.val, in_pass t k⟩)) := congrArg X (place1 t d k)

/-! ## The accumulator -/

/-- The `k`-th product of an element of the result. -/
def term (x0 x1 : FVec Ideal S4096x6144 .bf16) (r d k : ℕ) : EReal := elt (x0 (ix2 (at' 4096 r) (at' 6144 k))) * elt (x1 (ix2 (at' 4096 d) (at' 6144 k)))

/-- A point's product is its share of the terms. -/
theorem share (t : Fin cfg0.N) (r d : Fin 1024) :
    ∑ k : Fin 3072, elt ((iblk m c 0 t : Vec Ideal S1024x3072 .bf16) (ix2 r k)) * elt ((iblk m c 1 t : Vec Ideal S1024x3072 .bf16) (ix2 d k))
      = ∑ k : Fin 3072, term (m (c, main_arg0)) (m (c, main_arg1)) (t.val / 8 * 1024 + r.val) (t.val / 2 % 4 * 1024 + d.val) (t.val % 2 * 3072 + k.val) := by
  refine Finset.sum_congr rfl fun k _ => (congrArg₂ (· * ·) (cut0 t r k (m (c, main_arg0))) (cut1 t d k (m (c, main_arg1)))).trans ?_
  rw [at_eq (in_row t r), at_eq (in_col t d), at_eq (in_pass t k)]
  rfl

/-- After the first of its two points the accumulator holds the first pass's terms. -/
theorem held (t : Fin cfg0.N) (hl : t.val % 2 = 0) (r d : Fin 1024) :
    elt ((outsAt0 m c t.val t.isLt).2 (ix2 r d))
      = ∑ k ∈ Finset.range ((0 + 1) * 3072), term (m (c, main_arg0)) (m (c, main_arg1)) (t.val / 8 * 1024 + r.val) (t.val / 2 % 4 * 1024 + d.val) k := by
  rw [outsAt0_A m c t hl (by omega) (by omega)]
  dsimp only
  rw [first, pay2, share, hl]
  exact sum_first 3072 _

/-- The second writes the whole sum back. -/
theorem stored (t : Fin cfg0.N) (hl : t.val % 2 = 1) (r d : Fin 1024) :
    elt ((outsAt0 m c t.val t.isLt).1 (ix2 r d))
      = ∑ k ∈ Finset.range 6144, term (m (c, main_arg0)) (m (c, main_arg1)) (t.val / 8 * 1024 + r.val) (t.val / 2 % 4 * 1024 + d.val) k := by
  rw [outsAt0_B m c t (by omega) hl hl]
  dsimp only
  rw [last, pay4, pay3, share]
  have before := held m c ⟨t.val - 1, Nat.lt_of_le_of_lt (Nat.sub_le _ _) t.isLt⟩ (by dsimp only; omega) r d
  dsimp only at before
  rw [show (t.val - 1) / 8 = t.val / 8 from by omega, show (t.val - 1) / 2 % 4 = t.val / 2 % 4 from by omega] at before
  rw [hl]
  exact (congrArg (· + _) before).trans (sum_next 1 3072 _)

/-- The reference's element. -/
theorem ref (x0 x1 : FVec Ideal S4096x6144 .bf16) (r d : Fin 4096) :
    elt (Cert.LatentInputRefIdeal.Read.val_main_v5 (F := Ideal) x0 x1 (ix2 r d)) = ∑ k : Fin 6144, elt (x0 (ix2 r k)) * elt (x1 (ix2 d k)) := by
  pointwise [Cert.LatentInputRefIdeal.Read.val_main_v5, Cert.LatentInputRefIdeal.Read.val_main_v4, Cert.LatentInputRefIdeal.Read.val_main_v1, Cert.LatentInputRefIdeal.Read.val_main_v0]

/-- What is written back is the reference's block. -/
theorem written (t : Fin cfg0.N) (hl : t.val % 2 = 1) (r d : Fin 1024) :
    elt ((outsAt0 m c t.val t.isLt).1 (ix2 r d))
      = elt (Cert.LatentInputRefIdeal.Read.val_main_v5 (F := Ideal) (m (c, main_arg0)) (m (c, main_arg1)) (((cfg0.win 2).blk t).view.emb (ix2 r d))) := by
  rw [place2]
  refine (stored m c t hl r d).trans (Eq.trans ?_ (ref _ _ _ _).symm)
  refine (Finset.sum_congr rfl fun k _ => ?_).trans (sum_at 6144 _).symm
  rw [at_eq (in_row t r), at_eq (in_col t d)]
  rfl

/-- The result is the reference's. -/
theorem final : (dats m 0 c).arrAt 2 (cfgs 0).N = Cert.LatentInputRefIdeal.Read.val_main_v5 (F := Ideal) (m (c, main_arg0)) (m (c, main_arg1)) := by
  refine (dats m 0 c).arrAt_eq_of_covers 2 _ (by decide +kernel) fun t hf y => ?_
  rw [after0_2]
  have hy : y = ix2 (y 0) (y 1) := pair_eq y
  rw [hy]
  exact written m c t ((flush0_2 t).mp hf) (y 0) (y 1)

/-- Kernel and reference end with equal results. -/
theorem algebraic : Cert.algebraic_LatentInputIdeal_LatentInputRefIdeal := by
  intro m g m' g' _ harg
  refine ⟨fun c => Cert.LatentInputRefIdeal.Read.val_main_v5 (F := Ideal) (m (c, main_arg0)) (m (c, main_arg1)), ?_, ?_⟩
  · exact (θ_run _ _ _).mono (fun r h c => ⟨(h c).1.trans (final m c), (h c).2⟩) (Cert.LatentInputIdeal.Value.run_blocks (F := Ideal) m g)
  · refine (θ_run _ _ _).mono (fun r h c => ⟨?_, (h c).2⟩) (Cert.LatentInputRefIdeal.Value.run (F := Ideal) m' g')
    rw [(h c).1, Cert.LatentInputRefIdeal.Read.val_main_v5_eq, (harg c).1, (harg c).2]

/-- The reference runs without fault and leaves its arguments unchanged; it has no semaphore. -/
theorem frame_reference : Cert.quiescent_LatentInputRefIdeal := fun m ρ _ =>
  (θ_run _ _ _).mono (fun r h => ⟨fun c => (h c).2, sem_eq_zero_of_no_sems (by decide) r.2⟩) (Cert.LatentInputRefIdeal.Value.run (F := Ideal) m ρ)

end Cert.Proof.LatentInput

end
-- ==== Proof.LatentWeight.lean ====
/- The gradient of the latent attention's input weight. -/
module

public import proofs.«01_k».proof.Defs
public import proofs.«01_k».proof.Proof.Product
public import proofs.«01_k».proof.Proof.Gen.LatentWeightIdeal.Value
public import proofs.«01_k».proof.Proof.Gen.LatentWeightRefIdeal.Run
public import proofs.«01_k».proof.Proof.Gen.LatentWeightRefIdeal.Read
public import Idealize.ShloMosaic.Lib.Pipeline.ValueKit
public import Idealize.ShloMosaic.Lib.Pointwise

@[expose] public section

set_option maxRecDepth 16384

noncomputable section

namespace Cert.Proof.LatentWeight

open Cert.LatentWeightIdeal Cert.LatentWeightIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = 0 ∧ (cfg0.win 0).index t 1 = t.val / 6 := by decide +kernel
theorem index1 : ∀ t : Fin cfg0.N, (cfg0.win 1).index t 0 = 0 ∧ (cfg0.win 1).index t 1 = t.val % 6 := by decide +kernel
theorem index2 : ∀ t : Fin cfg0.N, (cfg0.win 2).index t 0 = t.val / 6 ∧ (cfg0.win 2).index t 1 = t.val % 6 := by decide +kernel

theorem in_row (t : Fin cfg0.N) (r : Fin 1024) : t.val / 6 * 1024 + r.val < 4096 := by have : t.val < 24 := t.isLt; omega
theorem in_col (t : Fin cfg0.N) (r : Fin 1024) : t.val % 6 * 1024 + r.val < 6144 := by omega

theorem place0 (t : Fin cfg0.N) (k : Fin 4096) (r : Fin 1024) : ((cfg0.win 0).blk t).view.emb (ix2 k r) = ix2 k ⟨t.val / 6 * 1024 + r.val, in_row t r⟩ := by
  blk_ext [index0 t]
theorem place1 (t : Fin cfg0.N) (k : Fin 4096) (r : Fin 1024) : ((cfg0.win 1).blk t).view.emb (ix2 k r) = ix2 k ⟨t.val % 6 * 1024 + r.val, in_col t r⟩ := by
  blk_ext [index1 t]
theorem place2 (t : Fin cfg0.N) (r d : Fin 1024) : ((cfg0.win 2).blk t).view.emb (ix2 r d) = ix2 ⟨t.val / 6 * 1024 + r.val, in_row t r⟩ ⟨t.val % 6 * 1024 + d.val, in_col t d⟩ := by
  blk_ext [index2 t]

theorem cut0 (t : Fin cfg0.N) (k : Fin 4096) (r : Fin 1024) (X : FVec Ideal S4096x4096 .bf16) :
    elt (((cfg0.win 0).blk t).view.read (Elt Ideal) X (ix2 k r)) = elt (X (ix2 k ⟨t.val / 6 * 1024 + r.val, in_row t r⟩)) := congrArg X (place0 t k r)
theorem cut1 (t : Fin cfg0.N) (k : Fin 4096) (r : Fin 1024) (X : FVec Ideal S4096x6144 .bf16) :
    elt (((cfg0.win 1).blk t).view.read (Elt Ideal) X (ix2 k r)) = elt (X (ix2 k ⟨t.val % 6 * 1024 + r.val, in_col t r⟩)) := congrArg X (place1 t k r)

/-- What a point stores. -/
theorem stored (x0 x1 : Vec Ideal S4096x1024 .bf16) : out0_2 x0 x1 = k0_pay1 x0 x1 := by
  unfold out0_2
  rw [View.canon_unit_zero zeros2]
  simp only [View.ld_unit_zero (S := S4096x1024) zeros2]

theorem pay (x0 x1 : Vec Ideal S4096x1024 .bf16) (r d : Fin 1024) : elt (k0_pay1 x0 x1 (ix2 r d)) = ∑ k : Fin 4096, elt (x0 (ix2 k r)) * elt (x1 (ix2 k d)) := by
  pointwise [k0_pay1]

/-- The reference's element. -/
theorem ref (x0 : FVec Ideal S4096x4096 .bf16) (x1 : FVec Ideal S4096x6144 .bf16) (r : Fin 4096) (d : Fin 6144) :
    elt (Cert.LatentWeightRefIdeal.Read.val_main_v5 (F := Ideal) x0 x1 (ix2 r d)) = ∑ k : Fin 4096, elt (x0 (ix2 k r)) * elt (x1 (ix2 k d)) := by
  pointwise [Cert.LatentWeightRefIdeal.Read.val_main_v5, Cert.LatentWeightRefIdeal.Read.val_main_v4, Cert.LatentWeightRefIdeal.Read.val_main_v1, Cert.LatentWeightRefIdeal.Read.val_main_v0]
  exact Finset.sum_congr rfl fun k _ => mul_comm _ _

/-- What a point writes back is the reference's block. -/
theorem written (t : Fin cfg0.N) (r d : Fin 1024) :
    elt (k0_pay1 (iblk m c 0 t) (iblk m c 1 t) (ix2 r d))
      = elt (Cert.LatentWeightRefIdeal.Read.val_main_v5 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t k r (m (c, main_arg0))) (cut1 t k d (m (c, main_arg1)))

/-- The result is the reference's. -/
theorem final : (dats m 0 c).arrAt 2 (cfgs 0).N = Cert.LatentWeightRefIdeal.Read.val_main_v5 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_LatentWeightIdeal_LatentWeightRefIdeal := by
  intro m g m' g' _ harg
  refine ⟨fun c => Cert.LatentWeightRefIdeal.Read.val_main_v5 (F := Ideal) (m (c, main_arg0)) (m (c, main_arg1)), ?_, ?_⟩
  · exact (θ_run _ _ _).mono (fun r h c => ⟨(h c).1.trans (final m c), (h c).2⟩) (Cert.LatentWeightIdeal.Value.run_blocks (F := Ideal) m g)
  · refine (θ_run _ _ _).mono (fun r h c => ⟨?_, (h c).2⟩) (Cert.LatentWeightRefIdeal.Value.run (F := Ideal) m' g')
    rw [(h c).1, Cert.LatentWeightRefIdeal.Read.val_main_v5_eq, (harg c).1, (harg c).2]

/-- The reference runs without fault and leaves its arguments unchanged; it has no semaphore. -/
theorem frame_reference : Cert.quiescent_LatentWeightRefIdeal := fun m ρ _ =>
  (θ_run _ _ _).mono (fun r h => ⟨fun c => (h c).2, sem_eq_zero_of_no_sems (by decide) r.2⟩) (Cert.LatentWeightRefIdeal.Value.run (F := Ideal) m ρ)

end Cert.Proof.LatentWeight

end
-- ==== Proof.LatentProject.lean ====
/- The input projection of the latent attention. -/
module

public import proofs.«01_k».proof.Defs
public import proofs.«01_k».proof.Proof.Product
public import proofs.«01_k».proof.Proof.Gen.LatentProjectIdeal.Value
public import proofs.«01_k».proof.Proof.Gen.LatentProjectRefIdeal.Run
public import proofs.«01_k».proof.Proof.Gen.LatentProjectRefIdeal.Read
public import Idealize.ShloMosaic.Lib.Pipeline.ValueKit
public import Idealize.ShloMosaic.Lib.Pointwise

@[expose] public section

set_option maxRecDepth 16384

noncomputable section

namespace Cert.Proof.LatentProject

open Cert.LatentProjectIdeal Cert.LatentProjectIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val / 6 ∧ (cfg0.win 0).index t 1 = 0 := by decide +kernel
theorem index1 : ∀ t : Fin cfg0.N, (cfg0.win 1).index t 0 = 0 ∧ (cfg0.win 1).index t 1 = t.val % 6 := by decide +kernel
theorem index2 : ∀ t : Fin cfg0.N, (cfg0.win 2).index t 0 = t.val / 6 ∧ (cfg0.win 2).index t 1 = t.val % 6 := by decide +kernel

theorem in_row (t : Fin cfg0.N) (r : Fin 1024) : t.val / 6 * 1024 + r.val < 4096 := by have : t.val < 24 := t.isLt; omega
theorem in_col (t : Fin cfg0.N) (r : Fin 1024) : t.val % 6 * 1024 + r.val < 6144 := by omega

theorem place0 (t : Fin cfg0.N) (r : Fin 1024) (k : Fin 4096) : ((cfg0.win 0).blk t).view.emb (ix2 r k) = ix2 ⟨t.val / 6 * 1024 + r.val, in_row t r⟩ k := by
  blk_ext [index0 t]
theorem place1 (t : Fin cfg0.N) (k : Fin 4096) (r : Fin 1024) : ((cfg0.win 1).blk t).view.emb (ix2 k r) = ix2 k ⟨t.val % 6 * 1024 + r.val, in_col t r⟩ := by
  blk_ext [index1 t]
theorem place2 (t : Fin cfg0.N) (r d : Fin 1024) : ((cfg0.win 2).blk t).view.emb (ix2 r d) = ix2 ⟨t.val / 6 * 1024 + r.val, in_row t r⟩ ⟨t.val % 6 * 1024 + d.val, in_col t d⟩ := by
  blk_ext [index2 t]

theorem cut0 (t : Fin cfg0.N) (r : Fin 1024) (k : Fin 4096) (X : FVec Ideal S4096x4096 .bf16) :
    elt (((cfg0.win 0).blk t).view.read (Elt Ideal) X (ix2 r k)) = elt (X (ix2 ⟨t.val / 6 * 1024 + r.val, in_row t r⟩ k)) := congrArg X (place0 t r k)
theorem cut1 (t : Fin cfg0.N) (k : Fin 4096) (r : Fin 1024) (X : FVec Ideal S4096x6144 .bf16) :
    elt (((cfg0.win 1).blk t).view.read (Elt Ideal) X (ix2 k r)) = elt (X (ix2 k ⟨t.val % 6 * 1024 + r.val, in_col t r⟩)) := congrArg X (place1 t k r)

/-- What a point stores. -/
theorem stored (x0 : Vec Ideal S1024x4096 .bf16) (x1 : Vec Ideal S4096x1024 .bf16) : out0_2 x0 x1 = k0_pay1 x0 x1 := by
  unfold out0_2
  rw [View.canon_unit_zero zeros2]
  simp only [View.ld_unit_zero (S := S1024x4096) zeros2, View.ld_unit_zero (S := S4096x1024) zeros2]

theorem pay (x0 : Vec Ideal S1024x4096 .bf16) (x1 : Vec Ideal S4096x1024 .bf16) (r d : Fin 1024) : elt (k0_pay1 x0 x1 (ix2 r d)) = ∑ k : Fin 4096, elt (x0 (ix2 r k)) * elt (x1 (ix2 k d)) := by
  pointwise [k0_pay1]

/-- The reference's element. -/
theorem ref (x0 : FVec Ideal S4096x4096 .bf16) (x1 : FVec Ideal S4096x6144 .bf16) (r : Fin 4096) (d : Fin 6144) :
    elt (Cert.LatentProjectRefIdeal.Read.val_main_v3 (F := Ideal) x0 x1 (ix2 r d)) = ∑ k : Fin 4096, elt (x0 (ix2 r k)) * elt (x1 (ix2 k d)) := by
  pointwise [Cert.LatentProjectRefIdeal.Read.val_main_v3, Cert.LatentProjectRefIdeal.Read.val_main_v2, Cert.LatentProjectRefIdeal.Read.val_main_v1, Cert.LatentProjectRefIdeal.Read.val_main_v0]

/-- What a point writes back is the reference's block. -/
theorem written (t : Fin cfg0.N) (r d : Fin 1024) :
    elt (k0_pay1 (iblk m c 0 t) (iblk m c 1 t) (ix2 r d))
      = elt (Cert.LatentProjectRefIdeal.Read.val_main_v3 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t k d (m (c, main_arg1)))

/-- The result is the reference's. -/
theorem final : (dats m 0 c).arrAt 2 (cfgs 0).N = Cert.LatentProjectRefIdeal.Read.val_main_v3 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_LatentProjectIdeal_LatentProjectRefIdeal := by
  intro m g m' g' _ harg
  refine ⟨fun c => Cert.LatentProjectRefIdeal.Read.val_main_v3 (F := Ideal) (m (c, main_arg0)) (m (c, main_arg1)), ?_, ?_⟩
  · exact (θ_run _ _ _).mono (fun r h c => ⟨(h c).1.trans (final m c), (h c).2⟩) (Cert.LatentProjectIdeal.Value.run_blocks (F := Ideal) m g)
  · refine (θ_run _ _ _).mono (fun r h c => ⟨?_, (h c).2⟩) (Cert.LatentProjectRefIdeal.Value.run (F := Ideal) m' g')
    rw [(h c).1, Cert.LatentProjectRefIdeal.Read.val_main_v3_eq, (harg c).1, (harg c).2]

/-- The reference runs without fault and leaves its arguments unchanged; it has no semaphore. -/
theorem frame_reference : Cert.quiescent_LatentProjectRefIdeal := fun m ρ _ =>
  (θ_run _ _ _).mono (fun r h => ⟨fun c => (h c).2, sem_eq_zero_of_no_sems (by decide) r.2⟩) (Cert.LatentProjectRefIdeal.Value.run (F := Ideal) m ρ)

end Cert.Proof.LatentProject

end
-- ==== Proof.ScProject.lean ====
/- The input projection of the short convolution. -/
module

public import proofs.«01_k».proof.Defs
public import proofs.«01_k».proof.Proof.Product
public import proofs.«01_k».proof.Proof.Gen.ScProjectIdeal.Value
public import proofs.«01_k».proof.Proof.Gen.ScProjectRefIdeal.Run
public import proofs.«01_k».proof.Proof.Gen.ScProjectRefIdeal.Read
public import Idealize.ShloMosaic.Lib.Pipeline.ValueKit
public import Idealize.ShloMosaic.Lib.Pointwise

@[expose] public section

set_option maxRecDepth 16384

noncomputable section

namespace Cert.Proof.ScProject

open Cert.ScProjectIdeal Cert.ScProjectIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val / 16 ∧ (cfg0.win 0).index t 1 = 0 := by decide +kernel
theorem index1 : ∀ t : Fin cfg0.N, (cfg0.win 1).index t 0 = 0 ∧ (cfg0.win 1).index t 1 = t.val % 16 := by decide +kernel
theorem index2 : ∀ t : Fin cfg0.N, (cfg0.win 2).index t 0 = t.val / 16 ∧ (cfg0.win 2).index t 1 = t.val % 16 := by decide +kernel

theorem in_row (t : Fin cfg0.N) (r : Fin 1024) : t.val / 16 * 1024 + r.val < 4096 := by have : t.val < 64 := t.isLt; omega
theorem in_col (t : Fin cfg0.N) (r : Fin 1024) : t.val % 16 * 1024 + r.val < 16384 := by omega

theorem place0 (t : Fin cfg0.N) (r : Fin 1024) (k : Fin 4096) : ((cfg0.win 0).blk t).view.emb (ix2 r k) = ix2 ⟨t.val / 16 * 1024 + r.val, in_row t r⟩ k := by
  blk_ext [index0 t]
theorem place1 (t : Fin cfg0.N) (k : Fin 4096) (r : Fin 1024) : ((cfg0.win 1).blk t).view.emb (ix2 k r) = ix2 k ⟨t.val % 16 * 1024 + r.val, in_col t r⟩ := by
  blk_ext [index1 t]
theorem place2 (t : Fin cfg0.N) (r d : Fin 1024) : ((cfg0.win 2).blk t).view.emb (ix2 r d) = ix2 ⟨t.val / 16 * 1024 + r.val, in_row t r⟩ ⟨t.val % 16 * 1024 + d.val, in_col t d⟩ := by
  blk_ext [index2 t]

theorem cut0 (t : Fin cfg0.N) (r : Fin 1024) (k : Fin 4096) (X : FVec Ideal S4096x4096 .bf16) :
    elt (((cfg0.win 0).blk t).view.read (Elt Ideal) X (ix2 r k)) = elt (X (ix2 ⟨t.val / 16 * 1024 + r.val, in_row t r⟩ k)) := congrArg X (place0 t r k)
theorem cut1 (t : Fin cfg0.N) (k : Fin 4096) (r : Fin 1024) (X : FVec Ideal S4096x16384 .bf16) :
    elt (((cfg0.win 1).blk t).view.read (Elt Ideal) X (ix2 k r)) = elt (X (ix2 k ⟨t.val % 16 * 1024 + r.val, in_col t r⟩)) := congrArg X (place1 t k r)

/-- What a point stores. -/
theorem stored (x0 : Vec Ideal S1024x4096 .bf16) (x1 : Vec Ideal S4096x1024 .bf16) : out0_2 x0 x1 = k0_pay1 x0 x1 := by
  unfold out0_2
  rw [View.canon_unit_zero zeros2]
  simp only [View.ld_unit_zero (S := S1024x4096) zeros2, View.ld_unit_zero (S := S4096x1024) zeros2]

theorem pay (x0 : Vec Ideal S1024x4096 .bf16) (x1 : Vec Ideal S4096x1024 .bf16) (r d : Fin 1024) : elt (k0_pay1 x0 x1 (ix2 r d)) = ∑ k : Fin 4096, elt (x0 (ix2 r k)) * elt (x1 (ix2 k d)) := by
  pointwise [k0_pay1]

/-- The reference's element. -/
theorem ref (x0 : FVec Ideal S4096x4096 .bf16) (x1 : FVec Ideal S4096x16384 .bf16) (r : Fin 4096) (d : Fin 16384) :
    elt (Cert.ScProjectRefIdeal.Read.val_main_v3 (F := Ideal) x0 x1 (ix2 r d)) = ∑ k : Fin 4096, elt (x0 (ix2 r k)) * elt (x1 (ix2 k d)) := by
  pointwise [Cert.ScProjectRefIdeal.Read.val_main_v3, Cert.ScProjectRefIdeal.Read.val_main_v2, Cert.ScProjectRefIdeal.Read.val_main_v1, Cert.ScProjectRefIdeal.Read.val_main_v0]

/-- What a point writes back is the reference's block. -/
theorem written (t : Fin cfg0.N) (r d : Fin 1024) :
    elt (k0_pay1 (iblk m c 0 t) (iblk m c 1 t) (ix2 r d))
      = elt (Cert.ScProjectRefIdeal.Read.val_main_v3 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t k d (m (c, main_arg1)))

/-- The result is the reference's. -/
theorem final : (dats m 0 c).arrAt 2 (cfgs 0).N = Cert.ScProjectRefIdeal.Read.val_main_v3 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_ScProjectIdeal_ScProjectRefIdeal := by
  intro m g m' g' _ harg
  refine ⟨fun c => Cert.ScProjectRefIdeal.Read.val_main_v3 (F := Ideal) (m (c, main_arg0)) (m (c, main_arg1)), ?_, ?_⟩
  · exact (θ_run _ _ _).mono (fun r h c => ⟨(h c).1.trans (final m c), (h c).2⟩) (Cert.ScProjectIdeal.Value.run_blocks (F := Ideal) m g)
  · refine (θ_run _ _ _).mono (fun r h c => ⟨?_, (h c).2⟩) (Cert.ScProjectRefIdeal.Value.run (F := Ideal) m' g')
    rw [(h c).1, Cert.ScProjectRefIdeal.Read.val_main_v3_eq, (harg c).1, (harg c).2]

/-- The reference runs without fault and leaves its arguments unchanged; it has no semaphore. -/
theorem frame_reference : Cert.quiescent_ScProjectRefIdeal := fun m ρ _ =>
  (θ_run _ _ _).mono (fun r h => ⟨fun c => (h c).2, sem_eq_zero_of_no_sems (by decide) r.2⟩) (Cert.ScProjectRefIdeal.Value.run (F := Ideal) m ρ)

end Cert.Proof.ScProject

end
-- ==== Proof.WideProject.lean ====
/- The input projection of the gated unit or of the conformer convolution. -/
module

public import proofs.«01_k».proof.Defs
public import proofs.«01_k».proof.Proof.Product
public import proofs.«01_k».proof.Proof.Gen.WideProjectIdeal.Value
public import proofs.«01_k».proof.Proof.Gen.WideProjectRefIdeal.Run
public import proofs.«01_k».proof.Proof.Gen.WideProjectRefIdeal.Read
public import Idealize.ShloMosaic.Lib.Pipeline.ValueKit
public import Idealize.ShloMosaic.Lib.Pointwise

@[expose] public section

set_option maxRecDepth 16384

noncomputable section

namespace Cert.Proof.WideProject

open Cert.WideProjectIdeal Cert.WideProjectIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val / 12 ∧ (cfg0.win 0).index t 1 = 0 := by decide +kernel
theorem index1 : ∀ t : Fin cfg0.N, (cfg0.win 1).index t 0 = 0 ∧ (cfg0.win 1).index t 1 = t.val % 12 := by decide +kernel
theorem index2 : ∀ t : Fin cfg0.N, (cfg0.win 2).index t 0 = t.val / 12 ∧ (cfg0.win 2).index t 1 = t.val % 12 := by decide +kernel

theorem in_row (t : Fin cfg0.N) (r : Fin 1024) : t.val / 12 * 1024 + r.val < 4096 := by have : t.val < 48 := t.isLt; omega
theorem in_col (t : Fin cfg0.N) (r : Fin 1024) : t.val % 12 * 1024 + r.val < 12288 := by omega

theorem place0 (t : Fin cfg0.N) (r : Fin 1024) (k : Fin 4096) : ((cfg0.win 0).blk t).view.emb (ix2 r k) = ix2 ⟨t.val / 12 * 1024 + r.val, in_row t r⟩ k := by
  blk_ext [index0 t]
theorem place1 (t : Fin cfg0.N) (k : Fin 4096) (r : Fin 1024) : ((cfg0.win 1).blk t).view.emb (ix2 k r) = ix2 k ⟨t.val % 12 * 1024 + r.val, in_col t r⟩ := by
  blk_ext [index1 t]
theorem place2 (t : Fin cfg0.N) (r d : Fin 1024) : ((cfg0.win 2).blk t).view.emb (ix2 r d) = ix2 ⟨t.val / 12 * 1024 + r.val, in_row t r⟩ ⟨t.val % 12 * 1024 + d.val, in_col t d⟩ := by
  blk_ext [index2 t]

theorem cut0 (t : Fin cfg0.N) (r : Fin 1024) (k : Fin 4096) (X : FVec Ideal S4096x4096 .bf16) :
    elt (((cfg0.win 0).blk t).view.read (Elt Ideal) X (ix2 r k)) = elt (X (ix2 ⟨t.val / 12 * 1024 + r.val, in_row t r⟩ k)) := congrArg X (place0 t r k)
theorem cut1 (t : Fin cfg0.N) (k : Fin 4096) (r : Fin 1024) (X : FVec Ideal S4096x12288 .bf16) :
    elt (((cfg0.win 1).blk t).view.read (Elt Ideal) X (ix2 k r)) = elt (X (ix2 k ⟨t.val % 12 * 1024 + r.val, in_col t r⟩)) := congrArg X (place1 t k r)

/-- What a point stores. -/
theorem stored (x0 : Vec Ideal S1024x4096 .bf16) (x1 : Vec Ideal S4096x1024 .bf16) : out0_2 x0 x1 = k0_pay1 x0 x1 := by
  unfold out0_2
  rw [View.canon_unit_zero zeros2]
  simp only [View.ld_unit_zero (S := S1024x4096) zeros2, View.ld_unit_zero (S := S4096x1024) zeros2]

theorem pay (x0 : Vec Ideal S1024x4096 .bf16) (x1 : Vec Ideal S4096x1024 .bf16) (r d : Fin 1024) : elt (k0_pay1 x0 x1 (ix2 r d)) = ∑ k : Fin 4096, elt (x0 (ix2 r k)) * elt (x1 (ix2 k d)) := by
  pointwise [k0_pay1]

/-- The reference's element. -/
theorem ref (x0 : FVec Ideal S4096x4096 .bf16) (x1 : FVec Ideal S4096x12288 .bf16) (r : Fin 4096) (d : Fin 12288) :
    elt (Cert.WideProjectRefIdeal.Read.val_main_v3 (F := Ideal) x0 x1 (ix2 r d)) = ∑ k : Fin 4096, elt (x0 (ix2 r k)) * elt (x1 (ix2 k d)) := by
  pointwise [Cert.WideProjectRefIdeal.Read.val_main_v3, Cert.WideProjectRefIdeal.Read.val_main_v2, Cert.WideProjectRefIdeal.Read.val_main_v1, Cert.WideProjectRefIdeal.Read.val_main_v0]

/-- What a point writes back is the reference's block. -/
theorem written (t : Fin cfg0.N) (r d : Fin 1024) :
    elt (k0_pay1 (iblk m c 0 t) (iblk m c 1 t) (ix2 r d))
      = elt (Cert.WideProjectRefIdeal.Read.val_main_v3 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t k d (m (c, main_arg1)))

/-- The result is the reference's. -/
theorem final : (dats m 0 c).arrAt 2 (cfgs 0).N = Cert.WideProjectRefIdeal.Read.val_main_v3 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_WideProjectIdeal_WideProjectRefIdeal := by
  intro m g m' g' _ harg
  refine ⟨fun c => Cert.WideProjectRefIdeal.Read.val_main_v3 (F := Ideal) (m (c, main_arg0)) (m (c, main_arg1)), ?_, ?_⟩
  · exact (θ_run _ _ _).mono (fun r h c => ⟨(h c).1.trans (final m c), (h c).2⟩) (Cert.WideProjectIdeal.Value.run_blocks (F := Ideal) m g)
  · refine (θ_run _ _ _).mono (fun r h c => ⟨?_, (h c).2⟩) (Cert.WideProjectRefIdeal.Value.run (F := Ideal) m' g')
    rw [(h c).1, Cert.WideProjectRefIdeal.Read.val_main_v3_eq, (harg c).1, (harg c).2]

/-- The reference runs without fault and leaves its arguments unchanged; it has no semaphore. -/
theorem frame_reference : Cert.quiescent_WideProjectRefIdeal := fun m ρ _ =>
  (θ_run _ _ _).mono (fun r h => ⟨fun c => (h c).2, sem_eq_zero_of_no_sems (by decide) r.2⟩) (Cert.WideProjectRefIdeal.Value.run (F := Ideal) m ρ)

end Cert.Proof.WideProject

end
-- ==== Proof.OutProject.lean ====
/- A mixer's output projection: the blocked product is the reference's. -/
module

public import proofs.«01_k».proof.Defs
public import proofs.«01_k».proof.Proof.Product
public import proofs.«01_k».proof.Proof.Gen.OutProjectIdeal.Value
public import proofs.«01_k».proof.Proof.Gen.OutProjectRefIdeal.Run
public import proofs.«01_k».proof.Proof.Gen.OutProjectRefIdeal.Read
public import Idealize.ShloMosaic.Lib.Pipeline.ValueKit
public import Idealize.ShloMosaic.Lib.Pointwise

@[expose] public section

set_option maxRecDepth 16384

noncomputable section

namespace Cert.Proof.OutProject

open Cert.OutProjectIdeal Cert.OutProjectIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val / 4 ∧ (cfg0.win 0).index t 1 = 0 := by decide +kernel
theorem index1 : ∀ t : Fin cfg0.N, (cfg0.win 1).index t 0 = 0 ∧ (cfg0.win 1).index t 1 = t.val % 4 := by decide +kernel
theorem index2 : ∀ t : Fin cfg0.N, (cfg0.win 2).index t 0 = t.val / 4 ∧ (cfg0.win 2).index t 1 = t.val % 4 := by decide +kernel

theorem in_row (t : Fin cfg0.N) (r : Fin 1024) : t.val / 4 * 1024 + r.val < 4096 := by have : t.val < 16 := t.isLt; omega
theorem in_col (t : Fin cfg0.N) (r : Fin 1024) : t.val % 4 * 1024 + r.val < 4096 := by omega

theorem place0 (t : Fin cfg0.N) (r : Fin 1024) (k : Fin 4096) : ((cfg0.win 0).blk t).view.emb (ix2 r k) = ix2 ⟨t.val / 4 * 1024 + r.val, in_row t r⟩ k := by
  blk_ext [index0 t]
theorem place1 (t : Fin cfg0.N) (k : Fin 4096) (r : Fin 1024) : ((cfg0.win 1).blk t).view.emb (ix2 k r) = ix2 k ⟨t.val % 4 * 1024 + r.val, in_col t r⟩ := by
  blk_ext [index1 t]
theorem place2 (t : Fin cfg0.N) (r d : Fin 1024) : ((cfg0.win 2).blk t).view.emb (ix2 r d) = ix2 ⟨t.val / 4 * 1024 + r.val, in_row t r⟩ ⟨t.val % 4 * 1024 + d.val, in_col t d⟩ := by
  blk_ext [index2 t]

theorem cut0 (t : Fin cfg0.N) (r : Fin 1024) (k : Fin 4096) (X : FVec Ideal S4096x4096 .bf16) :
    elt (((cfg0.win 0).blk t).view.read (Elt Ideal) X (ix2 r k)) = elt (X (ix2 ⟨t.val / 4 * 1024 + r.val, in_row t r⟩ k)) := congrArg X (place0 t r k)
theorem cut1 (t : Fin cfg0.N) (k : Fin 4096) (r : Fin 1024) (X : FVec Ideal S4096x4096 .bf16) :
    elt (((cfg0.win 1).blk t).view.read (Elt Ideal) X (ix2 k r)) = elt (X (ix2 k ⟨t.val % 4 * 1024 + r.val, in_col t r⟩)) := congrArg X (place1 t k r)

/-- What a point stores. -/
theorem stored (x0 : Vec Ideal S1024x4096 .bf16) (x1 : Vec Ideal S4096x1024 .bf16) : out0_2 x0 x1 = k0_pay1 x0 x1 := by
  unfold out0_2
  rw [View.canon_unit_zero zeros2]
  simp only [View.ld_unit_zero (S := S1024x4096) zeros2, View.ld_unit_zero (S := S4096x1024) zeros2]

theorem pay (x0 : Vec Ideal S1024x4096 .bf16) (x1 : Vec Ideal S4096x1024 .bf16) (r d : Fin 1024) : elt (k0_pay1 x0 x1 (ix2 r d)) = ∑ k : Fin 4096, elt (x0 (ix2 r k)) * elt (x1 (ix2 k d)) := by
  pointwise [k0_pay1]

/-- The reference's element. -/
theorem ref (x0 x1 : FVec Ideal S4096x4096 .bf16) (r d : Fin 4096) :
    elt (Cert.OutProjectRefIdeal.Read.val_main_v2 (F := Ideal) x0 x1 (ix2 r d)) = ∑ k : Fin 4096, elt (x0 (ix2 r k)) * elt (x1 (ix2 k d)) := by
  pointwise [Cert.OutProjectRefIdeal.Read.val_main_v2, Cert.OutProjectRefIdeal.Read.val_main_v1, Cert.OutProjectRefIdeal.Read.val_main_v0]

/-- What a point writes back is the reference's block. -/
theorem written (t : Fin cfg0.N) (r d : Fin 1024) :
    elt (k0_pay1 (iblk m c 0 t) (iblk m c 1 t) (ix2 r d))
      = elt (Cert.OutProjectRefIdeal.Read.val_main_v2 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t k d (m (c, main_arg1)))

/-- The result is the reference's. -/
theorem final : (dats m 0 c).arrAt 2 (cfgs 0).N = Cert.OutProjectRefIdeal.Read.val_main_v2 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_OutProjectIdeal_OutProjectRefIdeal := by
  intro m g m' g' _ harg
  refine ⟨fun c => Cert.OutProjectRefIdeal.Read.val_main_v2 (F := Ideal) (m (c, main_arg0)) (m (c, main_arg1)), ?_, ?_⟩
  · exact (θ_run _ _ _).mono (fun r h c => ⟨(h c).1.trans (final m c), (h c).2⟩) (Cert.OutProjectIdeal.Value.run_blocks (F := Ideal) m g)
  · refine (θ_run _ _ _).mono (fun r h c => ⟨?_, (h c).2⟩) (Cert.OutProjectRefIdeal.Value.run (F := Ideal) m' g')
    rw [(h c).1, Cert.OutProjectRefIdeal.Read.val_main_v2_eq, (harg c).1, (harg c).2]

/-- The reference runs without fault and leaves its arguments unchanged; it has no semaphore. -/
theorem frame_reference : Cert.quiescent_OutProjectRefIdeal := fun m ρ _ =>
  (θ_run _ _ _).mono (fun r h => ⟨fun c => (h c).2, sem_eq_zero_of_no_sems (by decide) r.2⟩) (Cert.OutProjectRefIdeal.Value.run (F := Ideal) m ρ)

end Cert.Proof.OutProject

end
-- ==== Proof.QueryInput.lean ====
/- The gradient of the latent through the queries' up-projection. Two passes over the contracted axis add into an
   accumulator; the second writes it back. -/
module

public import proofs.«01_k».proof.Defs
public import proofs.«01_k».proof.Proof.Product
public import proofs.«01_k».proof.Proof.Gen.QueryInputIdeal.Value
public import proofs.«01_k».proof.Proof.Gen.QueryInputRefIdeal.Run
public import proofs.«01_k».proof.Proof.Gen.QueryInputRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.QueryInput

open Cert.QueryInputIdeal Cert.QueryInputIdeal.Gen Cert.Proof.Product
open Idealize.ShloMosaic Idealize.ShloMosaic.TcCoe Idealize.SL.Sem

variable (m : (ℓ : Loc nD τ sig) → Buf (Elt Ideal) ℓ) (c : Dev nD)

/-! ## What one point leaves -/

section
variable (i : grid0.Coords) (a0 : Memref sig .tc .vmem S1024x4096 .bf16) (h0 : a0.IsWhole) (a1 : Memref sig .tc .vmem S1024x4096 .bf16) (h1 : a1.IsWhole)
  (a2 : Memref sig .tc .vmem S1024x1024 .f32) (h2 : a2.IsWhole) (a3 : Memref sig .tc .vmem S1024x1024 .f32) (h3 : a3.IsWhole)
  (x0 x1 : Vec Ideal S1024x4096 .bf16) (s : Vec Ideal S1024x1024 .f32)

/-- The first pass puts its product into the accumulator. -/
theorem first (c0 : cond0_0 i) (c1 : ¬cond0_1 i) (c2 : ¬cond0_2 i) : sout0_A_0 c i a0 h0 a1 h1 a2 h2 a3 h3 c0 c1 c2 x0 x1 = k0_pay2 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero zeros2]
  simp only [View.readAt_eq_ld, h0.read_unread, h1.read_unread, View.ld_unit_zero (S := S1024x4096) zeros2]

/-- The second adds its own and writes the accumulator back. -/
theorem last (c0 : ¬cond0_0 i) (c1 : cond0_1 i) (c2 : cond0_2 i) : out0_B_2 c i a0 h0 a1 h1 a2 h2 a3 h3 c0 c1 c2 x0 x1 s = k0_pay3 x0 x1 s := by
  unfold out0_B_2
  rw [View.read_writes_eq_canon _ _ _ (cover0_B_2 c i a0 h0 a1 h1 a2 h2 a3 h3 c0 c1 c2 x0 x1 s)]
  unfold kernelRun0_B
  dsimp only
  sl_unfold_words
  rw [View.canon_unit_zero zeros2, View.readCov_unit_zero (S := S1024x1024) _ zeros2]
  simp only [View.readAt_eq_ld, h0.read_unread, h1.read_unread, h3.read_unread, View.ld_unit_zero (S := S1024x4096) zeros2, View.ld_unit_zero (S := S1024x1024) zeros2]

theorem pay2 (r d : Fin 1024) : elt (k0_pay2 x0 x1 (ix2 r d)) = ∑ k : Fin 4096, elt (x0 (ix2 r k)) * elt (x1 (ix2 d k)) := by
  pointwise [k0_pay2, k0_pay1]

theorem pay3 (r d : Fin 1024) : elt (k0_pay3 x0 x1 s (ix2 r d)) = elt (s (ix2 r d)) + ∑ k : Fin 4096, elt (x0 (ix2 r k)) * elt (x1 (ix2 d k)) := by
  pointwise [k0_pay3, k0_pay1]

end

/-! ## The blocks -/

theorem index0 : ∀ t : Fin cfg0.N, (cfg0.win 0).index t 0 = t.val / 2 ∧ (cfg0.win 0).index t 1 = t.val % 2 := by decide +kernel
theorem index1 : ∀ t : Fin cfg0.N, (cfg0.win 1).index t 0 = 0 ∧ (cfg0.win 1).index t 1 = t.val % 2 := by decide +kernel
theorem index2 : ∀ t : Fin cfg0.N, (cfg0.win 2).index t 0 = t.val / 2 ∧ (cfg0.win 2).index t 1 = 0 := by decide +kernel

theorem in_row (t : Fin cfg0.N) (r : Fin 1024) : t.val / 2 * 1024 + r.val < 4096 := by have : t.val < 8 := t.isLt; omega
theorem in_pass (t : Fin cfg0.N) (k : Fin 4096) : t.val % 2 * 4096 + k.val < 8192 := by omega

theorem place0 (t : Fin cfg0.N) (r : Fin 1024) (k : Fin 4096) :
    ((cfg0.win 0).blk t).view.emb (ix2 r k) = ix2 ⟨t.val / 2 * 1024 + r.val, in_row t r⟩ ⟨t.val % 2 * 4096 + k.val, in_pass t k⟩ := by
  blk_ext [index0 t]
theorem place1 (t : Fin cfg0.N) (d : Fin 1024) (k : Fin 4096) :
    ((cfg0.win 1).blk t).view.emb (ix2 d k) = ix2 ⟨d.val, d.isLt⟩ ⟨t.val % 2 * 4096 + k.val, in_pass t k⟩ := by
  blk_ext [index1 t]
theorem place2 (t : Fin cfg0.N) (r d : Fin 1024) :
    ((cfg0.win 2).blk t).view.emb (ix2 r d) = ix2 ⟨t.val / 2 * 1024 + r.val, in_row t r⟩ ⟨d.val, d.isLt⟩ := by
  blk_ext [index2 t]

theorem cut0 (t : Fin cfg0.N) (r : Fin 1024) (k : Fin 4096) (X : FVec Ideal S4096x8192 .bf16) :
    elt (((cfg0.win 0).blk t).view.read (Elt Ideal) X (ix2 r k)) = elt (X (ix2 ⟨t.val / 2 * 1024 + r.val, in_row t r⟩ ⟨t.val % 2 * 4096 + k.val, in_pass t k⟩)) := congrArg X (place0 t r k)
theorem cut1 (t : Fin cfg0.N) (d : Fin 1024) (k : Fin 4096) (X : FVec Ideal S1024x8192 .bf16) :
    elt (((cfg0.win 1).blk t).view.read (Elt Ideal) X (ix2 d k)) = elt (X (ix2 ⟨d.val, d.isLt⟩ ⟨t.val % 2 * 4096 + k.val, in_pass t k⟩)) := congrArg X (place1 t d k)

/-! ## The accumulator -/

/-- The `k`-th product of an element of the result. -/
def term (x0 : FVec Ideal S4096x8192 .bf16) (x1 : FVec Ideal S1024x8192 .bf16) (r d k : ℕ) : EReal := elt (x0 (ix2 (at' 4096 r) (at' 8192 k))) * elt (x1 (ix2 (at' 1024 d) (at' 8192 k)))

/-- A point's product is its share of the terms. -/
theorem share (t : Fin cfg0.N) (r d : Fin 1024) :
    ∑ k : Fin 4096, elt ((iblk m c 0 t : Vec Ideal S1024x4096 .bf16) (ix2 r k)) * elt ((iblk m c 1 t : Vec Ideal S1024x4096 .bf16) (ix2 d k))
      = ∑ k : Fin 4096, term (m (c, main_arg0)) (m (c, main_arg1)) (t.val / 2 * 1024 + r.val) d.val (t.val % 2 * 4096 + k.val) := by
  refine Finset.sum_congr rfl fun k _ => (congrArg₂ (· * ·) (cut0 t r k (m (c, main_arg0))) (cut1 t d k (m (c, main_arg1)))).trans ?_
  rw [at_eq (in_row t r), at_eq d.isLt, at_eq (in_pass t k)]
  rfl

/-- After the first of its two points the accumulator holds the first pass's terms. -/
theorem held (t : Fin cfg0.N) (hl : t.val % 2 = 0) (r d : Fin 1024) :
    elt ((outsAt0 m c t.val t.isLt).2 (ix2 r d))
      = ∑ k ∈ Finset.range ((0 + 1) * 4096), term (m (c, main_arg0)) (m (c, main_arg1)) (t.val / 2 * 1024 + r.val) d.val k := by
  rw [outsAt0_A m c t hl (by omega) (by omega)]
  dsimp only
  rw [first, pay2, share, hl]
  exact sum_first 4096 _

/-- The second writes the whole sum back. -/
theorem stored (t : Fin cfg0.N) (hl : t.val % 2 = 1) (r d : Fin 1024) :
    elt ((outsAt0 m c t.val t.isLt).1 (ix2 r d))
      = ∑ k ∈ Finset.range 8192, term (m (c, main_arg0)) (m (c, main_arg1)) (t.val / 2 * 1024 + r.val) d.val k := by
  rw [outsAt0_B m c t (by omega) hl hl]
  dsimp only
  rw [last, pay3, share]
  have before := held m c ⟨t.val - 1, Nat.lt_of_le_of_lt (Nat.sub_le _ _) t.isLt⟩ (by dsimp only; omega) r d
  dsimp only at before
  rw [show (t.val - 1) / 2 = t.val / 2 from by omega] at before
  rw [hl]
  exact (congrArg (· + _) before).trans (sum_next 1 4096 _)

/-- The reference's element. -/
theorem ref (x0 : FVec Ideal S4096x8192 .bf16) (x1 : FVec Ideal S1024x8192 .bf16) (r : Fin 4096) (d : Fin 1024) :
    elt (Cert.QueryInputRefIdeal.Read.val_main_v4 (F := Ideal) x0 x1 (ix2 r d)) = ∑ k : Fin 8192, elt (x0 (ix2 r k)) * elt (x1 (ix2 d k)) := by
  pointwise [Cert.QueryInputRefIdeal.Read.val_main_v4, Cert.QueryInputRefIdeal.Read.val_main_v1, Cert.QueryInputRefIdeal.Read.val_main_v0]

/-- What is written back is the reference's block. -/
theorem written (t : Fin cfg0.N) (hl : t.val % 2 = 1) (r d : Fin 1024) :
    elt ((outsAt0 m c t.val t.isLt).1 (ix2 r d))
      = elt (Cert.QueryInputRefIdeal.Read.val_main_v4 (F := Ideal) (m (c, main_arg0)) (m (c, main_arg1)) (((cfg0.win 2).blk t).view.emb (ix2 r d))) := by
  rw [place2]
  refine (stored m c t hl r d).trans (Eq.trans ?_ (ref _ _ _ _).symm)
  refine (Finset.sum_congr rfl fun k _ => ?_).trans (sum_at 8192 _).symm
  rw [at_eq (in_row t r), at_eq d.isLt]
  rfl

/-- The result is the reference's. -/
theorem final : (dats m 0 c).arrAt 2 (cfgs 0).N = Cert.QueryInputRefIdeal.Read.val_main_v4 (F := Ideal) (m (c, main_arg0)) (m (c, main_arg1)) := by
  refine (dats m 0 c).arrAt_eq_of_covers 2 _ (by decide +kernel) fun t hf y => ?_
  rw [after0_2]
  have hy : y = ix2 (y 0) (y 1) := pair_eq y
  rw [hy]
  exact written m c t ((flush0_2 t).mp hf) (y 0) (y 1)

/-- Kernel and reference end with equal results. -/
theorem algebraic : Cert.algebraic_QueryInputIdeal_QueryInputRefIdeal := by
  intro m g m' g' _ harg
  refine ⟨fun c => Cert.QueryInputRefIdeal.Read.val_main_v4 (F := Ideal) (m (c, main_arg0)) (m (c, main_arg1)), ?_, ?_⟩
  · exact (θ_run _ _ _).mono (fun r h c => ⟨(h c).1.trans (final m c), (h c).2⟩) (Cert.QueryInputIdeal.Value.run_blocks (F := Ideal) m g)
  · refine (θ_run _ _ _).mono (fun r h c => ⟨?_, (h c).2⟩) (Cert.QueryInputRefIdeal.Value.run (F := Ideal) m' g')
    rw [(h c).1, Cert.QueryInputRefIdeal.Read.val_main_v4_eq, (harg c).1, (harg c).2]

/-- The reference runs without fault and leaves its arguments unchanged; it has no semaphore. -/
theorem frame_reference : Cert.quiescent_QueryInputRefIdeal := fun m ρ _ =>
  (θ_run _ _ _).mono (fun r h => ⟨fun c => (h c).2, sem_eq_zero_of_no_sems (by decide) r.2⟩) (Cert.QueryInputRefIdeal.Value.run (F := Ideal) m ρ)

end Cert.Proof.QueryInput

end
-- ==== Proof.KeyInput.lean ====
/- The gradient of the latent through the keys' up-projection. Two passes over the contracted axis add into an
   accumulator; the second writes it back. -/
module

public import proofs.«01_k».proof.Defs
public import proofs.«01_k».proof.Proof.Product
public import proofs.«01_k».proof.Proof.Gen.KeyInputIdeal.Value
public import proofs.«01_k».proof.Proof.Gen.KeyInputRefIdeal.Run
public import proofs.«01_k».proof.Proof.Gen.KeyInputRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Proof.KeyInput

open Cert.KeyInputIdeal Cert.KeyInputIdeal.Gen Cert.Proof.Product
open Idealize.ShloMosaic Idealize.ShloMosaic.TcCoe Idealize.SL.Sem

variable (m : (ℓ : Loc nD τ sig) → Buf (Elt Ideal) ℓ) (c : Dev nD)

/-! ## What one point leaves -/

section
variable (i : grid0.Coords) (a0 : Memref sig .tc .vmem S1024x4096 .bf16) (h0 : a0.IsWhole) (a1 : Memref sig .tc .vmem S512x4096 .bf16) (h1 : a1.IsWhole)
  (a2 : Memref sig .tc .vmem S1024x512 .f32) (h2 : a2.IsWhole) (a3 : Memref sig .tc .vmem S1024x512 .f32) (h3 : a3.IsWhole)
  (x0 : Vec Ideal S1024x4096 .bf16) (x1 : Vec Ideal S512x4096 .bf16) (s : Vec Ideal S1024x512 .f32)

/-- The first pass puts its product into the accumulator. -/
theorem first (c0 : cond0_0 i) (c1 : ¬cond0_1 i) (c2 : ¬cond0_2 i) : sout0_A_0 c i a0 h0 a1 h1 a2 h2 a3 h3 c0 c1 c2 x0 x1 = k0_pay2 x0 x1 := by
  unfold sout0_A_0
  rw [View.read_writes_eq_canon _ _ _ (scover0_A_0 c i a0 h0 a1 h1 a2 h2 a3 h3 c0 c1 c2 x0 x1)]
  unfold kernelRun0_A
  dsimp only
  sl_unfold_words
  rw [View.canon_unit_zero zeros2]
  simp only [View.readAt_eq_ld, h0.read_unread, h1.read_unread, View.ld_unit_zero (S := S1024x4096) zeros2, View.ld_unit_zero (S := S512x4096) zeros2]

/-- The second adds its own and writes the accumulator back. -/
theorem last (c0 : ¬cond0_0 i) (c1 : cond0_1 i) (c2 : cond0_2 i) : out0_B_2 c i a0 h0 a1 h1 a2 h2 a3 h3 c0 c1 c2 x0 x1 s = k0_pay3 x0 x1 s := by
  unfold out0_B_2
  rw [View.read_writes_eq_canon _ _ _ (cover0_B_2 c i a0 h0 a1 h1 a2 h2 a3 h3 c0 c1 c2 x0 x1 s)]
  unfold kernelRun0_B
  dsimp only
  sl_unfold_words
  rw [View.canon_unit_zero zeros2, View.readCov_unit_zero (S := S1024x512) _ zeros2]
  simp only [View.readAt_eq_ld, h0.read_unread, h1.read_unread, h3.read_unread, View.ld_unit_zero (S := S1024x4096) zeros2, View.ld_unit_zero (S := S512x4096) zeros2, View.ld_unit_zero (S := S1024x512) zeros2]

theorem pay2 (r : Fin 1024) (d : Fin 512) : elt (k0_pay2 x0 x1 (ix2 r d)) = ∑ k : Fin 4096, elt (x0 (ix2 r k)) * elt (x1 (ix2 d k)) := by
  pointwise [k0_pay2, k0_pay1]

theorem pay3 (r : Fin 1024) (d : Fin 512) : elt (k0_pay3 x0 x1 s (ix2 r d)) = elt (s (ix2 r d)) + ∑ k : Fin 4096, elt (x0 (ix2 r k)) * elt (x1 (ix2 d k)) := by
  pointwise [k0_pay3, k0_pay1]

end

/-! ## The blocks -/

theorem index0 : ∀ t : Fin cfg0.N, (cfg0.win 0).index t 0 = t.val / 2 ∧ (cfg0.win 0).index t 1 = t.val % 2 := by decide +kernel
theorem index1 : ∀ t : Fin cfg0.N, (cfg0.win 1).index t 0 = 0 ∧ (cfg0.win 1).index t 1 = t.val % 2 := by decide +kernel
theorem index2 : ∀ t : Fin cfg0.N, (cfg0.win 2).index t 0 = t.val / 2 ∧ (cfg0.win 2).index t 1 = 0 := by decide +kernel

theorem in_row (t : Fin cfg0.N) (r : Fin 1024) : t.val / 2 * 1024 + r.val < 4096 := by have : t.val < 8 := t.isLt; omega
theorem in_pass (t : Fin cfg0.N) (k : Fin 4096) : t.val % 2 * 4096 + k.val < 8192 := by omega

theorem place0 (t : Fin cfg0.N) (r : Fin 1024) (k : Fin 4096) :
    ((cfg0.win 0).blk t).view.emb (ix2 r k) = ix2 ⟨t.val / 2 * 1024 + r.val, in_row t r⟩ ⟨t.val % 2 * 4096 + k.val, in_pass t k⟩ := by
  blk_ext [index0 t]
theorem place1 (t : Fin cfg0.N) (d : Fin 512) (k : Fin 4096) :
    ((cfg0.win 1).blk t).view.emb (ix2 d k) = ix2 ⟨d.val, d.isLt⟩ ⟨t.val % 2 * 4096 + k.val, in_pass t k⟩ := by
  blk_ext [index1 t]
theorem place2 (t : Fin cfg0.N) (r : Fin 1024) (d : Fin 512) :
    ((cfg0.win 2).blk t).view.emb (ix2 r d) = ix2 ⟨t.val / 2 * 1024 + r.val, in_row t r⟩ ⟨d.val, d.isLt⟩ := by
  blk_ext [index2 t]

theorem cut0 (t : Fin cfg0.N) (r : Fin 1024) (k : Fin 4096) (X : FVec Ideal S4096x8192 .bf16) :
    elt (((cfg0.win 0).blk t).view.read (Elt Ideal) X (ix2 r k)) = elt (X (ix2 ⟨t.val / 2 * 1024 + r.val, in_row t r⟩ ⟨t.val % 2 * 4096 + k.val, in_pass t k⟩)) := congrArg X (place0 t r k)
theorem cut1 (t : Fin cfg0.N) (d : Fin 512) (k : Fin 4096) (X : FVec Ideal S512x8192 .bf16) :
    elt (((cfg0.win 1).blk t).view.read (Elt Ideal) X (ix2 d k)) = elt (X (ix2 ⟨d.val, d.isLt⟩ ⟨t.val % 2 * 4096 + k.val, in_pass t k⟩)) := congrArg X (place1 t d k)

/-! ## The accumulator -/

/-- The `k`-th product of an element of the result. -/
def term (x0 : FVec Ideal S4096x8192 .bf16) (x1 : FVec Ideal S512x8192 .bf16) (r d k : ℕ) : EReal := elt (x0 (ix2 (at' 4096 r) (at' 8192 k))) * elt (x1 (ix2 (at' 512 d) (at' 8192 k)))

/-- A point's product is its share of the terms. -/
theorem share (t : Fin cfg0.N) (r : Fin 1024) (d : Fin 512) :
    ∑ k : Fin 4096, elt ((iblk m c 0 t : Vec Ideal S1024x4096 .bf16) (ix2 r k)) * elt ((iblk m c 1 t : Vec Ideal S512x4096 .bf16) (ix2 d k))
      = ∑ k : Fin 4096, term (m (c, main_arg0)) (m (c, main_arg1)) (t.val / 2 * 1024 + r.val) d.val (t.val % 2 * 4096 + k.val) := by
  refine Finset.sum_congr rfl fun k _ => (congrArg₂ (· * ·) (cut0 t r k (m (c, main_arg0))) (cut1 t d k (m (c, main_arg1)))).trans ?_
  rw [at_eq (in_row t r), at_eq d.isLt, at_eq (in_pass t k)]
  rfl

/-- After the first of its two points the accumulator holds the first pass's terms. -/
theorem held (t : Fin cfg0.N) (hl : t.val % 2 = 0) (r : Fin 1024) (d : Fin 512) :
    elt ((outsAt0 m c t.val t.isLt).2 (ix2 r d))
      = ∑ k ∈ Finset.range ((0 + 1) * 4096), term (m (c, main_arg0)) (m (c, main_arg1)) (t.val / 2 * 1024 + r.val) d.val k := by
  rw [outsAt0_A m c t hl (by omega) (by omega)]
  dsimp only
  rw [first, pay2, share, hl]
  exact sum_first 4096 _

/-- The second writes the whole sum back. -/
theorem stored (t : Fin cfg0.N) (hl : t.val % 2 = 1) (r : Fin 1024) (d : Fin 512) :
    elt ((outsAt0 m c t.val t.isLt).1 (ix2 r d))
      = ∑ k ∈ Finset.range 8192, term (m (c, main_arg0)) (m (c, main_arg1)) (t.val / 2 * 1024 + r.val) d.val k := by
  rw [outsAt0_B m c t (by omega) hl hl]
  dsimp only
  rw [last, pay3, share]
  have before := held m c ⟨t.val - 1, Nat.lt_of_le_of_lt (Nat.sub_le _ _) t.isLt⟩ (by dsimp only; omega) r d
  dsimp only at before
  rw [show (t.val - 1) / 2 = t.val / 2 from by omega] at before
  rw [hl]
  exact (congrArg (· + _) before).trans (sum_next 1 4096 _)

/-- The reference's element. -/
theorem ref (x0 : FVec Ideal S4096x8192 .bf16) (x1 : FVec Ideal S512x8192 .bf16) (r : Fin 4096) (d : Fin 512) :
    elt (Cert.KeyInputRefIdeal.Read.val_main_v4 (F := Ideal) x0 x1 (ix2 r d)) = ∑ k : Fin 8192, elt (x0 (ix2 r k)) * elt (x1 (ix2 d k)) := by
  pointwise [Cert.KeyInputRefIdeal.Read.val_main_v4, Cert.KeyInputRefIdeal.Read.val_main_v1, Cert.KeyInputRefIdeal.Read.val_main_v0]

/-- What is written back is the reference's block. -/
theorem written (t : Fin cfg0.N) (hl : t.val % 2 = 1) (r : Fin 1024) (d : Fin 512) :
    elt ((outsAt0 m c t.val t.isLt).1 (ix2 r d))
      = elt (Cert.KeyInputRefIdeal.Read.val_main_v4 (F := Ideal) (m (c, main_arg0)) (m (c, main_arg1)) (((cfg0.win 2).blk t).view.emb (ix2 r d))) := by
  rw [place2]
  refine (stored m c t hl r d).trans (Eq.trans ?_ (ref _ _ _ _).symm)
  refine (Finset.sum_congr rfl fun k _ => ?_).trans (sum_at 8192 _).symm
  rw [at_eq (in_row t r), at_eq d.isLt]
  rfl

/-- The result is the reference's. -/
theorem final : (dats m 0 c).arrAt 2 (cfgs 0).N = Cert.KeyInputRefIdeal.Read.val_main_v4 (F := Ideal) (m (c, main_arg0)) (m (c, main_arg1)) := by
  refine (dats m 0 c).arrAt_eq_of_covers 2 _ (by decide +kernel) fun t hf y => ?_
  rw [after0_2]
  have hy : y = ix2 (y 0) (y 1) := pair_eq y
  rw [hy]
  exact written m c t ((flush0_2 t).mp hf) (y 0) (y 1)

/-- Kernel and reference end with equal results. -/
theorem algebraic : Cert.algebraic_KeyInputIdeal_KeyInputRefIdeal := by
  intro m g m' g' _ harg
  refine ⟨fun c => Cert.KeyInputRefIdeal.Read.val_main_v4 (F := Ideal) (m (c, main_arg0)) (m (c, main_arg1)), ?_, ?_⟩
  · exact (θ_run _ _ _).mono (fun r h c => ⟨(h c).1.trans (final m c), (h c).2⟩) (Cert.KeyInputIdeal.Value.run_blocks (F := Ideal) m g)
  · refine (θ_run _ _ _).mono (fun r h c => ⟨?_, (h c).2⟩) (Cert.KeyInputRefIdeal.Value.run (F := Ideal) m' g')
    rw [(h c).1, Cert.KeyInputRefIdeal.Read.val_main_v4_eq, (harg c).1, (harg c).2]

/-- The reference runs without fault and leaves its arguments unchanged; it has no semaphore. -/
theorem frame_reference : Cert.quiescent_KeyInputRefIdeal := fun m ρ _ =>
  (θ_run _ _ _).mono (fun r h => ⟨fun c => (h c).2, sem_eq_zero_of_no_sems (by decide) r.2⟩) (Cert.KeyInputRefIdeal.Value.run (F := Ideal) m ρ)

end Cert.Proof.KeyInput

end
-- ==== Proof.ValueInput.lean ====
/- The gradient of the latent through the values' up-projection. -/
module

public import proofs.«01_k».proof.Defs
public import proofs.«01_k».proof.Proof.Product
public import proofs.«01_k».proof.Proof.Gen.ValueInputIdeal.Value
public import proofs.«01_k».proof.Proof.Gen.ValueInputRefIdeal.Run
public import proofs.«01_k».proof.Proof.Gen.ValueInputRefIdeal.Read
public import Idealize.ShloMosaic.Lib.Pipeline.ValueKit
public import Idealize.ShloMosaic.Lib.Pointwise

@[expose] public section

set_option maxRecDepth 16384

noncomputable section

namespace Cert.Proof.ValueInput

open Cert.ValueInputIdeal Cert.ValueInputIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val ∧ (cfg0.win 0).index t 1 = 0 := by decide +kernel
theorem index1 : ∀ t : Fin cfg0.N, (cfg0.win 1).index t 0 = 0 ∧ (cfg0.win 1).index t 1 = 0 := by decide +kernel
theorem index2 : ∀ t : Fin cfg0.N, (cfg0.win 2).index t 0 = t.val ∧ (cfg0.win 2).index t 1 = 0 := by decide +kernel

theorem in_row (t : Fin cfg0.N) (r : Fin 1024) : t.val * 1024 + r.val < 4096 := by have : t.val < 4 := t.isLt; omega

theorem place0 (t : Fin cfg0.N) (r : Fin 1024) (k : Fin 4096) : ((cfg0.win 0).blk t).view.emb (ix2 r k) = ix2 ⟨t.val * 1024 + r.val, in_row t r⟩ k := by
  blk_ext [index0 t]
theorem place1 (t : Fin cfg0.N) (r : Fin 512) (k : Fin 4096) : ((cfg0.win 1).blk t).view.emb (ix2 r k) = ix2 r k := by
  blk_ext [index1 t]
theorem place2 (t : Fin cfg0.N) (r : Fin 1024) (d : Fin 512) : ((cfg0.win 2).blk t).view.emb (ix2 r d) = ix2 ⟨t.val * 1024 + r.val, in_row t r⟩ d := by
  blk_ext [index2 t]

theorem cut0 (t : Fin cfg0.N) (r : Fin 1024) (k : Fin 4096) (X : FVec Ideal S4096x4096 .bf16) :
    elt (((cfg0.win 0).blk t).view.read (Elt Ideal) X (ix2 r k)) = elt (X (ix2 ⟨t.val * 1024 + r.val, in_row t r⟩ k)) := congrArg X (place0 t r k)
theorem cut1 (t : Fin cfg0.N) (r : Fin 512) (k : Fin 4096) (X : FVec Ideal S512x4096 .bf16) :
    elt (((cfg0.win 1).blk t).view.read (Elt Ideal) X (ix2 r k)) = elt (X (ix2 r k)) := congrArg X (place1 t r k)

/-- What a point stores. -/
theorem stored (x0 : Vec Ideal S1024x4096 .bf16) (x1 : Vec Ideal S512x4096 .bf16) : out0_2 x0 x1 = k0_pay1 x0 x1 := by
  unfold out0_2
  rw [View.canon_unit_zero zeros2]
  simp only [View.ld_unit_zero (S := S1024x4096) zeros2, View.ld_unit_zero (S := S512x4096) zeros2]

theorem pay (x0 : Vec Ideal S1024x4096 .bf16) (x1 : Vec Ideal S512x4096 .bf16) (r : Fin 1024) (d : Fin 512) : elt (k0_pay1 x0 x1 (ix2 r d)) = ∑ k : Fin 4096, elt (x0 (ix2 r k)) * elt (x1 (ix2 d k)) := by
  pointwise [k0_pay1]

/-- The reference's element. -/
theorem ref (x0 : FVec Ideal S4096x4096 .bf16) (x1 : FVec Ideal S512x4096 .bf16) (r : Fin 4096) (d : Fin 512) :
    elt (Cert.ValueInputRefIdeal.Read.val_main_v4 (F := Ideal) x0 x1 (ix2 r d)) = ∑ k : Fin 4096, elt (x0 (ix2 r k)) * elt (x1 (ix2 d k)) := by
  pointwise [Cert.ValueInputRefIdeal.Read.val_main_v4, Cert.ValueInputRefIdeal.Read.val_main_v1, Cert.ValueInputRefIdeal.Read.val_main_v0]

/-- What a point writes back is the reference's block. -/
theorem written (t : Fin cfg0.N) (r : Fin 1024) (d : Fin 512) :
    elt (k0_pay1 (iblk m c 0 t) (iblk m c 1 t) (ix2 r d))
      = elt (Cert.ValueInputRefIdeal.Read.val_main_v4 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t d k (m (c, main_arg1)))

/-- The result is the reference's. -/
theorem final : (dats m 0 c).arrAt 2 (cfgs 0).N = Cert.ValueInputRefIdeal.Read.val_main_v4 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_ValueInputIdeal_ValueInputRefIdeal := by
  intro m g m' g' _ harg
  refine ⟨fun c => Cert.ValueInputRefIdeal.Read.val_main_v4 (F := Ideal) (m (c, main_arg0)) (m (c, main_arg1)), ?_, ?_⟩
  · exact (θ_run _ _ _).mono (fun r h c => ⟨(h c).1.trans (final m c), (h c).2⟩) (Cert.ValueInputIdeal.Value.run_blocks (F := Ideal) m g)
  · refine (θ_run _ _ _).mono (fun r h c => ⟨?_, (h c).2⟩) (Cert.ValueInputRefIdeal.Value.run (F := Ideal) m' g')
    rw [(h c).1, Cert.ValueInputRefIdeal.Read.val_main_v4_eq, (harg c).1, (harg c).2]

/-- The reference runs without fault and leaves its arguments unchanged; it has no semaphore. -/
theorem frame_reference : Cert.quiescent_ValueInputRefIdeal := fun m ρ _ =>
  (θ_run _ _ _).mono (fun r h => ⟨fun c => (h c).2, sem_eq_zero_of_no_sems (by decide) r.2⟩) (Cert.ValueInputRefIdeal.Value.run (F := Ideal) m ρ)

end Cert.Proof.ValueInput

end
-- ==== Proof.QueryWeight.lean ====
/- The gradient of the queries' up-projection's weight. -/
module

public import proofs.«01_k».proof.Defs
public import proofs.«01_k».proof.Proof.Product
public import proofs.«01_k».proof.Proof.Gen.QueryWeightIdeal.Value
public import proofs.«01_k».proof.Proof.Gen.QueryWeightRefIdeal.Run
public import proofs.«01_k».proof.Proof.Gen.QueryWeightRefIdeal.Read
public import Idealize.ShloMosaic.Lib.Pipeline.ValueKit
public import Idealize.ShloMosaic.Lib.Pointwise

@[expose] public section

set_option maxRecDepth 16384

noncomputable section

namespace Cert.Proof.QueryWeight

open Cert.QueryWeightIdeal Cert.QueryWeightIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = 0 ∧ (cfg0.win 0).index t 1 = 0 := by decide +kernel
theorem index1 : ∀ t : Fin cfg0.N, (cfg0.win 1).index t 0 = 0 ∧ (cfg0.win 1).index t 1 = t.val := by decide +kernel
theorem index2 : ∀ t : Fin cfg0.N, (cfg0.win 2).index t 0 = 0 ∧ (cfg0.win 2).index t 1 = t.val := by decide +kernel

theorem in_col (t : Fin cfg0.N) (r : Fin 1024) : t.val * 1024 + r.val < 8192 := by have : t.val < 8 := t.isLt; omega

theorem place0 (t : Fin cfg0.N) (k : Fin 4096) (r : Fin 1024) : ((cfg0.win 0).blk t).view.emb (ix2 k r) = ix2 k r := by
  blk_ext [index0 t]
theorem place1 (t : Fin cfg0.N) (k : Fin 4096) (r : Fin 1024) : ((cfg0.win 1).blk t).view.emb (ix2 k r) = ix2 k ⟨t.val * 1024 + r.val, in_col t r⟩ := by
  blk_ext [index1 t]
theorem place2 (t : Fin cfg0.N) (r d : Fin 1024) : ((cfg0.win 2).blk t).view.emb (ix2 r d) = ix2 r ⟨t.val * 1024 + d.val, in_col t d⟩ := by
  blk_ext [index2 t]

theorem cut0 (t : Fin cfg0.N) (k : Fin 4096) (r : Fin 1024) (X : FVec Ideal S4096x1024 .bf16) :
    elt (((cfg0.win 0).blk t).view.read (Elt Ideal) X (ix2 k r)) = elt (X (ix2 k r)) := congrArg X (place0 t k r)
theorem cut1 (t : Fin cfg0.N) (k : Fin 4096) (r : Fin 1024) (X : FVec Ideal S4096x8192 .bf16) :
    elt (((cfg0.win 1).blk t).view.read (Elt Ideal) X (ix2 k r)) = elt (X (ix2 k ⟨t.val * 1024 + r.val, in_col t r⟩)) := congrArg X (place1 t k r)

/-- What a point stores. -/
theorem stored (x0 x1 : Vec Ideal S4096x1024 .bf16) : out0_2 x0 x1 = k0_pay1 x0 x1 := by
  unfold out0_2
  rw [View.canon_unit_zero zeros2]
  simp only [View.ld_unit_zero (S := S4096x1024) zeros2]

theorem pay (x0 x1 : Vec Ideal S4096x1024 .bf16) (r d : Fin 1024) : elt (k0_pay1 x0 x1 (ix2 r d)) = ∑ k : Fin 4096, elt (x0 (ix2 k r)) * elt (x1 (ix2 k d)) := by
  pointwise [k0_pay1]

/-- The reference's element. -/
theorem ref (x0 : FVec Ideal S4096x1024 .bf16) (x1 : FVec Ideal S4096x8192 .bf16) (r : Fin 1024) (d : Fin 8192) :
    elt (Cert.QueryWeightRefIdeal.Read.val_main_v5 (F := Ideal) x0 x1 (ix2 r d)) = ∑ k : Fin 4096, elt (x0 (ix2 k r)) * elt (x1 (ix2 k d)) := by
  pointwise [Cert.QueryWeightRefIdeal.Read.val_main_v5, Cert.QueryWeightRefIdeal.Read.val_main_v4, Cert.QueryWeightRefIdeal.Read.val_main_v1, Cert.QueryWeightRefIdeal.Read.val_main_v0]
  exact Finset.sum_congr rfl fun k _ => mul_comm _ _

/-- What a point writes back is the reference's block. -/
theorem written (t : Fin cfg0.N) (r d : Fin 1024) :
    elt (k0_pay1 (iblk m c 0 t) (iblk m c 1 t) (ix2 r d))
      = elt (Cert.QueryWeightRefIdeal.Read.val_main_v5 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t k r (m (c, main_arg0))) (cut1 t k d (m (c, main_arg1)))

/-- The result is the reference's. -/
theorem final : (dats m 0 c).arrAt 2 (cfgs 0).N = Cert.QueryWeightRefIdeal.Read.val_main_v5 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_QueryWeightIdeal_QueryWeightRefIdeal := by
  intro m g m' g' _ harg
  refine ⟨fun c => Cert.QueryWeightRefIdeal.Read.val_main_v5 (F := Ideal) (m (c, main_arg0)) (m (c, main_arg1)), ?_, ?_⟩
  · exact (θ_run _ _ _).mono (fun r h c => ⟨(h c).1.trans (final m c), (h c).2⟩) (Cert.QueryWeightIdeal.Value.run_blocks (F := Ideal) m g)
  · refine (θ_run _ _ _).mono (fun r h c => ⟨?_, (h c).2⟩) (Cert.QueryWeightRefIdeal.Value.run (F := Ideal) m' g')
    rw [(h c).1, Cert.QueryWeightRefIdeal.Read.val_main_v5_eq, (harg c).1, (harg c).2]

/-- The reference runs without fault and leaves its arguments unchanged; it has no semaphore. -/
theorem frame_reference : Cert.quiescent_QueryWeightRefIdeal := fun m ρ _ =>
  (θ_run _ _ _).mono (fun r h => ⟨fun c => (h c).2, sem_eq_zero_of_no_sems (by decide) r.2⟩) (Cert.QueryWeightRefIdeal.Value.run (F := Ideal) m ρ)

end Cert.Proof.QueryWeight

end
-- ==== Proof.KeyWeight.lean ====
/- The gradient of the keys' up-projection's weight. -/
module

public import proofs.«01_k».proof.Defs
public import proofs.«01_k».proof.Proof.Product
public import proofs.«01_k».proof.Proof.Gen.KeyWeightIdeal.Value
public import proofs.«01_k».proof.Proof.Gen.KeyWeightRefIdeal.Run
public import proofs.«01_k».proof.Proof.Gen.KeyWeightRefIdeal.Read
public import Idealize.ShloMosaic.Lib.Pipeline.ValueKit
public import Idealize.ShloMosaic.Lib.Pointwise

@[expose] public section

set_option maxRecDepth 16384

noncomputable section

namespace Cert.Proof.KeyWeight

open Cert.KeyWeightIdeal Cert.KeyWeightIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = 0 ∧ (cfg0.win 0).index t 1 = 0 := by decide +kernel
theorem index1 : ∀ t : Fin cfg0.N, (cfg0.win 1).index t 0 = 0 ∧ (cfg0.win 1).index t 1 = t.val := by decide +kernel
theorem index2 : ∀ t : Fin cfg0.N, (cfg0.win 2).index t 0 = 0 ∧ (cfg0.win 2).index t 1 = t.val := by decide +kernel

theorem in_col (t : Fin cfg0.N) (r : Fin 1024) : t.val * 1024 + r.val < 8192 := by have : t.val < 8 := t.isLt; omega

theorem place0 (t : Fin cfg0.N) (k : Fin 4096) (r : Fin 512) : ((cfg0.win 0).blk t).view.emb (ix2 k r) = ix2 k r := by
  blk_ext [index0 t]
theorem place1 (t : Fin cfg0.N) (k : Fin 4096) (r : Fin 1024) : ((cfg0.win 1).blk t).view.emb (ix2 k r) = ix2 k ⟨t.val * 1024 + r.val, in_col t r⟩ := by
  blk_ext [index1 t]
theorem place2 (t : Fin cfg0.N) (r : Fin 512) (d : Fin 1024) : ((cfg0.win 2).blk t).view.emb (ix2 r d) = ix2 r ⟨t.val * 1024 + d.val, in_col t d⟩ := by
  blk_ext [index2 t]

theorem cut0 (t : Fin cfg0.N) (k : Fin 4096) (r : Fin 512) (X : FVec Ideal S4096x512 .bf16) :
    elt (((cfg0.win 0).blk t).view.read (Elt Ideal) X (ix2 k r)) = elt (X (ix2 k r)) := congrArg X (place0 t k r)
theorem cut1 (t : Fin cfg0.N) (k : Fin 4096) (r : Fin 1024) (X : FVec Ideal S4096x8192 .bf16) :
    elt (((cfg0.win 1).blk t).view.read (Elt Ideal) X (ix2 k r)) = elt (X (ix2 k ⟨t.val * 1024 + r.val, in_col t r⟩)) := congrArg X (place1 t k r)

/-- What a point stores. -/
theorem stored (x0 : Vec Ideal S4096x512 .bf16) (x1 : Vec Ideal S4096x1024 .bf16) : out0_2 x0 x1 = k0_pay1 x0 x1 := by
  unfold out0_2
  rw [View.canon_unit_zero zeros2]
  simp only [View.ld_unit_zero (S := S4096x512) zeros2, View.ld_unit_zero (S := S4096x1024) zeros2]

theorem pay (x0 : Vec Ideal S4096x512 .bf16) (x1 : Vec Ideal S4096x1024 .bf16) (r : Fin 512) (d : Fin 1024) : elt (k0_pay1 x0 x1 (ix2 r d)) = ∑ k : Fin 4096, elt (x0 (ix2 k r)) * elt (x1 (ix2 k d)) := by
  pointwise [k0_pay1]

/-- The reference's element. -/
theorem ref (x0 : FVec Ideal S4096x512 .bf16) (x1 : FVec Ideal S4096x8192 .bf16) (r : Fin 512) (d : Fin 8192) :
    elt (Cert.KeyWeightRefIdeal.Read.val_main_v5 (F := Ideal) x0 x1 (ix2 r d)) = ∑ k : Fin 4096, elt (x0 (ix2 k r)) * elt (x1 (ix2 k d)) := by
  pointwise [Cert.KeyWeightRefIdeal.Read.val_main_v5, Cert.KeyWeightRefIdeal.Read.val_main_v4, Cert.KeyWeightRefIdeal.Read.val_main_v1, Cert.KeyWeightRefIdeal.Read.val_main_v0]
  exact Finset.sum_congr rfl fun k _ => mul_comm _ _

/-- What a point writes back is the reference's block. -/
theorem written (t : Fin cfg0.N) (r : Fin 512) (d : Fin 1024) :
    elt (k0_pay1 (iblk m c 0 t) (iblk m c 1 t) (ix2 r d))
      = elt (Cert.KeyWeightRefIdeal.Read.val_main_v5 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t k r (m (c, main_arg0))) (cut1 t k d (m (c, main_arg1)))

/-- The result is the reference's. -/
theorem final : (dats m 0 c).arrAt 2 (cfgs 0).N = Cert.KeyWeightRefIdeal.Read.val_main_v5 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_KeyWeightIdeal_KeyWeightRefIdeal := by
  intro m g m' g' _ harg
  refine ⟨fun c => Cert.KeyWeightRefIdeal.Read.val_main_v5 (F := Ideal) (m (c, main_arg0)) (m (c, main_arg1)), ?_, ?_⟩
  · exact (θ_run _ _ _).mono (fun r h c => ⟨(h c).1.trans (final m c), (h c).2⟩) (Cert.KeyWeightIdeal.Value.run_blocks (F := Ideal) m g)
  · refine (θ_run _ _ _).mono (fun r h c => ⟨?_, (h c).2⟩) (Cert.KeyWeightRefIdeal.Value.run (F := Ideal) m' g')
    rw [(h c).1, Cert.KeyWeightRefIdeal.Read.val_main_v5_eq, (harg c).1, (harg c).2]

/-- The reference runs without fault and leaves its arguments unchanged; it has no semaphore. -/
theorem frame_reference : Cert.quiescent_KeyWeightRefIdeal := fun m ρ _ =>
  (θ_run _ _ _).mono (fun r h => ⟨fun c => (h c).2, sem_eq_zero_of_no_sems (by decide) r.2⟩) (Cert.KeyWeightRefIdeal.Value.run (F := Ideal) m ρ)

end Cert.Proof.KeyWeight

end
-- ==== Proof.ValueWeight.lean ====
/- The gradient of the values' up-projection's weight. -/
module

public import proofs.«01_k».proof.Defs
public import proofs.«01_k».proof.Proof.Product
public import proofs.«01_k».proof.Proof.Gen.ValueWeightIdeal.Value
public import proofs.«01_k».proof.Proof.Gen.ValueWeightRefIdeal.Run
public import proofs.«01_k».proof.Proof.Gen.ValueWeightRefIdeal.Read
public import Idealize.ShloMosaic.Lib.Pipeline.ValueKit
public import Idealize.ShloMosaic.Lib.Pointwise

@[expose] public section

set_option maxRecDepth 16384

noncomputable section

namespace Cert.Proof.ValueWeight

open Cert.ValueWeightIdeal Cert.ValueWeightIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = 0 ∧ (cfg0.win 0).index t 1 = 0 := by decide +kernel
theorem index1 : ∀ t : Fin cfg0.N, (cfg0.win 1).index t 0 = 0 ∧ (cfg0.win 1).index t 1 = t.val := by decide +kernel
theorem index2 : ∀ t : Fin cfg0.N, (cfg0.win 2).index t 0 = 0 ∧ (cfg0.win 2).index t 1 = t.val := by decide +kernel

theorem in_col (t : Fin cfg0.N) (r : Fin 1024) : t.val * 1024 + r.val < 4096 := by have : t.val < 4 := t.isLt; omega

theorem place0 (t : Fin cfg0.N) (k : Fin 4096) (r : Fin 512) : ((cfg0.win 0).blk t).view.emb (ix2 k r) = ix2 k r := by
  blk_ext [index0 t]
theorem place1 (t : Fin cfg0.N) (k : Fin 4096) (r : Fin 1024) : ((cfg0.win 1).blk t).view.emb (ix2 k r) = ix2 k ⟨t.val * 1024 + r.val, in_col t r⟩ := by
  blk_ext [index1 t]
theorem place2 (t : Fin cfg0.N) (r : Fin 512) (d : Fin 1024) : ((cfg0.win 2).blk t).view.emb (ix2 r d) = ix2 r ⟨t.val * 1024 + d.val, in_col t d⟩ := by
  blk_ext [index2 t]

theorem cut0 (t : Fin cfg0.N) (k : Fin 4096) (r : Fin 512) (X : FVec Ideal S4096x512 .bf16) :
    elt (((cfg0.win 0).blk t).view.read (Elt Ideal) X (ix2 k r)) = elt (X (ix2 k r)) := congrArg X (place0 t k r)
theorem cut1 (t : Fin cfg0.N) (k : Fin 4096) (r : Fin 1024) (X : FVec Ideal S4096x4096 .bf16) :
    elt (((cfg0.win 1).blk t).view.read (Elt Ideal) X (ix2 k r)) = elt (X (ix2 k ⟨t.val * 1024 + r.val, in_col t r⟩)) := congrArg X (place1 t k r)

/-- What a point stores. -/
theorem stored (x0 : Vec Ideal S4096x512 .bf16) (x1 : Vec Ideal S4096x1024 .bf16) : out0_2 x0 x1 = k0_pay1 x0 x1 := by
  unfold out0_2
  rw [View.canon_unit_zero zeros2]
  simp only [View.ld_unit_zero (S := S4096x512) zeros2, View.ld_unit_zero (S := S4096x1024) zeros2]

theorem pay (x0 : Vec Ideal S4096x512 .bf16) (x1 : Vec Ideal S4096x1024 .bf16) (r : Fin 512) (d : Fin 1024) : elt (k0_pay1 x0 x1 (ix2 r d)) = ∑ k : Fin 4096, elt (x0 (ix2 k r)) * elt (x1 (ix2 k d)) := by
  pointwise [k0_pay1]

/-- The reference's element. -/
theorem ref (x0 : FVec Ideal S4096x512 .bf16) (x1 : FVec Ideal S4096x4096 .bf16) (r : Fin 512) (d : Fin 4096) :
    elt (Cert.ValueWeightRefIdeal.Read.val_main_v5 (F := Ideal) x0 x1 (ix2 r d)) = ∑ k : Fin 4096, elt (x0 (ix2 k r)) * elt (x1 (ix2 k d)) := by
  pointwise [Cert.ValueWeightRefIdeal.Read.val_main_v5, Cert.ValueWeightRefIdeal.Read.val_main_v4, Cert.ValueWeightRefIdeal.Read.val_main_v1, Cert.ValueWeightRefIdeal.Read.val_main_v0]
  exact Finset.sum_congr rfl fun k _ => mul_comm _ _

/-- What a point writes back is the reference's block. -/
theorem written (t : Fin cfg0.N) (r : Fin 512) (d : Fin 1024) :
    elt (k0_pay1 (iblk m c 0 t) (iblk m c 1 t) (ix2 r d))
      = elt (Cert.ValueWeightRefIdeal.Read.val_main_v5 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t k r (m (c, main_arg0))) (cut1 t k d (m (c, main_arg1)))

/-- The result is the reference's. -/
theorem final : (dats m 0 c).arrAt 2 (cfgs 0).N = Cert.ValueWeightRefIdeal.Read.val_main_v5 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_ValueWeightIdeal_ValueWeightRefIdeal := by
  intro m g m' g' _ harg
  refine ⟨fun c => Cert.ValueWeightRefIdeal.Read.val_main_v5 (F := Ideal) (m (c, main_arg0)) (m (c, main_arg1)), ?_, ?_⟩
  · exact (θ_run _ _ _).mono (fun r h c => ⟨(h c).1.trans (final m c), (h c).2⟩) (Cert.ValueWeightIdeal.Value.run_blocks (F := Ideal) m g)
  · refine (θ_run _ _ _).mono (fun r h c => ⟨?_, (h c).2⟩) (Cert.ValueWeightRefIdeal.Value.run (F := Ideal) m' g')
    rw [(h c).1, Cert.ValueWeightRefIdeal.Read.val_main_v5_eq, (harg c).1, (harg c).2]

/-- The reference runs without fault and leaves its arguments unchanged; it has no semaphore. -/
theorem frame_reference : Cert.quiescent_ValueWeightRefIdeal := fun m ρ _ =>
  (θ_run _ _ _).mono (fun r h => ⟨fun c => (h c).2, sem_eq_zero_of_no_sems (by decide) r.2⟩) (Cert.ValueWeightRefIdeal.Value.run (F := Ideal) m ρ)

end Cert.Proof.ValueWeight

end
-- ==== Proof.QueryProject.lean ====
/- The queries' up-projection. -/
module

public import proofs.«01_k».proof.Defs
public import proofs.«01_k».proof.Proof.Product
public import proofs.«01_k».proof.Proof.Gen.QueryProjectIdeal.Value
public import proofs.«01_k».proof.Proof.Gen.QueryProjectRefIdeal.Run
public import proofs.«01_k».proof.Proof.Gen.QueryProjectRefIdeal.Read
public import Idealize.ShloMosaic.Lib.Pipeline.ValueKit
public import Idealize.ShloMosaic.Lib.Pointwise

@[expose] public section

set_option maxRecDepth 16384

noncomputable section

namespace Cert.Proof.QueryProject

open Cert.QueryProjectIdeal Cert.QueryProjectIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val / 8 ∧ (cfg0.win 0).index t 1 = 0 := by decide +kernel
theorem index1 : ∀ t : Fin cfg0.N, (cfg0.win 1).index t 0 = 0 ∧ (cfg0.win 1).index t 1 = t.val % 8 := by decide +kernel
theorem index2 : ∀ t : Fin cfg0.N, (cfg0.win 2).index t 0 = t.val / 8 ∧ (cfg0.win 2).index t 1 = t.val % 8 := by decide +kernel

theorem in_row (t : Fin cfg0.N) (r : Fin 1024) : t.val / 8 * 1024 + r.val < 4096 := by have : t.val < 32 := t.isLt; omega
theorem in_col (t : Fin cfg0.N) (r : Fin 1024) : t.val % 8 * 1024 + r.val < 8192 := by omega

theorem place0 (t : Fin cfg0.N) (r : Fin 1024) (k : Fin 1024) : ((cfg0.win 0).blk t).view.emb (ix2 r k) = ix2 ⟨t.val / 8 * 1024 + r.val, in_row t r⟩ k := by
  blk_ext [index0 t]
theorem place1 (t : Fin cfg0.N) (k : Fin 1024) (r : Fin 1024) : ((cfg0.win 1).blk t).view.emb (ix2 k r) = ix2 k ⟨t.val % 8 * 1024 + r.val, in_col t r⟩ := by
  blk_ext [index1 t]
theorem place2 (t : Fin cfg0.N) (r d : Fin 1024) : ((cfg0.win 2).blk t).view.emb (ix2 r d) = ix2 ⟨t.val / 8 * 1024 + r.val, in_row t r⟩ ⟨t.val % 8 * 1024 + d.val, in_col t d⟩ := by
  blk_ext [index2 t]

theorem cut0 (t : Fin cfg0.N) (r : Fin 1024) (k : Fin 1024) (X : FVec Ideal S4096x1024 .bf16) :
    elt (((cfg0.win 0).blk t).view.read (Elt Ideal) X (ix2 r k)) = elt (X (ix2 ⟨t.val / 8 * 1024 + r.val, in_row t r⟩ k)) := congrArg X (place0 t r k)
theorem cut1 (t : Fin cfg0.N) (k : Fin 1024) (r : Fin 1024) (X : FVec Ideal S1024x8192 .bf16) :
    elt (((cfg0.win 1).blk t).view.read (Elt Ideal) X (ix2 k r)) = elt (X (ix2 k ⟨t.val % 8 * 1024 + r.val, in_col t r⟩)) := congrArg X (place1 t k r)

/-- What a point stores. -/
theorem stored (x0 : Vec Ideal S1024x1024 .bf16) (x1 : Vec Ideal S1024x1024 .bf16) : out0_2 x0 x1 = k0_pay1 x0 x1 := by
  unfold out0_2
  rw [View.canon_unit_zero zeros2]
  simp only [View.ld_unit_zero (S := S1024x1024) zeros2, View.ld_unit_zero (S := S1024x1024) zeros2]

theorem pay (x0 : Vec Ideal S1024x1024 .bf16) (x1 : Vec Ideal S1024x1024 .bf16) (r d : Fin 1024) : elt (k0_pay1 x0 x1 (ix2 r d)) = ∑ k : Fin 1024, elt (x0 (ix2 r k)) * elt (x1 (ix2 k d)) := by
  pointwise [k0_pay1]

/-- The reference's element. -/
theorem ref (x0 : FVec Ideal S4096x1024 .bf16) (x1 : FVec Ideal S1024x8192 .bf16) (r : Fin 4096) (d : Fin 8192) :
    elt (Cert.QueryProjectRefIdeal.Read.val_main_v3 (F := Ideal) x0 x1 (ix2 r d)) = ∑ k : Fin 1024, elt (x0 (ix2 r k)) * elt (x1 (ix2 k d)) := by
  pointwise [Cert.QueryProjectRefIdeal.Read.val_main_v3, Cert.QueryProjectRefIdeal.Read.val_main_v2, Cert.QueryProjectRefIdeal.Read.val_main_v1, Cert.QueryProjectRefIdeal.Read.val_main_v0]

/-- What a point writes back is the reference's block. -/
theorem written (t : Fin cfg0.N) (r d : Fin 1024) :
    elt (k0_pay1 (iblk m c 0 t) (iblk m c 1 t) (ix2 r d))
      = elt (Cert.QueryProjectRefIdeal.Read.val_main_v3 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t k d (m (c, main_arg1)))

/-- The result is the reference's. -/
theorem final : (dats m 0 c).arrAt 2 (cfgs 0).N = Cert.QueryProjectRefIdeal.Read.val_main_v3 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_QueryProjectIdeal_QueryProjectRefIdeal := by
  intro m g m' g' _ harg
  refine ⟨fun c => Cert.QueryProjectRefIdeal.Read.val_main_v3 (F := Ideal) (m (c, main_arg0)) (m (c, main_arg1)), ?_, ?_⟩
  · exact (θ_run _ _ _).mono (fun r h c => ⟨(h c).1.trans (final m c), (h c).2⟩) (Cert.QueryProjectIdeal.Value.run_blocks (F := Ideal) m g)
  · refine (θ_run _ _ _).mono (fun r h c => ⟨?_, (h c).2⟩) (Cert.QueryProjectRefIdeal.Value.run (F := Ideal) m' g')
    rw [(h c).1, Cert.QueryProjectRefIdeal.Read.val_main_v3_eq, (harg c).1, (harg c).2]

/-- The reference runs without fault and leaves its arguments unchanged; it has no semaphore. -/
theorem frame_reference : Cert.quiescent_QueryProjectRefIdeal := fun m ρ _ =>
  (θ_run _ _ _).mono (fun r h => ⟨fun c => (h c).2, sem_eq_zero_of_no_sems (by decide) r.2⟩) (Cert.QueryProjectRefIdeal.Value.run (F := Ideal) m ρ)

end Cert.Proof.QueryProject

end
-- ==== Proof.KeyProject.lean ====
/- The keys' up-projection. -/
module

public import proofs.«01_k».proof.Defs
public import proofs.«01_k».proof.Proof.Product
public import proofs.«01_k».proof.Proof.Gen.KeyProjectIdeal.Value
public import proofs.«01_k».proof.Proof.Gen.KeyProjectRefIdeal.Run
public import proofs.«01_k».proof.Proof.Gen.KeyProjectRefIdeal.Read
public import Idealize.ShloMosaic.Lib.Pipeline.ValueKit
public import Idealize.ShloMosaic.Lib.Pointwise

@[expose] public section

set_option maxRecDepth 16384

noncomputable section

namespace Cert.Proof.KeyProject

open Cert.KeyProjectIdeal Cert.KeyProjectIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val / 8 ∧ (cfg0.win 0).index t 1 = 0 := by decide +kernel
theorem index1 : ∀ t : Fin cfg0.N, (cfg0.win 1).index t 0 = 0 ∧ (cfg0.win 1).index t 1 = t.val % 8 := by decide +kernel
theorem index2 : ∀ t : Fin cfg0.N, (cfg0.win 2).index t 0 = t.val / 8 ∧ (cfg0.win 2).index t 1 = t.val % 8 := by decide +kernel

theorem in_row (t : Fin cfg0.N) (r : Fin 1024) : t.val / 8 * 1024 + r.val < 4096 := by have : t.val < 32 := t.isLt; omega
theorem in_col (t : Fin cfg0.N) (r : Fin 1024) : t.val % 8 * 1024 + r.val < 8192 := by omega

theorem place0 (t : Fin cfg0.N) (r : Fin 1024) (k : Fin 512) : ((cfg0.win 0).blk t).view.emb (ix2 r k) = ix2 ⟨t.val / 8 * 1024 + r.val, in_row t r⟩ k := by
  blk_ext [index0 t]
theorem place1 (t : Fin cfg0.N) (k : Fin 512) (r : Fin 1024) : ((cfg0.win 1).blk t).view.emb (ix2 k r) = ix2 k ⟨t.val % 8 * 1024 + r.val, in_col t r⟩ := by
  blk_ext [index1 t]
theorem place2 (t : Fin cfg0.N) (r d : Fin 1024) : ((cfg0.win 2).blk t).view.emb (ix2 r d) = ix2 ⟨t.val / 8 * 1024 + r.val, in_row t r⟩ ⟨t.val % 8 * 1024 + d.val, in_col t d⟩ := by
  blk_ext [index2 t]

theorem cut0 (t : Fin cfg0.N) (r : Fin 1024) (k : Fin 512) (X : FVec Ideal S4096x512 .bf16) :
    elt (((cfg0.win 0).blk t).view.read (Elt Ideal) X (ix2 r k)) = elt (X (ix2 ⟨t.val / 8 * 1024 + r.val, in_row t r⟩ k)) := congrArg X (place0 t r k)
theorem cut1 (t : Fin cfg0.N) (k : Fin 512) (r : Fin 1024) (X : FVec Ideal S512x8192 .bf16) :
    elt (((cfg0.win 1).blk t).view.read (Elt Ideal) X (ix2 k r)) = elt (X (ix2 k ⟨t.val % 8 * 1024 + r.val, in_col t r⟩)) := congrArg X (place1 t k r)

/-- What a point stores. -/
theorem stored (x0 : Vec Ideal S1024x512 .bf16) (x1 : Vec Ideal S512x1024 .bf16) : out0_2 x0 x1 = k0_pay1 x0 x1 := by
  unfold out0_2
  rw [View.canon_unit_zero zeros2]
  simp only [View.ld_unit_zero (S := S1024x512) zeros2, View.ld_unit_zero (S := S512x1024) zeros2]

theorem pay (x0 : Vec Ideal S1024x512 .bf16) (x1 : Vec Ideal S512x1024 .bf16) (r d : Fin 1024) : elt (k0_pay1 x0 x1 (ix2 r d)) = ∑ k : Fin 512, elt (x0 (ix2 r k)) * elt (x1 (ix2 k d)) := by
  pointwise [k0_pay1]

/-- The reference's element. -/
theorem ref (x0 : FVec Ideal S4096x512 .bf16) (x1 : FVec Ideal S512x8192 .bf16) (r : Fin 4096) (d : Fin 8192) :
    elt (Cert.KeyProjectRefIdeal.Read.val_main_v3 (F := Ideal) x0 x1 (ix2 r d)) = ∑ k : Fin 512, elt (x0 (ix2 r k)) * elt (x1 (ix2 k d)) := by
  pointwise [Cert.KeyProjectRefIdeal.Read.val_main_v3, Cert.KeyProjectRefIdeal.Read.val_main_v2, Cert.KeyProjectRefIdeal.Read.val_main_v1, Cert.KeyProjectRefIdeal.Read.val_main_v0]

/-- What a point writes back is the reference's block. -/
theorem written (t : Fin cfg0.N) (r d : Fin 1024) :
    elt (k0_pay1 (iblk m c 0 t) (iblk m c 1 t) (ix2 r d))
      = elt (Cert.KeyProjectRefIdeal.Read.val_main_v3 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t k d (m (c, main_arg1)))

/-- The result is the reference's. -/
theorem final : (dats m 0 c).arrAt 2 (cfgs 0).N = Cert.KeyProjectRefIdeal.Read.val_main_v3 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_KeyProjectIdeal_KeyProjectRefIdeal := by
  intro m g m' g' _ harg
  refine ⟨fun c => Cert.KeyProjectRefIdeal.Read.val_main_v3 (F := Ideal) (m (c, main_arg0)) (m (c, main_arg1)), ?_, ?_⟩
  · exact (θ_run _ _ _).mono (fun r h c => ⟨(h c).1.trans (final m c), (h c).2⟩) (Cert.KeyProjectIdeal.Value.run_blocks (F := Ideal) m g)
  · refine (θ_run _ _ _).mono (fun r h c => ⟨?_, (h c).2⟩) (Cert.KeyProjectRefIdeal.Value.run (F := Ideal) m' g')
    rw [(h c).1, Cert.KeyProjectRefIdeal.Read.val_main_v3_eq, (harg c).1, (harg c).2]

/-- The reference runs without fault and leaves its arguments unchanged; it has no semaphore. -/
theorem frame_reference : Cert.quiescent_KeyProjectRefIdeal := fun m ρ _ =>
  (θ_run _ _ _).mono (fun r h => ⟨fun c => (h c).2, sem_eq_zero_of_no_sems (by decide) r.2⟩) (Cert.KeyProjectRefIdeal.Value.run (F := Ideal) m ρ)

end Cert.Proof.KeyProject

end
-- ==== Proof.ValueProject.lean ====
/- The values' up-projection. -/
module

public import proofs.«01_k».proof.Defs
public import proofs.«01_k».proof.Proof.Product
public import proofs.«01_k».proof.Proof.Gen.ValueProjectIdeal.Value
public import proofs.«01_k».proof.Proof.Gen.ValueProjectRefIdeal.Run
public import proofs.«01_k».proof.Proof.Gen.ValueProjectRefIdeal.Read
public import Idealize.ShloMosaic.Lib.Pipeline.ValueKit
public import Idealize.ShloMosaic.Lib.Pointwise

@[expose] public section

set_option maxRecDepth 16384

noncomputable section

namespace Cert.Proof.ValueProject

open Cert.ValueProjectIdeal Cert.ValueProjectIdeal.Gen Cert.Proof.Product
open Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t 0 = t.val / 4 ∧ (cfg0.win 0).index t 1 = 0 := by decide +kernel
theorem index1 : ∀ t : Fin cfg0.N, (cfg0.win 1).index t 0 = 0 ∧ (cfg0.win 1).index t 1 = t.val % 4 := by decide +kernel
theorem index2 : ∀ t : Fin cfg0.N, (cfg0.win 2).index t 0 = t.val / 4 ∧ (cfg0.win 2).index t 1 = t.val % 4 := by decide +kernel

theorem in_row (t : Fin cfg0.N) (r : Fin 1024) : t.val / 4 * 1024 + r.val < 4096 := by have : t.val < 16 := t.isLt; omega
theorem in_col (t : Fin cfg0.N) (r : Fin 1024) : t.val % 4 * 1024 + r.val < 4096 := by omega

theorem place0 (t : Fin cfg0.N) (r : Fin 1024) (k : Fin 512) : ((cfg0.win 0).blk t).view.emb (ix2 r k) = ix2 ⟨t.val / 4 * 1024 + r.val, in_row t r⟩ k := by
  blk_ext [index0 t]
theorem place1 (t : Fin cfg0.N) (k : Fin 512) (r : Fin 1024) : ((cfg0.win 1).blk t).view.emb (ix2 k r) = ix2 k ⟨t.val % 4 * 1024 + r.val, in_col t r⟩ := by
  blk_ext [index1 t]
theorem place2 (t : Fin cfg0.N) (r d : Fin 1024) : ((cfg0.win 2).blk t).view.emb (ix2 r d) = ix2 ⟨t.val / 4 * 1024 + r.val, in_row t r⟩ ⟨t.val % 4 * 1024 + d.val, in_col t d⟩ := by
  blk_ext [index2 t]

theorem cut0 (t : Fin cfg0.N) (r : Fin 1024) (k : Fin 512) (X : FVec Ideal S4096x512 .bf16) :
    elt (((cfg0.win 0).blk t).view.read (Elt Ideal) X (ix2 r k)) = elt (X (ix2 ⟨t.val / 4 * 1024 + r.val, in_row t r⟩ k)) := congrArg X (place0 t r k)
theorem cut1 (t : Fin cfg0.N) (k : Fin 512) (r : Fin 1024) (X : FVec Ideal S512x4096 .bf16) :
    elt (((cfg0.win 1).blk t).view.read (Elt Ideal) X (ix2 k r)) = elt (X (ix2 k ⟨t.val % 4 * 1024 + r.val, in_col t r⟩)) := congrArg X (place1 t k r)

/-- What a point stores. -/
theorem stored (x0 : Vec Ideal S1024x512 .bf16) (x1 : Vec Ideal S512x1024 .bf16) : out0_2 x0 x1 = k0_pay1 x0 x1 := by
  unfold out0_2
  rw [View.canon_unit_zero zeros2]
  simp only [View.ld_unit_zero (S := S1024x512) zeros2, View.ld_unit_zero (S := S512x1024) zeros2]

theorem pay (x0 : Vec Ideal S1024x512 .bf16) (x1 : Vec Ideal S512x1024 .bf16) (r d : Fin 1024) : elt (k0_pay1 x0 x1 (ix2 r d)) = ∑ k : Fin 512, elt (x0 (ix2 r k)) * elt (x1 (ix2 k d)) := by
  pointwise [k0_pay1]

/-- The reference's element. -/
theorem ref (x0 : FVec Ideal S4096x512 .bf16) (x1 : FVec Ideal S512x4096 .bf16) (r : Fin 4096) (d : Fin 4096) :
    elt (Cert.ValueProjectRefIdeal.Read.val_main_v3 (F := Ideal) x0 x1 (ix2 r d)) = ∑ k : Fin 512, elt (x0 (ix2 r k)) * elt (x1 (ix2 k d)) := by
  pointwise [Cert.ValueProjectRefIdeal.Read.val_main_v3, Cert.ValueProjectRefIdeal.Read.val_main_v2, Cert.ValueProjectRefIdeal.Read.val_main_v1, Cert.ValueProjectRefIdeal.Read.val_main_v0]

/-- What a point writes back is the reference's block. -/
theorem written (t : Fin cfg0.N) (r d : Fin 1024) :
    elt (k0_pay1 (iblk m c 0 t) (iblk m c 1 t) (ix2 r d))
      = elt (Cert.ValueProjectRefIdeal.Read.val_main_v3 (F := Ideal) (m (c, main_arg0)) (m (c, main_arg1)) (((cfg0.win 2).blk t).view.emb (ix2 r d))) := by
  rw [place2]
  refine (pay _ _ r d).trans ((Finset.sum_congr rfl fun k _ => ?_).trans (ref _ _ _ _).symm)
  exact congrArg₂ (· * ·) (cut0 t r k (m (c, main_arg0))) (cut1 t k d (m (c, main_arg1)))

/-- The result is the reference's. -/
theorem final : (dats m 0 c).arrAt 2 (cfgs 0).N = Cert.ValueProjectRefIdeal.Read.val_main_v3 (F := Ideal) (m (c, main_arg0)) (m (c, main_arg1)) := by
  refine (dats m 0 c).arrAt_eq_of_covers 2 _ (by decide +kernel) fun t hf y => ?_
  rw [after0_2, stored]
  have hy : y = ix2 (y 0) (y 1) := pair_eq y
  rw [hy]
  exact written m c t (y 0) (y 1)

/-- Kernel and reference end with equal results. -/
theorem algebraic : Cert.algebraic_ValueProjectIdeal_ValueProjectRefIdeal := by
  intro m g m' g' _ harg
  refine ⟨fun c => Cert.ValueProjectRefIdeal.Read.val_main_v3 (F := Ideal) (m (c, main_arg0)) (m (c, main_arg1)), ?_, ?_⟩
  · exact (θ_run _ _ _).mono (fun r h c => ⟨(h c).1.trans (final m c), (h c).2⟩) (Cert.ValueProjectIdeal.Value.run_blocks (F := Ideal) m g)
  · refine (θ_run _ _ _).mono (fun r h c => ⟨?_, (h c).2⟩) (Cert.ValueProjectRefIdeal.Value.run (F := Ideal) m' g')
    rw [(h c).1, Cert.ValueProjectRefIdeal.Read.val_main_v3_eq, (harg c).1, (harg c).2]

/-- The reference runs without fault and leaves its arguments unchanged; it has no semaphore. -/
theorem frame_reference : Cert.quiescent_ValueProjectRefIdeal := fun m ρ _ =>
  (θ_run _ _ _).mono (fun r h => ⟨fun c => (h c).2, sem_eq_zero_of_no_sems (by decide) r.2⟩) (Cert.ValueProjectRefIdeal.Value.run (F := Ideal) m ρ)

end Cert.Proof.ValueProject

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_forward
public import proofs.«01_k».proof.Proof.Gen.ReferenceIdeal.Run
public import proofs.«01_k».proof.Proof.Gen.ReferenceIdeal.Read
public import proofs.«01_k».proof.Proof.Gen.ScInput
public import proofs.«01_k».proof.Proof.Gen.ScInput.Skeleton
public import proofs.«01_k».proof.Proof.Gen.ScInput.Launch
public import proofs.«01_k».proof.Proof.Gen.ScInput.Points
public import proofs.«01_k».proof.Proof.Gen.ScInput.Frame
public import proofs.«01_k».proof.Proof.Gen.ScInputIdeal
public import proofs.«01_k».proof.Proof.Gen.ScInputIdeal.Skeleton
public import proofs.«01_k».proof.Proof.Gen.ScInputIdeal.Launch
public import proofs.«01_k».proof.Proof.Gen.ScInputIdeal.Points
public import proofs.«01_k».proof.Proof.Gen.ScInputIdeal.Frame
public import proofs.«01_k».proof.Proof.Gen.ScInputIdeal.Value
public import proofs.«01_k».proof.Proof.Gen.ScInputRefIdeal
public import proofs.«01_k».proof.Proof.Gen.ScInputRefIdeal.Run
public import proofs.«01_k».proof.Proof.Gen.ScInputRefIdeal.Read
public import proofs.«01_k».proof.Proof.Gen.ScWeight
public import proofs.«01_k».proof.Proof.Gen.ScWeight.Skeleton
public import proofs.«01_k».proof.Proof.Gen.ScWeight.Launch
public import proofs.«01_k».proof.Proof.Gen.ScWeight.Points
public import proofs.«01_k».proof.Proof.Gen.ScWeight.Frame
public import proofs.«01_k».proof.Proof.Gen.ScWeightIdeal
public import proofs.«01_k».proof.Proof.Gen.ScWeightIdeal.Skeleton
public import proofs.«01_k».proof.Proof.Gen.ScWeightIdeal.Launch
public import proofs.«01_k».proof.Proof.Gen.ScWeightIdeal.Points
public import proofs.«01_k».proof.Proof.Gen.ScWeightIdeal.Frame
public import proofs.«01_k».proof.Proof.Gen.ScWeightIdeal.Value
public import proofs.«01_k».proof.Proof.Gen.ScWeightRefIdeal
public import proofs.«01_k».proof.Proof.Gen.ScWeightRefIdeal.Run
public import proofs.«01_k».proof.Proof.Gen.ScWeightRefIdeal.Read
public import proofs.«01_k».proof.Proof.Gen.WideInput
public import proofs.«01_k».proof.Proof.Gen.WideInput.Skeleton
public import proofs.«01_k».proof.Proof.Gen.WideInput.Launch
public import proofs.«01_k».proof.Proof.Gen.WideInput.Points
public import proofs.«01_k».proof.Proof.Gen.WideInput.Frame
public import proofs.«01_k».proof.Proof.Gen.WideInputIdeal
public import proofs.«01_k».proof.Proof.Gen.WideInputIdeal.Skeleton
public import proofs.«01_k».proof.Proof.Gen.WideInputIdeal.Launch
public import proofs.«01_k».proof.Proof.Gen.WideInputIdeal.Points
public import proofs.«01_k».proof.Proof.Gen.WideInputIdeal.Frame
public import proofs.«01_k».proof.Proof.Gen.WideInputIdeal.Value
public import proofs.«01_k».proof.Proof.Gen.WideInputRefIdeal
public import proofs.«01_k».proof.Proof.Gen.WideInputRefIdeal.Run
public import proofs.«01_k».proof.Proof.Gen.WideInputRefIdeal.Read
public import proofs.«01_k».proof.Proof.Gen.WideWeight
public import proofs.«01_k».proof.Proof.Gen.WideWeight.Skeleton
public import proofs.«01_k».proof.Proof.Gen.WideWeight.Launch
public import proofs.«01_k».proof.Proof.Gen.WideWeight.Points
public import proofs.«01_k».proof.Proof.Gen.WideWeight.Frame
public import proofs.«01_k».proof.Proof.Gen.WideWeightIdeal
public import proofs.«01_k».proof.Proof.Gen.WideWeightIdeal.Skeleton
public import proofs.«01_k».proof.Proof.Gen.WideWeightIdeal.Launch
public import proofs.«01_k».proof.Proof.Gen.WideWeightIdeal.Points
public import proofs.«01_k».proof.Proof.Gen.WideWeightIdeal.Frame
public import proofs.«01_k».proof.Proof.Gen.WideWeightIdeal.Value
public import proofs.«01_k».proof.Proof.Gen.WideWeightRefIdeal
public import proofs.«01_k».proof.Proof.Gen.WideWeightRefIdeal.Run
public import proofs.«01_k».proof.Proof.Gen.WideWeightRefIdeal.Read
public import proofs.«01_k».proof.Proof.Gen.OutInput
public import proofs.«01_k».proof.Proof.Gen.OutInput.Skeleton
public import proofs.«01_k».proof.Proof.Gen.OutInput.Launch
public import proofs.«01_k».proof.Proof.Gen.OutInput.Points
public import proofs.«01_k».proof.Proof.Gen.OutInput.Frame
public import proofs.«01_k».proof.Proof.Gen.OutInputIdeal
public import proofs.«01_k».proof.Proof.Gen.OutInputIdeal.Skeleton
public import proofs.«01_k».proof.Proof.Gen.OutInputIdeal.Launch
public import proofs.«01_k».proof.Proof.Gen.OutInputIdeal.Points
public import proofs.«01_k».proof.Proof.Gen.OutInputIdeal.Frame
public import proofs.«01_k».proof.Proof.Gen.OutInputIdeal.Value
public import proofs.«01_k».proof.Proof.Gen.OutInputRefIdeal
public import proofs.«01_k».proof.Proof.Gen.OutInputRefIdeal.Run
public import proofs.«01_k».proof.Proof.Gen.OutInputRefIdeal.Read
public import proofs.«01_k».proof.Proof.Gen.OutWeight
public import proofs.«01_k».proof.Proof.Gen.OutWeight.Skeleton
public import proofs.«01_k».proof.Proof.Gen.OutWeight.Launch
public import proofs.«01_k».proof.Proof.Gen.OutWeight.Points
public import proofs.«01_k».proof.Proof.Gen.OutWeight.Frame
public import proofs.«01_k».proof.Proof.Gen.OutWeightIdeal
public import proofs.«01_k».proof.Proof.Gen.OutWeightIdeal.Skeleton
public import proofs.«01_k».proof.Proof.Gen.OutWeightIdeal.Launch
public import proofs.«01_k».proof.Proof.Gen.OutWeightIdeal.Points
public import proofs.«01_k».proof.Proof.Gen.OutWeightIdeal.Frame
public import proofs.«01_k».proof.Proof.Gen.OutWeightIdeal.Value
public import proofs.«01_k».proof.Proof.Gen.OutWeightRefIdeal
public import proofs.«01_k».proof.Proof.Gen.OutWeightRefIdeal.Run
public import proofs.«01_k».proof.Proof.Gen.OutWeightRefIdeal.Read
public import proofs.«01_k».proof.Proof.Gen.LatentInput
public import proofs.«01_k».proof.Proof.Gen.LatentInput.Skeleton
public import proofs.«01_k».proof.Proof.Gen.LatentInput.Launch
public import proofs.«01_k».proof.Proof.Gen.LatentInput.Points
public import proofs.«01_k».proof.Proof.Gen.LatentInput.Frame
public import proofs.«01_k».proof.Proof.Gen.LatentInputIdeal
public import proofs.«01_k».proof.Proof.Gen.LatentInputIdeal.Skeleton
public import proofs.«01_k».proof.Proof.Gen.LatentInputIdeal.Launch
public import proofs.«01_k».proof.Proof.Gen.LatentInputIdeal.Points
public import proofs.«01_k».proof.Proof.Gen.LatentInputIdeal.Frame
public import proofs.«01_k».proof.Proof.Gen.LatentInputIdeal.Value
public import proofs.«01_k».proof.Proof.Gen.LatentInputRefIdeal
public import proofs.«01_k».proof.Proof.Gen.LatentInputRefIdeal.Run
public import proofs.«01_k».proof.Proof.Gen.LatentInputRefIdeal.Read
public import proofs.«01_k».proof.Proof.Gen.LatentWeight
public import proofs.«01_k».proof.Proof.Gen.LatentWeight.Skeleton
public import proofs.«01_k».proof.Proof.Gen.LatentWeight.Launch
public import proofs.«01_k».proof.Proof.Gen.LatentWeight.Points
public import proofs.«01_k».proof.Proof.Gen.LatentWeight.Frame
public import proofs.«01_k».proof.Proof.Gen.LatentWeightIdeal
public import proofs.«01_k».proof.Proof.Gen.LatentWeightIdeal.Skeleton
public import proofs.«01_k».proof.Proof.Gen.LatentWeightIdeal.Launch
public import proofs.«01_k».proof.Proof.Gen.LatentWeightIdeal.Points
public import proofs.«01_k».proof.Proof.Gen.LatentWeightIdeal.Frame
public import proofs.«01_k».proof.Proof.Gen.LatentWeightIdeal.Value
public import proofs.«01_k».proof.Proof.Gen.LatentWeightRefIdeal
public import proofs.«01_k».proof.Proof.Gen.LatentWeightRefIdeal.Run
public import proofs.«01_k».proof.Proof.Gen.LatentWeightRefIdeal.Read
public import proofs.«01_k».proof.Proof.Gen.LatentProject
public import proofs.«01_k».proof.Proof.Gen.LatentProject.Skeleton
public import proofs.«01_k».proof.Proof.Gen.LatentProject.Launch
public import proofs.«01_k».proof.Proof.Gen.LatentProject.Points
public import proofs.«01_k».proof.Proof.Gen.LatentProject.Frame
public import proofs.«01_k».proof.Proof.Gen.LatentProjectIdeal
public import proofs.«01_k».proof.Proof.Gen.LatentProjectIdeal.Skeleton
public import proofs.«01_k».proof.Proof.Gen.LatentProjectIdeal.Launch
public import proofs.«01_k».proof.Proof.Gen.LatentProjectIdeal.Points
public import proofs.«01_k».proof.Proof.Gen.LatentProjectIdeal.Frame
public import proofs.«01_k».proof.Proof.Gen.LatentProjectIdeal.Value
public import proofs.«01_k».proof.Proof.Gen.LatentProjectRefIdeal
public import proofs.«01_k».proof.Proof.Gen.LatentProjectRefIdeal.Run
public import proofs.«01_k».proof.Proof.Gen.LatentProjectRefIdeal.Read
public import proofs.«01_k».proof.Proof.Gen.ScProject
public import proofs.«01_k».proof.Proof.Gen.ScProject.Skeleton
public import proofs.«01_k».proof.Proof.Gen.ScProject.Launch
public import proofs.«01_k».proof.Proof.Gen.ScProject.Points
public import proofs.«01_k».proof.Proof.Gen.ScProject.Frame
public import proofs.«01_k».proof.Proof.Gen.ScProjectIdeal
public import proofs.«01_k».proof.Proof.Gen.ScProjectIdeal.Skeleton
public import proofs.«01_k».proof.Proof.Gen.ScProjectIdeal.Launch
public import proofs.«01_k».proof.Proof.Gen.ScProjectIdeal.Points
public import proofs.«01_k».proof.Proof.Gen.ScProjectIdeal.Frame
public import proofs.«01_k».proof.Proof.Gen.ScProjectIdeal.Value
public import proofs.«01_k».proof.Proof.Gen.ScProjectRefIdeal
public import proofs.«01_k».proof.Proof.Gen.ScProjectRefIdeal.Run
public import proofs.«01_k».proof.Proof.Gen.ScProjectRefIdeal.Read
public import proofs.«01_k».proof.Proof.Gen.WideProject
public import proofs.«01_k».proof.Proof.Gen.WideProject.Skeleton
public import proofs.«01_k».proof.Proof.Gen.WideProject.Launch
public import proofs.«01_k».proof.Proof.Gen.WideProject.Points
public import proofs.«01_k».proof.Proof.Gen.WideProject.Frame
public import proofs.«01_k».proof.Proof.Gen.WideProjectIdeal
public import proofs.«01_k».proof.Proof.Gen.WideProjectIdeal.Skeleton
public import proofs.«01_k».proof.Proof.Gen.WideProjectIdeal.Launch
public import proofs.«01_k».proof.Proof.Gen.WideProjectIdeal.Points
public import proofs.«01_k».proof.Proof.Gen.WideProjectIdeal.Frame
public import proofs.«01_k».proof.Proof.Gen.WideProjectIdeal.Value
public import proofs.«01_k».proof.Proof.Gen.WideProjectRefIdeal
public import proofs.«01_k».proof.Proof.Gen.WideProjectRefIdeal.Run
public import proofs.«01_k».proof.Proof.Gen.WideProjectRefIdeal.Read
public import proofs.«01_k».proof.Proof.Gen.OutProject
public import proofs.«01_k».proof.Proof.Gen.OutProject.Skeleton
public import proofs.«01_k».proof.Proof.Gen.OutProject.Launch
public import proofs.«01_k».proof.Proof.Gen.OutProject.Points
public import proofs.«01_k».proof.Proof.Gen.OutProject.Frame
public import proofs.«01_k».proof.Proof.Gen.OutProjectIdeal
public import proofs.«01_k».proof.Proof.Gen.OutProjectIdeal.Skeleton
public import proofs.«01_k».proof.Proof.Gen.OutProjectIdeal.Launch
public import proofs.«01_k».proof.Proof.Gen.OutProjectIdeal.Points
public import proofs.«01_k».proof.Proof.Gen.OutProjectIdeal.Frame
public import proofs.«01_k».proof.Proof.Gen.OutProjectIdeal.Value
public import proofs.«01_k».proof.Proof.Gen.OutProjectRefIdeal
public import proofs.«01_k».proof.Proof.Gen.OutProjectRefIdeal.Run
public import proofs.«01_k».proof.Proof.Gen.OutProjectRefIdeal.Read
public import proofs.«01_k».proof.Proof.Gen.QueryInput
public import proofs.«01_k».proof.Proof.Gen.QueryInput.Skeleton
public import proofs.«01_k».proof.Proof.Gen.QueryInput.Launch
public import proofs.«01_k».proof.Proof.Gen.QueryInput.Points
public import proofs.«01_k».proof.Proof.Gen.QueryInput.Frame
public import proofs.«01_k».proof.Proof.Gen.QueryInputIdeal
public import proofs.«01_k».proof.Proof.Gen.QueryInputIdeal.Skeleton
public import proofs.«01_k».proof.Proof.Gen.QueryInputIdeal.Launch
public import proofs.«01_k».proof.Proof.Gen.QueryInputIdeal.Points
public import proofs.«01_k».proof.Proof.Gen.QueryInputIdeal.Frame
public import proofs.«01_k».proof.Proof.Gen.QueryInputIdeal.Value
public import proofs.«01_k».proof.Proof.Gen.QueryInputRefIdeal
public import proofs.«01_k».proof.Proof.Gen.QueryInputRefIdeal.Run
public import proofs.«01_k».proof.Proof.Gen.QueryInputRefIdeal.Read
public import proofs.«01_k».proof.Proof.Gen.KeyInput
public import proofs.«01_k».proof.Proof.Gen.KeyInput.Skeleton
public import proofs.«01_k».proof.Proof.Gen.KeyInput.Launch
public import proofs.«01_k».proof.Proof.Gen.KeyInput.Points
public import proofs.«01_k».proof.Proof.Gen.KeyInput.Frame
public import proofs.«01_k».proof.Proof.Gen.KeyInputIdeal
public import proofs.«01_k».proof.Proof.Gen.KeyInputIdeal.Skeleton
public import proofs.«01_k».proof.Proof.Gen.KeyInputIdeal.Launch
public import proofs.«01_k».proof.Proof.Gen.KeyInputIdeal.Points
public import proofs.«01_k».proof.Proof.Gen.KeyInputIdeal.Frame
public import proofs.«01_k».proof.Proof.Gen.KeyInputIdeal.Value
public import proofs.«01_k».proof.Proof.Gen.KeyInputRefIdeal
public import proofs.«01_k».proof.Proof.Gen.KeyInputRefIdeal.Run
public import proofs.«01_k».proof.Proof.Gen.KeyInputRefIdeal.Read
public import proofs.«01_k».proof.Proof.Gen.ValueInput
public import proofs.«01_k».proof.Proof.Gen.ValueInput.Skeleton
public import proofs.«01_k».proof.Proof.Gen.ValueInput.Launch
public import proofs.«01_k».proof.Proof.Gen.ValueInput.Points
public import proofs.«01_k».proof.Proof.Gen.ValueInput.Frame
public import proofs.«01_k».proof.Proof.Gen.ValueInputIdeal
public import proofs.«01_k».proof.Proof.Gen.ValueInputIdeal.Skeleton
public import proofs.«01_k».proof.Proof.Gen.ValueInputIdeal.Launch
public import proofs.«01_k».proof.Proof.Gen.ValueInputIdeal.Points
public import proofs.«01_k».proof.Proof.Gen.ValueInputIdeal.Frame
public import proofs.«01_k».proof.Proof.Gen.ValueInputIdeal.Value
public import proofs.«01_k».proof.Proof.Gen.ValueInputRefIdeal
public import proofs.«01_k».proof.Proof.Gen.ValueInputRefIdeal.Run
public import proofs.«01_k».proof.Proof.Gen.ValueInputRefIdeal.Read
public import proofs.«01_k».proof.Proof.Gen.QueryWeight
public import proofs.«01_k».proof.Proof.Gen.QueryWeight.Skeleton
public import proofs.«01_k».proof.Proof.Gen.QueryWeight.Launch
public import proofs.«01_k».proof.Proof.Gen.QueryWeight.Points
public import proofs.«01_k».proof.Proof.Gen.QueryWeight.Frame
public import proofs.«01_k».proof.Proof.Gen.QueryWeightIdeal
public import proofs.«01_k».proof.Proof.Gen.QueryWeightIdeal.Skeleton
public import proofs.«01_k».proof.Proof.Gen.QueryWeightIdeal.Launch
public import proofs.«01_k».proof.Proof.Gen.QueryWeightIdeal.Points
public import proofs.«01_k».proof.Proof.Gen.QueryWeightIdeal.Frame
public import proofs.«01_k».proof.Proof.Gen.QueryWeightIdeal.Value
public import proofs.«01_k».proof.Proof.Gen.QueryWeightRefIdeal
public import proofs.«01_k».proof.Proof.Gen.QueryWeightRefIdeal.Run
public import proofs.«01_k».proof.Proof.Gen.QueryWeightRefIdeal.Read
public import proofs.«01_k».proof.Proof.Gen.KeyWeight
public import proofs.«01_k».proof.Proof.Gen.KeyWeight.Skeleton
public import proofs.«01_k».proof.Proof.Gen.KeyWeight.Launch
public import proofs.«01_k».proof.Proof.Gen.KeyWeight.Points
public import proofs.«01_k».proof.Proof.Gen.KeyWeight.Frame
public import proofs.«01_k».proof.Proof.Gen.KeyWeightIdeal
public import proofs.«01_k».proof.Proof.Gen.KeyWeightIdeal.Skeleton
public import proofs.«01_k».proof.Proof.Gen.KeyWeightIdeal.Launch
public import proofs.«01_k».proof.Proof.Gen.KeyWeightIdeal.Points
public import proofs.«01_k».proof.Proof.Gen.KeyWeightIdeal.Frame
public import proofs.«01_k».proof.Proof.Gen.KeyWeightIdeal.Value
public import proofs.«01_k».proof.Proof.Gen.KeyWeightRefIdeal
public import proofs.«01_k».proof.Proof.Gen.KeyWeightRefIdeal.Run
public import proofs.«01_k».proof.Proof.Gen.KeyWeightRefIdeal.Read
public import proofs.«01_k».proof.Proof.Gen.ValueWeight
public import proofs.«01_k».proof.Proof.Gen.ValueWeight.Skeleton
public import proofs.«01_k».proof.Proof.Gen.ValueWeight.Launch
public import proofs.«01_k».proof.Proof.Gen.ValueWeight.Points
public import proofs.«01_k».proof.Proof.Gen.ValueWeight.Frame
public import proofs.«01_k».proof.Proof.Gen.ValueWeightIdeal
public import proofs.«01_k».proof.Proof.Gen.ValueWeightIdeal.Skeleton
public import proofs.«01_k».proof.Proof.Gen.ValueWeightIdeal.Launch
public import proofs.«01_k».proof.Proof.Gen.ValueWeightIdeal.Points
public import proofs.«01_k».proof.Proof.Gen.ValueWeightIdeal.Frame
public import proofs.«01_k».proof.Proof.Gen.ValueWeightIdeal.Value
public import proofs.«01_k».proof.Proof.Gen.ValueWeightRefIdeal
public import proofs.«01_k».proof.Proof.Gen.ValueWeightRefIdeal.Run
public import proofs.«01_k».proof.Proof.Gen.ValueWeightRefIdeal.Read
public import proofs.«01_k».proof.Proof.Gen.QueryProject
public import proofs.«01_k».proof.Proof.Gen.QueryProject.Skeleton
public import proofs.«01_k».proof.Proof.Gen.QueryProject.Launch
public import proofs.«01_k».proof.Proof.Gen.QueryProject.Points
public import proofs.«01_k».proof.Proof.Gen.QueryProject.Frame
public import proofs.«01_k».proof.Proof.Gen.QueryProjectIdeal
public import proofs.«01_k».proof.Proof.Gen.QueryProjectIdeal.Skeleton
public import proofs.«01_k».proof.Proof.Gen.QueryProjectIdeal.Launch
public import proofs.«01_k».proof.Proof.Gen.QueryProjectIdeal.Points
public import proofs.«01_k».proof.Proof.Gen.QueryProjectIdeal.Frame
public import proofs.«01_k».proof.Proof.Gen.QueryProjectIdeal.Value
public import proofs.«01_k».proof.Proof.Gen.QueryProjectRefIdeal
public import proofs.«01_k».proof.Proof.Gen.QueryProjectRefIdeal.Run
public import proofs.«01_k».proof.Proof.Gen.QueryProjectRefIdeal.Read
public import proofs.«01_k».proof.Proof.Gen.KeyProject
public import proofs.«01_k».proof.Proof.Gen.KeyProject.Skeleton
public import proofs.«01_k».proof.Proof.Gen.KeyProject.Launch
public import proofs.«01_k».proof.Proof.Gen.KeyProject.Points
public import proofs.«01_k».proof.Proof.Gen.KeyProject.Frame
public import proofs.«01_k».proof.Proof.Gen.KeyProjectIdeal
public import proofs.«01_k».proof.Proof.Gen.KeyProjectIdeal.Skeleton
public import proofs.«01_k».proof.Proof.Gen.KeyProjectIdeal.Launch
public import proofs.«01_k».proof.Proof.Gen.KeyProjectIdeal.Points
public import proofs.«01_k».proof.Proof.Gen.KeyProjectIdeal.Frame
public import proofs.«01_k».proof.Proof.Gen.KeyProjectIdeal.Value
public import proofs.«01_k».proof.Proof.Gen.KeyProjectRefIdeal
public import proofs.«01_k».proof.Proof.Gen.KeyProjectRefIdeal.Run
public import proofs.«01_k».proof.Proof.Gen.KeyProjectRefIdeal.Read
public import proofs.«01_k».proof.Proof.Gen.ValueProject
public import proofs.«01_k».proof.Proof.Gen.ValueProject.Skeleton
public import proofs.«01_k».proof.Proof.Gen.ValueProject.Launch
public import proofs.«01_k».proof.Proof.Gen.ValueProject.Points
public import proofs.«01_k».proof.Proof.Gen.ValueProject.Frame
public import proofs.«01_k».proof.Proof.Gen.ValueProjectIdeal
public import proofs.«01_k».proof.Proof.Gen.ValueProjectIdeal.Skeleton
public import proofs.«01_k».proof.Proof.Gen.ValueProjectIdeal.Launch
public import proofs.«01_k».proof.Proof.Gen.ValueProjectIdeal.Points
public import proofs.«01_k».proof.Proof.Gen.ValueProjectIdeal.Frame
public import proofs.«01_k».proof.Proof.Gen.ValueProjectIdeal.Value
public import proofs.«01_k».proof.Proof.Gen.ValueProjectRefIdeal
public import proofs.«01_k».proof.Proof.Gen.ValueProjectRefIdeal.Run
public import proofs.«01_k».proof.Proof.Gen.ValueProjectRefIdeal.Read
public import proofs.«01_k».proof.Proof.Gen.Forward
public import proofs.«01_k».proof.Proof.Gen.Forward.Skeleton
public import proofs.«01_k».proof.Proof.Gen.Forward.Loops
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Loops
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardRefIdeal
public import proofs.«01_k».proof.Proof.Gen.ForwardRefIdeal.Run
public import proofs.«01_k».proof.Proof.Gen.ForwardRefIdeal.Read
public import proofs.«01_k».proof.Proof.Frames
public import proofs.«01_k».proof.Proof.Equal
public import proofs.«01_k».proof.Proof.ForwardEqual
public import proofs.«01_k».proof.Proof.ScInput
public import proofs.«01_k».proof.Proof.ScWeight
public import proofs.«01_k».proof.Proof.WideInput
public import proofs.«01_k».proof.Proof.WideWeight
public import proofs.«01_k».proof.Proof.OutInput
public import proofs.«01_k».proof.Proof.OutWeight
public import proofs.«01_k».proof.Proof.LatentInput
public import proofs.«01_k».proof.Proof.LatentWeight
public import proofs.«01_k».proof.Proof.LatentProject
public import proofs.«01_k».proof.Proof.ScProject
public import proofs.«01_k».proof.Proof.WideProject
public import proofs.«01_k».proof.Proof.OutProject
public import proofs.«01_k».proof.Proof.QueryInput
public import proofs.«01_k».proof.Proof.KeyInput
public import proofs.«01_k».proof.Proof.ValueInput
public import proofs.«01_k».proof.Proof.QueryWeight
public import proofs.«01_k».proof.Proof.KeyWeight
public import proofs.«01_k».proof.Proof.ValueWeight
public import proofs.«01_k».proof.Proof.QueryProject
public import proofs.«01_k».proof.Proof.KeyProject
public import proofs.«01_k».proof.Proof.ValueProject
public import Idealize.ShloMosaic.Adequacy
public import Idealize.ShloMosaic.Init

@[expose] public section

noncomputable section

namespace Cert.Proof

open Idealize.ShloMosaic Idealize.SL.Sem Cert.Kernel

/-- Each named constant is its float word up to rounding. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- The reference runs without fault and leaves its arguments unchanged; it has no semaphore. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Forward.Gen.facts, Cert.ForwardIdeal.Gen.facts, Cert.ForwardRefIdeal.Gen.facts,
  Cert.ScInput.Gen.facts, Cert.ScInputIdeal.Gen.facts, Cert.ScInputRefIdeal.Gen.facts,
  Cert.ScWeight.Gen.facts, Cert.ScWeightIdeal.Gen.facts, Cert.ScWeightRefIdeal.Gen.facts,
  Cert.WideInput.Gen.facts, Cert.WideInputIdeal.Gen.facts, Cert.WideInputRefIdeal.Gen.facts,
  Cert.WideWeight.Gen.facts, Cert.WideWeightIdeal.Gen.facts, Cert.WideWeightRefIdeal.Gen.facts,
  Cert.OutInput.Gen.facts, Cert.OutInputIdeal.Gen.facts, Cert.OutInputRefIdeal.Gen.facts,
  Cert.OutWeight.Gen.facts, Cert.OutWeightIdeal.Gen.facts, Cert.OutWeightRefIdeal.Gen.facts,
  Cert.LatentInput.Gen.facts, Cert.LatentInputIdeal.Gen.facts, Cert.LatentInputRefIdeal.Gen.facts,
  Cert.LatentWeight.Gen.facts, Cert.LatentWeightIdeal.Gen.facts, Cert.LatentWeightRefIdeal.Gen.facts,
  Cert.LatentProject.Gen.facts, Cert.LatentProjectIdeal.Gen.facts, Cert.LatentProjectRefIdeal.Gen.facts,
  Cert.ScProject.Gen.facts, Cert.ScProjectIdeal.Gen.facts, Cert.ScProjectRefIdeal.Gen.facts,
  Cert.WideProject.Gen.facts, Cert.WideProjectIdeal.Gen.facts, Cert.WideProjectRefIdeal.Gen.facts,
  Cert.OutProject.Gen.facts, Cert.OutProjectIdeal.Gen.facts, Cert.OutProjectRefIdeal.Gen.facts,
  Cert.QueryInput.Gen.facts, Cert.QueryInputIdeal.Gen.facts, Cert.QueryInputRefIdeal.Gen.facts,
  Cert.KeyInput.Gen.facts, Cert.KeyInputIdeal.Gen.facts, Cert.KeyInputRefIdeal.Gen.facts,
  Cert.ValueInput.Gen.facts, Cert.ValueInputIdeal.Gen.facts, Cert.ValueInputRefIdeal.Gen.facts,
  Cert.QueryWeight.Gen.facts, Cert.QueryWeightIdeal.Gen.facts, Cert.QueryWeightRefIdeal.Gen.facts,
  Cert.KeyWeight.Gen.facts, Cert.KeyWeightIdeal.Gen.facts, Cert.KeyWeightRefIdeal.Gen.facts,
  Cert.ValueWeight.Gen.facts, Cert.ValueWeightIdeal.Gen.facts, Cert.ValueWeightRefIdeal.Gen.facts,
  Cert.QueryProject.Gen.facts, Cert.QueryProjectIdeal.Gen.facts, Cert.QueryProjectRefIdeal.Gen.facts,
  Cert.KeyProject.Gen.facts, Cert.KeyProjectIdeal.Gen.facts, Cert.KeyProjectRefIdeal.Gen.facts,
  Cert.ValueProject.Gen.facts, Cert.ValueProjectIdeal.Gen.facts, Cert.ValueProjectRefIdeal.Gen.facts,
  Cert.Pre_finite.Gen.facts, Cert.Pre_finite_forward.Gen.facts, frame_kernel,
  fun m ρ _ => Cert.Proof.Flash.frame (F := Ideal) m ρ, fun m ρ _ => Cert.Proof.Flash.frame (F := Ideal) m ρ, frame_reference, fun m ρ _ => frame_reference m ρ trivial,
  fun m ρ _ => Cert.Forward.Gen.frame m ρ, fun m ρ _ => Cert.ForwardIdeal.Gen.frame m ρ, fun m ρ _ => Cert.ForwardIdeal.Gen.frame m ρ,
  Cert.Proof.Forward.frame_reference, fun m ρ _ => Cert.Proof.Forward.frame_reference m ρ trivial,
  fun m ρ _ => Cert.ScInput.Gen.frame m ρ, fun m ρ _ => Cert.ScInputIdeal.Gen.frame m ρ, Cert.Proof.ScInput.frame_reference,
  fun m ρ _ => Cert.ScWeight.Gen.frame m ρ, fun m ρ _ => Cert.ScWeightIdeal.Gen.frame m ρ, Cert.Proof.ScWeight.frame_reference,
  fun m ρ _ => Cert.WideInput.Gen.frame m ρ, fun m ρ _ => Cert.WideInputIdeal.Gen.frame m ρ, Cert.Proof.WideInput.frame_reference,
  fun m ρ _ => Cert.WideWeight.Gen.frame m ρ, fun m ρ _ => Cert.WideWeightIdeal.Gen.frame m ρ, Cert.Proof.WideWeight.frame_reference,
  fun m ρ _ => Cert.OutInput.Gen.frame m ρ, fun m ρ _ => Cert.OutInputIdeal.Gen.frame m ρ, Cert.Proof.OutInput.frame_reference,
  fun m ρ _ => Cert.OutWeight.Gen.frame m ρ, fun m ρ _ => Cert.OutWeightIdeal.Gen.frame m ρ, Cert.Proof.OutWeight.frame_reference,
  fun m ρ _ => Cert.LatentInput.Gen.frame m ρ, fun m ρ _ => Cert.LatentInputIdeal.Gen.frame m ρ, Cert.Proof.LatentInput.frame_reference,
  fun m ρ _ => Cert.LatentWeight.Gen.frame m ρ, fun m ρ _ => Cert.LatentWeightIdeal.Gen.frame m ρ, Cert.Proof.LatentWeight.frame_reference,
  fun m ρ _ => Cert.LatentProject.Gen.frame m ρ, fun m ρ _ => Cert.LatentProjectIdeal.Gen.frame m ρ, Cert.Proof.LatentProject.frame_reference,
  fun m ρ _ => Cert.ScProject.Gen.frame m ρ, fun m ρ _ => Cert.ScProjectIdeal.Gen.frame m ρ, Cert.Proof.ScProject.frame_reference,
  fun m ρ _ => Cert.WideProject.Gen.frame m ρ, fun m ρ _ => Cert.WideProjectIdeal.Gen.frame m ρ, Cert.Proof.WideProject.frame_reference,
  fun m ρ _ => Cert.OutProject.Gen.frame m ρ, fun m ρ _ => Cert.OutProjectIdeal.Gen.frame m ρ, Cert.Proof.OutProject.frame_reference,
  fun m ρ _ => Cert.QueryInput.Gen.frame m ρ, fun m ρ _ => Cert.QueryInputIdeal.Gen.frame m ρ, Cert.Proof.QueryInput.frame_reference,
  fun m ρ _ => Cert.KeyInput.Gen.frame m ρ, fun m ρ _ => Cert.KeyInputIdeal.Gen.frame m ρ, Cert.Proof.KeyInput.frame_reference,
  fun m ρ _ => Cert.ValueInput.Gen.frame m ρ, fun m ρ _ => Cert.ValueInputIdeal.Gen.frame m ρ, Cert.Proof.ValueInput.frame_reference,
  fun m ρ _ => Cert.QueryWeight.Gen.frame m ρ, fun m ρ _ => Cert.QueryWeightIdeal.Gen.frame m ρ, Cert.Proof.QueryWeight.frame_reference,
  fun m ρ _ => Cert.KeyWeight.Gen.frame m ρ, fun m ρ _ => Cert.KeyWeightIdeal.Gen.frame m ρ, Cert.Proof.KeyWeight.frame_reference,
  fun m ρ _ => Cert.ValueWeight.Gen.frame m ρ, fun m ρ _ => Cert.ValueWeightIdeal.Gen.frame m ρ, Cert.Proof.ValueWeight.frame_reference,
  fun m ρ _ => Cert.QueryProject.Gen.frame m ρ, fun m ρ _ => Cert.QueryProjectIdeal.Gen.frame m ρ, Cert.Proof.QueryProject.frame_reference,
  fun m ρ _ => Cert.KeyProject.Gen.frame m ρ, fun m ρ _ => Cert.KeyProjectIdeal.Gen.frame m ρ, Cert.Proof.KeyProject.frame_reference,
  fun m ρ _ => Cert.ValueProject.Gen.frame m ρ, fun m ρ _ => Cert.ValueProjectIdeal.Gen.frame m ρ, Cert.Proof.ValueProject.frame_reference,
  preserves, Cert.Proof.Flash.algebraic,
  Cert.Proof.Forward.preserves, Cert.Proof.Forward.algebraic,
  trivial, Cert.Proof.ScInput.algebraic,
  trivial, Cert.Proof.ScWeight.algebraic,
  trivial, Cert.Proof.WideInput.algebraic,
  trivial, Cert.Proof.WideWeight.algebraic,
  trivial, Cert.Proof.OutInput.algebraic,
  trivial, Cert.Proof.OutWeight.algebraic,
  trivial, Cert.Proof.LatentInput.algebraic,
  trivial, Cert.Proof.LatentWeight.algebraic,
  trivial, Cert.Proof.LatentProject.algebraic,
  trivial, Cert.Proof.ScProject.algebraic,
  trivial, Cert.Proof.WideProject.algebraic,
  trivial, Cert.Proof.OutProject.algebraic,
  trivial, Cert.Proof.QueryInput.algebraic,
  trivial, Cert.Proof.KeyInput.algebraic,
  trivial, Cert.Proof.ValueInput.algebraic,
  trivial, Cert.Proof.QueryWeight.algebraic,
  trivial, Cert.Proof.KeyWeight.algebraic,
  trivial, Cert.Proof.ValueWeight.algebraic,
  trivial, Cert.Proof.QueryProject.algebraic,
  trivial, Cert.Proof.KeyProject.algebraic,
  trivial, Cert.Proof.ValueProject.algebraic⟩

end Cert.Proof

end
